-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_ReferenceFinalIdeal (m : (ℓ : Loc Cert.ReferenceFinalIdeal.nD Cert.ReferenceFinalIdeal.τ Cert.ReferenceFinalIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_ReferenceFirstIdeal (m : (ℓ : Loc Cert.ReferenceFirstIdeal.nD Cert.ReferenceFirstIdeal.τ Cert.ReferenceFirstIdeal.sig) → Buf (Elt Ideal) ℓ) : Prop :=
  True

def Pre_Near (m : (ℓ : Loc Cert.Near.nD Cert.Near.τ Cert.Near.sig) → Buf (Elt Bits) ℓ) : Prop :=
  True

def Pre_NearIdeal (m : (ℓ : Loc Cert.NearIdeal.nD Cert.NearIdeal.τ Cert.NearIdeal.sig) → Buf (Elt Ideal) ℓ) : Prop :=
  True

def Pre_ReferenceNearIdeal (m : (ℓ : Loc Cert.ReferenceNearIdeal.nD Cert.ReferenceNearIdeal.τ Cert.ReferenceNearIdeal.sig) → Buf (Elt Ideal) ℓ) : Prop :=
  True

def Pre_Middle (m : (ℓ : Loc Cert.Middle.nD Cert.Middle.τ Cert.Middle.sig) → Buf (Elt Bits) ℓ) : Prop :=
  True

def Pre_MiddleIdeal (m : (ℓ : Loc Cert.MiddleIdeal.nD Cert.MiddleIdeal.τ Cert.MiddleIdeal.sig) → Buf (Elt Ideal) ℓ) : Prop :=
  True

def Pre_ReferenceMiddleIdeal (m : (ℓ : Loc Cert.ReferenceMiddleIdeal.nD Cert.ReferenceMiddleIdeal.τ Cert.ReferenceMiddleIdeal.sig) → Buf (Elt Ideal) ℓ) : Prop :=
  True

def Pre_Far (m : (ℓ : Loc Cert.Far.nD Cert.Far.τ Cert.Far.sig) → Buf (Elt Bits) ℓ) : Prop :=
  True

def Pre_FarIdeal (m : (ℓ : Loc Cert.FarIdeal.nD Cert.FarIdeal.τ Cert.FarIdeal.sig) → Buf (Elt Ideal) ℓ) : Prop :=
  True

def Pre_ReferenceFarIdeal (m : (ℓ : Loc Cert.ReferenceFarIdeal.nD Cert.ReferenceFarIdeal.τ Cert.ReferenceFarIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_ReferenceMidIdeal (m : (ℓ : Loc Cert.ReferenceMidIdeal.nD Cert.ReferenceMidIdeal.τ Cert.ReferenceMidIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_ReferenceMemoryIdeal (m : (ℓ : Loc Cert.ReferenceMemoryIdeal.nD Cert.ReferenceMemoryIdeal.τ Cert.ReferenceMemoryIdeal.sig) → Buf (Elt Ideal) ℓ) : Prop :=
  True

def Pre_Axial (m : (ℓ : Loc Cert.Axial.nD Cert.Axial.τ Cert.Axial.sig) → Buf (Elt Bits) ℓ) : Prop :=
  True

def Pre_AxialIdeal (m : (ℓ : Loc Cert.AxialIdeal.nD Cert.AxialIdeal.τ Cert.AxialIdeal.sig) → Buf (Elt Ideal) ℓ) : Prop :=
  True

def Pre_ReferenceAxialIdeal (m : (ℓ : Loc Cert.ReferenceAxialIdeal.nD Cert.ReferenceAxialIdeal.τ Cert.ReferenceAxialIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5))
      ∧ r.2.sem = fun _ => 0)

def quiescent_ReferenceFinalIdeal [hReferenceFinalIdeal : Cert.ReferenceFinalIdeal.Facts] : Prop :=
  ∀ (m : (ℓ : Loc Cert.ReferenceFinalIdeal.nD Cert.ReferenceFinalIdeal.τ Cert.ReferenceFinalIdeal.sig) → Buf (Elt Ideal) ℓ) (g : Dev Cert.ReferenceFinalIdeal.nD → PrngReg), Pre_ReferenceFinalIdeal m →
    θ_run (Cert.ReferenceFinalIdeal.defs (F := Ideal)) (onTc (τ := Cert.ReferenceFinalIdeal.τ) (Cert.ReferenceFinalIdeal.main (F := Ideal))) ⟨m, fun _ => 0, g⟩ (fun r => (∀ c : Dev Cert.ReferenceFinalIdeal.nD,
      r.2.mem ((c.tc : Thread Cert.ReferenceFinalIdeal.nD Cert.ReferenceFinalIdeal.τ).loc Cert.ReferenceFinalIdeal.main_arg0) = m ((c.tc : Thread Cert.ReferenceFinalIdeal.nD Cert.ReferenceFinalIdeal.τ).loc Cert.ReferenceFinalIdeal.main_arg0)
      ∧ r.2.mem ((c.tc : Thread Cert.ReferenceFinalIdeal.nD Cert.ReferenceFinalIdeal.τ).loc Cert.ReferenceFinalIdeal.main_arg1) = m ((c.tc : Thread Cert.ReferenceFinalIdeal.nD Cert.ReferenceFinalIdeal.τ).loc Cert.ReferenceFinalIdeal.main_arg1)
      ∧ r.2.mem ((c.tc : Thread Cert.ReferenceFinalIdeal.nD Cert.ReferenceFinalIdeal.τ).loc Cert.ReferenceFinalIdeal.main_arg2) = m ((c.tc : Thread Cert.ReferenceFinalIdeal.nD Cert.ReferenceFinalIdeal.τ).loc Cert.ReferenceFinalIdeal.main_arg2)
      ∧ r.2.mem ((c.tc : Thread Cert.ReferenceFinalIdeal.nD Cert.ReferenceFinalIdeal.τ).loc Cert.ReferenceFinalIdeal.main_arg3) = m ((c.tc : Thread Cert.ReferenceFinalIdeal.nD Cert.ReferenceFinalIdeal.τ).loc Cert.ReferenceFinalIdeal.main_arg3)
      ∧ r.2.mem ((c.tc : Thread Cert.ReferenceFinalIdeal.nD Cert.ReferenceFinalIdeal.τ).loc Cert.ReferenceFinalIdeal.main_arg4) = m ((c.tc : Thread Cert.ReferenceFinalIdeal.nD Cert.ReferenceFinalIdeal.τ).loc Cert.ReferenceFinalIdeal.main_arg4)
      ∧ r.2.mem ((c.tc : Thread Cert.ReferenceFinalIdeal.nD Cert.ReferenceFinalIdeal.τ).loc Cert.ReferenceFinalIdeal.main_arg5) = m ((c.tc : Thread Cert.ReferenceFinalIdeal.nD Cert.ReferenceFinalIdeal.τ).loc Cert.ReferenceFinalIdeal.main_arg5))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5))
      ∧ r.2.sem = fun _ => 0)

def quiescent_ReferenceFirstIdeal [hReferenceFirstIdeal : Cert.ReferenceFirstIdeal.Facts] : Prop :=
  ∀ (m : (ℓ : Loc Cert.ReferenceFirstIdeal.nD Cert.ReferenceFirstIdeal.τ Cert.ReferenceFirstIdeal.sig) → Buf (Elt Ideal) ℓ) (g : Dev Cert.ReferenceFirstIdeal.nD → PrngReg), Pre_ReferenceFirstIdeal m →
    θ_run (Cert.ReferenceFirstIdeal.defs (F := Ideal)) (onTc (τ := Cert.ReferenceFirstIdeal.τ) (Cert.ReferenceFirstIdeal.main (F := Ideal))) ⟨m, fun _ => 0, g⟩ (fun r => (∀ c : Dev Cert.ReferenceFirstIdeal.nD,
      r.2.mem ((c.tc : Thread Cert.ReferenceFirstIdeal.nD Cert.ReferenceFirstIdeal.τ).loc Cert.ReferenceFirstIdeal.main_arg0) = m ((c.tc : Thread Cert.ReferenceFirstIdeal.nD Cert.ReferenceFirstIdeal.τ).loc Cert.ReferenceFirstIdeal.main_arg0)
      ∧ r.2.mem ((c.tc : Thread Cert.ReferenceFirstIdeal.nD Cert.ReferenceFirstIdeal.τ).loc Cert.ReferenceFirstIdeal.main_arg1) = m ((c.tc : Thread Cert.ReferenceFirstIdeal.nD Cert.ReferenceFirstIdeal.τ).loc Cert.ReferenceFirstIdeal.main_arg1)
      ∧ r.2.mem ((c.tc : Thread Cert.ReferenceFirstIdeal.nD Cert.ReferenceFirstIdeal.τ).loc Cert.ReferenceFirstIdeal.main_arg2) = m ((c.tc : Thread Cert.ReferenceFirstIdeal.nD Cert.ReferenceFirstIdeal.τ).loc Cert.ReferenceFirstIdeal.main_arg2)
      ∧ r.2.mem ((c.tc : Thread Cert.ReferenceFirstIdeal.nD Cert.ReferenceFirstIdeal.τ).loc Cert.ReferenceFirstIdeal.main_arg3) = m ((c.tc : Thread Cert.ReferenceFirstIdeal.nD Cert.ReferenceFirstIdeal.τ).loc Cert.ReferenceFirstIdeal.main_arg3)
      ∧ r.2.mem ((c.tc : Thread Cert.ReferenceFirstIdeal.nD Cert.ReferenceFirstIdeal.τ).loc Cert.ReferenceFirstIdeal.main_arg4) = m ((c.tc : Thread Cert.ReferenceFirstIdeal.nD Cert.ReferenceFirstIdeal.τ).loc Cert.ReferenceFirstIdeal.main_arg4)
      ∧ r.2.mem ((c.tc : Thread Cert.ReferenceFirstIdeal.nD Cert.ReferenceFirstIdeal.τ).loc Cert.ReferenceFirstIdeal.main_arg5) = m ((c.tc : Thread Cert.ReferenceFirstIdeal.nD Cert.ReferenceFirstIdeal.τ).loc Cert.ReferenceFirstIdeal.main_arg5))
      ∧ r.2.sem = fun _ => 0)

def quiescent_Near [hNear : Cert.Near.Facts] : Prop :=
  ∀ (m : (ℓ : Loc Cert.Near.nD Cert.Near.τ Cert.Near.sig) → Buf (Elt Bits) ℓ) (g : Dev Cert.Near.nD → PrngReg), Pre_Near m →
    θ_run (Cert.Near.defs (F := Bits)) (onTc (τ := Cert.Near.τ) (Cert.Near.main (F := Bits))) ⟨m, fun _ => 0, g⟩ (fun r => (∀ c : Dev Cert.Near.nD,
      r.2.mem ((c.tc : Thread Cert.Near.nD Cert.Near.τ).loc Cert.Near.main_arg0) = m ((c.tc : Thread Cert.Near.nD Cert.Near.τ).loc Cert.Near.main_arg0)
      ∧ r.2.mem ((c.tc : Thread Cert.Near.nD Cert.Near.τ).loc Cert.Near.main_arg1) = m ((c.tc : Thread Cert.Near.nD Cert.Near.τ).loc Cert.Near.main_arg1))
      ∧ r.2.sem = fun _ => 0)

def quiescent_NearIdeal [hNearIdeal : Cert.NearIdeal.Facts] : Prop :=
  ∀ (m : (ℓ : Loc Cert.NearIdeal.nD Cert.NearIdeal.τ Cert.NearIdeal.sig) → Buf (Elt Ideal) ℓ) (g : Dev Cert.NearIdeal.nD → PrngReg), Pre_NearIdeal m →
    θ_run (Cert.NearIdeal.defs (F := Ideal)) (onTc (τ := Cert.NearIdeal.τ) (Cert.NearIdeal.main (F := Ideal))) ⟨m, fun _ => 0, g⟩ (fun r => (∀ c : Dev Cert.NearIdeal.nD,
      r.2.mem ((c.tc : Thread Cert.NearIdeal.nD Cert.NearIdeal.τ).loc Cert.NearIdeal.main_arg0) = m ((c.tc : Thread Cert.NearIdeal.nD Cert.NearIdeal.τ).loc Cert.NearIdeal.main_arg0)
      ∧ r.2.mem ((c.tc : Thread Cert.NearIdeal.nD Cert.NearIdeal.τ).loc Cert.NearIdeal.main_arg1) = m ((c.tc : Thread Cert.NearIdeal.nD Cert.NearIdeal.τ).loc Cert.NearIdeal.main_arg1))
      ∧ r.2.sem = fun _ => 0)

def quiescent_ReferenceNearIdeal [hReferenceNearIdeal : Cert.ReferenceNearIdeal.Facts] : Prop :=
  ∀ (m : (ℓ : Loc Cert.ReferenceNearIdeal.nD Cert.ReferenceNearIdeal.τ Cert.ReferenceNearIdeal.sig) → Buf (Elt Ideal) ℓ) (g : Dev Cert.ReferenceNearIdeal.nD → PrngReg), Pre_ReferenceNearIdeal m →
    θ_run (Cert.ReferenceNearIdeal.defs (F := Ideal)) (onTc (τ := Cert.ReferenceNearIdeal.τ) (Cert.ReferenceNearIdeal.main (F := Ideal))) ⟨m, fun _ => 0, g⟩ (fun r => (∀ c : Dev Cert.ReferenceNearIdeal.nD,
      r.2.mem ((c.tc : Thread Cert.ReferenceNearIdeal.nD Cert.ReferenceNearIdeal.τ).loc Cert.ReferenceNearIdeal.main_arg0) = m ((c.tc : Thread Cert.ReferenceNearIdeal.nD Cert.ReferenceNearIdeal.τ).loc Cert.ReferenceNearIdeal.main_arg0)
      ∧ r.2.mem ((c.tc : Thread Cert.ReferenceNearIdeal.nD Cert.ReferenceNearIdeal.τ).loc Cert.ReferenceNearIdeal.main_arg1) = m ((c.tc : Thread Cert.ReferenceNearIdeal.nD Cert.ReferenceNearIdeal.τ).loc Cert.ReferenceNearIdeal.main_arg1))
      ∧ r.2.sem = fun _ => 0)

def quiescent_Middle [hMiddle : Cert.Middle.Facts] : Prop :=
  ∀ (m : (ℓ : Loc Cert.Middle.nD Cert.Middle.τ Cert.Middle.sig) → Buf (Elt Bits) ℓ) (g : Dev Cert.Middle.nD → PrngReg), Pre_Middle m →
    θ_run (Cert.Middle.defs (F := Bits)) (onTc (τ := Cert.Middle.τ) (Cert.Middle.main (F := Bits))) ⟨m, fun _ => 0, g⟩ (fun r => (∀ c : Dev Cert.Middle.nD,
      r.2.mem ((c.tc : Thread Cert.Middle.nD Cert.Middle.τ).loc Cert.Middle.main_arg0) = m ((c.tc : Thread Cert.Middle.nD Cert.Middle.τ).loc Cert.Middle.main_arg0)
      ∧ r.2.mem ((c.tc : Thread Cert.Middle.nD Cert.Middle.τ).loc Cert.Middle.main_arg1) = m ((c.tc : Thread Cert.Middle.nD Cert.Middle.τ).loc Cert.Middle.main_arg1))
      ∧ r.2.sem = fun _ => 0)

def quiescent_MiddleIdeal [hMiddleIdeal : Cert.MiddleIdeal.Facts] : Prop :=
  ∀ (m : (ℓ : Loc Cert.MiddleIdeal.nD Cert.MiddleIdeal.τ Cert.MiddleIdeal.sig) → Buf (Elt Ideal) ℓ) (g : Dev Cert.MiddleIdeal.nD → PrngReg), Pre_MiddleIdeal m →
    θ_run (Cert.MiddleIdeal.defs (F := Ideal)) (onTc (τ := Cert.MiddleIdeal.τ) (Cert.MiddleIdeal.main (F := Ideal))) ⟨m, fun _ => 0, g⟩ (fun r => (∀ c : Dev Cert.MiddleIdeal.nD,
      r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
      ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1))
      ∧ r.2.sem = fun _ => 0)

def quiescent_ReferenceMiddleIdeal [hReferenceMiddleIdeal : Cert.ReferenceMiddleIdeal.Facts] : Prop :=
  ∀ (m : (ℓ : Loc Cert.ReferenceMiddleIdeal.nD Cert.ReferenceMiddleIdeal.τ Cert.ReferenceMiddleIdeal.sig) → Buf (Elt Ideal) ℓ) (g : Dev Cert.ReferenceMiddleIdeal.nD → PrngReg), Pre_ReferenceMiddleIdeal m →
    θ_run (Cert.ReferenceMiddleIdeal.defs (F := Ideal)) (onTc (τ := Cert.ReferenceMiddleIdeal.τ) (Cert.ReferenceMiddleIdeal.main (F := Ideal))) ⟨m, fun _ => 0, g⟩ (fun r => (∀ c : Dev Cert.ReferenceMiddleIdeal.nD,
      r.2.mem ((c.tc : Thread Cert.ReferenceMiddleIdeal.nD Cert.ReferenceMiddleIdeal.τ).loc Cert.ReferenceMiddleIdeal.main_arg0) = m ((c.tc : Thread Cert.ReferenceMiddleIdeal.nD Cert.ReferenceMiddleIdeal.τ).loc Cert.ReferenceMiddleIdeal.main_arg0)
      ∧ r.2.mem ((c.tc : Thread Cert.ReferenceMiddleIdeal.nD Cert.ReferenceMiddleIdeal.τ).loc Cert.ReferenceMiddleIdeal.main_arg1) = m ((c.tc : Thread Cert.ReferenceMiddleIdeal.nD Cert.ReferenceMiddleIdeal.τ).loc Cert.ReferenceMiddleIdeal.main_arg1))
      ∧ r.2.sem = fun _ => 0)

def quiescent_Far [hFar : Cert.Far.Facts] : Prop :=
  ∀ (m : (ℓ : Loc Cert.Far.nD Cert.Far.τ Cert.Far.sig) → Buf (Elt Bits) ℓ) (g : Dev Cert.Far.nD → PrngReg), Pre_Far m →
    θ_run (Cert.Far.defs (F := Bits)) (onTc (τ := Cert.Far.τ) (Cert.Far.main (F := Bits))) ⟨m, fun _ => 0, g⟩ (fun r => (∀ c : Dev Cert.Far.nD,
      r.2.mem ((c.tc : Thread Cert.Far.nD Cert.Far.τ).loc Cert.Far.main_arg0) = m ((c.tc : Thread Cert.Far.nD Cert.Far.τ).loc Cert.Far.main_arg0)
      ∧ r.2.mem ((c.tc : Thread Cert.Far.nD Cert.Far.τ).loc Cert.Far.main_arg1) = m ((c.tc : Thread Cert.Far.nD Cert.Far.τ).loc Cert.Far.main_arg1))
      ∧ r.2.sem = fun _ => 0)

def quiescent_FarIdeal [hFarIdeal : Cert.FarIdeal.Facts] : Prop :=
  ∀ (m : (ℓ : Loc Cert.FarIdeal.nD Cert.FarIdeal.τ Cert.FarIdeal.sig) → Buf (Elt Ideal) ℓ) (g : Dev Cert.FarIdeal.nD → PrngReg), Pre_FarIdeal m →
    θ_run (Cert.FarIdeal.defs (F := Ideal)) (onTc (τ := Cert.FarIdeal.τ) (Cert.FarIdeal.main (F := Ideal))) ⟨m, fun _ => 0, g⟩ (fun r => (∀ c : Dev Cert.FarIdeal.nD,
      r.2.mem ((c.tc : Thread Cert.FarIdeal.nD Cert.FarIdeal.τ).loc Cert.FarIdeal.main_arg0) = m ((c.tc : Thread Cert.FarIdeal.nD Cert.FarIdeal.τ).loc Cert.FarIdeal.main_arg0)
      ∧ r.2.mem ((c.tc : Thread Cert.FarIdeal.nD Cert.FarIdeal.τ).loc Cert.FarIdeal.main_arg1) = m ((c.tc : Thread Cert.FarIdeal.nD Cert.FarIdeal.τ).loc Cert.FarIdeal.main_arg1))
      ∧ r.2.sem = fun _ => 0)

def quiescent_ReferenceFarIdeal [hReferenceFarIdeal : Cert.ReferenceFarIdeal.Facts] : Prop :=
  ∀ (m : (ℓ : Loc Cert.ReferenceFarIdeal.nD Cert.ReferenceFarIdeal.τ Cert.ReferenceFarIdeal.sig) → Buf (Elt Ideal) ℓ) (g : Dev Cert.ReferenceFarIdeal.nD → PrngReg), Pre_ReferenceFarIdeal m →
    θ_run (Cert.ReferenceFarIdeal.defs (F := Ideal)) (onTc (τ := Cert.ReferenceFarIdeal.τ) (Cert.ReferenceFarIdeal.main (F := Ideal))) ⟨m, fun _ => 0, g⟩ (fun r => (∀ c : Dev Cert.ReferenceFarIdeal.nD,
      r.2.mem ((c.tc : Thread Cert.ReferenceFarIdeal.nD Cert.ReferenceFarIdeal.τ).loc Cert.ReferenceFarIdeal.main_arg0) = m ((c.tc : Thread Cert.ReferenceFarIdeal.nD Cert.ReferenceFarIdeal.τ).loc Cert.ReferenceFarIdeal.main_arg0)
      ∧ r.2.mem ((c.tc : Thread Cert.ReferenceFarIdeal.nD Cert.ReferenceFarIdeal.τ).loc Cert.ReferenceFarIdeal.main_arg1) = m ((c.tc : Thread Cert.ReferenceFarIdeal.nD Cert.ReferenceFarIdeal.τ).loc Cert.ReferenceFarIdeal.main_arg1))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9))
      ∧ r.2.sem = fun _ => 0)

def quiescent_ReferenceMidIdeal [hReferenceMidIdeal : Cert.ReferenceMidIdeal.Facts] : Prop :=
  ∀ (m : (ℓ : Loc Cert.ReferenceMidIdeal.nD Cert.ReferenceMidIdeal.τ Cert.ReferenceMidIdeal.sig) → Buf (Elt Ideal) ℓ) (g : Dev Cert.ReferenceMidIdeal.nD → PrngReg), Pre_ReferenceMidIdeal m →
    θ_run (Cert.ReferenceMidIdeal.defs (F := Ideal)) (onTc (τ := Cert.ReferenceMidIdeal.τ) (Cert.ReferenceMidIdeal.main (F := Ideal))) ⟨m, fun _ => 0, g⟩ (fun r => (∀ c : Dev Cert.ReferenceMidIdeal.nD,
      r.2.mem ((c.tc : Thread Cert.ReferenceMidIdeal.nD Cert.ReferenceMidIdeal.τ).loc Cert.ReferenceMidIdeal.main_arg0) = m ((c.tc : Thread Cert.ReferenceMidIdeal.nD Cert.ReferenceMidIdeal.τ).loc Cert.ReferenceMidIdeal.main_arg0)
      ∧ r.2.mem ((c.tc : Thread Cert.ReferenceMidIdeal.nD Cert.ReferenceMidIdeal.τ).loc Cert.ReferenceMidIdeal.main_arg1) = m ((c.tc : Thread Cert.ReferenceMidIdeal.nD Cert.ReferenceMidIdeal.τ).loc Cert.ReferenceMidIdeal.main_arg1)
      ∧ r.2.mem ((c.tc : Thread Cert.ReferenceMidIdeal.nD Cert.ReferenceMidIdeal.τ).loc Cert.ReferenceMidIdeal.main_arg2) = m ((c.tc : Thread Cert.ReferenceMidIdeal.nD Cert.ReferenceMidIdeal.τ).loc Cert.ReferenceMidIdeal.main_arg2)
      ∧ r.2.mem ((c.tc : Thread Cert.ReferenceMidIdeal.nD Cert.ReferenceMidIdeal.τ).loc Cert.ReferenceMidIdeal.main_arg3) = m ((c.tc : Thread Cert.ReferenceMidIdeal.nD Cert.ReferenceMidIdeal.τ).loc Cert.ReferenceMidIdeal.main_arg3)
      ∧ r.2.mem ((c.tc : Thread Cert.ReferenceMidIdeal.nD Cert.ReferenceMidIdeal.τ).loc Cert.ReferenceMidIdeal.main_arg4) = m ((c.tc : Thread Cert.ReferenceMidIdeal.nD Cert.ReferenceMidIdeal.τ).loc Cert.ReferenceMidIdeal.main_arg4)
      ∧ r.2.mem ((c.tc : Thread Cert.ReferenceMidIdeal.nD Cert.ReferenceMidIdeal.τ).loc Cert.ReferenceMidIdeal.main_arg5) = m ((c.tc : Thread Cert.ReferenceMidIdeal.nD Cert.ReferenceMidIdeal.τ).loc Cert.ReferenceMidIdeal.main_arg5)
      ∧ r.2.mem ((c.tc : Thread Cert.ReferenceMidIdeal.nD Cert.ReferenceMidIdeal.τ).loc Cert.ReferenceMidIdeal.main_arg6) = m ((c.tc : Thread Cert.ReferenceMidIdeal.nD Cert.ReferenceMidIdeal.τ).loc Cert.ReferenceMidIdeal.main_arg6)
      ∧ r.2.mem ((c.tc : Thread Cert.ReferenceMidIdeal.nD Cert.ReferenceMidIdeal.τ).loc Cert.ReferenceMidIdeal.main_arg7) = m ((c.tc : Thread Cert.ReferenceMidIdeal.nD Cert.ReferenceMidIdeal.τ).loc Cert.ReferenceMidIdeal.main_arg7)
      ∧ r.2.mem ((c.tc : Thread Cert.ReferenceMidIdeal.nD Cert.ReferenceMidIdeal.τ).loc Cert.ReferenceMidIdeal.main_arg8) = m ((c.tc : Thread Cert.ReferenceMidIdeal.nD Cert.ReferenceMidIdeal.τ).loc Cert.ReferenceMidIdeal.main_arg8)
      ∧ r.2.mem ((c.tc : Thread Cert.ReferenceMidIdeal.nD Cert.ReferenceMidIdeal.τ).loc Cert.ReferenceMidIdeal.main_arg9) = m ((c.tc : Thread Cert.ReferenceMidIdeal.nD Cert.ReferenceMidIdeal.τ).loc Cert.ReferenceMidIdeal.main_arg9))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_ReferenceMemoryIdeal [hReferenceMemoryIdeal : Cert.ReferenceMemoryIdeal.Facts] : Prop :=
  ∀ (m : (ℓ : Loc Cert.ReferenceMemoryIdeal.nD Cert.ReferenceMemoryIdeal.τ Cert.ReferenceMemoryIdeal.sig) → Buf (Elt Ideal) ℓ) (g : Dev Cert.ReferenceMemoryIdeal.nD → PrngReg), Pre_ReferenceMemoryIdeal m →
    θ_run (Cert.ReferenceMemoryIdeal.defs (F := Ideal)) (onTc (τ := Cert.ReferenceMemoryIdeal.τ) (Cert.ReferenceMemoryIdeal.main (F := Ideal))) ⟨m, fun _ => 0, g⟩ (fun r => (∀ c : Dev Cert.ReferenceMemoryIdeal.nD,
      r.2.mem ((c.tc : Thread Cert.ReferenceMemoryIdeal.nD Cert.ReferenceMemoryIdeal.τ).loc Cert.ReferenceMemoryIdeal.main_arg0) = m ((c.tc : Thread Cert.ReferenceMemoryIdeal.nD Cert.ReferenceMemoryIdeal.τ).loc Cert.ReferenceMemoryIdeal.main_arg0)
      ∧ r.2.mem ((c.tc : Thread Cert.ReferenceMemoryIdeal.nD Cert.ReferenceMemoryIdeal.τ).loc Cert.ReferenceMemoryIdeal.main_arg1) = m ((c.tc : Thread Cert.ReferenceMemoryIdeal.nD Cert.ReferenceMemoryIdeal.τ).loc Cert.ReferenceMemoryIdeal.main_arg1)
      ∧ r.2.mem ((c.tc : Thread Cert.ReferenceMemoryIdeal.nD Cert.ReferenceMemoryIdeal.τ).loc Cert.ReferenceMemoryIdeal.main_arg2) = m ((c.tc : Thread Cert.ReferenceMemoryIdeal.nD Cert.ReferenceMemoryIdeal.τ).loc Cert.ReferenceMemoryIdeal.main_arg2))
      ∧ r.2.sem = fun _ => 0)

def quiescent_Axial [hAxial : Cert.Axial.Facts] : Prop :=
  ∀ (m : (ℓ : Loc Cert.Axial.nD Cert.Axial.τ Cert.Axial.sig) → Buf (Elt Bits) ℓ) (g : Dev Cert.Axial.nD → PrngReg), Pre_Axial m →
    θ_run (Cert.Axial.defs (F := Bits)) (onTc (τ := Cert.Axial.τ) (Cert.Axial.main (F := Bits))) ⟨m, fun _ => 0, g⟩ (fun r => (∀ c : Dev Cert.Axial.nD,
      r.2.mem ((c.tc : Thread Cert.Axial.nD Cert.Axial.τ).loc Cert.Axial.main_arg0) = m ((c.tc : Thread Cert.Axial.nD Cert.Axial.τ).loc Cert.Axial.main_arg0)
      ∧ r.2.mem ((c.tc : Thread Cert.Axial.nD Cert.Axial.τ).loc Cert.Axial.main_arg1) = m ((c.tc : Thread Cert.Axial.nD Cert.Axial.τ).loc Cert.Axial.main_arg1)
      ∧ r.2.mem ((c.tc : Thread Cert.Axial.nD Cert.Axial.τ).loc Cert.Axial.main_arg2) = m ((c.tc : Thread Cert.Axial.nD Cert.Axial.τ).loc Cert.Axial.main_arg2)
      ∧ r.2.mem ((c.tc : Thread Cert.Axial.nD Cert.Axial.τ).loc Cert.Axial.main_arg3) = m ((c.tc : Thread Cert.Axial.nD Cert.Axial.τ).loc Cert.Axial.main_arg3)
      ∧ r.2.mem ((c.tc : Thread Cert.Axial.nD Cert.Axial.τ).loc Cert.Axial.main_arg4) = m ((c.tc : Thread Cert.Axial.nD Cert.Axial.τ).loc Cert.Axial.main_arg4)
      ∧ r.2.mem ((c.tc : Thread Cert.Axial.nD Cert.Axial.τ).loc Cert.Axial.main_arg5) = m ((c.tc : Thread Cert.Axial.nD Cert.Axial.τ).loc Cert.Axial.main_arg5))
      ∧ r.2.sem = fun _ => 0)

def quiescent_AxialIdeal [hAxialIdeal : Cert.AxialIdeal.Facts] : Prop :=
  ∀ (m : (ℓ : Loc Cert.AxialIdeal.nD Cert.AxialIdeal.τ Cert.AxialIdeal.sig) → Buf (Elt Ideal) ℓ) (g : Dev Cert.AxialIdeal.nD → PrngReg), Pre_AxialIdeal m →
    θ_run (Cert.AxialIdeal.defs (F := Ideal)) (onTc (τ := Cert.AxialIdeal.τ) (Cert.AxialIdeal.main (F := Ideal))) ⟨m, fun _ => 0, g⟩ (fun r => (∀ c : Dev Cert.AxialIdeal.nD,
      r.2.mem ((c.tc : Thread Cert.AxialIdeal.nD Cert.AxialIdeal.τ).loc Cert.AxialIdeal.main_arg0) = m ((c.tc : Thread Cert.AxialIdeal.nD Cert.AxialIdeal.τ).loc Cert.AxialIdeal.main_arg0)
      ∧ r.2.mem ((c.tc : Thread Cert.AxialIdeal.nD Cert.AxialIdeal.τ).loc Cert.AxialIdeal.main_arg1) = m ((c.tc : Thread Cert.AxialIdeal.nD Cert.AxialIdeal.τ).loc Cert.AxialIdeal.main_arg1)
      ∧ r.2.mem ((c.tc : Thread Cert.AxialIdeal.nD Cert.AxialIdeal.τ).loc Cert.AxialIdeal.main_arg2) = m ((c.tc : Thread Cert.AxialIdeal.nD Cert.AxialIdeal.τ).loc Cert.AxialIdeal.main_arg2)
      ∧ r.2.mem ((c.tc : Thread Cert.AxialIdeal.nD Cert.AxialIdeal.τ).loc Cert.AxialIdeal.main_arg3) = m ((c.tc : Thread Cert.AxialIdeal.nD Cert.AxialIdeal.τ).loc Cert.AxialIdeal.main_arg3)
      ∧ r.2.mem ((c.tc : Thread Cert.AxialIdeal.nD Cert.AxialIdeal.τ).loc Cert.AxialIdeal.main_arg4) = m ((c.tc : Thread Cert.AxialIdeal.nD Cert.AxialIdeal.τ).loc Cert.AxialIdeal.main_arg4)
      ∧ r.2.mem ((c.tc : Thread Cert.AxialIdeal.nD Cert.AxialIdeal.τ).loc Cert.AxialIdeal.main_arg5) = m ((c.tc : Thread Cert.AxialIdeal.nD Cert.AxialIdeal.τ).loc Cert.AxialIdeal.main_arg5))
      ∧ r.2.sem = fun _ => 0)

def quiescent_ReferenceAxialIdeal [hReferenceAxialIdeal : Cert.ReferenceAxialIdeal.Facts] : Prop :=
  ∀ (m : (ℓ : Loc Cert.ReferenceAxialIdeal.nD Cert.ReferenceAxialIdeal.τ Cert.ReferenceAxialIdeal.sig) → Buf (Elt Ideal) ℓ) (g : Dev Cert.ReferenceAxialIdeal.nD → PrngReg), Pre_ReferenceAxialIdeal m →
    θ_run (Cert.ReferenceAxialIdeal.defs (F := Ideal)) (onTc (τ := Cert.ReferenceAxialIdeal.τ) (Cert.ReferenceAxialIdeal.main (F := Ideal))) ⟨m, fun _ => 0, g⟩ (fun r => (∀ c : Dev Cert.ReferenceAxialIdeal.nD,
      r.2.mem ((c.tc : Thread Cert.ReferenceAxialIdeal.nD Cert.ReferenceAxialIdeal.τ).loc Cert.ReferenceAxialIdeal.main_arg0) = m ((c.tc : Thread Cert.ReferenceAxialIdeal.nD Cert.ReferenceAxialIdeal.τ).loc Cert.ReferenceAxialIdeal.main_arg0)
      ∧ r.2.mem ((c.tc : Thread Cert.ReferenceAxialIdeal.nD Cert.ReferenceAxialIdeal.τ).loc Cert.ReferenceAxialIdeal.main_arg1) = m ((c.tc : Thread Cert.ReferenceAxialIdeal.nD Cert.ReferenceAxialIdeal.τ).loc Cert.ReferenceAxialIdeal.main_arg1)
      ∧ r.2.mem ((c.tc : Thread Cert.ReferenceAxialIdeal.nD Cert.ReferenceAxialIdeal.τ).loc Cert.ReferenceAxialIdeal.main_arg2) = m ((c.tc : Thread Cert.ReferenceAxialIdeal.nD Cert.ReferenceAxialIdeal.τ).loc Cert.ReferenceAxialIdeal.main_arg2)
      ∧ r.2.mem ((c.tc : Thread Cert.ReferenceAxialIdeal.nD Cert.ReferenceAxialIdeal.τ).loc Cert.ReferenceAxialIdeal.main_arg3) = m ((c.tc : Thread Cert.ReferenceAxialIdeal.nD Cert.ReferenceAxialIdeal.τ).loc Cert.ReferenceAxialIdeal.main_arg3)
      ∧ r.2.mem ((c.tc : Thread Cert.ReferenceAxialIdeal.nD Cert.ReferenceAxialIdeal.τ).loc Cert.ReferenceAxialIdeal.main_arg4) = m ((c.tc : Thread Cert.ReferenceAxialIdeal.nD Cert.ReferenceAxialIdeal.τ).loc Cert.ReferenceAxialIdeal.main_arg4)
      ∧ r.2.mem ((c.tc : Thread Cert.ReferenceAxialIdeal.nD Cert.ReferenceAxialIdeal.τ).loc Cert.ReferenceAxialIdeal.main_arg5) = m ((c.tc : Thread Cert.ReferenceAxialIdeal.nD Cert.ReferenceAxialIdeal.τ).loc Cert.ReferenceAxialIdeal.main_arg5))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Final_FinalIdeal : Prop :=
  True

def algebraic_FinalIdeal_ReferenceFinalIdeal [hFinalIdeal : Cert.FinalIdeal.Facts] [hReferenceFinalIdeal : Cert.ReferenceFinalIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.ReferenceFinalIdeal.nD Cert.ReferenceFinalIdeal.τ Cert.ReferenceFinalIdeal.sig) → Buf (Elt Ideal) ℓ) (g' : Dev Cert.ReferenceFinalIdeal.nD → PrngReg), Pre_FinalIdeal m →
    (∀ c : Dev Cert.FinalIdeal.nD,
      m' ((c.tc : Thread Cert.ReferenceFinalIdeal.nD Cert.ReferenceFinalIdeal.τ).loc Cert.ReferenceFinalIdeal.main_arg0) = m ((c.tc : Thread Cert.FinalIdeal.nD Cert.FinalIdeal.τ).loc Cert.FinalIdeal.main_arg0)
      ∧ m' ((c.tc : Thread Cert.ReferenceFinalIdeal.nD Cert.ReferenceFinalIdeal.τ).loc Cert.ReferenceFinalIdeal.main_arg1) = m ((c.tc : Thread Cert.FinalIdeal.nD Cert.FinalIdeal.τ).loc Cert.FinalIdeal.main_arg1)
      ∧ m' ((c.tc : Thread Cert.ReferenceFinalIdeal.nD Cert.ReferenceFinalIdeal.τ).loc Cert.ReferenceFinalIdeal.main_arg2) = m ((c.tc : Thread Cert.FinalIdeal.nD Cert.FinalIdeal.τ).loc Cert.FinalIdeal.main_arg2)
      ∧ m' ((c.tc : Thread Cert.ReferenceFinalIdeal.nD Cert.ReferenceFinalIdeal.τ).loc Cert.ReferenceFinalIdeal.main_arg3) = m ((c.tc : Thread Cert.FinalIdeal.nD Cert.FinalIdeal.τ).loc Cert.FinalIdeal.main_arg3)
      ∧ m' ((c.tc : Thread Cert.ReferenceFinalIdeal.nD Cert.ReferenceFinalIdeal.τ).loc Cert.ReferenceFinalIdeal.main_arg4) = m ((c.tc : Thread Cert.FinalIdeal.nD Cert.FinalIdeal.τ).loc Cert.FinalIdeal.main_arg4)
      ∧ m' ((c.tc : Thread Cert.ReferenceFinalIdeal.nD Cert.ReferenceFinalIdeal.τ).loc Cert.ReferenceFinalIdeal.main_arg5) = m ((c.tc : Thread Cert.FinalIdeal.nD Cert.FinalIdeal.τ).loc Cert.FinalIdeal.main_arg5)) →
    ∃ (v0 : (c : Dev Cert.FinalIdeal.nD) → Buf (Elt Ideal) ((c.tc : Thread Cert.FinalIdeal.nD Cert.FinalIdeal.τ).loc Cert.FinalIdeal.main_v7)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v7) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5))
      ∧ θ_run (Cert.ReferenceFinalIdeal.defs (F := Ideal)) (onTc (τ := Cert.ReferenceFinalIdeal.τ) (Cert.ReferenceFinalIdeal.main (F := Ideal))) ⟨m', fun _ => 0, g'⟩ (fun r => ∀ c : Dev Cert.ReferenceFinalIdeal.nD,
          r.2.mem ((c.tc : Thread Cert.ReferenceFinalIdeal.nD Cert.ReferenceFinalIdeal.τ).loc Cert.ReferenceFinalIdeal.main_v21) = v0 c
          ∧ r.2.mem ((c.tc : Thread Cert.ReferenceFinalIdeal.nD Cert.ReferenceFinalIdeal.τ).loc Cert.ReferenceFinalIdeal.main_arg0) = m' ((c.tc : Thread Cert.ReferenceFinalIdeal.nD Cert.ReferenceFinalIdeal.τ).loc Cert.ReferenceFinalIdeal.main_arg0)
          ∧ r.2.mem ((c.tc : Thread Cert.ReferenceFinalIdeal.nD Cert.ReferenceFinalIdeal.τ).loc Cert.ReferenceFinalIdeal.main_arg1) = m' ((c.tc : Thread Cert.ReferenceFinalIdeal.nD Cert.ReferenceFinalIdeal.τ).loc Cert.ReferenceFinalIdeal.main_arg1)
          ∧ r.2.mem ((c.tc : Thread Cert.ReferenceFinalIdeal.nD Cert.ReferenceFinalIdeal.τ).loc Cert.ReferenceFinalIdeal.main_arg2) = m' ((c.tc : Thread Cert.ReferenceFinalIdeal.nD Cert.ReferenceFinalIdeal.τ).loc Cert.ReferenceFinalIdeal.main_arg2)
          ∧ r.2.mem ((c.tc : Thread Cert.ReferenceFinalIdeal.nD Cert.ReferenceFinalIdeal.τ).loc Cert.ReferenceFinalIdeal.main_arg3) = m' ((c.tc : Thread Cert.ReferenceFinalIdeal.nD Cert.ReferenceFinalIdeal.τ).loc Cert.ReferenceFinalIdeal.main_arg3)
          ∧ r.2.mem ((c.tc : Thread Cert.ReferenceFinalIdeal.nD Cert.ReferenceFinalIdeal.τ).loc Cert.ReferenceFinalIdeal.main_arg4) = m' ((c.tc : Thread Cert.ReferenceFinalIdeal.nD Cert.ReferenceFinalIdeal.τ).loc Cert.ReferenceFinalIdeal.main_arg4)
          ∧ r.2.mem ((c.tc : Thread Cert.ReferenceFinalIdeal.nD Cert.ReferenceFinalIdeal.τ).loc Cert.ReferenceFinalIdeal.main_arg5) = m' ((c.tc : Thread Cert.ReferenceFinalIdeal.nD Cert.ReferenceFinalIdeal.τ).loc Cert.ReferenceFinalIdeal.main_arg5))

def preserves_First_FirstIdeal : Prop :=
  True

def algebraic_FirstIdeal_ReferenceFirstIdeal [hFirstIdeal : Cert.FirstIdeal.Facts] [hReferenceFirstIdeal : Cert.ReferenceFirstIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.ReferenceFirstIdeal.nD Cert.ReferenceFirstIdeal.τ Cert.ReferenceFirstIdeal.sig) → Buf (Elt Ideal) ℓ) (g' : Dev Cert.ReferenceFirstIdeal.nD → PrngReg), Pre_FirstIdeal m →
    (∀ c : Dev Cert.FirstIdeal.nD,
      m' ((c.tc : Thread Cert.ReferenceFirstIdeal.nD Cert.ReferenceFirstIdeal.τ).loc Cert.ReferenceFirstIdeal.main_arg0) = m ((c.tc : Thread Cert.FirstIdeal.nD Cert.FirstIdeal.τ).loc Cert.FirstIdeal.main_arg0)
      ∧ m' ((c.tc : Thread Cert.ReferenceFirstIdeal.nD Cert.ReferenceFirstIdeal.τ).loc Cert.ReferenceFirstIdeal.main_arg1) = m ((c.tc : Thread Cert.FirstIdeal.nD Cert.FirstIdeal.τ).loc Cert.FirstIdeal.main_arg1)
      ∧ m' ((c.tc : Thread Cert.ReferenceFirstIdeal.nD Cert.ReferenceFirstIdeal.τ).loc Cert.ReferenceFirstIdeal.main_arg2) = m ((c.tc : Thread Cert.FirstIdeal.nD Cert.FirstIdeal.τ).loc Cert.FirstIdeal.main_arg2)
      ∧ m' ((c.tc : Thread Cert.ReferenceFirstIdeal.nD Cert.ReferenceFirstIdeal.τ).loc Cert.ReferenceFirstIdeal.main_arg3) = m ((c.tc : Thread Cert.FirstIdeal.nD Cert.FirstIdeal.τ).loc Cert.FirstIdeal.main_arg3)
      ∧ m' ((c.tc : Thread Cert.ReferenceFirstIdeal.nD Cert.ReferenceFirstIdeal.τ).loc Cert.ReferenceFirstIdeal.main_arg4) = m ((c.tc : Thread Cert.FirstIdeal.nD Cert.FirstIdeal.τ).loc Cert.FirstIdeal.main_arg4)
      ∧ m' ((c.tc : Thread Cert.ReferenceFirstIdeal.nD Cert.ReferenceFirstIdeal.τ).loc Cert.ReferenceFirstIdeal.main_arg5) = m ((c.tc : Thread Cert.FirstIdeal.nD Cert.FirstIdeal.τ).loc Cert.FirstIdeal.main_arg5)) →
    ∃ (v0 : (c : Dev Cert.FirstIdeal.nD) → Buf (Elt Ideal) ((c.tc : Thread Cert.FirstIdeal.nD Cert.FirstIdeal.τ).loc Cert.FirstIdeal.main_v6_0)) (v1 : (c : Dev Cert.FirstIdeal.nD) → Buf (Elt Ideal) ((c.tc : Thread Cert.FirstIdeal.nD Cert.FirstIdeal.τ).loc Cert.FirstIdeal.main_v6_1)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v6_0) = v0 c
          ∧ r.2.mem ((c.tc : Thread Cert.FirstIdeal.nD Cert.FirstIdeal.τ).loc Cert.FirstIdeal.main_v6_1) = v1 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5))
      ∧ θ_run (Cert.ReferenceFirstIdeal.defs (F := Ideal)) (onTc (τ := Cert.ReferenceFirstIdeal.τ) (Cert.ReferenceFirstIdeal.main (F := Ideal))) ⟨m', fun _ => 0, g'⟩ (fun r => ∀ c : Dev Cert.ReferenceFirstIdeal.nD,
          r.2.mem ((c.tc : Thread Cert.ReferenceFirstIdeal.nD Cert.ReferenceFirstIdeal.τ).loc Cert.ReferenceFirstIdeal.main_v21) = v0 c
          ∧ r.2.mem ((c.tc : Thread Cert.ReferenceFirstIdeal.nD Cert.ReferenceFirstIdeal.τ).loc Cert.ReferenceFirstIdeal.main_v36) = v1 c
          ∧ r.2.mem ((c.tc : Thread Cert.ReferenceFirstIdeal.nD Cert.ReferenceFirstIdeal.τ).loc Cert.ReferenceFirstIdeal.main_arg0) = m' ((c.tc : Thread Cert.ReferenceFirstIdeal.nD Cert.ReferenceFirstIdeal.τ).loc Cert.ReferenceFirstIdeal.main_arg0)
          ∧ r.2.mem ((c.tc : Thread Cert.ReferenceFirstIdeal.nD Cert.ReferenceFirstIdeal.τ).loc Cert.ReferenceFirstIdeal.main_arg1) = m' ((c.tc : Thread Cert.ReferenceFirstIdeal.nD Cert.ReferenceFirstIdeal.τ).loc Cert.ReferenceFirstIdeal.main_arg1)
          ∧ r.2.mem ((c.tc : Thread Cert.ReferenceFirstIdeal.nD Cert.ReferenceFirstIdeal.τ).loc Cert.ReferenceFirstIdeal.main_arg2) = m' ((c.tc : Thread Cert.ReferenceFirstIdeal.nD Cert.ReferenceFirstIdeal.τ).loc Cert.ReferenceFirstIdeal.main_arg2)
          ∧ r.2.mem ((c.tc : Thread Cert.ReferenceFirstIdeal.nD Cert.ReferenceFirstIdeal.τ).loc Cert.ReferenceFirstIdeal.main_arg3) = m' ((c.tc : Thread Cert.ReferenceFirstIdeal.nD Cert.ReferenceFirstIdeal.τ).loc Cert.ReferenceFirstIdeal.main_arg3)
          ∧ r.2.mem ((c.tc : Thread Cert.ReferenceFirstIdeal.nD Cert.ReferenceFirstIdeal.τ).loc Cert.ReferenceFirstIdeal.main_arg4) = m' ((c.tc : Thread Cert.ReferenceFirstIdeal.nD Cert.ReferenceFirstIdeal.τ).loc Cert.ReferenceFirstIdeal.main_arg4)
          ∧ r.2.mem ((c.tc : Thread Cert.ReferenceFirstIdeal.nD Cert.ReferenceFirstIdeal.τ).loc Cert.ReferenceFirstIdeal.main_arg5) = m' ((c.tc : Thread Cert.ReferenceFirstIdeal.nD Cert.ReferenceFirstIdeal.τ).loc Cert.ReferenceFirstIdeal.main_arg5))

def preserves_Near_NearIdeal : Prop :=
  True

def algebraic_NearIdeal_ReferenceNearIdeal [hNearIdeal : Cert.NearIdeal.Facts] [hReferenceNearIdeal : Cert.ReferenceNearIdeal.Facts] : Prop :=
  ∀ (m : (ℓ : Loc Cert.NearIdeal.nD Cert.NearIdeal.τ Cert.NearIdeal.sig) → Buf (Elt Ideal) ℓ) (g : Dev Cert.NearIdeal.nD → PrngReg)
    (m' : (ℓ : Loc Cert.ReferenceNearIdeal.nD Cert.ReferenceNearIdeal.τ Cert.ReferenceNearIdeal.sig) → Buf (Elt Ideal) ℓ) (g' : Dev Cert.ReferenceNearIdeal.nD → PrngReg), Pre_NearIdeal m →
    (∀ c : Dev Cert.NearIdeal.nD,
      m' ((c.tc : Thread Cert.ReferenceNearIdeal.nD Cert.ReferenceNearIdeal.τ).loc Cert.ReferenceNearIdeal.main_arg0) = m ((c.tc : Thread Cert.NearIdeal.nD Cert.NearIdeal.τ).loc Cert.NearIdeal.main_arg0)
      ∧ m' ((c.tc : Thread Cert.ReferenceNearIdeal.nD Cert.ReferenceNearIdeal.τ).loc Cert.ReferenceNearIdeal.main_arg1) = m ((c.tc : Thread Cert.NearIdeal.nD Cert.NearIdeal.τ).loc Cert.NearIdeal.main_arg1)) →
    ∃ (v0 : (c : Dev Cert.NearIdeal.nD) → Buf (Elt Ideal) ((c.tc : Thread Cert.NearIdeal.nD Cert.NearIdeal.τ).loc Cert.NearIdeal.main_v3)),
      θ_run (Cert.NearIdeal.defs (F := Ideal)) (onTc (τ := Cert.NearIdeal.τ) (Cert.NearIdeal.main (F := Ideal))) ⟨m, fun _ => 0, g⟩ (fun r => ∀ c : Dev Cert.NearIdeal.nD,
          r.2.mem ((c.tc : Thread Cert.NearIdeal.nD Cert.NearIdeal.τ).loc Cert.NearIdeal.main_v3) = v0 c
          ∧ r.2.mem ((c.tc : Thread Cert.NearIdeal.nD Cert.NearIdeal.τ).loc Cert.NearIdeal.main_arg0) = m ((c.tc : Thread Cert.NearIdeal.nD Cert.NearIdeal.τ).loc Cert.NearIdeal.main_arg0)
          ∧ r.2.mem ((c.tc : Thread Cert.NearIdeal.nD Cert.NearIdeal.τ).loc Cert.NearIdeal.main_arg1) = m ((c.tc : Thread Cert.NearIdeal.nD Cert.NearIdeal.τ).loc Cert.NearIdeal.main_arg1))
      ∧ θ_run (Cert.ReferenceNearIdeal.defs (F := Ideal)) (onTc (τ := Cert.ReferenceNearIdeal.τ) (Cert.ReferenceNearIdeal.main (F := Ideal))) ⟨m', fun _ => 0, g'⟩ (fun r => ∀ c : Dev Cert.ReferenceNearIdeal.nD,
          r.2.mem ((c.tc : Thread Cert.ReferenceNearIdeal.nD Cert.ReferenceNearIdeal.τ).loc Cert.ReferenceNearIdeal.main_v6) = v0 c
          ∧ r.2.mem ((c.tc : Thread Cert.ReferenceNearIdeal.nD Cert.ReferenceNearIdeal.τ).loc Cert.ReferenceNearIdeal.main_arg0) = m' ((c.tc : Thread Cert.ReferenceNearIdeal.nD Cert.ReferenceNearIdeal.τ).loc Cert.ReferenceNearIdeal.main_arg0)
          ∧ r.2.mem ((c.tc : Thread Cert.ReferenceNearIdeal.nD Cert.ReferenceNearIdeal.τ).loc Cert.ReferenceNearIdeal.main_arg1) = m' ((c.tc : Thread Cert.ReferenceNearIdeal.nD Cert.ReferenceNearIdeal.τ).loc Cert.ReferenceNearIdeal.main_arg1))

def preserves_Middle_MiddleIdeal : Prop :=
  True

def algebraic_MiddleIdeal_ReferenceMiddleIdeal [hMiddleIdeal : Cert.MiddleIdeal.Facts] [hReferenceMiddleIdeal : Cert.ReferenceMiddleIdeal.Facts] : Prop :=
  ∀ (m : (ℓ : Loc Cert.MiddleIdeal.nD Cert.MiddleIdeal.τ Cert.MiddleIdeal.sig) → Buf (Elt Ideal) ℓ) (g : Dev Cert.MiddleIdeal.nD → PrngReg)
    (m' : (ℓ : Loc Cert.ReferenceMiddleIdeal.nD Cert.ReferenceMiddleIdeal.τ Cert.ReferenceMiddleIdeal.sig) → Buf (Elt Ideal) ℓ) (g' : Dev Cert.ReferenceMiddleIdeal.nD → PrngReg), Pre_MiddleIdeal m →
    (∀ c : Dev Cert.MiddleIdeal.nD,
      m' ((c.tc : Thread Cert.ReferenceMiddleIdeal.nD Cert.ReferenceMiddleIdeal.τ).loc Cert.ReferenceMiddleIdeal.main_arg0) = m ((c.tc : Thread Cert.MiddleIdeal.nD Cert.MiddleIdeal.τ).loc Cert.MiddleIdeal.main_arg0)
      ∧ m' ((c.tc : Thread Cert.ReferenceMiddleIdeal.nD Cert.ReferenceMiddleIdeal.τ).loc Cert.ReferenceMiddleIdeal.main_arg1) = m ((c.tc : Thread Cert.MiddleIdeal.nD Cert.MiddleIdeal.τ).loc Cert.MiddleIdeal.main_arg1)) →
    ∃ (v0 : (c : Dev Cert.MiddleIdeal.nD) → Buf (Elt Ideal) ((c.tc : Thread Cert.MiddleIdeal.nD Cert.MiddleIdeal.τ).loc Cert.MiddleIdeal.main_v3)),
      θ_run (Cert.MiddleIdeal.defs (F := Ideal)) (onTc (τ := Cert.MiddleIdeal.τ) (Cert.MiddleIdeal.main (F := Ideal))) ⟨m, fun _ => 0, g⟩ (fun r => ∀ c : Dev Cert.MiddleIdeal.nD,
          r.2.mem ((c.tc : Thread Cert.MiddleIdeal.nD Cert.MiddleIdeal.τ).loc Cert.MiddleIdeal.main_v3) = v0 c
          ∧ r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
          ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1))
      ∧ θ_run (Cert.ReferenceMiddleIdeal.defs (F := Ideal)) (onTc (τ := Cert.ReferenceMiddleIdeal.τ) (Cert.ReferenceMiddleIdeal.main (F := Ideal))) ⟨m', fun _ => 0, g'⟩ (fun r => ∀ c : Dev Cert.ReferenceMiddleIdeal.nD,
          r.2.mem ((c.tc : Thread Cert.ReferenceMiddleIdeal.nD Cert.ReferenceMiddleIdeal.τ).loc Cert.ReferenceMiddleIdeal.main_v7) = v0 c
          ∧ r.2.mem ((c.tc : Thread Cert.ReferenceMiddleIdeal.nD Cert.ReferenceMiddleIdeal.τ).loc Cert.ReferenceMiddleIdeal.main_arg0) = m' ((c.tc : Thread Cert.ReferenceMiddleIdeal.nD Cert.ReferenceMiddleIdeal.τ).loc Cert.ReferenceMiddleIdeal.main_arg0)
          ∧ r.2.mem ((c.tc : Thread Cert.ReferenceMiddleIdeal.nD Cert.ReferenceMiddleIdeal.τ).loc Cert.ReferenceMiddleIdeal.main_arg1) = m' ((c.tc : Thread Cert.ReferenceMiddleIdeal.nD Cert.ReferenceMiddleIdeal.τ).loc Cert.ReferenceMiddleIdeal.main_arg1))

def preserves_Far_FarIdeal : Prop :=
  True

def algebraic_FarIdeal_ReferenceFarIdeal [hFarIdeal : Cert.FarIdeal.Facts] [hReferenceFarIdeal : Cert.ReferenceFarIdeal.Facts] : Prop :=
  ∀ (m : (ℓ : Loc Cert.FarIdeal.nD Cert.FarIdeal.τ Cert.FarIdeal.sig) → Buf (Elt Ideal) ℓ) (g : Dev Cert.FarIdeal.nD → PrngReg)
    (m' : (ℓ : Loc Cert.ReferenceFarIdeal.nD Cert.ReferenceFarIdeal.τ Cert.ReferenceFarIdeal.sig) → Buf (Elt Ideal) ℓ) (g' : Dev Cert.ReferenceFarIdeal.nD → PrngReg), Pre_FarIdeal m →
    (∀ c : Dev Cert.FarIdeal.nD,
      m' ((c.tc : Thread Cert.ReferenceFarIdeal.nD Cert.ReferenceFarIdeal.τ).loc Cert.ReferenceFarIdeal.main_arg0) = m ((c.tc : Thread Cert.FarIdeal.nD Cert.FarIdeal.τ).loc Cert.FarIdeal.main_arg0)
      ∧ m' ((c.tc : Thread Cert.ReferenceFarIdeal.nD Cert.ReferenceFarIdeal.τ).loc Cert.ReferenceFarIdeal.main_arg1) = m ((c.tc : Thread Cert.FarIdeal.nD Cert.FarIdeal.τ).loc Cert.FarIdeal.main_arg1)) →
    ∃ (v0 : (c : Dev Cert.FarIdeal.nD) → Buf (Elt Ideal) ((c.tc : Thread Cert.FarIdeal.nD Cert.FarIdeal.τ).loc Cert.FarIdeal.main_v3)),
      θ_run (Cert.FarIdeal.defs (F := Ideal)) (onTc (τ := Cert.FarIdeal.τ) (Cert.FarIdeal.main (F := Ideal))) ⟨m, fun _ => 0, g⟩ (fun r => ∀ c : Dev Cert.FarIdeal.nD,
          r.2.mem ((c.tc : Thread Cert.FarIdeal.nD Cert.FarIdeal.τ).loc Cert.FarIdeal.main_v3) = v0 c
          ∧ r.2.mem ((c.tc : Thread Cert.FarIdeal.nD Cert.FarIdeal.τ).loc Cert.FarIdeal.main_arg0) = m ((c.tc : Thread Cert.FarIdeal.nD Cert.FarIdeal.τ).loc Cert.FarIdeal.main_arg0)
          ∧ r.2.mem ((c.tc : Thread Cert.FarIdeal.nD Cert.FarIdeal.τ).loc Cert.FarIdeal.main_arg1) = m ((c.tc : Thread Cert.FarIdeal.nD Cert.FarIdeal.τ).loc Cert.FarIdeal.main_arg1))
      ∧ θ_run (Cert.ReferenceFarIdeal.defs (F := Ideal)) (onTc (τ := Cert.ReferenceFarIdeal.τ) (Cert.ReferenceFarIdeal.main (F := Ideal))) ⟨m', fun _ => 0, g'⟩ (fun r => ∀ c : Dev Cert.ReferenceFarIdeal.nD,
          r.2.mem ((c.tc : Thread Cert.ReferenceFarIdeal.nD Cert.ReferenceFarIdeal.τ).loc Cert.ReferenceFarIdeal.main_v7) = v0 c
          ∧ r.2.mem ((c.tc : Thread Cert.ReferenceFarIdeal.nD Cert.ReferenceFarIdeal.τ).loc Cert.ReferenceFarIdeal.main_arg0) = m' ((c.tc : Thread Cert.ReferenceFarIdeal.nD Cert.ReferenceFarIdeal.τ).loc Cert.ReferenceFarIdeal.main_arg0)
          ∧ r.2.mem ((c.tc : Thread Cert.ReferenceFarIdeal.nD Cert.ReferenceFarIdeal.τ).loc Cert.ReferenceFarIdeal.main_arg1) = m' ((c.tc : Thread Cert.ReferenceFarIdeal.nD Cert.ReferenceFarIdeal.τ).loc Cert.ReferenceFarIdeal.main_arg1))

def preserves_Mid_MidIdeal : Prop :=
  IdealRules.named_const.Statement Cert.MidIdeal.κ "scale_log2e" .f32 0x3E0293EE#32 (((Real.sqrt 128)⁻¹ * (Real.log 2)⁻¹ : ℝ) : EReal)

def algebraic_MidIdeal_ReferenceMidIdeal [hMidIdeal : Cert.MidIdeal.Facts] [hReferenceMidIdeal : Cert.ReferenceMidIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.ReferenceMidIdeal.nD Cert.ReferenceMidIdeal.τ Cert.ReferenceMidIdeal.sig) → Buf (Elt Ideal) ℓ) (g' : Dev Cert.ReferenceMidIdeal.nD → PrngReg), Pre_MidIdeal m →
    (∀ c : Dev Cert.MidIdeal.nD,
      m' ((c.tc : Thread Cert.ReferenceMidIdeal.nD Cert.ReferenceMidIdeal.τ).loc Cert.ReferenceMidIdeal.main_arg0) = m ((c.tc : Thread Cert.MidIdeal.nD Cert.MidIdeal.τ).loc Cert.MidIdeal.main_arg0)
      ∧ m' ((c.tc : Thread Cert.ReferenceMidIdeal.nD Cert.ReferenceMidIdeal.τ).loc Cert.ReferenceMidIdeal.main_arg1) = m ((c.tc : Thread Cert.MidIdeal.nD Cert.MidIdeal.τ).loc Cert.MidIdeal.main_arg1)
      ∧ m' ((c.tc : Thread Cert.ReferenceMidIdeal.nD Cert.ReferenceMidIdeal.τ).loc Cert.ReferenceMidIdeal.main_arg2) = m ((c.tc : Thread Cert.MidIdeal.nD Cert.MidIdeal.τ).loc Cert.MidIdeal.main_arg2)
      ∧ m' ((c.tc : Thread Cert.ReferenceMidIdeal.nD Cert.ReferenceMidIdeal.τ).loc Cert.ReferenceMidIdeal.main_arg3) = m ((c.tc : Thread Cert.MidIdeal.nD Cert.MidIdeal.τ).loc Cert.MidIdeal.main_arg3)
      ∧ m' ((c.tc : Thread Cert.ReferenceMidIdeal.nD Cert.ReferenceMidIdeal.τ).loc Cert.ReferenceMidIdeal.main_arg4) = m ((c.tc : Thread Cert.MidIdeal.nD Cert.MidIdeal.τ).loc Cert.MidIdeal.main_arg4)
      ∧ m' ((c.tc : Thread Cert.ReferenceMidIdeal.nD Cert.ReferenceMidIdeal.τ).loc Cert.ReferenceMidIdeal.main_arg5) = m ((c.tc : Thread Cert.MidIdeal.nD Cert.MidIdeal.τ).loc Cert.MidIdeal.main_arg5)
      ∧ m' ((c.tc : Thread Cert.ReferenceMidIdeal.nD Cert.ReferenceMidIdeal.τ).loc Cert.ReferenceMidIdeal.main_arg6) = m ((c.tc : Thread Cert.MidIdeal.nD Cert.MidIdeal.τ).loc Cert.MidIdeal.main_arg6)
      ∧ m' ((c.tc : Thread Cert.ReferenceMidIdeal.nD Cert.ReferenceMidIdeal.τ).loc Cert.ReferenceMidIdeal.main_arg7) = m ((c.tc : Thread Cert.MidIdeal.nD Cert.MidIdeal.τ).loc Cert.MidIdeal.main_arg7)
      ∧ m' ((c.tc : Thread Cert.ReferenceMidIdeal.nD Cert.ReferenceMidIdeal.τ).loc Cert.ReferenceMidIdeal.main_arg8) = m ((c.tc : Thread Cert.MidIdeal.nD Cert.MidIdeal.τ).loc Cert.MidIdeal.main_arg8)
      ∧ m' ((c.tc : Thread Cert.ReferenceMidIdeal.nD Cert.ReferenceMidIdeal.τ).loc Cert.ReferenceMidIdeal.main_arg9) = m ((c.tc : Thread Cert.MidIdeal.nD Cert.MidIdeal.τ).loc Cert.MidIdeal.main_arg9)) →
    ∃ (v0 : (c : Dev Cert.MidIdeal.nD) → Buf (Elt Ideal) ((c.tc : Thread Cert.MidIdeal.nD Cert.MidIdeal.τ).loc Cert.MidIdeal.main_v9_0)) (v1 : (c : Dev Cert.MidIdeal.nD) → Buf (Elt Ideal) ((c.tc : Thread Cert.MidIdeal.nD Cert.MidIdeal.τ).loc Cert.MidIdeal.main_v9_1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v9_0) = v0 c
          ∧ r.2.mem ((c.tc : Thread Cert.MidIdeal.nD Cert.MidIdeal.τ).loc Cert.MidIdeal.main_v9_1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
          ∧ r.2.mem ((c.tc : Thread Cert.MidIdeal.nD Cert.MidIdeal.τ).loc Cert.MidIdeal.main_arg9) = m ((c.tc : Thread Cert.MidIdeal.nD Cert.MidIdeal.τ).loc Cert.MidIdeal.main_arg9))
      ∧ θ_run (Cert.ReferenceMidIdeal.defs (F := Ideal)) (onTc (τ := Cert.ReferenceMidIdeal.τ) (Cert.ReferenceMidIdeal.main (F := Ideal))) ⟨m', fun _ => 0, g'⟩ (fun r => ∀ c : Dev Cert.ReferenceMidIdeal.nD,
          r.2.mem ((c.tc : Thread Cert.ReferenceMidIdeal.nD Cert.ReferenceMidIdeal.τ).loc Cert.ReferenceMidIdeal.main_v39) = v0 c
          ∧ r.2.mem ((c.tc : Thread Cert.ReferenceMidIdeal.nD Cert.ReferenceMidIdeal.τ).loc Cert.ReferenceMidIdeal.main_v53) = v1 c
          ∧ r.2.mem ((c.tc : Thread Cert.ReferenceMidIdeal.nD Cert.ReferenceMidIdeal.τ).loc Cert.ReferenceMidIdeal.main_arg0) = m' ((c.tc : Thread Cert.ReferenceMidIdeal.nD Cert.ReferenceMidIdeal.τ).loc Cert.ReferenceMidIdeal.main_arg0)
          ∧ r.2.mem ((c.tc : Thread Cert.ReferenceMidIdeal.nD Cert.ReferenceMidIdeal.τ).loc Cert.ReferenceMidIdeal.main_arg1) = m' ((c.tc : Thread Cert.ReferenceMidIdeal.nD Cert.ReferenceMidIdeal.τ).loc Cert.ReferenceMidIdeal.main_arg1)
          ∧ r.2.mem ((c.tc : Thread Cert.ReferenceMidIdeal.nD Cert.ReferenceMidIdeal.τ).loc Cert.ReferenceMidIdeal.main_arg2) = m' ((c.tc : Thread Cert.ReferenceMidIdeal.nD Cert.ReferenceMidIdeal.τ).loc Cert.ReferenceMidIdeal.main_arg2)
          ∧ r.2.mem ((c.tc : Thread Cert.ReferenceMidIdeal.nD Cert.ReferenceMidIdeal.τ).loc Cert.ReferenceMidIdeal.main_arg3) = m' ((c.tc : Thread Cert.ReferenceMidIdeal.nD Cert.ReferenceMidIdeal.τ).loc Cert.ReferenceMidIdeal.main_arg3)
          ∧ r.2.mem ((c.tc : Thread Cert.ReferenceMidIdeal.nD Cert.ReferenceMidIdeal.τ).loc Cert.ReferenceMidIdeal.main_arg4) = m' ((c.tc : Thread Cert.ReferenceMidIdeal.nD Cert.ReferenceMidIdeal.τ).loc Cert.ReferenceMidIdeal.main_arg4)
          ∧ r.2.mem ((c.tc : Thread Cert.ReferenceMidIdeal.nD Cert.ReferenceMidIdeal.τ).loc Cert.ReferenceMidIdeal.main_arg5) = m' ((c.tc : Thread Cert.ReferenceMidIdeal.nD Cert.ReferenceMidIdeal.τ).loc Cert.ReferenceMidIdeal.main_arg5)
          ∧ r.2.mem ((c.tc : Thread Cert.ReferenceMidIdeal.nD Cert.ReferenceMidIdeal.τ).loc Cert.ReferenceMidIdeal.main_arg6) = m' ((c.tc : Thread Cert.ReferenceMidIdeal.nD Cert.ReferenceMidIdeal.τ).loc Cert.ReferenceMidIdeal.main_arg6)
          ∧ r.2.mem ((c.tc : Thread Cert.ReferenceMidIdeal.nD Cert.ReferenceMidIdeal.τ).loc Cert.ReferenceMidIdeal.main_arg7) = m' ((c.tc : Thread Cert.ReferenceMidIdeal.nD Cert.ReferenceMidIdeal.τ).loc Cert.ReferenceMidIdeal.main_arg7)
          ∧ r.2.mem ((c.tc : Thread Cert.ReferenceMidIdeal.nD Cert.ReferenceMidIdeal.τ).loc Cert.ReferenceMidIdeal.main_arg8) = m' ((c.tc : Thread Cert.ReferenceMidIdeal.nD Cert.ReferenceMidIdeal.τ).loc Cert.ReferenceMidIdeal.main_arg8)
          ∧ r.2.mem ((c.tc : Thread Cert.ReferenceMidIdeal.nD Cert.ReferenceMidIdeal.τ).loc Cert.ReferenceMidIdeal.main_arg9) = m' ((c.tc : Thread Cert.ReferenceMidIdeal.nD Cert.ReferenceMidIdeal.τ).loc Cert.ReferenceMidIdeal.main_arg9))

def preserves_Memory_MemoryIdeal : Prop :=
  True

def algebraic_MemoryIdeal_ReferenceMemoryIdeal [hMemoryIdeal : Cert.MemoryIdeal.Facts] [hReferenceMemoryIdeal : Cert.ReferenceMemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.ReferenceMemoryIdeal.nD Cert.ReferenceMemoryIdeal.τ Cert.ReferenceMemoryIdeal.sig) → Buf (Elt Ideal) ℓ) (g' : Dev Cert.ReferenceMemoryIdeal.nD → PrngReg), Pre_MemoryIdeal m →
    (∀ c : Dev Cert.MemoryIdeal.nD,
      m' ((c.tc : Thread Cert.ReferenceMemoryIdeal.nD Cert.ReferenceMemoryIdeal.τ).loc Cert.ReferenceMemoryIdeal.main_arg0) = m ((c.tc : Thread Cert.MemoryIdeal.nD Cert.MemoryIdeal.τ).loc Cert.MemoryIdeal.main_arg0)
      ∧ m' ((c.tc : Thread Cert.ReferenceMemoryIdeal.nD Cert.ReferenceMemoryIdeal.τ).loc Cert.ReferenceMemoryIdeal.main_arg1) = m ((c.tc : Thread Cert.MemoryIdeal.nD Cert.MemoryIdeal.τ).loc Cert.MemoryIdeal.main_arg1)
      ∧ m' ((c.tc : Thread Cert.ReferenceMemoryIdeal.nD Cert.ReferenceMemoryIdeal.τ).loc Cert.ReferenceMemoryIdeal.main_arg2) = m ((c.tc : Thread Cert.MemoryIdeal.nD Cert.MemoryIdeal.τ).loc Cert.MemoryIdeal.main_arg2)) →
    ∃ (v0 : (c : Dev Cert.MemoryIdeal.nD) → Buf (Elt Ideal) ((c.tc : Thread Cert.MemoryIdeal.nD Cert.MemoryIdeal.τ).loc Cert.MemoryIdeal.main_v2_0)) (v1 : (c : Dev Cert.MemoryIdeal.nD) → Buf (Elt Ideal) ((c.tc : Thread Cert.MemoryIdeal.nD Cert.MemoryIdeal.τ).loc Cert.MemoryIdeal.main_v2_1)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v2_0) = v0 c
          ∧ r.2.mem ((c.tc : Thread Cert.MemoryIdeal.nD Cert.MemoryIdeal.τ).loc Cert.MemoryIdeal.main_v2_1) = v1 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ θ_run (Cert.ReferenceMemoryIdeal.defs (F := Ideal)) (onTc (τ := Cert.ReferenceMemoryIdeal.τ) (Cert.ReferenceMemoryIdeal.main (F := Ideal))) ⟨m', fun _ => 0, g'⟩ (fun r => ∀ c : Dev Cert.ReferenceMemoryIdeal.nD,
          r.2.mem ((c.tc : Thread Cert.ReferenceMemoryIdeal.nD Cert.ReferenceMemoryIdeal.τ).loc Cert.ReferenceMemoryIdeal.main_v15) = v0 c
          ∧ r.2.mem ((c.tc : Thread Cert.ReferenceMemoryIdeal.nD Cert.ReferenceMemoryIdeal.τ).loc Cert.ReferenceMemoryIdeal.main_v17) = v1 c
          ∧ r.2.mem ((c.tc : Thread Cert.ReferenceMemoryIdeal.nD Cert.ReferenceMemoryIdeal.τ).loc Cert.ReferenceMemoryIdeal.main_arg0) = m' ((c.tc : Thread Cert.ReferenceMemoryIdeal.nD Cert.ReferenceMemoryIdeal.τ).loc Cert.ReferenceMemoryIdeal.main_arg0)
          ∧ r.2.mem ((c.tc : Thread Cert.ReferenceMemoryIdeal.nD Cert.ReferenceMemoryIdeal.τ).loc Cert.ReferenceMemoryIdeal.main_arg1) = m' ((c.tc : Thread Cert.ReferenceMemoryIdeal.nD Cert.ReferenceMemoryIdeal.τ).loc Cert.ReferenceMemoryIdeal.main_arg1)
          ∧ r.2.mem ((c.tc : Thread Cert.ReferenceMemoryIdeal.nD Cert.ReferenceMemoryIdeal.τ).loc Cert.ReferenceMemoryIdeal.main_arg2) = m' ((c.tc : Thread Cert.ReferenceMemoryIdeal.nD Cert.ReferenceMemoryIdeal.τ).loc Cert.ReferenceMemoryIdeal.main_arg2))

def preserves_Axial_AxialIdeal : Prop :=
  True

def algebraic_AxialIdeal_ReferenceAxialIdeal [hAxialIdeal : Cert.AxialIdeal.Facts] [hReferenceAxialIdeal : Cert.ReferenceAxialIdeal.Facts] : Prop :=
  ∀ (m : (ℓ : Loc Cert.AxialIdeal.nD Cert.AxialIdeal.τ Cert.AxialIdeal.sig) → Buf (Elt Ideal) ℓ) (g : Dev Cert.AxialIdeal.nD → PrngReg)
    (m' : (ℓ : Loc Cert.ReferenceAxialIdeal.nD Cert.ReferenceAxialIdeal.τ Cert.ReferenceAxialIdeal.sig) → Buf (Elt Ideal) ℓ) (g' : Dev Cert.ReferenceAxialIdeal.nD → PrngReg), Pre_AxialIdeal m →
    (∀ c : Dev Cert.AxialIdeal.nD,
      m' ((c.tc : Thread Cert.ReferenceAxialIdeal.nD Cert.ReferenceAxialIdeal.τ).loc Cert.ReferenceAxialIdeal.main_arg0) = m ((c.tc : Thread Cert.AxialIdeal.nD Cert.AxialIdeal.τ).loc Cert.AxialIdeal.main_arg0)
      ∧ m' ((c.tc : Thread Cert.ReferenceAxialIdeal.nD Cert.ReferenceAxialIdeal.τ).loc Cert.ReferenceAxialIdeal.main_arg1) = m ((c.tc : Thread Cert.AxialIdeal.nD Cert.AxialIdeal.τ).loc Cert.AxialIdeal.main_arg1)
      ∧ m' ((c.tc : Thread Cert.ReferenceAxialIdeal.nD Cert.ReferenceAxialIdeal.τ).loc Cert.ReferenceAxialIdeal.main_arg2) = m ((c.tc : Thread Cert.AxialIdeal.nD Cert.AxialIdeal.τ).loc Cert.AxialIdeal.main_arg2)
      ∧ m' ((c.tc : Thread Cert.ReferenceAxialIdeal.nD Cert.ReferenceAxialIdeal.τ).loc Cert.ReferenceAxialIdeal.main_arg3) = m ((c.tc : Thread Cert.AxialIdeal.nD Cert.AxialIdeal.τ).loc Cert.AxialIdeal.main_arg3)
      ∧ m' ((c.tc : Thread Cert.ReferenceAxialIdeal.nD Cert.ReferenceAxialIdeal.τ).loc Cert.ReferenceAxialIdeal.main_arg4) = m ((c.tc : Thread Cert.AxialIdeal.nD Cert.AxialIdeal.τ).loc Cert.AxialIdeal.main_arg4)
      ∧ m' ((c.tc : Thread Cert.ReferenceAxialIdeal.nD Cert.ReferenceAxialIdeal.τ).loc Cert.ReferenceAxialIdeal.main_arg5) = m ((c.tc : Thread Cert.AxialIdeal.nD Cert.AxialIdeal.τ).loc Cert.AxialIdeal.main_arg5)) →
    ∃ (v0 : (c : Dev Cert.AxialIdeal.nD) → Buf (Elt Ideal) ((c.tc : Thread Cert.AxialIdeal.nD Cert.AxialIdeal.τ).loc Cert.AxialIdeal.main_v13_0)) (v1 : (c : Dev Cert.AxialIdeal.nD) → Buf (Elt Ideal) ((c.tc : Thread Cert.AxialIdeal.nD Cert.AxialIdeal.τ).loc Cert.AxialIdeal.main_v13_1)) (v2 : (c : Dev Cert.AxialIdeal.nD) → Buf (Elt Ideal) ((c.tc : Thread Cert.AxialIdeal.nD Cert.AxialIdeal.τ).loc Cert.AxialIdeal.main_v13_2)),
      θ_run (Cert.AxialIdeal.defs (F := Ideal)) (onTc (τ := Cert.AxialIdeal.τ) (Cert.AxialIdeal.main (F := Ideal))) ⟨m, fun _ => 0, g⟩ (fun r => ∀ c : Dev Cert.AxialIdeal.nD,
          r.2.mem ((c.tc : Thread Cert.AxialIdeal.nD Cert.AxialIdeal.τ).loc Cert.AxialIdeal.main_v13_0) = v0 c
          ∧ r.2.mem ((c.tc : Thread Cert.AxialIdeal.nD Cert.AxialIdeal.τ).loc Cert.AxialIdeal.main_v13_1) = v1 c
          ∧ r.2.mem ((c.tc : Thread Cert.AxialIdeal.nD Cert.AxialIdeal.τ).loc Cert.AxialIdeal.main_v13_2) = v2 c
          ∧ r.2.mem ((c.tc : Thread Cert.AxialIdeal.nD Cert.AxialIdeal.τ).loc Cert.AxialIdeal.main_arg0) = m ((c.tc : Thread Cert.AxialIdeal.nD Cert.AxialIdeal.τ).loc Cert.AxialIdeal.main_arg0)
          ∧ r.2.mem ((c.tc : Thread Cert.AxialIdeal.nD Cert.AxialIdeal.τ).loc Cert.AxialIdeal.main_arg1) = m ((c.tc : Thread Cert.AxialIdeal.nD Cert.AxialIdeal.τ).loc Cert.AxialIdeal.main_arg1)
          ∧ r.2.mem ((c.tc : Thread Cert.AxialIdeal.nD Cert.AxialIdeal.τ).loc Cert.AxialIdeal.main_arg2) = m ((c.tc : Thread Cert.AxialIdeal.nD Cert.AxialIdeal.τ).loc Cert.AxialIdeal.main_arg2)
          ∧ r.2.mem ((c.tc : Thread Cert.AxialIdeal.nD Cert.AxialIdeal.τ).loc Cert.AxialIdeal.main_arg3) = m ((c.tc : Thread Cert.AxialIdeal.nD Cert.AxialIdeal.τ).loc Cert.AxialIdeal.main_arg3)
          ∧ r.2.mem ((c.tc : Thread Cert.AxialIdeal.nD Cert.AxialIdeal.τ).loc Cert.AxialIdeal.main_arg4) = m ((c.tc : Thread Cert.AxialIdeal.nD Cert.AxialIdeal.τ).loc Cert.AxialIdeal.main_arg4)
          ∧ r.2.mem ((c.tc : Thread Cert.AxialIdeal.nD Cert.AxialIdeal.τ).loc Cert.AxialIdeal.main_arg5) = m ((c.tc : Thread Cert.AxialIdeal.nD Cert.AxialIdeal.τ).loc Cert.AxialIdeal.main_arg5))
      ∧ θ_run (Cert.ReferenceAxialIdeal.defs (F := Ideal)) (onTc (τ := Cert.ReferenceAxialIdeal.τ) (Cert.ReferenceAxialIdeal.main (F := Ideal))) ⟨m', fun _ => 0, g'⟩ (fun r => ∀ c : Dev Cert.ReferenceAxialIdeal.nD,
          r.2.mem ((c.tc : Thread Cert.ReferenceAxialIdeal.nD Cert.ReferenceAxialIdeal.τ).loc Cert.ReferenceAxialIdeal.main_v75) = v0 c
          ∧ r.2.mem ((c.tc : Thread Cert.ReferenceAxialIdeal.nD Cert.ReferenceAxialIdeal.τ).loc Cert.ReferenceAxialIdeal.main_v77) = v1 c
          ∧ r.2.mem ((c.tc : Thread Cert.ReferenceAxialIdeal.nD Cert.ReferenceAxialIdeal.τ).loc Cert.ReferenceAxialIdeal.main_v79) = v2 c
          ∧ r.2.mem ((c.tc : Thread Cert.ReferenceAxialIdeal.nD Cert.ReferenceAxialIdeal.τ).loc Cert.ReferenceAxialIdeal.main_arg0) = m' ((c.tc : Thread Cert.ReferenceAxialIdeal.nD Cert.ReferenceAxialIdeal.τ).loc Cert.ReferenceAxialIdeal.main_arg0)
          ∧ r.2.mem ((c.tc : Thread Cert.ReferenceAxialIdeal.nD Cert.ReferenceAxialIdeal.τ).loc Cert.ReferenceAxialIdeal.main_arg1) = m' ((c.tc : Thread Cert.ReferenceAxialIdeal.nD Cert.ReferenceAxialIdeal.τ).loc Cert.ReferenceAxialIdeal.main_arg1)
          ∧ r.2.mem ((c.tc : Thread Cert.ReferenceAxialIdeal.nD Cert.ReferenceAxialIdeal.τ).loc Cert.ReferenceAxialIdeal.main_arg2) = m' ((c.tc : Thread Cert.ReferenceAxialIdeal.nD Cert.ReferenceAxialIdeal.τ).loc Cert.ReferenceAxialIdeal.main_arg2)
          ∧ r.2.mem ((c.tc : Thread Cert.ReferenceAxialIdeal.nD Cert.ReferenceAxialIdeal.τ).loc Cert.ReferenceAxialIdeal.main_arg3) = m' ((c.tc : Thread Cert.ReferenceAxialIdeal.nD Cert.ReferenceAxialIdeal.τ).loc Cert.ReferenceAxialIdeal.main_arg3)
          ∧ r.2.mem ((c.tc : Thread Cert.ReferenceAxialIdeal.nD Cert.ReferenceAxialIdeal.τ).loc Cert.ReferenceAxialIdeal.main_arg4) = m' ((c.tc : Thread Cert.ReferenceAxialIdeal.nD Cert.ReferenceAxialIdeal.τ).loc Cert.ReferenceAxialIdeal.main_arg4)
          ∧ r.2.mem ((c.tc : Thread Cert.ReferenceAxialIdeal.nD Cert.ReferenceAxialIdeal.τ).loc Cert.ReferenceAxialIdeal.main_arg5) = m' ((c.tc : Thread Cert.ReferenceAxialIdeal.nD Cert.ReferenceAxialIdeal.τ).loc Cert.ReferenceAxialIdeal.main_arg5))

def Claim : Prop :=
  ∃ (hKernel : Cert.Kernel.Facts) (hKernelIdeal : Cert.KernelIdeal.Facts) (hReferenceIdeal : Cert.ReferenceIdeal.Facts) (hFinal : Cert.Final.Facts) (hFinalIdeal : Cert.FinalIdeal.Facts) (hReferenceFinalIdeal : Cert.ReferenceFinalIdeal.Facts) (hFirst : Cert.First.Facts) (hFirstIdeal : Cert.FirstIdeal.Facts) (hReferenceFirstIdeal : Cert.ReferenceFirstIdeal.Facts) (hNear : Cert.Near.Facts) (hNearIdeal : Cert.NearIdeal.Facts) (hReferenceNearIdeal : Cert.ReferenceNearIdeal.Facts) (hMiddle : Cert.Middle.Facts) (hMiddleIdeal : Cert.MiddleIdeal.Facts) (hReferenceMiddleIdeal : Cert.ReferenceMiddleIdeal.Facts) (hFar : Cert.Far.Facts) (hFarIdeal : Cert.FarIdeal.Facts) (hReferenceFarIdeal : Cert.ReferenceFarIdeal.Facts) (hMid : Cert.Mid.Facts) (hMidIdeal : Cert.MidIdeal.Facts) (hReferenceMidIdeal : Cert.ReferenceMidIdeal.Facts) (hMemory : Cert.Memory.Facts) (hMemoryIdeal : Cert.MemoryIdeal.Facts) (hReferenceMemoryIdeal : Cert.ReferenceMemoryIdeal.Facts) (hAxial : Cert.Axial.Facts) (hAxialIdeal : Cert.AxialIdeal.Facts) (hReferenceAxialIdeal : Cert.ReferenceAxialIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Final (hFinal := hFinal)
    ∧ quiescent_FinalIdeal (hFinalIdeal := hFinalIdeal)
    ∧ quiescent_ReferenceFinalIdeal (hReferenceFinalIdeal := hReferenceFinalIdeal)
    ∧ quiescent_First (hFirst := hFirst)
    ∧ quiescent_FirstIdeal (hFirstIdeal := hFirstIdeal)
    ∧ quiescent_ReferenceFirstIdeal (hReferenceFirstIdeal := hReferenceFirstIdeal)
    ∧ quiescent_Near (hNear := hNear)
    ∧ quiescent_NearIdeal (hNearIdeal := hNearIdeal)
    ∧ quiescent_ReferenceNearIdeal (hReferenceNearIdeal := hReferenceNearIdeal)
    ∧ quiescent_Middle (hMiddle := hMiddle)
    ∧ quiescent_MiddleIdeal (hMiddleIdeal := hMiddleIdeal)
    ∧ quiescent_ReferenceMiddleIdeal (hReferenceMiddleIdeal := hReferenceMiddleIdeal)
    ∧ quiescent_Far (hFar := hFar)
    ∧ quiescent_FarIdeal (hFarIdeal := hFarIdeal)
    ∧ quiescent_ReferenceFarIdeal (hReferenceFarIdeal := hReferenceFarIdeal)
    ∧ quiescent_Mid (hMid := hMid)
    ∧ quiescent_MidIdeal (hMidIdeal := hMidIdeal)
    ∧ quiescent_ReferenceMidIdeal (hReferenceMidIdeal := hReferenceMidIdeal)
    ∧ quiescent_Memory (hMemory := hMemory)
    ∧ quiescent_MemoryIdeal (hMemoryIdeal := hMemoryIdeal)
    ∧ quiescent_ReferenceMemoryIdeal (hReferenceMemoryIdeal := hReferenceMemoryIdeal)
    ∧ quiescent_Axial (hAxial := hAxial)
    ∧ quiescent_AxialIdeal (hAxialIdeal := hAxialIdeal)
    ∧ quiescent_ReferenceAxialIdeal (hReferenceAxialIdeal := hReferenceAxialIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Final_FinalIdeal
    ∧ algebraic_FinalIdeal_ReferenceFinalIdeal (hFinalIdeal := hFinalIdeal) (hReferenceFinalIdeal := hReferenceFinalIdeal)
    ∧ preserves_First_FirstIdeal
    ∧ algebraic_FirstIdeal_ReferenceFirstIdeal (hFirstIdeal := hFirstIdeal) (hReferenceFirstIdeal := hReferenceFirstIdeal)
    ∧ preserves_Near_NearIdeal
    ∧ algebraic_NearIdeal_ReferenceNearIdeal (hNearIdeal := hNearIdeal) (hReferenceNearIdeal := hReferenceNearIdeal)
    ∧ preserves_Middle_MiddleIdeal
    ∧ algebraic_MiddleIdeal_ReferenceMiddleIdeal (hMiddleIdeal := hMiddleIdeal) (hReferenceMiddleIdeal := hReferenceMiddleIdeal)
    ∧ preserves_Far_FarIdeal
    ∧ algebraic_FarIdeal_ReferenceFarIdeal (hFarIdeal := hFarIdeal) (hReferenceFarIdeal := hReferenceFarIdeal)
    ∧ preserves_Mid_MidIdeal
    ∧ algebraic_MidIdeal_ReferenceMidIdeal (hMidIdeal := hMidIdeal) (hReferenceMidIdeal := hReferenceMidIdeal)
    ∧ preserves_Memory_MemoryIdeal
    ∧ algebraic_MemoryIdeal_ReferenceMemoryIdeal (hMemoryIdeal := hMemoryIdeal) (hReferenceMemoryIdeal := hReferenceMemoryIdeal)
    ∧ preserves_Axial_AxialIdeal
    ∧ algebraic_AxialIdeal_ReferenceAxialIdeal (hAxialIdeal := hAxialIdeal) (hReferenceAxialIdeal := hReferenceAxialIdeal)
-- ==== Pre_finite_qk.lean ====
abbrev S2x16384x8x128 : Shape := ⟨4, ![2, 16384, 8, 128]⟩
abbrev S2x16384x2x128 : Shape := ⟨4, ![2, 16384, 2, 128]⟩
abbrev S_ : Shape := ⟨0, ![]⟩

class Facts : Prop where
  bcast_S_S2x16384x8x128 : S_.BroadcastsInDim S2x16384x8x128 (![] : Fin 0 → Fin S2x16384x8x128.rank)
  reducesTo_S2x16384x8x128_S_d0_1_2_3 : S2x16384x8x128.ReducesTo [0, 1, 2, 3] S_
  h_S_ : 0 < S_.numel
  bcast_S_S2x16384x2x128 : S_.BroadcastsInDim S2x16384x2x128 (![] : Fin 0 → Fin S2x16384x2x128.rank)
  reducesTo_S2x16384x2x128_S_d0_1_2_3 : S2x16384x2x128.ReducesTo [0, 1, 2, 3] S_

variable [Facts]

def fn {F : FTy → Type} [FloatOps F] (main_arg0 : FVec F S2x16384x8x128 .f32) (main_arg1 : FVec F S2x16384x2x128 .f32) (main_arg2 : FVec F S2x16384x2x128 .f32) : IVec S_ 1 :=
  let main_v0 : FVec F S2x16384x8x128 .f32 := Host.absf main_arg0
  let main_cst : FVec F S_ .f32 := constant S_ .f32 0x7F800000#32
  let main_v1 : FVec F S2x16384x8x128 .f32 := broadcastInDim S2x16384x8x128 ![] bcast_S_S2x16384x8x128 main_cst
  let main_v2 : IVec S2x16384x8x128 1 := cmpf .olt main_v0 main_v1
  let main_c : IVec S_ 1 := constantI S_ 1 1#1
  let main_v3 : IVec S_ 1 := (fun x v => Host.reduce IntOp.andi x v reducesTo_S2x16384x8x128_S_d0_1_2_3 h_S_) main_v2 main_c
  let main_v4 : FVec F S2x16384x2x128 .f32 := Host.absf main_arg1
  let main_cst_0 : FVec F S_ .f32 := constant S_ .f32 0x7F800000#32
  let main_v5 : FVec F S2x16384x2x128 .f32 := broadcastInDim S2x16384x2x128 ![] bcast_S_S2x16384x2x128 main_cst_0
  let main_v6 : IVec S2x16384x2x128 1 := cmpf .olt main_v4 main_v5
  let main_c_1 : IVec S_ 1 := constantI S_ 1 1#1
  let main_v7 : IVec S_ 1 := (fun x v => Host.reduce IntOp.andi x v reducesTo_S2x16384x2x128_S_d0_1_2_3 h_S_) main_v6 main_c_1
  let main_v8 : IVec S_ 1 := andi main_v3 main_v7
  main_v8
-- ==== Kernel.lean ====
abbrev S2x16384x8x128 : Shape := ⟨4, ![2, 16384, 8, 128]⟩
abbrev S2x16384x2x128 : Shape := ⟨4, ![2, 16384, 2, 128]⟩
abbrev S2x8x16384x128 : Shape := ⟨4, ![2, 8, 16384, 128]⟩
abbrev S2x2x16384x128 : Shape := ⟨4, ![2, 2, 16384, 128]⟩
abbrev S2x2x128x16384 : Shape := ⟨4, ![2, 2, 128, 16384]⟩
abbrev S2x16384x1024 : Shape := ⟨3, ![2, 16384, 1024]⟩
abbrev S1x4x512x128 : Shape := ⟨4, ![1, 4, 512, 128]⟩
abbrev S1x1x16384x128 : Shape := ⟨4, ![1, 1, 16384, 128]⟩
abbrev S1x1x128x16384 : Shape := ⟨4, ![1, 1, 128, 16384]⟩
abbrev S1x512x512 : Shape := ⟨3, ![1, 512, 512]⟩
abbrev S4x1x512 : Shape := ⟨3, ![4, 1, 512]⟩
abbrev S4x128x512 : Shape := ⟨3, ![4, 128, 512]⟩
abbrev S1x1x4096x128 : Shape := ⟨4, ![1, 1, 4096, 128]⟩
abbrev S4096x128 : Shape := ⟨2, ![4096, 128]⟩
abbrev S1x1x128x4096 : Shape := ⟨4, ![1, 1, 128, 4096]⟩
abbrev S128x4096 : Shape := ⟨2, ![128, 4096]⟩
abbrev S16x4096 : Shape := ⟨2, ![16, 4096]⟩
abbrev S144x4096 : Shape := ⟨2, ![144, 4096]⟩
abbrev S1x1x512x128 : Shape := ⟨4, ![1, 1, 512, 128]⟩
abbrev S512x128 : Shape := ⟨2, ![512, 128]⟩
abbrev S4096x512 : Shape := ⟨2, ![4096, 512]⟩
abbrev S1x1x512 : Shape := ⟨3, ![1, 1, 512]⟩
abbrev S1x512 : Shape := ⟨2, ![1, 512]⟩
abbrev S512 : Shape := ⟨1, ![512]⟩
abbrev S144x512 : Shape := ⟨2, ![144, 512]⟩
abbrev S1x128x512 : Shape := ⟨3, ![1, 128, 512]⟩
abbrev S128x512 : Shape := ⟨2, ![128, 512]⟩
abbrev S1x512x128 : Shape := ⟨3, ![1, 512, 128]⟩

abbrev nBuf : Space → Nat
  | .hbm => 9
  | .vmem => 11
  | .smem => 0
  | _ => 0

abbrev bufTy : (tb : Table) → Fin (tcTables nBuf tb) → BufTy
  | .hbm, ⟨0, _⟩ => ⟨S2x16384x8x128, .f32⟩
  | .hbm, ⟨1, _⟩ => ⟨S2x16384x2x128, .f32⟩
  | .hbm, ⟨2, _⟩ => ⟨S2x16384x2x128, .f32⟩
  | .hbm, ⟨3, _⟩ => ⟨S2x8x16384x128, .f32⟩
  | .hbm, ⟨4, _⟩ => ⟨S2x16384x2x128, .bf16⟩
  | .hbm, ⟨5, _⟩ => ⟨S2x2x16384x128, .bf16⟩
  | .hbm, ⟨6, _⟩ => ⟨S2x16384x2x128, .bf16⟩
  | .hbm, ⟨7, _⟩ => ⟨S2x2x128x16384, .bf16⟩
  | .hbm, ⟨8, _⟩ => ⟨S2x16384x1024, .bf16⟩
  | .local _ .vmem, ⟨0, _⟩ => ⟨S1x4x512x128, .f32⟩
  | .local _ .vmem, ⟨1, _⟩ => ⟨S1x4x512x128, .f32⟩
  | .local _ .vmem, ⟨2, _⟩ => ⟨S1x1x16384x128, .bf16⟩
  | .local _ .vmem, ⟨3, _⟩ => ⟨S1x1x16384x128, .bf16⟩
  | .local _ .vmem, ⟨4, _⟩ => ⟨S1x1x128x16384, .bf16⟩
  | .local _ .vmem, ⟨5, _⟩ => ⟨S1x1x128x16384, .bf16⟩
  | .local _ .vmem, ⟨6, _⟩ => ⟨S1x512x512, .bf16⟩
  | .local _ .vmem, ⟨7, _⟩ => ⟨S1x512x512, .bf16⟩
  | .local _ .vmem, ⟨8, _⟩ => ⟨S4x1x512, .f32⟩
  | .local _ .vmem, ⟨9, _⟩ => ⟨S4x1x512, .f32⟩
  | .local _ .vmem, ⟨10, _⟩ => ⟨S4x128x512, .f32⟩
  | _, _ => ⟨S2x16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 32], ![false, false, false]⟩

@[reducible] def k0_t1_loop : Scf.Loop 32 :=
  let c0_i32 : BitVec 32 := 0#32
  let c4_i32 : BitVec 32 := 4#32
  let v12 : BitVec 32 := Scalar.addi c0_i32 c4_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c4096_i32 : BitVec 32 := 4096#32
  let v57 : BitVec 32 := Scalar.muli arg10 c4096_i32
  v57
def k0_off1 (k0_t1 : Fin k0_t1_loop.trips) : Fin 4 → Nat :=
  let c0_41 : Index := 0#32
  let c0_42 : Index := 0#32
  let c0_i32 : BitVec 32 := 0#32
  let c1_i32 : BitVec 32 := 1#32
  let arg10 : BitVec 32 := Scf.iv c0_i32 c1_i32 k0_t1
  let c4096_i32 : BitVec 32 := 4096#32
  let v57 : BitVec 32 := Scalar.muli arg10 c4096_i32
  let v58 : BitVec 32 := v57
  let v59 : Index := Scalar.indexCast v58
  let c0_43 : Index := 0#32
  ![0, 0, v59.toNat, 0]
def k0_off2 (k0_t1 : Fin k0_t1_loop.trips) : Fin 4 → Nat :=
  let c0_44 : Index := 0#32
  let c0_45 : Index := 0#32
  let c0_46 : Index := 0#32
  let c0_i32 : BitVec 32 := 0#32
  let c1_i32 : BitVec 32 := 1#32
  let arg10 : BitVec 32 := Scf.iv c0_i32 c1_i32 k0_t1
  let c4096_i32 : BitVec 32 := 4096#32
  let v57 : BitVec 32 := Scalar.muli arg10 c4096_i32
  let v58 : BitVec 32 := v57
  let v62 : Index := Scalar.indexCast v58
  ![0, 0, 0, v62.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "scale_log2e" => some (((Real.sqrt 128)⁻¹ * (Real.log 2)⁻¹ : ℝ) : EReal)
  | _ => none
-- ==== ReferenceIdeal.lean ====
abbrev S2x16384x8x128 : Shape := ⟨4, ![2, 16384, 8, 128]⟩
abbrev S2x16384x2x128 : Shape := ⟨4, ![2, 16384, 2, 128]⟩
abbrev S2x16384x2x4x128 : Shape := ⟨5, ![2, 16384, 2, 4, 128]⟩
abbrev S2x2x16384x16384x4 : Shape := ⟨5, ![2, 2, 16384, 16384, 4]⟩
abbrev S2x2x4x16384x16384 : Shape := ⟨5, ![2, 2, 4, 16384, 16384]⟩
abbrev S_ : Shape := ⟨0, ![]⟩
abbrev S2x2x4x16384 : Shape := ⟨4, ![2, 2, 4, 16384]⟩
abbrev S2x2x4x16384x1 : Shape := ⟨5, ![2, 2, 4, 16384, 1]⟩
abbrev S2x2x128x4x16384 : Shape := ⟨5, ![2, 2, 128, 4, 16384]⟩
abbrev S2x16384x1024 : Shape := ⟨3, ![2, 16384, 1024]⟩

abbrev nBuf : Space → Nat
  | .hbm => 28
  | .vmem => 0
  | .smem => 0
  | _ => 0

abbrev bufTy : (tb : Table) → Fin (tcTables nBuf tb) → BufTy
  | .hbm, ⟨0, _⟩ => ⟨S2x16384x8x128, .f32⟩
  | .hbm, ⟨1, _⟩ => ⟨S2x16384x2x128, .f32⟩
  | .hbm, ⟨2, _⟩ => ⟨S2x16384x2x128, .f32⟩
  | .hbm, ⟨3, _⟩ => ⟨S2x16384x2x4x128, .f32⟩
  | .hbm, ⟨4, _⟩ => ⟨S2x2x16384x16384x4, .f32⟩
  | .hbm, ⟨5, _⟩ => ⟨S2x2x4x16384x16384, .f32⟩
  | .hbm, ⟨6, _⟩ => ⟨S_, .f32⟩
  | .hbm, ⟨7, _⟩ => ⟨S_, .f32⟩
  | .hbm, ⟨8, _⟩ => ⟨S2x2x4x16384x16384, .f32⟩
  | .hbm, ⟨9, _⟩ => ⟨S2x2x4x16384x16384, .f32⟩
  | .hbm, ⟨10, _⟩ => ⟨S_, .f32⟩
  | .hbm, ⟨11, _⟩ => ⟨S2x2x4x16384, .f32⟩
  | .hbm, ⟨12, _⟩ => ⟨S_, .f32⟩
  | .hbm, ⟨13, _⟩ => ⟨S2x2x4x16384, .f32⟩
  | .hbm, ⟨14, _⟩ => ⟨S2x2x4x16384, .f32⟩
  | .hbm, ⟨15, _⟩ => ⟨S2x2x4x16384x1, .f32⟩
  | .hbm, ⟨16, _⟩ => ⟨S2x2x4x16384x16384, .f32⟩
  | .hbm, ⟨17, _⟩ => ⟨S2x2x4x16384x16384, .f32⟩
  | .hbm, ⟨18, _⟩ => ⟨S2x2x4x16384x16384, .f32⟩
  | .hbm, ⟨19, _⟩ => ⟨S_, .f32⟩
  | .hbm, ⟨20, _⟩ => ⟨S2x2x4x16384, .f32⟩
  | .hbm, ⟨21, _⟩ => ⟨S2x2x4x16384x1, .f32⟩
  | .hbm, ⟨22, _⟩ => ⟨S2x2x4x16384x16384, .f32⟩
  | .hbm, ⟨23, _⟩ => ⟨S2x2x4x16384x16384, .f32⟩
  | .hbm, ⟨24, _⟩ => ⟨S2x2x128x4x16384, .f32⟩
  | .hbm, ⟨25, _⟩ => ⟨S2x16384x2x4x128, .f32⟩
  | .hbm, ⟨26, _⟩ => ⟨S2x16384x1024, .f32⟩
  | .hbm, ⟨27, _⟩ => ⟨S2x16384x1024, .bf16⟩
  | _, _ => ⟨S2x16384x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Final.lean ====
abbrev S2x16384x2048 : Shape := ⟨3, ![2, 16384, 2048]⟩
abbrev S2048x5632 : Shape := ⟨2, ![2048, 5632]⟩
abbrev S5632x2048 : Shape := ⟨2, ![5632, 2048]⟩
abbrev S2048 : Shape := ⟨1, ![2048]⟩
abbrev S32768x2048 : Shape := ⟨2, ![32768, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024x512 : Shape := ⟨2, ![1024, 512]⟩
abbrev S512x512 : Shape := ⟨2, ![512, 512]⟩
abbrev S1024 : Shape := ⟨1, ![1024]⟩
abbrev S1024x1 : Shape := ⟨2, ![1024, 1]⟩

abbrev nBuf : Space → Nat
  | .hbm => 14
  | .vmem => 13
  | .smem => 0
  | _ => 0

abbrev bufTy : (tb : Table) → Fin (tcTables nBuf tb) → BufTy
  | .hbm, ⟨0, _⟩ => ⟨S2x16384x2048, .f32⟩
  | .hbm, ⟨1, _⟩ => ⟨S2x16384x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S32768x2048, .f32⟩
  | .hbm, ⟨7, _⟩ => ⟨S32768x2048, .f32⟩
  | .hbm, ⟨8, _⟩ => ⟨S32768x2048, .bf16⟩
  | .hbm, ⟨9, _⟩ => ⟨S2048x5632, .bf16⟩
  | .hbm, ⟨10, _⟩ => ⟨S2048x5632, .bf16⟩
  | .hbm, ⟨11, _⟩ => ⟨S5632x2048, .bf16⟩
  | .hbm, ⟨12, _⟩ => ⟨S1x2048, .f32⟩
  | .hbm, ⟨13, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S1024x2048, .f32⟩
  | .local _ .vmem, ⟨12, _⟩ => ⟨S1024x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceFinalIdeal.lean ====
abbrev S2x16384x2048 : Shape := ⟨3, ![2, 16384, 2048]⟩
abbrev S2048x5632 : Shape := ⟨2, ![2048, 5632]⟩
abbrev S5632x2048 : Shape := ⟨2, ![5632, 2048]⟩
abbrev S2048 : Shape := ⟨1, ![2048]⟩
abbrev S2x16384x5632 : Shape := ⟨3, ![2, 16384, 5632]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S32768x2048 : Shape := ⟨2, ![32768, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x16384x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2x16384x5632, .f32⟩
  | .hbm, ⟨7, _⟩ => ⟨S2x16384x5632, .f32⟩
  | .hbm, ⟨8, _⟩ => ⟨S2x16384x5632, .f32⟩
  | .hbm, ⟨9, _⟩ => ⟨S_, .f32⟩
  | .hbm, ⟨10, _⟩ => ⟨S2x16384x5632, .f32⟩
  | .hbm, ⟨11, _⟩ => ⟨S2x16384x5632, .f32⟩
  | .hbm, ⟨12, _⟩ => ⟨S_, .f32⟩
  | .hbm, ⟨13, _⟩ => ⟨S2x16384x5632, .f32⟩
  | .hbm, ⟨14, _⟩ => ⟨S2x16384x5632, .f32⟩
  | .hbm, ⟨15, _⟩ => ⟨S2x16384x5632, .f32⟩
  | .hbm, ⟨16, _⟩ => ⟨S2x16384x5632, .f32⟩
  | .hbm, ⟨17, _⟩ => ⟨S2x16384x5632, .f32⟩
  | .hbm, ⟨18, _⟩ => ⟨S2x16384x2048, .f32⟩
  | .hbm, ⟨19, _⟩ => ⟨S_, .f32⟩
  | .hbm, ⟨20, _⟩ => ⟨S2x16384x2048, .f32⟩
  | .hbm, ⟨21, _⟩ => ⟨S2x16384x2048, .f32⟩
  | .hbm, ⟨22, _⟩ => ⟨S2x16384x2048, .f32⟩
  | .hbm, ⟨23, _⟩ => ⟨S2x16384x2048, .f32⟩
  | .hbm, ⟨24, _⟩ => ⟨S_, .f32⟩
  | .hbm, ⟨25, _⟩ => ⟨S2x16384, .f32⟩
  | .hbm, ⟨26, _⟩ => ⟨S2x16384x1, .f32⟩
  | .hbm, ⟨27, _⟩ => ⟨S_, .f32⟩
  | .hbm, ⟨28, _⟩ => ⟨S2x16384x1, .f32⟩
  | .hbm, ⟨29, _⟩ => ⟨S2x16384x1, .f32⟩
  | .hbm, ⟨30, _⟩ => ⟨S_, .f32⟩
  | .hbm, ⟨31, _⟩ => ⟨S2x16384x1, .f32⟩
  | .hbm, ⟨32, _⟩ => ⟨S2x16384x1, .f32⟩
  | .hbm, ⟨33, _⟩ => ⟨S2x16384x1, .f32⟩
  | .hbm, ⟨34, _⟩ => ⟨S2x16384x2048, .f32⟩
  | .hbm, ⟨35, _⟩ => ⟨S2x16384x2048, .f32⟩
  | .hbm, ⟨36, _⟩ => ⟨S1x1x2048, .f32⟩
  | .hbm, ⟨37, _⟩ => ⟨S2x16384x2048, .f32⟩
  | .hbm, ⟨38, _⟩ => ⟨S2x16384x2048, .f32⟩
  | .hbm, ⟨39, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩

abbrev nD : Nat := 1
abbrev τ : Topo := Topo.v7x

variable {F : FTy → Type} [FloatOps F]
-- ==== First.lean ====
abbrev S2x16384x2048 : Shape := ⟨3, ![2, 16384, 2048]⟩
abbrev S2048 : Shape := ⟨1, ![2048]⟩
abbrev S2048x5632 : Shape := ⟨2, ![2048, 5632]⟩
abbrev S5632x2048 : Shape := ⟨2, ![5632, 2048]⟩
abbrev S32768x2048 : Shape := ⟨2, ![32768, 2048]⟩
abbrev S1x2048 : Shape := ⟨2, ![1, 2048]⟩
abbrev S2048x512 : Shape := ⟨2, ![2048, 512]⟩
abbrev S512x2048 : Shape := ⟨2, ![512, 2048]⟩
abbrev S1024x2048 : Shape := ⟨2, ![1024, 2048]⟩
abbrev S_ : Shape := ⟨0, ![]⟩
abbrev S1024 : Shape := ⟨1, ![1024]⟩
abbrev S1024x1 : Shape := ⟨2, ![1024, 1]⟩
abbrev S1024x512 : Shape := ⟨2, ![1024, 512]⟩
abbrev S512x512 : Shape := ⟨2, ![512, 512]⟩

abbrev nBuf : Space → Nat
  | .hbm => 14
  | .vmem => 14
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S32768x2048, .f32⟩
  | .hbm, ⟨7, _⟩ => ⟨S1x2048, .f32⟩
  | .hbm, ⟨8, _⟩ => ⟨S2048x5632, .bf16⟩
  | .hbm, ⟨9, _⟩ => ⟨S2048x5632, .bf16⟩
  | .hbm, ⟨10, _⟩ => ⟨S5632x2048, .bf16⟩
  | .hbm, ⟨11, _⟩ => ⟨S1x2048, .f32⟩
  | .hbm, ⟨12, _⟩ => ⟨S32768x2048, .f32⟩
  | .hbm, ⟨13, _⟩ => ⟨S32768x2048, .bf16⟩
  | .local _ .vmem, ⟨0, _⟩ => ⟨S1x2048, .f32⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | .local _ .vmem, ⟨11, _⟩ => ⟨S1024x2048, .bf16⟩
  | .local _ .vmem, ⟨12, _⟩ => ⟨S1024x2048, .bf16⟩
  | .local _ .vmem, ⟨13, _⟩ => ⟨S1024x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let c1024_i32 : BitVec 32 := 1024#32
  let v62 : BitVec 32 := Scalar.muli arg0 c1024_i32
  let c0_i32_41 : BitVec 32 := 0#32
  ![v62.toNat, 0]
def k0_cond3 (i : grid0.Coords) : BitVec 1 :=
  let arg1 : BitVec 32 := BitVec.ofNat 32 (i 1).val
  let c1_i32 : BitVec 32 := 1#32
  let v3 : BitVec 1 := Scalar.cmpi .eq arg1 c1_i32
  let arg0 : BitVec 32 := BitVec.ofNat 32 (i 0).val
  let c1_i32_1 : BitVec 32 := 1#32
  let v4 : BitVec 32 := Scalar.addi arg0 c1_i32_1
  let c32_i32 : BitVec 32 := 32#32
  let v5 : BitVec 1 := Scalar.cmpi .slt v4 c32_i32
  let v6 : BitVec 1 := Scalar.andi v3 v5
  let v7 : BitVec 32 := Scalar.extui v6
  let c0_i32_2 : BitVec 32 := 0#32
  let v8 : BitVec 1 := Scalar.cmpi .ne v7 c0_i32_2
  v8

def k0_off2 (i : grid0.Coords) : Fin 2 → Nat :=
  let arg0 : BitVec 32 := BitVec.ofNat 32 (i 0).val
  let c1_i32_39 : BitVec 32 := 1#32
  let v59 : BitVec 32 := Scalar.addi arg0 c1_i32_39
  let c1024_i32 : BitVec 32 := 1024#32
  let v60 : BitVec 32 := Scalar.muli v59 c1024_i32
  let c0_i32_40 : BitVec 32 := 0#32
  ![v60.toNat, 0]
def k0_cond4 (i : grid0.Coords) : BitVec 1 :=
  let arg1 : BitVec 32 := BitVec.ofNat 32 (i 1).val
  let c10_i32 : BitVec 32 := 10#32
  let v56 : BitVec 1 := Scalar.cmpi .eq arg1 c10_i32
  let v57 : BitVec 32 := Scalar.extui v56
  let c0_i32_38 : BitVec 32 := 0#32
  let v58 : BitVec 1 := Scalar.cmpi .ne v57 c0_i32_38
  v58

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceFirstIdeal.lean ====
abbrev S2x16384x2048 : Shape := ⟨3, ![2, 16384, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x5632 : Shape := ⟨3, ![2, 16384, 5632]⟩
abbrev S32768x2048 : Shape := ⟨2, ![32768, 2048]⟩

abbrev nBuf : Space → Nat
  | .hbm => 58
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2x16384x2048, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x2048, .f32⟩
  | .hbm, ⟨18, _⟩ => ⟨S2x16384x2048, .f32⟩
  | .hbm, ⟨19, _⟩ => ⟨S1x1x2048, .f32⟩
  | .hbm, ⟨20, _⟩ => ⟨S2x16384x2048, .f32⟩
  | .hbm, ⟨21, _⟩ => ⟨S2x16384x2048, .f32⟩
  | .hbm, ⟨22, _⟩ => ⟨S2x16384x5632, .f32⟩
  | .hbm, ⟨23, _⟩ => ⟨S2x16384x5632, .f32⟩
  | .hbm, ⟨24, _⟩ => ⟨S2x16384x5632, .f32⟩
  | .hbm, ⟨25, _⟩ => ⟨S_, .f32⟩
  | .hbm, ⟨26, _⟩ => ⟨S2x16384x5632, .f32⟩
  | .hbm, ⟨27, _⟩ => ⟨S2x16384x5632, .f32⟩
  | .hbm, ⟨28, _⟩ => ⟨S_, .f32⟩
  | .hbm, ⟨29, _⟩ => ⟨S2x16384x5632, .f32⟩
  | .hbm, ⟨30, _⟩ => ⟨S2x16384x5632, .f32⟩
  | .hbm, ⟨31, _⟩ => ⟨S2x16384x5632, .f32⟩
  | .hbm, ⟨32, _⟩ => ⟨S2x16384x5632, .f32⟩
  | .hbm, ⟨33, _⟩ => ⟨S2x16384x5632, .f32⟩
  | .hbm, ⟨34, _⟩ => ⟨S2x16384x2048, .f32⟩
  | .hbm, ⟨35, _⟩ => ⟨S_, .f32⟩
  | .hbm, ⟨36, _⟩ => ⟨S2x16384x2048, .f32⟩
  | .hbm, ⟨37, _⟩ => ⟨S2x16384x2048, .f32⟩
  | .hbm, ⟨38, _⟩ => ⟨S2x16384x2048, .f32⟩
  | .hbm, ⟨39, _⟩ => ⟨S32768x2048, .f32⟩
  | .hbm, ⟨40, _⟩ => ⟨S2x16384x2048, .f32⟩
  | .hbm, ⟨41, _⟩ => ⟨S_, .f32⟩
  | .hbm, ⟨42, _⟩ => ⟨S2x16384, .f32⟩
  | .hbm, ⟨43, _⟩ => ⟨S2x16384x1, .f32⟩
  | .hbm, ⟨44, _⟩ => ⟨S_, .f32⟩
  | .hbm, ⟨45, _⟩ => ⟨S2x16384x1, .f32⟩
  | .hbm, ⟨46, _⟩ => ⟨S2x16384x1, .f32⟩
  | .hbm, ⟨47, _⟩ => ⟨S_, .f32⟩
  | .hbm, ⟨48, _⟩ => ⟨S2x16384x1, .f32⟩
  | .hbm, ⟨49, _⟩ => ⟨S2x16384x1, .f32⟩
  | .hbm, ⟨50, _⟩ => ⟨S2x16384x1, .f32⟩
  | .hbm, ⟨51, _⟩ => ⟨S2x16384x2048, .f32⟩
  | .hbm, ⟨52, _⟩ => ⟨S2x16384x2048, .f32⟩
  | .hbm, ⟨53, _⟩ => ⟨S1x1x2048, .f32⟩
  | .hbm, ⟨54, _⟩ => ⟨S2x16384x2048, .f32⟩
  | .hbm, ⟨55, _⟩ => ⟨S2x16384x2048, .f32⟩
  | .hbm, ⟨56, _⟩ => ⟨S2x16384x2048, .bf16⟩
  | .hbm, ⟨57, _⟩ => ⟨S32768x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]
-- ==== Near.lean ====
abbrev S2x16384x2048 : Shape := ⟨3, ![2, 16384, 2048]⟩
abbrev S2048x10752 : Shape := ⟨2, ![2048, 10752]⟩
abbrev S32768x2048 : Shape := ⟨2, ![32768, 2048]⟩
abbrev S3x32768x1024 : Shape := ⟨3, ![3, 32768, 1024]⟩
abbrev S2048x2048 : Shape := ⟨2, ![2048, 2048]⟩
abbrev S2048x1024 : Shape := ⟨2, ![2048, 1024]⟩
abbrev S1x2048x1024 : Shape := ⟨3, ![1, 2048, 1024]⟩
abbrev S8x2048x128 : Shape := ⟨3, ![8, 2048, 128]⟩
abbrev S2048x256 : Shape := ⟨2, ![2048, 256]⟩
abbrev S1x2048x256 : Shape := ⟨3, ![1, 2048, 256]⟩

abbrev nBuf : Space → Nat
  | .hbm => 6
  | .vmem => 7
  | .smem => 0
  | _ => 0

abbrev bufTy : (tb : Table) → Fin (tcTables nBuf tb) → BufTy
  | .hbm, ⟨0, _⟩ => ⟨S2x16384x2048, .f32⟩
  | .hbm, ⟨1, _⟩ => ⟨S2048x10752, .f32⟩
  | .hbm, ⟨2, _⟩ => ⟨S32768x2048, .f32⟩
  | .hbm, ⟨3, _⟩ => ⟨S32768x2048, .bf16⟩
  | .hbm, ⟨4, _⟩ => ⟨S2048x10752, .bf16⟩
  | .hbm, ⟨5, _⟩ => ⟨S3x32768x1024, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S8x2048x128, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def k0_mult1 (i : grid0.Coords) : BitVec 32 :=
  let c1536_i32 : BitVec 32 := 1536#32
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c1024_i32 : BitVec 32 := 1024#32
  let v2 : BitVec 32 := Scalar.muli v1 c1024_i32
  let v3 : BitVec 32 := Scalar.addi c1536_i32 v2
  v3
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c1024_i32 : BitVec 32 := 1024#32
  let v2 : BitVec 32 := Scalar.muli v1 c1024_i32
  let c1536_i32 : BitVec 32 := 1536#32
  let v3 : BitVec 32 := Scalar.addi c1536_i32 v2
  let v4 : BitVec 32 := v3
  let c0_i32_0 : BitVec 32 := 0#32
  let c0_i32_1 : BitVec 32 := 0#32
  ![c0_i32_0.toNat, v4.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceNearIdeal.lean ====
abbrev S2x16384x2048 : Shape := ⟨3, ![2, 16384, 2048]⟩
abbrev S2048x10752 : Shape := ⟨2, ![2048, 10752]⟩
abbrev S2x16384x10752 : Shape := ⟨3, ![2, 16384, 10752]⟩
abbrev S2x16384x9216 : Shape := ⟨3, ![2, 16384, 9216]⟩
abbrev S32768x3x3x1024 : Shape := ⟨4, ![32768, 3, 3, 1024]⟩
abbrev S32768x3x1x1024 : Shape := ⟨4, ![32768, 3, 1, 1024]⟩
abbrev S32768x3x1024 : Shape := ⟨3, ![32768, 3, 1024]⟩
abbrev S3x32768x1024 : Shape := ⟨3, ![3, 32768, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x10752, .f32⟩
  | .hbm, ⟨2, _⟩ => ⟨S2x16384x10752, .f32⟩
  | .hbm, ⟨3, _⟩ => ⟨S2x16384x9216, .f32⟩
  | .hbm, ⟨4, _⟩ => ⟨S32768x3x3x1024, .f32⟩
  | .hbm, ⟨5, _⟩ => ⟨S32768x3x1x1024, .f32⟩
  | .hbm, ⟨6, _⟩ => ⟨S32768x3x1024, .f32⟩
  | .hbm, ⟨7, _⟩ => ⟨S3x32768x1024, .f32⟩
  | .hbm, ⟨8, _⟩ => ⟨S3x32768x1024, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Middle.lean ====
abbrev S2x16384x2048 : Shape := ⟨3, ![2, 16384, 2048]⟩
abbrev S2048x10752 : Shape := ⟨2, ![2048, 10752]⟩
abbrev S32768x2048 : Shape := ⟨2, ![32768, 2048]⟩
abbrev S3x8192x4096 : Shape := ⟨3, ![3, 8192, 4096]⟩
abbrev S2048x2048 : Shape := ⟨2, ![2048, 2048]⟩
abbrev S2048x1024 : Shape := ⟨2, ![2048, 1024]⟩
abbrev S1x512x4096 : Shape := ⟨3, ![1, 512, 4096]⟩
abbrev S8x2048x128 : Shape := ⟨3, ![8, 2048, 128]⟩
abbrev S2048x256 : Shape := ⟨2, ![2048, 256]⟩
abbrev S2048x128 : Shape := ⟨2, ![2048, 128]⟩
abbrev S1x2048x128 : Shape := ⟨3, ![1, 2048, 128]⟩
abbrev S1x512x128 : Shape := ⟨3, ![1, 512, 128]⟩
abbrev S512x128 : Shape := ⟨2, ![512, 128]⟩

abbrev nBuf : Space → Nat
  | .hbm => 6
  | .vmem => 7
  | .smem => 0
  | _ => 0

abbrev bufTy : (tb : Table) → Fin (tcTables nBuf tb) → BufTy
  | .hbm, ⟨0, _⟩ => ⟨S2x16384x2048, .f32⟩
  | .hbm, ⟨1, _⟩ => ⟨S2048x10752, .f32⟩
  | .hbm, ⟨2, _⟩ => ⟨S32768x2048, .f32⟩
  | .hbm, ⟨3, _⟩ => ⟨S32768x2048, .bf16⟩
  | .hbm, ⟨4, _⟩ => ⟨S2048x10752, .bf16⟩
  | .hbm, ⟨5, _⟩ => ⟨S3x8192x4096, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x4096, .bf16⟩
  | .local _ .vmem, ⟨5, _⟩ => ⟨S1x512x4096, .bf16⟩
  | .local _ .vmem, ⟨6, _⟩ => ⟨S8x2048x128, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def k0_mult1 (i : grid0.Coords) : BitVec 32 :=
  let c1536_i32 : BitVec 32 := 1536#32
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c1024_i32 : BitVec 32 := 1024#32
  let v2 : BitVec 32 := Scalar.muli v1 c1024_i32
  let v3 : BitVec 32 := Scalar.addi c1536_i32 v2
  v3
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c1024_i32 : BitVec 32 := 1024#32
  let v2 : BitVec 32 := Scalar.muli v1 c1024_i32
  let c1536_i32 : BitVec 32 := 1536#32
  let v3 : BitVec 32 := Scalar.addi c1536_i32 v2
  let v4 : BitVec 32 := v3
  let c0_i32 : BitVec 32 := 0#32
  let c0_i32_0 : BitVec 32 := 0#32
  ![c0_i32.toNat, v4.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceMiddleIdeal.lean ====
abbrev S2x16384x2048 : Shape := ⟨3, ![2, 16384, 2048]⟩
abbrev S2048x10752 : Shape := ⟨2, ![2048, 10752]⟩
abbrev S2x16384x10752 : Shape := ⟨3, ![2, 16384, 10752]⟩
abbrev S2x16384x9216 : Shape := ⟨3, ![2, 16384, 9216]⟩
abbrev S32768x3x3x1024 : Shape := ⟨4, ![32768, 3, 3, 1024]⟩
abbrev S32768x3x1x1024 : Shape := ⟨4, ![32768, 3, 1, 1024]⟩
abbrev S32768x3x1024 : Shape := ⟨3, ![32768, 3, 1024]⟩
abbrev S3x32768x1024 : Shape := ⟨3, ![3, 32768, 1024]⟩
abbrev S3x8192x4096 : Shape := ⟨3, ![3, 8192, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x10752, .f32⟩
  | .hbm, ⟨2, _⟩ => ⟨S2x16384x10752, .f32⟩
  | .hbm, ⟨3, _⟩ => ⟨S2x16384x9216, .f32⟩
  | .hbm, ⟨4, _⟩ => ⟨S32768x3x3x1024, .f32⟩
  | .hbm, ⟨5, _⟩ => ⟨S32768x3x1x1024, .f32⟩
  | .hbm, ⟨6, _⟩ => ⟨S32768x3x1024, .f32⟩
  | .hbm, ⟨7, _⟩ => ⟨S3x32768x1024, .f32⟩
  | .hbm, ⟨8, _⟩ => ⟨S3x32768x1024, .bf16⟩
  | .hbm, ⟨9, _⟩ => ⟨S3x8192x4096, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Far.lean ====
abbrev S2x16384x2048 : Shape := ⟨3, ![2, 16384, 2048]⟩
abbrev S2048x10752 : Shape := ⟨2, ![2048, 10752]⟩
abbrev S32768x2048 : Shape := ⟨2, ![32768, 2048]⟩
abbrev S3x2048x16384 : Shape := ⟨3, ![3, 2048, 16384]⟩
abbrev S2048x2048 : Shape := ⟨2, ![2048, 2048]⟩
abbrev S2048x1024 : Shape := ⟨2, ![2048, 1024]⟩
abbrev S1x128x16384 : Shape := ⟨3, ![1, 128, 16384]⟩
abbrev S8x2048x128 : Shape := ⟨3, ![8, 2048, 128]⟩
abbrev S2048x256 : Shape := ⟨2, ![2048, 256]⟩
abbrev S2048x128 : Shape := ⟨2, ![2048, 128]⟩
abbrev S1x2048x128 : Shape := ⟨3, ![1, 2048, 128]⟩
abbrev S1x128x128 : Shape := ⟨3, ![1, 128, 128]⟩
abbrev S128x128 : Shape := ⟨2, ![128, 128]⟩

abbrev nBuf : Space → Nat
  | .hbm => 6
  | .vmem => 7
  | .smem => 0
  | _ => 0

abbrev bufTy : (tb : Table) → Fin (tcTables nBuf tb) → BufTy
  | .hbm, ⟨0, _⟩ => ⟨S2x16384x2048, .f32⟩
  | .hbm, ⟨1, _⟩ => ⟨S2048x10752, .f32⟩
  | .hbm, ⟨2, _⟩ => ⟨S32768x2048, .f32⟩
  | .hbm, ⟨3, _⟩ => ⟨S32768x2048, .bf16⟩
  | .hbm, ⟨4, _⟩ => ⟨S2048x10752, .bf16⟩
  | .hbm, ⟨5, _⟩ => ⟨S3x2048x16384, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x128x16384, .bf16⟩
  | .local _ .vmem, ⟨5, _⟩ => ⟨S1x128x16384, .bf16⟩
  | .local _ .vmem, ⟨6, _⟩ => ⟨S8x2048x128, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def k0_mult1 (i : grid0.Coords) : BitVec 32 :=
  let c1536_i32 : BitVec 32 := 1536#32
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c1024_i32 : BitVec 32 := 1024#32
  let v2 : BitVec 32 := Scalar.muli v1 c1024_i32
  let v3 : BitVec 32 := Scalar.addi c1536_i32 v2
  v3
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c1024_i32 : BitVec 32 := 1024#32
  let v2 : BitVec 32 := Scalar.muli v1 c1024_i32
  let c1536_i32 : BitVec 32 := 1536#32
  let v3 : BitVec 32 := Scalar.addi c1536_i32 v2
  let v4 : BitVec 32 := v3
  let c0_i32 : BitVec 32 := 0#32
  let c0_i32_0 : BitVec 32 := 0#32
  ![c0_i32.toNat, v4.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceFarIdeal.lean ====
abbrev S2x16384x2048 : Shape := ⟨3, ![2, 16384, 2048]⟩
abbrev S2048x10752 : Shape := ⟨2, ![2048, 10752]⟩
abbrev S2x16384x10752 : Shape := ⟨3, ![2, 16384, 10752]⟩
abbrev S2x16384x9216 : Shape := ⟨3, ![2, 16384, 9216]⟩
abbrev S32768x3x3x1024 : Shape := ⟨4, ![32768, 3, 3, 1024]⟩
abbrev S32768x3x1x1024 : Shape := ⟨4, ![32768, 3, 1, 1024]⟩
abbrev S32768x3x1024 : Shape := ⟨3, ![32768, 3, 1024]⟩
abbrev S3x32768x1024 : Shape := ⟨3, ![3, 32768, 1024]⟩
abbrev S3x2048x16384 : Shape := ⟨3, ![3, 2048, 16384]⟩

abbrev nBuf : Space → Nat
  | .hbm => 10
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x10752, .f32⟩
  | .hbm, ⟨2, _⟩ => ⟨S2x16384x10752, .f32⟩
  | .hbm, ⟨3, _⟩ => ⟨S2x16384x9216, .f32⟩
  | .hbm, ⟨4, _⟩ => ⟨S32768x3x3x1024, .f32⟩
  | .hbm, ⟨5, _⟩ => ⟨S32768x3x1x1024, .f32⟩
  | .hbm, ⟨6, _⟩ => ⟨S32768x3x1024, .f32⟩
  | .hbm, ⟨7, _⟩ => ⟨S3x32768x1024, .f32⟩
  | .hbm, ⟨8, _⟩ => ⟨S3x32768x1024, .bf16⟩
  | .hbm, ⟨9, _⟩ => ⟨S3x2048x16384, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Mid.lean ====
abbrev S2x16384x2048 : Shape := ⟨3, ![2, 16384, 2048]⟩
abbrev S2x16384x1024 : Shape := ⟨3, ![2, 16384, 1024]⟩
abbrev S2048x2048 : Shape := ⟨2, ![2048, 2048]⟩
abbrev S2048 : Shape := ⟨1, ![2048]⟩
abbrev S2048x512 : Shape := ⟨2, ![2048, 512]⟩
abbrev S2x256x512 : Shape := ⟨3, ![2, 256, 512]⟩
abbrev S512x2048 : Shape := ⟨2, ![512, 2048]⟩
abbrev S1x2048 : Shape := ⟨2, ![1, 2048]⟩
abbrev S1x512x2048 : Shape := ⟨3, ![1, 512, 2048]⟩
abbrev S1x512x1024 : Shape := ⟨3, ![1, 512, 1024]⟩
abbrev S1x256x512 : Shape := ⟨3, ![1, 256, 512]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩

abbrev nBuf : Space → Nat
  | .hbm => 21
  | .vmem => 19
  | .smem => 0
  | _ => 0

abbrev bufTy : (tb : Table) → Fin (tcTables nBuf tb) → BufTy
  | .hbm, ⟨0, _⟩ => ⟨S2x16384x2048, .f32⟩
  | .hbm, ⟨1, _⟩ => ⟨S2x16384x1024, .f32⟩
  | .hbm, ⟨2, _⟩ => ⟨S2x16384x1024, .f32⟩
  | .hbm, ⟨3, _⟩ => ⟨S2048x2048, .f32⟩
  | .hbm, ⟨4, _⟩ => ⟨S2048, .f32⟩
  | .hbm, ⟨5, _⟩ => ⟨S2048x512, .f32⟩
  | .hbm, ⟨6, _⟩ => ⟨S2x256x512, .f32⟩
  | .hbm, ⟨7, _⟩ => ⟨S2x256x512, .f32⟩
  | .hbm, ⟨8, _⟩ => ⟨S512x2048, .f32⟩
  | .hbm, ⟨9, _⟩ => ⟨S2048, .f32⟩
  | .hbm, ⟨10, _⟩ => ⟨S2x16384x1024, .bf16⟩
  | .hbm, ⟨11, _⟩ => ⟨S2x16384x1024, .bf16⟩
  | .hbm, ⟨12, _⟩ => ⟨S2048x2048, .bf16⟩
  | .hbm, ⟨13, _⟩ => ⟨S1x2048, .f32⟩
  | .hbm, ⟨14, _⟩ => ⟨S2048x512, .bf16⟩
  | .hbm, ⟨15, _⟩ => ⟨S2x256x512, .bf16⟩
  | .hbm, ⟨16, _⟩ => ⟨S2x256x512, .bf16⟩
  | .hbm, ⟨17, _⟩ => ⟨S512x2048, .bf16⟩
  | .hbm, ⟨18, _⟩ => ⟨S1x2048, .f32⟩
  | .hbm, ⟨19, _⟩ => ⟨S2x16384x2048, .f32⟩
  | .hbm, ⟨20, _⟩ => ⟨S2x16384x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S2048x2048, .bf16⟩
  | .local _ .vmem, ⟨7, _⟩ => ⟨S1x2048, .f32⟩
  | .local _ .vmem, ⟨8, _⟩ => ⟨S2048x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S512x2048, .bf16⟩
  | .local _ .vmem, ⟨14, _⟩ => ⟨S1x2048, .f32⟩
  | .local _ .vmem, ⟨15, _⟩ => ⟨S1x512x2048, .f32⟩
  | .local _ .vmem, ⟨16, _⟩ => ⟨S1x512x2048, .f32⟩
  | .local _ .vmem, ⟨17, _⟩ => ⟨S1x512x2048, .bf16⟩
  | .local _ .vmem, ⟨18, _⟩ => ⟨S1x512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MidIdeal.lean ====
variable {F : FTy → Type} [FloatOps F] [Named F]
def κ : String → Option EReal := fun
  | "scale_log2e" => some (((Real.sqrt 128)⁻¹ * (Real.log 2)⁻¹ : ℝ) : EReal)
  | _ => none
-- ==== ReferenceMidIdeal.lean ====
abbrev S2x16384x2048 : Shape := ⟨3, ![2, 16384, 2048]⟩
abbrev S2x16384x1024 : Shape := ⟨3, ![2, 16384, 1024]⟩
abbrev S2048x2048 : Shape := ⟨2, ![2048, 2048]⟩
abbrev S2048 : Shape := ⟨1, ![2048]⟩
abbrev S2048x512 : Shape := ⟨2, ![2048, 512]⟩
abbrev S2x256x512 : Shape := ⟨3, ![2, 256, 512]⟩
abbrev S512x2048 : Shape := ⟨2, ![512, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x512 : Shape := ⟨3, ![2, 16384, 512]⟩
abbrev S2x16384x4x128 : Shape := ⟨4, ![2, 16384, 4, 128]⟩
abbrev S2x256x4x128 : Shape := ⟨4, ![2, 256, 4, 128]⟩
abbrev S2x4x16384x256 : Shape := ⟨4, ![2, 4, 16384, 256]⟩
abbrev S2x4x16384 : Shape := ⟨3, ![2, 4, 16384]⟩
abbrev S2x4x16384x1 : Shape := ⟨4, ![2, 4, 16384, 1]⟩
abbrev S2x4x128x16384 : Shape := ⟨4, ![2, 4, 128, 16384]⟩

abbrev nBuf : Space → Nat
  | .hbm => 74
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x16384x1024, .f32⟩
  | .hbm, ⟨2, _⟩ => ⟨S2x16384x1024, .f32⟩
  | .hbm, ⟨3, _⟩ => ⟨S2048x2048, .f32⟩
  | .hbm, ⟨4, _⟩ => ⟨S2048, .f32⟩
  | .hbm, ⟨5, _⟩ => ⟨S2048x512, .f32⟩
  | .hbm, ⟨6, _⟩ => ⟨S2x256x512, .f32⟩
  | .hbm, ⟨7, _⟩ => ⟨S2x256x512, .f32⟩
  | .hbm, ⟨8, _⟩ => ⟨S512x2048, .f32⟩
  | .hbm, ⟨9, _⟩ => ⟨S2048, .f32⟩
  | .hbm, ⟨10, _⟩ => ⟨S2x16384x2048, .f32⟩
  | .hbm, ⟨11, _⟩ => ⟨S2x16384x2048, .f32⟩
  | .hbm, ⟨12, _⟩ => ⟨S2x16384x2048, .f32⟩
  | .hbm, ⟨13, _⟩ => ⟨S2x16384x2048, .f32⟩
  | .hbm, ⟨14, _⟩ => ⟨S_, .f32⟩
  | .hbm, ⟨15, _⟩ => ⟨S2x16384, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S_, .f32⟩
  | .hbm, ⟨21, _⟩ => ⟨S2x16384x1, .f32⟩
  | .hbm, ⟨22, _⟩ => ⟨S2x16384x1, .f32⟩
  | .hbm, ⟨23, _⟩ => ⟨S2x16384x1, .f32⟩
  | .hbm, ⟨24, _⟩ => ⟨S2x16384x2048, .f32⟩
  | .hbm, ⟨25, _⟩ => ⟨S2x16384x2048, .f32⟩
  | .hbm, ⟨26, _⟩ => ⟨S1x1x2048, .f32⟩
  | .hbm, ⟨27, _⟩ => ⟨S2x16384x2048, .f32⟩
  | .hbm, ⟨28, _⟩ => ⟨S2x16384x2048, .f32⟩
  | .hbm, ⟨29, _⟩ => ⟨S2x16384x512, .f32⟩
  | .hbm, ⟨30, _⟩ => ⟨S2x16384x4x128, .f32⟩
  | .hbm, ⟨31, _⟩ => ⟨S2x256x4x128, .f32⟩
  | .hbm, ⟨32, _⟩ => ⟨S2x256x4x128, .f32⟩
  | .hbm, ⟨33, _⟩ => ⟨S2x4x16384x256, .f32⟩
  | .hbm, ⟨34, _⟩ => ⟨S_, .f32⟩
  | .hbm, ⟨35, _⟩ => ⟨S_, .f32⟩
  | .hbm, ⟨36, _⟩ => ⟨S2x4x16384x256, .f32⟩
  | .hbm, ⟨37, _⟩ => ⟨S2x4x16384x256, .f32⟩
  | .hbm, ⟨38, _⟩ => ⟨S_, .f32⟩
  | .hbm, ⟨39, _⟩ => ⟨S2x4x16384, .f32⟩
  | .hbm, ⟨40, _⟩ => ⟨S_, .f32⟩
  | .hbm, ⟨41, _⟩ => ⟨S2x4x16384, .f32⟩
  | .hbm, ⟨42, _⟩ => ⟨S2x4x16384, .f32⟩
  | .hbm, ⟨43, _⟩ => ⟨S2x4x16384x1, .f32⟩
  | .hbm, ⟨44, _⟩ => ⟨S2x4x16384x256, .f32⟩
  | .hbm, ⟨45, _⟩ => ⟨S2x4x16384x256, .f32⟩
  | .hbm, ⟨46, _⟩ => ⟨S2x4x16384x256, .f32⟩
  | .hbm, ⟨47, _⟩ => ⟨S_, .f32⟩
  | .hbm, ⟨48, _⟩ => ⟨S2x4x16384, .f32⟩
  | .hbm, ⟨49, _⟩ => ⟨S2x4x16384x1, .f32⟩
  | .hbm, ⟨50, _⟩ => ⟨S2x4x16384x256, .f32⟩
  | .hbm, ⟨51, _⟩ => ⟨S2x4x16384x256, .f32⟩
  | .hbm, ⟨52, _⟩ => ⟨S2x4x128x16384, .f32⟩
  | .hbm, ⟨53, _⟩ => ⟨S2x16384x4x128, .f32⟩
  | .hbm, ⟨54, _⟩ => ⟨S2x16384x512, .f32⟩
  | .hbm, ⟨55, _⟩ => ⟨S2x16384x2048, .f32⟩
  | .hbm, ⟨56, _⟩ => ⟨S2x16384x2048, .f32⟩
  | .hbm, ⟨57, _⟩ => ⟨S2x16384x2048, .f32⟩
  | .hbm, ⟨58, _⟩ => ⟨S_, .f32⟩
  | .hbm, ⟨59, _⟩ => ⟨S2x16384, .f32⟩
  | .hbm, ⟨60, _⟩ => ⟨S2x16384x1, .f32⟩
  | .hbm, ⟨61, _⟩ => ⟨S_, .f32⟩
  | .hbm, ⟨62, _⟩ => ⟨S2x16384x1, .f32⟩
  | .hbm, ⟨63, _⟩ => ⟨S2x16384x1, .f32⟩
  | .hbm, ⟨64, _⟩ => ⟨S_, .f32⟩
  | .hbm, ⟨65, _⟩ => ⟨S2x16384x1, .f32⟩
  | .hbm, ⟨66, _⟩ => ⟨S2x16384x1, .f32⟩
  | .hbm, ⟨67, _⟩ => ⟨S2x16384x1, .f32⟩
  | .hbm, ⟨68, _⟩ => ⟨S2x16384x2048, .f32⟩
  | .hbm, ⟨69, _⟩ => ⟨S2x16384x2048, .f32⟩
  | .hbm, ⟨70, _⟩ => ⟨S1x1x2048, .f32⟩
  | .hbm, ⟨71, _⟩ => ⟨S2x16384x2048, .f32⟩
  | .hbm, ⟨72, _⟩ => ⟨S2x16384x2048, .f32⟩
  | .hbm, ⟨73, _⟩ => ⟨S2x16384x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Memory.lean ====
abbrev S2x256x2048 : Shape := ⟨3, ![2, 256, 2048]⟩
abbrev S2048 : Shape := ⟨1, ![2048]⟩
abbrev S2048x1024 : Shape := ⟨2, ![2048, 1024]⟩
abbrev S1x2048 : Shape := ⟨2, ![1, 2048]⟩
abbrev S2x256x512 : Shape := ⟨3, ![2, 256, 512]⟩
abbrev S1x256x2048 : Shape := ⟨3, ![1, 256, 2048]⟩
abbrev S1x256x512 : Shape := ⟨3, ![1, 256, 512]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S256x512 : Shape := ⟨2, ![256, 512]⟩

abbrev nBuf : Space → Nat
  | .hbm => 7
  | .vmem => 8
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x1024, .f32⟩
  | .hbm, ⟨3, _⟩ => ⟨S1x2048, .f32⟩
  | .hbm, ⟨4, _⟩ => ⟨S2048x1024, .bf16⟩
  | .hbm, ⟨5, _⟩ => ⟨S2x256x512, .bf16⟩
  | .hbm, ⟨6, _⟩ => ⟨S2x256x512, .bf16⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S2048x1024, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceMemoryIdeal.lean ====
abbrev S2x256x2048 : Shape := ⟨3, ![2, 256, 2048]⟩
abbrev S2048 : Shape := ⟨1, ![2048]⟩
abbrev S2048x1024 : Shape := ⟨2, ![2048, 1024]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S2x256x1024 : Shape := ⟨3, ![2, 256, 1024]⟩
abbrev S2x256x512 : Shape := ⟨3, ![2, 256, 512]⟩

abbrev nBuf : Space → Nat
  | .hbm => 24
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x1024, .f32⟩
  | .hbm, ⟨3, _⟩ => ⟨S2x256x2048, .f32⟩
  | .hbm, ⟨4, _⟩ => ⟨S_, .f32⟩
  | .hbm, ⟨5, _⟩ => ⟨S2x256, .f32⟩
  | .hbm, ⟨6, _⟩ => ⟨S2x256x1, .f32⟩
  | .hbm, ⟨7, _⟩ => ⟨S_, .f32⟩
  | .hbm, ⟨8, _⟩ => ⟨S2x256x1, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S2x256x1, .f32⟩
  | .hbm, ⟨14, _⟩ => ⟨S2x256x2048, .f32⟩
  | .hbm, ⟨15, _⟩ => ⟨S2x256x2048, .f32⟩
  | .hbm, ⟨16, _⟩ => ⟨S1x1x2048, .f32⟩
  | .hbm, ⟨17, _⟩ => ⟨S2x256x2048, .f32⟩
  | .hbm, ⟨18, _⟩ => ⟨S2x256x2048, .f32⟩
  | .hbm, ⟨19, _⟩ => ⟨S2x256x1024, .f32⟩
  | .hbm, ⟨20, _⟩ => ⟨S2x256x512, .f32⟩
  | .hbm, ⟨21, _⟩ => ⟨S2x256x512, .bf16⟩
  | .hbm, ⟨22, _⟩ => ⟨S2x256x512, .f32⟩
  | .hbm, ⟨23, _⟩ => ⟨S2x256x512, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Axial.lean ====
abbrev S2x16384x2048 : Shape := ⟨3, ![2, 16384, 2048]⟩
abbrev S2048x10752 : Shape := ⟨2, ![2048, 10752]⟩
abbrev S128 : Shape := ⟨1, ![128]⟩
abbrev S16384x2x32 : Shape := ⟨3, ![16384, 2, 32]⟩
abbrev S1x128 : Shape := ⟨2, ![1, 128]⟩
abbrev S16384x2x1x32 : Shape := ⟨4, ![16384, 2, 1, 32]⟩
abbrev S16384x2x2x32 : Shape := ⟨4, ![16384, 2, 2, 32]⟩
abbrev S16384x128 : Shape := ⟨2, ![16384, 128]⟩
abbrev S2x8x16384x128 : Shape := ⟨4, ![2, 8, 16384, 128]⟩
abbrev S2x2x16384x128 : Shape := ⟨4, ![2, 2, 16384, 128]⟩
abbrev S2x2x128x16384 : Shape := ⟨4, ![2, 2, 128, 16384]⟩
abbrev S1x512x2048 : Shape := ⟨3, ![1, 512, 2048]⟩
abbrev S2048x1536 : Shape := ⟨2, ![2048, 1536]⟩
abbrev S512x128 : Shape := ⟨2, ![512, 128]⟩
abbrev S1x8x512x128 : Shape := ⟨4, ![1, 8, 512, 128]⟩
abbrev S1x2x512x128 : Shape := ⟨4, ![1, 2, 512, 128]⟩
abbrev S1x2x128x512 : Shape := ⟨4, ![1, 2, 128, 512]⟩
abbrev S512x2048 : Shape := ⟨2, ![512, 2048]⟩
abbrev S2048x256 : Shape := ⟨2, ![2048, 256]⟩
abbrev S512x256 : Shape := ⟨2, ![512, 256]⟩
abbrev S512 : Shape := ⟨1, ![512]⟩
abbrev S512x1 : Shape := ⟨2, ![512, 1]⟩
abbrev S1x1x512x128 : Shape := ⟨4, ![1, 1, 512, 128]⟩
abbrev S128x512 : Shape := ⟨2, ![128, 512]⟩
abbrev S1x1x128x512 : Shape := ⟨4, ![1, 1, 128, 512]⟩

abbrev nBuf : Space → Nat
  | .hbm => 22
  | .vmem => 15
  | .smem => 0
  | _ => 0

abbrev bufTy : (tb : Table) → Fin (tcTables nBuf tb) → BufTy
  | .hbm, ⟨0, _⟩ => ⟨S2x16384x2048, .f32⟩
  | .hbm, ⟨1, _⟩ => ⟨S2048x10752, .f32⟩
  | .hbm, ⟨2, _⟩ => ⟨S128, .f32⟩
  | .hbm, ⟨3, _⟩ => ⟨S128, .f32⟩
  | .hbm, ⟨4, _⟩ => ⟨S16384x2x32, .f32⟩
  | .hbm, ⟨5, _⟩ => ⟨S16384x2x32, .f32⟩
  | .hbm, ⟨6, _⟩ => ⟨S2x16384x2048, .bf16⟩
  | .hbm, ⟨7, _⟩ => ⟨S2048x10752, .bf16⟩
  | .hbm, ⟨8, _⟩ => ⟨S1x128, .f32⟩
  | .hbm, ⟨9, _⟩ => ⟨S1x128, .f32⟩
  | .hbm, ⟨10, _⟩ => ⟨S16384x2x1x32, .f32⟩
  | .hbm, ⟨11, _⟩ => ⟨S16384x2x1x32, .f32⟩
  | .hbm, ⟨12, _⟩ => ⟨S16384x2x2x32, .f32⟩
  | .hbm, ⟨13, _⟩ => ⟨S16384x128, .f32⟩
  | .hbm, ⟨14, _⟩ => ⟨S16384x2x32, .f32⟩
  | .hbm, ⟨15, _⟩ => ⟨S16384x2x1x32, .f32⟩
  | .hbm, ⟨16, _⟩ => ⟨S16384x2x1x32, .f32⟩
  | .hbm, ⟨17, _⟩ => ⟨S16384x2x2x32, .f32⟩
  | .hbm, ⟨18, _⟩ => ⟨S16384x128, .f32⟩
  | .hbm, ⟨19, _⟩ => ⟨S2x8x16384x128, .f32⟩
  | .hbm, ⟨20, _⟩ => ⟨S2x2x16384x128, .bf16⟩
  | .hbm, ⟨21, _⟩ => ⟨S2x2x128x16384, .bf16⟩
  | .local _ .vmem, ⟨0, _⟩ => ⟨S1x512x2048, .bf16⟩
  | .local _ .vmem, ⟨1, _⟩ => ⟨S1x512x2048, .bf16⟩
  | .local _ .vmem, ⟨2, _⟩ => ⟨S2048x1536, .bf16⟩
  | .local _ .vmem, ⟨3, _⟩ => ⟨S1x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S1x8x512x128, .f32⟩
  | .local _ .vmem, ⟨10, _⟩ => ⟨S1x8x512x128, .f32⟩
  | .local _ .vmem, ⟨11, _⟩ => ⟨S1x2x512x128, .bf16⟩
  | .local _ .vmem, ⟨12, _⟩ => ⟨S1x2x512x128, .bf16⟩
  | .local _ .vmem, ⟨13, _⟩ => ⟨S1x2x128x512, .bf16⟩
  | .local _ .vmem, ⟨14, _⟩ => ⟨S1x2x128x512, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x8x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAxialIdeal.lean ====
abbrev S2x16384x2048 : Shape := ⟨3, ![2, 16384, 2048]⟩
abbrev S2048x10752 : Shape := ⟨2, ![2048, 10752]⟩
abbrev S128 : Shape := ⟨1, ![128]⟩
abbrev S16384x2x32 : Shape := ⟨3, ![16384, 2, 32]⟩
abbrev S2x16384x10752 : Shape := ⟨3, ![2, 16384, 10752]⟩
abbrev S2x16384x1024 : Shape := ⟨3, ![2, 16384, 1024]⟩
abbrev S2x16384x8x128 : Shape := ⟨4, ![2, 16384, 8, 128]⟩
abbrev S_ : Shape := ⟨0, ![]⟩
abbrev S2x16384x8 : Shape := ⟨3, ![2, 16384, 8]⟩
abbrev S2x16384x8x1 : Shape := ⟨4, ![2, 16384, 8, 1]⟩
abbrev S1x1x1x128 : Shape := ⟨4, ![1, 1, 1, 128]⟩
abbrev S2x16384x8x2x2x32 : Shape := ⟨6, ![2, 16384, 8, 2, 2, 32]⟩
abbrev S2x16384x8x2x1x32 : Shape := ⟨6, ![2, 16384, 8, 2, 1, 32]⟩
abbrev S2x16384x8x2x32 : Shape := ⟨5, ![2, 16384, 8, 2, 32]⟩
abbrev S1x16384x1x2x32 : Shape := ⟨5, ![1, 16384, 1, 2, 32]⟩
abbrev S2x16384x256 : Shape := ⟨3, ![2, 16384, 256]⟩
abbrev S2x16384x2x128 : Shape := ⟨4, ![2, 16384, 2, 128]⟩
abbrev S2x16384x2 : Shape := ⟨3, ![2, 16384, 2]⟩
abbrev S2x16384x2x1 : Shape := ⟨4, ![2, 16384, 2, 1]⟩
abbrev S2x16384x2x2x2x32 : Shape := ⟨6, ![2, 16384, 2, 2, 2, 32]⟩
abbrev S2x16384x2x2x1x32 : Shape := ⟨6, ![2, 16384, 2, 2, 1, 32]⟩
abbrev S2x16384x2x2x32 : Shape := ⟨5, ![2, 16384, 2, 2, 32]⟩
abbrev S2x8x16384x128 : Shape := ⟨4, ![2, 8, 16384, 128]⟩
abbrev S2x2x16384x128 : Shape := ⟨4, ![2, 2, 16384, 128]⟩
abbrev S2x2x128x16384 : Shape := ⟨4, ![2, 2, 128, 16384]⟩

abbrev nBuf : Space → Nat
  | .hbm => 92
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x10752, .f32⟩
  | .hbm, ⟨2, _⟩ => ⟨S128, .f32⟩
  | .hbm, ⟨3, _⟩ => ⟨S128, .f32⟩
  | .hbm, ⟨4, _⟩ => ⟨S16384x2x32, .f32⟩
  | .hbm, ⟨5, _⟩ => ⟨S16384x2x32, .f32⟩
  | .hbm, ⟨6, _⟩ => ⟨S2x16384x10752, .f32⟩
  | .hbm, ⟨7, _⟩ => ⟨S2x16384x1024, .f32⟩
  | .hbm, ⟨8, _⟩ => ⟨S2x16384x8x128, .f32⟩
  | .hbm, ⟨9, _⟩ => ⟨S2x16384x8x128, .f32⟩
  | .hbm, ⟨10, _⟩ => ⟨S_, .f32⟩
  | .hbm, ⟨11, _⟩ => ⟨S2x16384x8, .f32⟩
  | .hbm, ⟨12, _⟩ => ⟨S2x16384x8x1, .f32⟩
  | .hbm, ⟨13, _⟩ => ⟨S_, .f32⟩
  | .hbm, ⟨14, _⟩ => ⟨S2x16384x8x1, .f32⟩
  | .hbm, ⟨15, _⟩ => ⟨S2x16384x8x1, .f32⟩
  | .hbm, ⟨16, _⟩ => ⟨S_, .f32⟩
  | .hbm, ⟨17, _⟩ => ⟨S2x16384x8x1, .f32⟩
  | .hbm, ⟨18, _⟩ => ⟨S2x16384x8x1, .f32⟩
  | .hbm, ⟨19, _⟩ => ⟨S2x16384x8x1, .f32⟩
  | .hbm, ⟨20, _⟩ => ⟨S2x16384x8x128, .f32⟩
  | .hbm, ⟨21, _⟩ => ⟨S2x16384x8x128, .f32⟩
  | .hbm, ⟨22, _⟩ => ⟨S1x1x1x128, .f32⟩
  | .hbm, ⟨23, _⟩ => ⟨S2x16384x8x128, .f32⟩
  | .hbm, ⟨24, _⟩ => ⟨S2x16384x8x128, .f32⟩
  | .hbm, ⟨25, _⟩ => ⟨S2x16384x8x2x2x32, .f32⟩
  | .hbm, ⟨26, _⟩ => ⟨S2x16384x8x2x1x32, .f32⟩
  | .hbm, ⟨27, _⟩ => ⟨S2x16384x8x2x32, .f32⟩
  | .hbm, ⟨28, _⟩ => ⟨S2x16384x8x2x1x32, .f32⟩
  | .hbm, ⟨29, _⟩ => ⟨S2x16384x8x2x32, .f32⟩
  | .hbm, ⟨30, _⟩ => ⟨S1x16384x1x2x32, .f32⟩
  | .hbm, ⟨31, _⟩ => ⟨S1x16384x1x2x32, .f32⟩
  | .hbm, ⟨32, _⟩ => ⟨S2x16384x8x2x32, .f32⟩
  | .hbm, ⟨33, _⟩ => ⟨S2x16384x8x2x32, .f32⟩
  | .hbm, ⟨34, _⟩ => ⟨S2x16384x8x2x32, .f32⟩
  | .hbm, ⟨35, _⟩ => ⟨S2x16384x8x2x32, .f32⟩
  | .hbm, ⟨36, _⟩ => ⟨S2x16384x8x2x32, .f32⟩
  | .hbm, ⟨37, _⟩ => ⟨S2x16384x8x2x32, .f32⟩
  | .hbm, ⟨38, _⟩ => ⟨S2x16384x8x2x32, .f32⟩
  | .hbm, ⟨39, _⟩ => ⟨S2x16384x8x2x32, .f32⟩
  | .hbm, ⟨40, _⟩ => ⟨S2x16384x8x2x32, .f32⟩
  | .hbm, ⟨41, _⟩ => ⟨S2x16384x8x2x32, .f32⟩
  | .hbm, ⟨42, _⟩ => ⟨S2x16384x8x2x1x32, .f32⟩
  | .hbm, ⟨43, _⟩ => ⟨S2x16384x8x2x1x32, .f32⟩
  | .hbm, ⟨44, _⟩ => ⟨S2x16384x8x2x2x32, .f32⟩
  | .hbm, ⟨45, _⟩ => ⟨S2x16384x8x128, .f32⟩
  | .hbm, ⟨46, _⟩ => ⟨S2x16384x256, .f32⟩
  | .hbm, ⟨47, _⟩ => ⟨S2x16384x2x128, .f32⟩
  | .hbm, ⟨48, _⟩ => ⟨S2x16384x2x128, .f32⟩
  | .hbm, ⟨49, _⟩ => ⟨S_, .f32⟩
  | .hbm, ⟨50, _⟩ => ⟨S2x16384x2, .f32⟩
  | .hbm, ⟨51, _⟩ => ⟨S2x16384x2x1, .f32⟩
  | .hbm, ⟨52, _⟩ => ⟨S_, .f32⟩
  | .hbm, ⟨53, _⟩ => ⟨S2x16384x2x1, .f32⟩
  | .hbm, ⟨54, _⟩ => ⟨S2x16384x2x1, .f32⟩
  | .hbm, ⟨55, _⟩ => ⟨S_, .f32⟩
  | .hbm, ⟨56, _⟩ => ⟨S2x16384x2x1, .f32⟩
  | .hbm, ⟨57, _⟩ => ⟨S2x16384x2x1, .f32⟩
  | .hbm, ⟨58, _⟩ => ⟨S2x16384x2x1, .f32⟩
  | .hbm, ⟨59, _⟩ => ⟨S2x16384x2x128, .f32⟩
  | .hbm, ⟨60, _⟩ => ⟨S2x16384x2x128, .f32⟩
  | .hbm, ⟨61, _⟩ => ⟨S1x1x1x128, .f32⟩
  | .hbm, ⟨62, _⟩ => ⟨S2x16384x2x128, .f32⟩
  | .hbm, ⟨63, _⟩ => ⟨S2x16384x2x128, .f32⟩
  | .hbm, ⟨64, _⟩ => ⟨S2x16384x2x2x2x32, .f32⟩
  | .hbm, ⟨65, _⟩ => ⟨S2x16384x2x2x1x32, .f32⟩
  | .hbm, ⟨66, _⟩ => ⟨S2x16384x2x2x32, .f32⟩
  | .hbm, ⟨67, _⟩ => ⟨S2x16384x2x2x1x32, .f32⟩
  | .hbm, ⟨68, _⟩ => ⟨S2x16384x2x2x32, .f32⟩
  | .hbm, ⟨69, _⟩ => ⟨S1x16384x1x2x32, .f32⟩
  | .hbm, ⟨70, _⟩ => ⟨S1x16384x1x2x32, .f32⟩
  | .hbm, ⟨71, _⟩ => ⟨S2x16384x2x2x32, .f32⟩
  | .hbm, ⟨72, _⟩ => ⟨S2x16384x2x2x32, .f32⟩
  | .hbm, ⟨73, _⟩ => ⟨S2x16384x2x2x32, .f32⟩
  | .hbm, ⟨74, _⟩ => ⟨S2x16384x2x2x32, .f32⟩
  | .hbm, ⟨75, _⟩ => ⟨S2x16384x2x2x32, .f32⟩
  | .hbm, ⟨76, _⟩ => ⟨S2x16384x2x2x32, .f32⟩
  | .hbm, ⟨77, _⟩ => ⟨S2x16384x2x2x32, .f32⟩
  | .hbm, ⟨78, _⟩ => ⟨S2x16384x2x2x32, .f32⟩
  | .hbm, ⟨79, _⟩ => ⟨S2x16384x2x2x32, .f32⟩
  | .hbm, ⟨80, _⟩ => ⟨S2x16384x2x2x32, .f32⟩
  | .hbm, ⟨81, _⟩ => ⟨S2x16384x2x2x1x32, .f32⟩
  | .hbm, ⟨82, _⟩ => ⟨S2x16384x2x2x1x32, .f32⟩
  | .hbm, ⟨83, _⟩ => ⟨S2x16384x2x2x2x32, .f32⟩
  | .hbm, ⟨84, _⟩ => ⟨S2x16384x2x128, .f32⟩
  | .hbm, ⟨85, _⟩ => ⟨S2x16384x256, .f32⟩
  | .hbm, ⟨86, _⟩ => ⟨S2x16384x2x128, .f32⟩
  | .hbm, ⟨87, _⟩ => ⟨S2x8x16384x128, .f32⟩
  | .hbm, ⟨88, _⟩ => ⟨S2x2x16384x128, .f32⟩
  | .hbm, ⟨89, _⟩ => ⟨S2x2x16384x128, .bf16⟩
  | .hbm, ⟨90, _⟩ => ⟨S2x2x128x16384, .f32⟩
  | .hbm, ⟨91, _⟩ => ⟨S2x2x128x16384, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_2 : Ref sig .tc := ⟨.hbm, 49, rfl⟩
abbrev main_v40 : Ref sig .tc := ⟨.hbm, 50, rfl⟩
abbrev main_v41 : Ref sig .tc := ⟨.hbm, 51, rfl⟩
abbrev main_cst_3 : Ref sig .tc := ⟨.hbm, 52, rfl⟩
abbrev main_v42 : Ref sig .tc := ⟨.hbm, 53, rfl⟩
abbrev main_v43 : Ref sig .tc := ⟨.hbm, 54, rfl⟩
abbrev main_cst_4 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩

abbrev nD : Nat := 1
abbrev τ : Topo := Topo.v7x

variable {F : FTy → Type} [FloatOps F]
-- ==== Proof.Attn.Online.lean ====
/-
  The mathematics of the one-pass softmax, over the extended reals: scores `s i` are real numbers, the values `v i` are
  any extended reals. After the keys below `n` the running maximum is the supremum of their scores and the running
  weighted sum is `∑ v i · 2^(s i − maximum)`; a further tile of keys rescales the sum by `2^(old maximum − new maximum)`.
-/
module

public import Idealize.ShloMosaic.PureOps.Ideal
public import Idealize.ShloMosaic.PureOps.Ideal.Laws

@[expose] public section

noncomputable section

namespace Cert.Attn

open Idealize.ShloMosaic Finset

/-- The largest of the scores of the keys below `n`; `⊥` where there is no key. -/
def topScore (s : ℕ → ℝ) (n : ℕ) : EReal := (range n).sup fun i => (s i : EReal)

/-- The sum of the values of the keys below `n`, each weighted by `2^(score − largest score)`. -/
def weighted (s : ℕ → ℝ) (v : ℕ → EReal) (n : ℕ) : EReal :=
  ∑ i ∈ range n, v i * Ideal.exp2 (s i - topScore s n)

/-- The largest of at least one real score is real. -/
theorem topScore_real (s : ℕ → ℝ) {n : ℕ} (hn : 0 < n) : ∃ a : ℝ, topScore s n = a := by
  obtain ⟨i, -, hi⟩ := exists_mem_eq_sup (range n) ⟨0, mem_range.2 hn⟩ fun i => (s i : EReal)
  exact ⟨s i, hi⟩

/-- Adding `m` keys: the largest score is the larger of the old one and the new keys' largest. -/
theorem topScore_add (s : ℕ → ℝ) (n m : ℕ) :
    topScore s (n + m) = max (topScore s n) ((univ : Finset (Fin m)).sup fun j => (s (n + j) : EReal)) := by
  apply le_antisymm
  · refine Finset.sup_le fun i hi => ?_
    rcases lt_or_ge i n with h | h
    · exact le_max_of_le_left (le_sup (f := fun i => (s i : EReal)) (mem_range.2 h))
    · refine le_max_of_le_right ?_
      have hi' : i - n < m := by have := mem_range.1 hi; omega
      have := le_sup (f := fun j : Fin m => (s (n + j) : EReal)) (mem_univ ⟨i - n, hi'⟩)
      simpa [Nat.add_sub_cancel' h] using this
  · refine max_le ?_ ?_
    · exact sup_mono (range_mono (by omega))
    · exact Finset.sup_le fun j _ => le_sup (f := fun i => (s i : EReal)) (mem_range.2 (by omega))

/-- `2^x · 2^y = 2^(x+y)` in the form the rescaling uses. -/
theorem exp2_rescale (a b r : ℝ) :
    Ideal.exp2 ((a : EReal) - b) * Ideal.exp2 ((r : EReal) - a) = Ideal.exp2 ((r : EReal) - b) := by
  rw [← EReal.coe_sub, ← EReal.coe_sub, ← EReal.coe_sub, Ideal.exp2_coe, Ideal.exp2_coe, Ideal.exp2_coe, ← EReal.coe_mul]
  congr 1
  show (2 : ℝ) ^ (a - b) * (2 : ℝ) ^ (r - a) = (2 : ℝ) ^ (r - b)
  rw [← Real.rpow_add (by norm_num)]
  congr 1; ring

/-- A nonnegative real factor goes inside a finite sum of extended reals. -/
theorem coe_mul_sum {ι : Type*} (c : ℝ) (hc : 0 ≤ c) (S : Finset ι) (f : ι → EReal) :
    (c : EReal) * ∑ i ∈ S, f i = ∑ i ∈ S, (c : EReal) * f i := by
  classical
  induction S using Finset.induction_on with
  | empty => simp
  | insert a S h ih =>
    rw [sum_insert h, sum_insert h, EReal.left_distrib_of_nonneg_of_ne_top (EReal.coe_nonneg.2 hc) (EReal.coe_ne_top c), ih]

/-- One tile of `m` further keys: the old sum rescaled plus the new keys' weighted values is the new sum. -/
theorem weighted_add (s : ℕ → ℝ) (v : ℕ → EReal) (n m : ℕ) (hm : 0 < m) :
    Ideal.exp2 (topScore s n - topScore s (n + m)) * weighted s v n
        + ∑ j : Fin m, v (n + j) * Ideal.exp2 (s (n + j) - topScore s (n + m))
      = weighted s v (n + m) := by
  obtain ⟨b, hb⟩ := topScore_real s (n := n + m) (by omega)
  have hsplit : weighted s v (n + m) = ∑ i ∈ range n, v i * Ideal.exp2 (s i - topScore s (n + m))
      + ∑ j : Fin m, v (n + j) * Ideal.exp2 (s (n + j) - topScore s (n + m)) := by
    unfold weighted
    rw [sum_range_add]
    congr 1
    exact (Fin.sum_univ_eq_sum_range (fun j => v (n + j) * Ideal.exp2 (s (n + j) - topScore s (n + m))) m).symm
  rw [hsplit]
  congr 1
  rcases Nat.eq_zero_or_pos n with rfl | hn
  · simp [weighted]
  · obtain ⟨a, ha⟩ := topScore_real s hn
    unfold weighted
    rw [ha, hb]
    have hE : Ideal.exp2 ((a : EReal) - b) = ((2 : ℝ) ^ (a - b) : ℝ) := by
      rw [← EReal.coe_sub, Ideal.exp2_coe]; rfl
    rw [hE, coe_mul_sum _ (by positivity), ← hE]
    refine sum_congr rfl fun i _ => ?_
    rw [mul_left_comm, exp2_rescale]

/-- The finished quotient is the softmax average: with scores `t i = s i · log 2`, dividing the weighted sum of the values
    by the weighted sum of ones gives the sum of the values times the softmax weights of `t`. -/
theorem quotient_eq_softmax (s t : ℕ → ℝ) (v : ℕ → EReal) (n : ℕ) (hn : 0 < n)
    (h : ∀ i, t i = s i * Real.log 2) :
    Ideal.div (weighted s v n) (weighted s (fun _ => 1) n)
      = ∑ i ∈ range n, v i * Ideal.div (Ideal.exp (t i - topScore t n)) (∑ j ∈ range n, Ideal.exp (t j - topScore t n)) := by
  have hl : 0 < Real.log 2 := Real.log_pos (by norm_num)
  obtain ⟨a, ha⟩ := topScore_real s hn
  have hb : topScore t n = ((a * Real.log 2 : ℝ) : EReal) := by
    obtain ⟨i, hi, hi'⟩ := exists_mem_eq_sup (range n) ⟨0, mem_range.2 hn⟩ fun i => (s i : EReal)
    have hia : a = s i := EReal.coe_injective (ha.symm.trans hi')
    apply le_antisymm
    · refine Finset.sup_le fun j hj => ?_
      have hj' : (s j : EReal) ≤ a := ha ▸ le_sup (f := fun i => (s i : EReal)) hj
      rw [h, EReal.coe_le_coe_iff]
      exact mul_le_mul_of_nonneg_right (EReal.coe_le_coe_iff.1 hj') hl.le
    · rw [hia, ← h]
      exact le_sup (f := fun i => (t i : EReal)) hi
  have hexp : ∀ i, Ideal.exp (t i - topScore t n) = Ideal.exp2 (s i - topScore s n) := by
    intro i
    rw [hb, ha, ← EReal.coe_sub, ← EReal.coe_sub, Ideal.exp_coe, Ideal.exp2_coe, h]
    congr 1
    show _ = (2 : ℝ) ^ (s i - a)
    rw [Real.rpow_def_of_pos (by norm_num)]
    congr 1; ring
  have hcoe : ∀ i, Ideal.exp2 ((s i : EReal) - topScore s n) = ((2 : ℝ) ^ (s i - a) : ℝ) := by
    intro i; rw [ha, ← EReal.coe_sub, Ideal.exp2_coe]; rfl
  simp only [hexp]
  unfold weighted
  simp only [one_mul, hcoe]
  set L : ℝ := ∑ j ∈ range n, (2 : ℝ) ^ (s j - a) with hL
  have hLs : ∑ j ∈ range n, (((2 : ℝ) ^ (s j - a) : ℝ) : EReal) = (L : EReal) := by
    rw [hL]; exact (map_sum (⟨⟨Real.toEReal, rfl⟩, EReal.coe_add⟩ : ℝ →+ EReal) _ _).symm
  have hLpos : 0 < L := sum_pos (fun i _ => by positivity) ⟨0, mem_range.2 hn⟩
  rw [hLs]
  simp only [Ideal.div_coe hLpos.ne']
  rw [mul_comm, coe_mul_sum _ (by positivity)]
  refine sum_congr rfl fun i _ => ?_
  rw [mul_comm, mul_assoc]

end Cert.Attn

end
-- ==== Proof.Attn.Payloads.lean ====
/-
  What one step of the attention call's loop computes from the blocks it loads, entry by entry over the extended reals:
  the scores of a key tile, the running maximum, the running sum of weights and the running weighted sum of the values.
-/
module

public import proofs.«01_k».proof.Proof.Gen.KernelIdeal.Skeleton
public import proofs.«01_k».proof.Proof.Attn.Online
public import Idealize.ShloMosaic.Lib.Pointwise
public import Idealize.ShloMosaic.Lib.ValueIdx

@[expose] public section

set_option maxRecDepth 16384

noncomputable section

namespace Cert.Attn

open Cert.KernelIdeal Cert.KernelIdeal.Gen Idealize.ShloMosaic

/-- The scale the queries carry: `1/√128 · 1/log 2`. -/
def qscale : ℝ := (Real.sqrt 128)⁻¹ * (Real.log 2)⁻¹

section AnyFloat
variable {F : FTy → Type} [FloatOps F] [Named F]

/-- The scores of a tile of keys against a tile of queries. -/
def tileScores (kb : Vec F S1x1x4096x128 .bf16) (qb : Vec F S1x1x512x128 .f32) : FVec F S4096x512 .f32 :=
  k0_pay10 (k0_pay1 kb) qb
/-- The running maximum after a tile. -/
def newMax (st : FVec F S4096x512 .f32) (mo : Vec F S1x1x512 .f32) : Vec F S1x1x512 .f32 := k0_pay13 st mo
/-- The running sum of weights after a tile. -/
def newSum (vb : Vec F S1x1x128x4096 .bf16) (st : FVec F S4096x512 .f32) (mo lo : Vec F S1x1x512 .f32) : Vec F S1x1x512 .f32 :=
  k0_pay39 (k0_pay24 st mo) (k0_pay34 (k0_pay2 vb) (k0_pay23 st mo)) lo
/-- The running weighted sum of the values after a tile. -/
def newAcc (vb : Vec F S1x1x128x4096 .bf16) (st : FVec F S4096x512 .f32) (mo : Vec F S1x1x512 .f32) (ao : Vec F S1x128x512 .f32) :
    Vec F S1x128x512 .f32 :=
  k0_pay35 (k0_pay2 vb) (k0_pay23 st mo) (k0_pay24 st mo) ao
end AnyFloat

theorem tileScores_apply (kb : FVec Ideal S1x1x4096x128 .bf16) (qb : FVec Ideal S1x1x512x128 .f32) (s : Fin 4096) (q : Fin 512) :
    tileScores (F := Ideal) kb qb (ix2 s q) = ∑ d : Fin 128, kb (ix4 0 0 s d) * (qb (ix4 0 0 q d) * (qscale : EReal)) := by
  unfold tileScores k0_pay10 k0_pay1
  pointwise
  rw [show (Named.named κ "scale_log2e" 0x3E0293EE#32 : Ideal .f32) = (qscale : EReal) from rfl]

/-- The word the maxima start from denotes `-∞`. -/
theorem ofBits_bot : Ideal.ofBits .f32 0xFF800000#32 = ⊥ := by
  simp [Ideal.ofBits, Ideal.ieee]

theorem newMax_apply (st : FVec Ideal S4096x512 .f32) (mo : FVec Ideal S1x1x512 .f32) (q : Fin 512) :
    newMax (F := Ideal) st mo (ix3 0 0 q) = max (mo (ix3 0 0 q)) ((Finset.univ : Finset (Fin 4096)).sup fun s => st (ix2 s q)) := by
  unfold newMax k0_pay13 k0_pay12 k0_pay11
  pointwise
  rw [ofBits_bot]
  rfl

theorem newSum_apply (vb : FVec Ideal S1x1x128x4096 .bf16) (st : FVec Ideal S4096x512 .f32) (mo lo : FVec Ideal S1x1x512 .f32) (q : Fin 512) :
    newSum (F := Ideal) vb st mo lo (ix3 0 0 q)
      = Ideal.exp2 (mo (ix3 0 0 q) - newMax (F := Ideal) st mo (ix3 0 0 q)) * lo (ix3 0 0 q)
        + ∑ s : Fin 4096, 1 * Ideal.exp2 (st (ix2 s q) - newMax (F := Ideal) st mo (ix3 0 0 q)) := by
  unfold newSum k0_pay39 k0_pay24 k0_pay34 k0_pay23 k0_pay2 newMax k0_pay13 k0_pay12 k0_pay11 k0_pay21 k0_pay20
  pointwise
  rfl

theorem newAcc_apply (vb : FVec Ideal S1x1x128x4096 .bf16) (st : FVec Ideal S4096x512 .f32) (mo : FVec Ideal S1x1x512 .f32)
    (ao : FVec Ideal S1x128x512 .f32) (d : Fin 128) (q : Fin 512) :
    newAcc (F := Ideal) vb st mo ao (ix3 0 d q)
      = Ideal.exp2 (mo (ix3 0 0 q) - newMax (F := Ideal) st mo (ix3 0 0 q)) * ao (ix3 0 d q)
        + ∑ s : Fin 4096, vb (ix4 0 0 d s) * Ideal.exp2 (st (ix2 s q) - newMax (F := Ideal) st mo (ix3 0 0 q)) := by
  unfold newAcc k0_pay35 k0_pay24 k0_pay34 k0_pay23 k0_pay2 newMax k0_pay13 k0_pay12 k0_pay11 k0_pay21 k0_pay20
  pointwise
  rfl

/-- The block a head's results are written as: the weighted sum over the sum of weights, transposed. -/
theorem outHead_apply (ao : FVec Ideal S1x128x512 .f32) (lo : FVec Ideal S1x1x512 .f32) (q : Fin 512) (d : Fin 128) :
    k0_pay43 (F := Ideal) ao lo (ix3 0 q d) = Ideal.div (ao (ix3 0 d q)) (lo (ix3 0 0 q)) := by
  unfold k0_pay43
  pointwise

/-- The running maxima start at `-∞`, the running sums at zero. -/
theorem init_max (y : S4x1x512.Idx) : k0_pay36 (F := Ideal) y = ⊥ := by
  unfold k0_pay36
  pointwise
  exact ofBits_bot
theorem init_sum (y : S4x1x512.Idx) : k0_pay37 (F := Ideal) y = 0 := by
  unfold k0_pay37
  pointwise
theorem init_acc (y : S4x128x512.Idx) : k0_pay38 (F := Ideal) y = 0 := by
  unfold k0_pay38
  pointwise

end Cert.Attn

end
-- ==== Proof.Attn.Trip.lean ====
/-
  One trip of the attention call's loop: what it leaves in the three scratch arrays, as the functions of `Payloads` of what it
  found in them.
-/
module

public import proofs.«01_k».proof.Proof.Gen.KernelIdeal.Loops
public import proofs.«01_k».proof.Proof.Attn.Payloads
public import Idealize.ShloMosaic.Lib.WritesUnit
public import Idealize.ShloMosaic.Lib.VecWindow

@[expose] public section

set_option maxRecDepth 16384

noncomputable section

namespace Cert.Attn

open Cert.KernelIdeal Cert.KernelIdeal.Gen Idealize.ShloMosaic

variable {F : FTy → Type} [FloatOps F] [Named F]

theorem inbQ (h : Fin 4) : ∀ a, (![0, h.val, 0, 0] : Fin 4 → ℕ) a + S1x1x512x128.size a ≤ S1x4x512x128.size a := by
  revert h; decide
theorem inbM (h : Fin 4) : ∀ a, (![h.val, 0, 0] : Fin 3 → ℕ) a + S1x1x512.size a ≤ S4x1x512.size a := by
  revert h; decide
theorem inbA (h : Fin 4) : ∀ a, (![h.val, 0, 0] : Fin 3 → ℕ) a + S1x128x512.size a ≤ S4x128x512.size a := by
  revert h; decide

/-- The pieces writing row `h` of a `[4, 1, 512]` array for each head, the last first. -/
def rowPieces (w : Fin 4 → Vec F S1x1x512 .f32) : List (View.Piece (Elt F) S4x1x512 .f32) :=
  [3, 2, 1, 0].map fun h => ⟨Rect.unit (s := S4x1x512) ![h.val, 0, 0] S1x1x512.size (inbM h), w h⟩
/-- The pieces writing plane `h` of a `[4, 128, 512]` array for each head, the last first. -/
def planePieces (w : Fin 4 → Vec F S1x128x512 .f32) : List (View.Piece (Elt F) S4x128x512 .f32) :=
  [3, 2, 1, 0].map fun h => ⟨Rect.unit (s := S4x128x512) ![h.val, 0, 0] S1x128x512.size (inbA h), w h⟩

section Trip
variable (𝒱 : Variants) (c : Dev nD) (bd : Option 𝒱.V) (i : grid0.Coords)
  (arg3 : Memref sig .tc .vmem S1x4x512x128 .f32) (harg3 : arg3.IsWhole) (arg4 : Memref sig .tc .vmem S1x1x16384x128 .bf16) (harg4 : arg4.IsWhole)
  (arg5 : Memref sig .tc .vmem S1x1x128x16384 .bf16) (harg5 : arg5.IsWhole) (arg6 : Memref sig .tc .vmem S1x512x512 .bf16) (harg6 : arg6.IsWhole)
  (arg7 : Memref sig .tc .vmem S4x1x512 .f32) (harg7 : arg7.IsWhole) (arg8 : Memref sig .tc .vmem S4x1x512 .f32) (harg8 : arg8.IsWhole)
  (arg9 : Memref sig .tc .vmem S4x128x512 .f32) (harg9 : arg9.IsWhole)
  (X3 : BufTy.Contents (Elt F) arg3.view.ty) (X4 : BufTy.Contents (Elt F) arg4.view.ty) (X5 : BufTy.Contents (Elt F) arg5.view.ty)

/-- A head's queries, as the trip loads them. -/
def loadQ (h : Fin 4) : Vec F S1x1x512x128 .f32 :=
  arg3.view.readAt (Elt F) (Rect.unit (s := S1x4x512x128) ![0, h.val, 0, 0] S1x1x512x128.size (inbQ h)).toLoadRect X3
/-- The trip's keys. -/
def loadK (k : Fin k0_t1_loop.trips) : Vec F S1x1x4096x128 .bf16 :=
  arg4.view.readAt (Elt F) (Rect.unit (s := S1x1x16384x128) (k0_off1 k) S1x1x4096x128.size (k0_off1_inb k)).toLoadRect X4
/-- The trip's values. -/
def loadV (k : Fin k0_t1_loop.trips) : Vec F S1x1x128x4096 .bf16 :=
  arg5.view.readAt (Elt F) (Rect.unit (s := S1x1x128x16384) (k0_off2 k) S1x1x128x4096.size (k0_off2_inb k)).toLoadRect X5
/-- A head's row of a `[4, 1, 512]` scratch array. -/
def loadRow (m : Memref sig .tc .vmem S4x1x512 .f32) (f : BufTy.Contents (Elt F) m.view.ty) (h : Fin 4) : Vec F S1x1x512 .f32 :=
  m.view.readAt (Elt F) (Rect.unit (s := S4x1x512) ![h.val, 0, 0] S1x1x512.size (inbM h)).toLoadRect f
/-- A head's plane of a `[4, 128, 512]` scratch array. -/
def loadPlane (m : Memref sig .tc .vmem S4x128x512 .f32) (f : BufTy.Contents (Elt F) m.view.ty) (h : Fin 4) : Vec F S1x128x512 .f32 :=
  m.view.readAt (Elt F) (Rect.unit (s := S4x128x512) ![h.val, 0, 0] S1x128x512.size (inbA h)).toLoadRect f

/-- A trip writes, for each head, the new maximum, sum of weights and weighted sum. -/
theorem tripL_eq (k : Fin k0_t1_loop.trips) (f7 : BufTy.Contents (Elt F) arg7.view.ty) (f8 : BufTy.Contents (Elt F) arg8.view.ty)
    (f9 : BufTy.Contents (Elt F) arg9.view.ty) :
    tripL_k0_t1 (F := F) 𝒱 c bd i arg3 harg3 arg4 harg4 arg5 harg5 arg6 harg6 arg7 harg7 arg8 harg8 arg9 harg9 X3 X4 X5 k f7 f8 f9
      = (rowPieces fun h => newMax (tileScores (loadK arg4 X4 k) (loadQ arg3 X3 h)) (loadRow arg7 f7 h),
         rowPieces fun h => newSum (loadV arg5 X5 k) (tileScores (loadK arg4 X4 k) (loadQ arg3 X3 h)) (loadRow arg7 f7 h) (loadRow arg8 f8 h),
         planePieces fun h => newAcc (loadV arg5 X5 k) (tileScores (loadK arg4 X4 k) (loadQ arg3 X3 h)) (loadRow arg7 f7 h) (loadPlane arg9 f9 h)) := by
  unfold tripL_k0_t1 trip_k0_t1
  rfl

end Trip

end Cert.Attn

end
-- ==== Proof.Attn.Loop.lean ====
/-
  The attention call's loop over key tiles: after `n` trips the scratch arrays hold, for each head and query, the maximum of the
  first `4096 n` scores, the sum of their weights and the weighted sum of the values.
-/
module

public import proofs.«01_k».proof.Proof.Attn.Trip
public import Idealize.ShloMosaic.Lib.Writes

@[expose] public section

set_option maxRecDepth 16384

noncomputable section

namespace Cert.Attn

open Cert.KernelIdeal Cert.KernelIdeal.Gen Idealize.ShloMosaic

section Reads
variable {F : FTy → Type} [FloatOps F] [Named F]

theorem off1_eq : ∀ k : Fin k0_t1_loop.trips, k0_off1 k = ![0, 0, 4096 * k.val, 0] := by decide +kernel
theorem off2_eq : ∀ k : Fin k0_t1_loop.trips, k0_off2 k = ![0, 0, 0, 4096 * k.val] := by decide +kernel

theorem loadQ_apply (m : Memref sig .tc .vmem S1x4x512x128 .f32) (X : BufTy.Contents (Elt F) m.view.ty) (h : Fin 4) (q : Fin 512) (d : Fin 128) :
    loadQ m X h (ix4 0 0 q d) = m.view.read (Elt F) X (ix4 0 h q d) := by
  unfold loadQ
  rw [View.readAt_unit _ _ _ rfl (inbQ h)]
  refine congrArg (View.read (Elt F) m.view X) (funext fun a => Fin.ext ?_)
  match a with
  | 0 => rfl
  | 1 => exact Eq.trans (by show h.val + 1 * 0 = h.val; omega) rfl
  | 2 => exact Eq.trans (by show 0 + 1 * q.val = q.val; omega) rfl
  | 3 => exact Eq.trans (by show 0 + 1 * d.val = d.val; omega) rfl
theorem loadRow_apply (m : Memref sig .tc .vmem S4x1x512 .f32) (X : BufTy.Contents (Elt F) m.view.ty) (h : Fin 4) (q : Fin 512) :
    loadRow m X h (ix3 0 0 q) = m.view.read (Elt F) X (ix3 h 0 q) := by
  unfold loadRow
  rw [View.readAt_unit _ _ _ rfl (inbM h)]
  refine congrArg (View.read (Elt F) m.view X) (funext fun a => Fin.ext ?_)
  match a with
  | 0 => exact Eq.trans (by show h.val + 1 * 0 = h.val; omega) rfl
  | 1 => rfl
  | 2 => exact Eq.trans (by show 0 + 1 * q.val = q.val; omega) rfl
theorem loadPlane_apply (m : Memref sig .tc .vmem S4x128x512 .f32) (X : BufTy.Contents (Elt F) m.view.ty) (h : Fin 4) (d : Fin 128) (q : Fin 512) :
    loadPlane m X h (ix3 0 d q) = m.view.read (Elt F) X (ix3 h d q) := by
  unfold loadPlane
  rw [View.readAt_unit _ _ _ rfl (inbA h)]
  refine congrArg (View.read (Elt F) m.view X) (funext fun a => Fin.ext ?_)
  match a with
  | 0 => exact Eq.trans (by show h.val + 1 * 0 = h.val; omega) rfl
  | 1 => exact Eq.trans (by show 0 + 1 * d.val = d.val; omega) rfl
  | 2 => exact Eq.trans (by show 0 + 1 * q.val = q.val; omega) rfl
theorem loadK_apply (m : Memref sig .tc .vmem S1x1x16384x128 .bf16) (X : BufTy.Contents (Elt F) m.view.ty) (k : Fin k0_t1_loop.trips)
    (s : Fin 4096) (d : Fin 128) :
    loadK m X k (ix4 0 0 s d) = m.view.read (Elt F) X (ix4 0 0 (Fin.ofNat 16384 (4096 * k.val + s.val)) d) := by
  have hk : k.val < 4 := k.isLt
  unfold loadK
  rw [View.readAt_unit _ _ _ (off1_eq k) (fun a => by rw [← off1_eq k]; exact k0_off1_inb k a)]
  refine congrArg (View.read (Elt F) m.view X) (funext fun a => Fin.ext ?_)
  match a with
  | 0 => rfl
  | 1 => rfl
  | 2 => exact Eq.trans (by show 4096 * k.val + 1 * s.val = _; omega) (Nat.mod_eq_of_lt (by omega)).symm
  | 3 => exact Eq.trans (by show 0 + 1 * d.val = d.val; omega) rfl
theorem loadV_apply (m : Memref sig .tc .vmem S1x1x128x16384 .bf16) (X : BufTy.Contents (Elt F) m.view.ty) (k : Fin k0_t1_loop.trips)
    (s : Fin 4096) (d : Fin 128) :
    loadV m X k (ix4 0 0 d s) = m.view.read (Elt F) X (ix4 0 0 d (Fin.ofNat 16384 (4096 * k.val + s.val))) := by
  have hk : k.val < 4 := k.isLt
  unfold loadV
  rw [View.readAt_unit _ _ _ (off2_eq k) (fun a => by rw [← off2_eq k]; exact k0_off2_inb k a)]
  refine congrArg (View.read (Elt F) m.view X) (funext fun a => Fin.ext ?_)
  match a with
  | 0 => rfl
  | 1 => rfl
  | 2 => exact Eq.trans (by show 0 + 1 * d.val = d.val; omega) rfl
  | 3 => exact Eq.trans (by show 4096 * k.val + 1 * s.val = _; omega) (Nat.mod_eq_of_lt (by omega)).symm

theorem read_rowPieces (m : Memref sig .tc .vmem S4x1x512 .f32) (f : BufTy.Contents (Elt F) m.view.ty) (w : Fin 4 → Vec F S1x1x512 .f32)
    (h : Fin 4) (q : Fin 512) :
    m.view.read (Elt F) (m.view.writes (Elt F) f (rowPieces w)) (ix3 h 0 q) = w h (ix3 0 0 q) := by
  have hit : ∀ (g : Fin 4) L, m.view.read (Elt F) (m.view.writes (Elt F) f
      (⟨Rect.unit (s := S4x1x512) ![g.val, 0, 0] S1x1x512.size (inbM g), w g⟩ :: L)) (ix3 g 0 q) = w g (ix3 0 0 q) := fun g L =>
    View.read_writes_cons_unit_of_mem m.view f (inbM g) (w g) L (ix3 g 0 q) (ix3 0 0 q) rfl fun a => by
      match a with
      | 0 => rfl
      | 1 => rfl
      | 2 => exact (Nat.zero_add _).symm
  have skip : ∀ (g : Fin 4) L, h < g → m.view.read (Elt F) (m.view.writes (Elt F) f
      (⟨Rect.unit (s := S4x1x512) ![g.val, 0, 0] S1x1x512.size (inbM g), w g⟩ :: L)) (ix3 h 0 q)
        = m.view.read (Elt F) (m.view.writes (Elt F) f L) (ix3 h 0 q) := fun g L hg =>
    View.read_writes_cons_unit_of_not_mem m.view f (inbM g) (w g) L (ix3 h 0 q) rfl 0 (Or.inl hg)
  match h with
  | 3 => exact hit 3 _
  | 2 => exact (skip 3 _ (by decide)).trans (hit 2 _)
  | 1 => exact (skip 3 _ (by decide)).trans ((skip 2 _ (by decide)).trans (hit 1 _))
  | 0 => exact (skip 3 _ (by decide)).trans ((skip 2 _ (by decide)).trans ((skip 1 _ (by decide)).trans (hit 0 _)))
theorem read_planePieces (m : Memref sig .tc .vmem S4x128x512 .f32) (f : BufTy.Contents (Elt F) m.view.ty) (w : Fin 4 → Vec F S1x128x512 .f32)
    (h : Fin 4) (d : Fin 128) (q : Fin 512) :
    m.view.read (Elt F) (m.view.writes (Elt F) f (planePieces w)) (ix3 h d q) = w h (ix3 0 d q) := by
  have hit : ∀ (g : Fin 4) L, m.view.read (Elt F) (m.view.writes (Elt F) f
      (⟨Rect.unit (s := S4x128x512) ![g.val, 0, 0] S1x128x512.size (inbA g), w g⟩ :: L)) (ix3 g d q) = w g (ix3 0 d q) := fun g L =>
    View.read_writes_cons_unit_of_mem m.view f (inbA g) (w g) L (ix3 g d q) (ix3 0 d q) rfl fun a => by
      match a with
      | 0 => rfl
      | 1 => exact (Nat.zero_add _).symm
      | 2 => exact (Nat.zero_add _).symm
  have skip : ∀ (g : Fin 4) L, h < g → m.view.read (Elt F) (m.view.writes (Elt F) f
      (⟨Rect.unit (s := S4x128x512) ![g.val, 0, 0] S1x128x512.size (inbA g), w g⟩ :: L)) (ix3 h d q)
        = m.view.read (Elt F) (m.view.writes (Elt F) f L) (ix3 h d q) := fun g L hg =>
    View.read_writes_cons_unit_of_not_mem m.view f (inbA g) (w g) L (ix3 h d q) rfl 0 (Or.inl hg)
  match h with
  | 3 => exact hit 3 _
  | 2 => exact (skip 3 _ (by decide)).trans (hit 2 _)
  | 1 => exact (skip 3 _ (by decide)).trans ((skip 2 _ (by decide)).trans (hit 1 _))
  | 0 => exact (skip 3 _ (by decide)).trans ((skip 2 _ (by decide)).trans ((skip 1 _ (by decide)).trans (hit 0 _)))
end Reads

section Loop
variable (𝒱 : Variants) (c : Dev nD) (bd : Option 𝒱.V) (i : grid0.Coords)
  (arg3 : Memref sig .tc .vmem S1x4x512x128 .f32) (harg3 : arg3.IsWhole) (arg4 : Memref sig .tc .vmem S1x1x16384x128 .bf16) (harg4 : arg4.IsWhole)
  (arg5 : Memref sig .tc .vmem S1x1x128x16384 .bf16) (harg5 : arg5.IsWhole) (arg6 : Memref sig .tc .vmem S1x512x512 .bf16) (harg6 : arg6.IsWhole)
  (arg7 : Memref sig .tc .vmem S4x1x512 .f32) (harg7 : arg7.IsWhole) (arg8 : Memref sig .tc .vmem S4x1x512 .f32) (harg8 : arg8.IsWhole)
  (arg9 : Memref sig .tc .vmem S4x128x512 .f32) (harg9 : arg9.IsWhole)
  (X3 : BufTy.Contents (Elt Ideal) arg3.view.ty) (X4 : BufTy.Contents (Elt Ideal) arg4.view.ty) (X5 : BufTy.Contents (Elt Ideal) arg5.view.ty)

/-- The score of key `i` for a head's query, from the blocks. -/
def scoreAt (Q : FVec Ideal S1x4x512x128 .f32) (K : FVec Ideal S1x1x16384x128 .bf16) (h : Fin 4) (q : Fin 512) (i : ℕ) : EReal :=
  ∑ d : Fin 128, K (ix4 0 0 (Fin.ofNat 16384 i) d) * (Q (ix4 0 h q d) * (qscale : EReal))

/-- What the three scratch arrays hold once the first `n` keys are taken in. -/
def Held (Vb : FVec Ideal S1x1x128x16384 .bf16) (s : Fin 4 → Fin 512 → ℕ → ℝ) (n : ℕ) (M L : FVec Ideal S4x1x512 .f32) (A : FVec Ideal S4x128x512 .f32) : Prop :=
  ∀ (h : Fin 4) (q : Fin 512), M (ix3 h 0 q) = topScore (s h q) n ∧ L (ix3 h 0 q) = weighted (s h q) (fun _ => 1) n
    ∧ ∀ d : Fin 128, A (ix3 h d q) = weighted (s h q) (fun i => Vb (ix4 0 0 d (Fin.ofNat 16384 i))) n

/-- A trip takes in the next `4096` keys. -/
theorem held_trip (s : Fin 4 → Fin 512 → ℕ → ℝ)
    (hs : ∀ h q i, ((s h q i : ℝ) : EReal) = scoreAt (arg3.view.read (Elt Ideal) X3) (arg4.view.read (Elt Ideal) X4) h q i)
    (k : Fin k0_t1_loop.trips) (f7 : BufTy.Contents (Elt Ideal) arg7.view.ty) (f8 : BufTy.Contents (Elt Ideal) arg8.view.ty)
    (f9 : BufTy.Contents (Elt Ideal) arg9.view.ty)
    (hf : Held (arg5.view.read (Elt Ideal) X5) s (4096 * k.val) (arg7.view.read (Elt Ideal) f7) (arg8.view.read (Elt Ideal) f8) (arg9.view.read (Elt Ideal) f9)) :
    Held (arg5.view.read (Elt Ideal) X5) s (4096 * k.val + 4096)
      (arg7.view.read (Elt Ideal) (arg7.view.writes (Elt Ideal) f7 (tripL_k0_t1 (F := Ideal) 𝒱 c bd i arg3 harg3 arg4 harg4 arg5 harg5 arg6 harg6 arg7 harg7 arg8 harg8 arg9 harg9 X3 X4 X5 k f7 f8 f9).1))
      (arg8.view.read (Elt Ideal) (arg8.view.writes (Elt Ideal) f8 (tripL_k0_t1 (F := Ideal) 𝒱 c bd i arg3 harg3 arg4 harg4 arg5 harg5 arg6 harg6 arg7 harg7 arg8 harg8 arg9 harg9 X3 X4 X5 k f7 f8 f9).2.1))
      (arg9.view.read (Elt Ideal) (arg9.view.writes (Elt Ideal) f9 (tripL_k0_t1 (F := Ideal) 𝒱 c bd i arg3 harg3 arg4 harg4 arg5 harg5 arg6 harg6 arg7 harg7 arg8 harg8 arg9 harg9 X3 X4 X5 k f7 f8 f9).2.2)) := by
  intro h q
  obtain ⟨hM, hL, hA⟩ := hf h q
  have hst : ∀ j : Fin 4096, tileScores (F := Ideal) (loadK arg4 X4 k) (loadQ arg3 X3 h) (ix2 j q) = ((s h q (4096 * k.val + j.val) : ℝ) : EReal) := by
    intro j
    rw [tileScores_apply, hs]
    unfold scoreAt
    refine Finset.sum_congr rfl fun d _ => ?_
    rw [loadK_apply, loadQ_apply]
  have hmax : newMax (F := Ideal) (tileScores (loadK arg4 X4 k) (loadQ arg3 X3 h)) (loadRow arg7 f7 h) (ix3 0 0 q)
      = topScore (s h q) (4096 * k.val + 4096) := by
    rw [newMax_apply, loadRow_apply, hM, topScore_add]
    simp only [hst]
  rw [tripL_eq]
  refine ⟨?_, ?_, fun d => ?_⟩
  · rw [read_rowPieces]; exact hmax
  · rw [read_rowPieces, newSum_apply, hmax, loadRow_apply, loadRow_apply, hM, hL, ← weighted_add _ _ _ 4096 (by norm_num)]
    simp only [hst]
  · rw [read_planePieces, newAcc_apply, hmax, loadRow_apply, loadPlane_apply, hM, hA d, ← weighted_add _ _ _ 4096 (by norm_num)]
    simp only [hst, loadV_apply]

/-- After `n` trips the first `4096 n` keys are taken in. -/
theorem held_loop (s : Fin 4 → Fin 512 → ℕ → ℝ)
    (hs : ∀ h q i, ((s h q i : ℝ) : EReal) = scoreAt (arg3.view.read (Elt Ideal) X3) (arg4.view.read (Elt Ideal) X4) h q i)
    (G7 : BufTy.Contents (Elt Ideal) arg7.view.ty) (G8 : BufTy.Contents (Elt Ideal) arg8.view.ty) (G9 : BufTy.Contents (Elt Ideal) arg9.view.ty)
    (hG : Held (arg5.view.read (Elt Ideal) X5) s 0 (arg7.view.read (Elt Ideal) G7) (arg8.view.read (Elt Ideal) G8) (arg9.view.read (Elt Ideal) G9))
    (n : ℕ) (hn : n ≤ 4) :
    Held (arg5.view.read (Elt Ideal) X5) s (4096 * n)
      (arg7.view.read (Elt Ideal) (arg7.view.writes (Elt Ideal) G7 (pb_k0_t1 (F := Ideal) 𝒱 c bd i arg3 harg3 arg4 harg4 arg5 harg5 arg6 harg6 arg7 harg7 arg8 harg8 arg9 harg9 X3 X4 X5 G7 G8 G9 n).1))
      (arg8.view.read (Elt Ideal) (arg8.view.writes (Elt Ideal) G8 (pb_k0_t1 (F := Ideal) 𝒱 c bd i arg3 harg3 arg4 harg4 arg5 harg5 arg6 harg6 arg7 harg7 arg8 harg8 arg9 harg9 X3 X4 X5 G7 G8 G9 n).2.1))
      (arg9.view.read (Elt Ideal) (arg9.view.writes (Elt Ideal) G9 (pb_k0_t1 (F := Ideal) 𝒱 c bd i arg3 harg3 arg4 harg4 arg5 harg5 arg6 harg6 arg7 harg7 arg8 harg8 arg9 harg9 X3 X4 X5 G7 G8 G9 n).2.2)) := by
  induction n with
  | zero => exact hG
  | succ n ih =>
    have hstep := pb_k0_t1_succ (F := Ideal) 𝒱 c bd i arg3 harg3 arg4 harg4 arg5 harg5 arg6 harg6 arg7 harg7 arg8 harg8 arg9 harg9 X3 X4 X5 G7 G8 G9 (⟨n, by show n < 4; omega⟩ : Fin k0_t1_loop.trips)
    rw [show pb_k0_t1 (F := Ideal) 𝒱 c bd i arg3 harg3 arg4 harg4 arg5 harg5 arg6 harg6 arg7 harg7 arg8 harg8 arg9 harg9 X3 X4 X5 G7 G8 G9 (n + 1) = _ from hstep]
    simp only [View.writes_append]
    exact held_trip 𝒱 c bd i arg3 harg3 arg4 harg4 arg5 harg5 arg6 harg6 arg7 harg7 arg8 harg8 arg9 harg9 X3 X4 X5 s hs ⟨n, _⟩ _ _ _ (ih (by omega))

end Loop

end Cert.Attn

end
-- ==== Proof.Attn.Block.lean ====
/-
  What one grid point of the attention call writes: for each of its four heads, the weighted sum of the values over the sum of
  the weights of all `16384` keys.
-/
module

public import proofs.«01_k».proof.Proof.Gen.KernelIdeal.Frame
public import proofs.«01_k».proof.Proof.Attn.Loop

@[expose] public section

set_option maxRecDepth 16384

noncomputable section

namespace Cert.Attn

open Cert.KernelIdeal Cert.KernelIdeal.Gen Idealize.ShloMosaic

theorem inbO (h : Fin 4) : ∀ a, (![0, 0, 128 * h.val] : Fin 3 → ℕ) a + S1x512x128.size a ≤ S1x512x512.size a := by
  revert h; decide

/-- The pieces writing columns `128 h …` of the output block for each head, the last first. -/
def colPieces {F : FTy → Type} [FloatOps F] (w : Fin 4 → Vec F S1x512x128 .bf16) : List (View.Piece (Elt F) S1x512x512 .bf16) :=
  [3, 2, 1, 0].map fun h => ⟨Rect.unit (s := S1x512x512) ![0, 0, 128 * h.val] S1x512x128.size (inbO h), w h⟩

/-- The column of head `h`'s entry `d` in the output block. -/
def col (h : Fin 4) (d : Fin 128) : Fin 512 := ⟨128 * h.val + d.val, by omega⟩

theorem read_colPieces {F : FTy → Type} [FloatOps F] (v : View sig .tc .vmem S1x512x512 .bf16) (f : BufTy.Contents (Elt F) v.ty)
    (w : Fin 4 → Vec F S1x512x128 .bf16) (h : Fin 4) (q : Fin 512) (d : Fin 128) :
    v.read (Elt F) (v.writes (Elt F) f (colPieces w)) (ix3 0 q (col h d)) = w h (ix3 0 q d) := by
  have hit : ∀ (g : Fin 4) L, v.read (Elt F) (v.writes (Elt F) f
      (⟨Rect.unit (s := S1x512x512) ![0, 0, 128 * g.val] S1x512x128.size (inbO g), w g⟩ :: L)) (ix3 0 q (col g d)) = w g (ix3 0 q d) := fun g L =>
    View.read_writes_cons_unit_of_mem v f (inbO g) (w g) L (ix3 0 q (col g d)) (ix3 0 q d) rfl fun a => by
      match a with
      | 0 => rfl
      | 1 => exact (Nat.zero_add _).symm
      | 2 => rfl
  have skip : ∀ (g : Fin 4) L, h < g → v.read (Elt F) (v.writes (Elt F) f
      (⟨Rect.unit (s := S1x512x512) ![0, 0, 128 * g.val] S1x512x128.size (inbO g), w g⟩ :: L)) (ix3 0 q (col h d))
        = v.read (Elt F) (v.writes (Elt F) f L) (ix3 0 q (col h d)) := fun g L hg =>
    View.read_writes_cons_unit_of_not_mem v f (inbO g) (w g) L (ix3 0 q (col h d)) rfl 2 (Or.inl (by
      show 128 * h.val + d.val < 128 * g.val
      have : h.val < g.val := hg
      omega))
  match h with
  | 3 => exact hit 3 _
  | 2 => exact (skip 3 _ (by decide)).trans (hit 2 _)
  | 1 => exact (skip 3 _ (by decide)).trans ((skip 2 _ (by decide)).trans (hit 1 _))
  | 0 => exact (skip 3 _ (by decide)).trans ((skip 2 _ (by decide)).trans ((skip 1 _ (by decide)).trans (hit 0 _)))

theorem inb4 : ∀ a, (![0, 0, 0] : Fin 3 → ℕ) a + S4x1x512.size a ≤ S4x1x512.size a := by decide
theorem inb4A : ∀ a, (![0, 0, 0] : Fin 3 → ℕ) a + S4x128x512.size a ≤ S4x128x512.size a := by decide

/-- A whole scratch array's first write. -/
def initRow {F : FTy → Type} [FloatOps F] (w : Vec F S4x1x512 .f32) : List (View.Piece (Elt F) S4x1x512 .f32) :=
  [⟨Rect.unit (s := S4x1x512) ![0, 0, 0] S4x1x512.size inb4, w⟩]
def initPlane {F : FTy → Type} [FloatOps F] (w : Vec F S4x128x512 .f32) : List (View.Piece (Elt F) S4x128x512 .f32) :=
  [⟨Rect.unit (s := S4x128x512) ![0, 0, 0] S4x128x512.size inb4A, w⟩]

section Block
variable {F : FTy → Type} [FloatOps F] [Named F]
variable (c : Dev nD) (i : grid0.Coords)
  (arg3 : Memref sig .tc .vmem S1x4x512x128 .f32) (harg3 : arg3.IsWhole) (arg4 : Memref sig .tc .vmem S1x1x16384x128 .bf16) (harg4 : arg4.IsWhole)
  (arg5 : Memref sig .tc .vmem S1x1x128x16384 .bf16) (harg5 : arg5.IsWhole) (arg6 : Memref sig .tc .vmem S1x512x512 .bf16) (harg6 : arg6.IsWhole)
  (arg7 : Memref sig .tc .vmem S4x1x512 .f32) (harg7 : arg7.IsWhole) (arg8 : Memref sig .tc .vmem S4x1x512 .f32) (harg8 : arg8.IsWhole)
  (arg9 : Memref sig .tc .vmem S4x128x512 .f32) (harg9 : arg9.IsWhole)
  (x0 : Vec F S1x4x512x128 .f32) (x1 : Vec F S1x1x16384x128 .bf16) (x2 : Vec F S1x1x128x16384 .bf16)

/-- The loop's pieces, from the scratch arrays as the body sets them up. -/
abbrev loopPieces :=
  pb_k0_t1 (F := F) Variants.none c none i arg3 harg3 arg4 harg4 arg5 harg5 arg6 harg6 arg7 harg7 arg8 harg8 arg9 harg9
    (harg3.unread x0) (harg4.unread x1) (harg5.unread x2)
    (arg7.view.writes (Elt F) arg7.view.junk (initRow k0_pay36)) (arg8.view.writes (Elt F) arg8.view.junk (initRow k0_pay37))
    (arg9.view.writes (Elt F) arg9.view.junk (initPlane k0_pay38)) 4

/-- The body's stores into the output block are the heads' results after the loop. -/
theorem run_pieces :
    (kernelRun0_A (F := F) c i arg3 harg3 arg4 harg4 arg5 harg5 arg6 harg6 arg7 harg7 arg8 harg8 arg9 harg9 x0 x1 x2).1
      = colPieces fun h => k0_pay43
          (loadPlane arg9 (arg9.view.writes (Elt F) arg9.view.junk ((loopPieces c i arg3 harg3 arg4 harg4 arg5 harg5 arg6 harg6 arg7 harg7 arg8 harg8 arg9 harg9 x0 x1 x2).2.2 ++ initPlane k0_pay38)) h)
          (loadRow arg8 (arg8.view.writes (Elt F) arg8.view.junk ((loopPieces c i arg3 harg3 arg4 harg4 arg5 harg5 arg6 harg6 arg7 harg7 arg8 harg8 arg9 harg9 x0 x1 x2).2.1 ++ initRow k0_pay37)) h) := by
  unfold kernelRun0_A
  rfl
end Block

/-- A grid point's output block: every head's weighted sum of the values over its sum of weights. -/
theorem block_apply (c : Dev nD) (i : grid0.Coords)
    (arg3 : Memref sig .tc .vmem S1x4x512x128 .f32) (harg3 : arg3.IsWhole) (arg4 : Memref sig .tc .vmem S1x1x16384x128 .bf16) (harg4 : arg4.IsWhole)
    (arg5 : Memref sig .tc .vmem S1x1x128x16384 .bf16) (harg5 : arg5.IsWhole) (arg6 : Memref sig .tc .vmem S1x512x512 .bf16) (harg6 : arg6.IsWhole)
    (arg7 : Memref sig .tc .vmem S4x1x512 .f32) (harg7 : arg7.IsWhole) (arg8 : Memref sig .tc .vmem S4x1x512 .f32) (harg8 : arg8.IsWhole)
    (arg9 : Memref sig .tc .vmem S4x128x512 .f32) (harg9 : arg9.IsWhole)
    (x0 : FVec Ideal S1x4x512x128 .f32) (x1 : FVec Ideal S1x1x16384x128 .bf16) (x2 : FVec Ideal S1x1x128x16384 .bf16)
    (s : Fin 4 → Fin 512 → ℕ → ℝ) (hs : ∀ h q i, ((s h q i : ℝ) : EReal) = scoreAt x0 x1 h q i) (h : Fin 4) (q : Fin 512) (d : Fin 128) :
    out0_A_3 (F := Ideal) c i arg3 harg3 arg4 harg4 arg5 harg5 arg6 harg6 arg7 harg7 arg8 harg8 arg9 harg9 x0 x1 x2 (ix3 0 q (col h d))
      = Ideal.div (weighted (s h q) (fun i => x2 (ix4 0 0 d (Fin.ofNat 16384 i))) 16384) (weighted (s h q) (fun _ => 1) 16384) := by
  unfold out0_A_3
  rw [run_pieces, read_colPieces, outHead_apply, loadPlane_apply, loadRow_apply, View.writes_append, View.writes_append]
  have hG := held_loop Variants.none c none i arg3 harg3 arg4 harg4 arg5 harg5 arg6 harg6 arg7 harg7 arg8 harg8 arg9 harg9
    (harg3.unread x0) (harg4.unread x1) (harg5.unread x2) s (by rw [harg3.read_unread, harg4.read_unread]; exact hs)
    (arg7.view.writes (Elt Ideal) arg7.view.junk (initRow (k0_pay36 (F := Ideal)))) (arg8.view.writes (Elt Ideal) arg8.view.junk (initRow (k0_pay37 (F := Ideal))))
    (arg9.view.writes (Elt Ideal) arg9.view.junk (initPlane (k0_pay38 (F := Ideal)))) (by
      intro h q
      unfold initRow initPlane
      rw [View.read_writes_full, View.read_writes_full, View.read_writes_full]
      refine ⟨(init_max _).trans ?_, (init_sum _).trans ?_, fun d => (init_acc _).trans ?_⟩
      · simp [topScore]
      · simp [weighted]
      · simp [weighted]) 4 le_rfl h q
  rw [harg5.read_unread] at hG
  rw [hG.2.1, hG.2.2 d]

end Cert.Attn

end
-- ==== Proof.Attn.Array.lean ====
/-
  What the attention call leaves in its result array, entry by entry, in terms of the call's arguments.
-/
module

public import proofs.«01_k».proof.Proof.Gen.KernelIdeal.Value
public import proofs.«01_k».proof.Proof.Attn.Block

@[expose] public section

set_option maxRecDepth 16384

noncomputable section

namespace Cert.Attn

open Cert.KernelIdeal Cert.KernelIdeal.Gen Idealize.ShloMosaic Idealize.ShloMosaic.TcCoe

section Geometry

/-- The grid point of batch `b`, key head `g`, query tile `t`. -/
def pt (b g : Fin 2) (t : Fin 32) : Fin cfg0.N := ⟨64 * b.val + 32 * g.val + t.val, by show _ < 128; omega⟩

theorem idx_q : ∀ (b g : Fin 2) (t : Fin 32), win0_0.index (pt b g t) = ![b.val, g.val, t.val, 0] := by decide +kernel
theorem idx_k : ∀ (b g : Fin 2) (t : Fin 32), win0_1.index (pt b g t) = ![b.val, g.val, 0, 0] := by decide +kernel
theorem idx_v : ∀ (b g : Fin 2) (t : Fin 32), win0_2.index (pt b g t) = ![b.val, g.val, 0, 0] := by decide +kernel
theorem idx_o : ∀ (b g : Fin 2) (t : Fin 32), win0_3.index (pt b g t) = ![b.val, t.val, g.val] := by decide +kernel

/-- Row `512 t + q`, head `4 g + h`, output column `512 g + 128 h + d`. -/
def row (t : Fin 32) (q : Fin 512) : Fin 16384 := ⟨512 * t.val + q.val, by omega⟩
def head (g : Fin 2) (h : Fin 4) : Fin 8 := ⟨4 * g.val + h.val, by omega⟩
def outCol (g : Fin 2) (h : Fin 4) (d : Fin 128) : Fin 1024 := ⟨512 * g.val + (128 * h.val + d.val), by omega⟩

end Geometry

variable (m : (ℓ : Loc nD τ sig) → Buf (Elt Ideal) ℓ)

/-- The three arguments. -/
abbrev argQ (c : Dev nD) : FVec Ideal S2x16384x8x128 .f32 := m ((c : Thread nD τ).loc main_arg0)
abbrev argK (c : Dev nD) : FVec Ideal S2x16384x2x128 .f32 := m ((c : Thread nD τ).loc main_arg1)
abbrev argV (c : Dev nD) : FVec Ideal S2x16384x2x128 .f32 := m ((c : Thread nD τ).loc main_arg2)

theorem V_q (c : Dev nD) : (V m c main_v0 : FVec Ideal S2x8x16384x128 .f32)
    = transpose S2x8x16384x128 [0, 2, 1, 3] (argQ m c) transposes_S2x16384x8x128_S2x8x16384x128_0_2_1_3 := by
  rfl
theorem V_k (c : Dev nD) : (V m c main_v2 : FVec Ideal S2x2x16384x128 .bf16)
    = transpose S2x2x16384x128 [0, 2, 1, 3] (argK m c) transposes_S2x16384x2x128_S2x2x16384x128_0_2_1_3 := by
  rfl
theorem V_v (c : Dev nD) : (V m c main_v4 : FVec Ideal S2x2x128x16384 .bf16)
    = transpose S2x2x128x16384 [0, 2, 3, 1] (argV m c) transposes_S2x16384x2x128_S2x2x128x16384_0_2_3_1 := by
  rfl

theorem blk_q (c : Dev nD) (b g : Fin 2) (t : Fin 32) (h : Fin 4) (q : Fin 512) (d : Fin 128) :
    (iblk m c 0 (pt b g t) : FVec Ideal S1x4x512x128 .f32) (ix4 0 h q d) = argQ m c (ix4 b (row t q) (head g h) d) := by
  have e := idx_q b g t
  unfold iblk
  rw [View.read_apply]
  show (V m c main_v0 : FVec Ideal S2x8x16384x128 .f32) _ = _
  rw [V_q]
  refine congrArg (argQ m c) (funext fun a => Fin.ext ?_)
  match a with
  | 0 => show win0_0.index (pt b g t) 0 * 1 + 1 * 0 = b.val; rw [e]; show b.val * 1 + 1 * 0 = b.val; omega
  | 1 => show win0_0.index (pt b g t) 2 * 512 + 1 * q.val = 512 * t.val + q.val; rw [e]; show t.val * 512 + 1 * q.val = _; omega
  | 2 => show win0_0.index (pt b g t) 1 * 4 + 1 * h.val = 4 * g.val + h.val; rw [e]; show g.val * 4 + 1 * h.val = _; omega
  | 3 => show win0_0.index (pt b g t) 3 * 128 + 1 * d.val = d.val; rw [e]; show 0 * 128 + 1 * d.val = _; omega
theorem blk_k (c : Dev nD) (b g : Fin 2) (t : Fin 32) (i : Fin 16384) (d : Fin 128) :
    (iblk m c 1 (pt b g t) : FVec Ideal S1x1x16384x128 .bf16) (ix4 0 0 i d) = argK m c (ix4 b i g d) := by
  have e := idx_k b g t
  unfold iblk
  rw [View.read_apply]
  show (V m c main_v2 : FVec Ideal S2x2x16384x128 .bf16) _ = _
  rw [V_k]
  refine congrArg (argK m c) (funext fun a => Fin.ext ?_)
  match a with
  | 0 => show win0_1.index (pt b g t) 0 * 1 + 1 * 0 = b.val; rw [e]; show b.val * 1 + 1 * 0 = b.val; omega
  | 1 => show win0_1.index (pt b g t) 2 * 16384 + 1 * i.val = i.val; rw [e]; show 0 * 16384 + 1 * i.val = _; omega
  | 2 => show win0_1.index (pt b g t) 1 * 1 + 1 * 0 = g.val; rw [e]; show g.val * 1 + 1 * 0 = _; omega
  | 3 => show win0_1.index (pt b g t) 3 * 128 + 1 * d.val = d.val; rw [e]; show 0 * 128 + 1 * d.val = _; omega
theorem blk_v (c : Dev nD) (b g : Fin 2) (t : Fin 32) (i : Fin 16384) (d : Fin 128) :
    (iblk m c 2 (pt b g t) : FVec Ideal S1x1x128x16384 .bf16) (ix4 0 0 d i) = argV m c (ix4 b i g d) := by
  have e := idx_v b g t
  unfold iblk
  rw [View.read_apply]
  show (V m c main_v4 : FVec Ideal S2x2x128x16384 .bf16) _ = _
  rw [V_v]
  refine congrArg (argV m c) (funext fun a => Fin.ext ?_)
  match a with
  | 0 => show win0_2.index (pt b g t) 0 * 1 + 1 * 0 = b.val; rw [e]; show b.val * 1 + 1 * 0 = b.val; omega
  | 1 => show win0_2.index (pt b g t) 3 * 16384 + 1 * i.val = i.val; rw [e]; show 0 * 16384 + 1 * i.val = _; omega
  | 2 => show win0_2.index (pt b g t) 1 * 1 + 1 * 0 = g.val; rw [e]; show g.val * 1 + 1 * 0 = _; omega
  | 3 => show win0_2.index (pt b g t) 2 * 128 + 1 * d.val = d.val; rw [e]; show 0 * 128 + 1 * d.val = _; omega

/-- The scaled score of a query row against key `i`, from the arguments. -/
def kernelScore (q : FVec Ideal S2x16384x8x128 .f32) (k : FVec Ideal S2x16384x2x128 .f32) (b g : Fin 2) (n : Fin 16384) (h : Fin 4) (i : ℕ) : EReal :=
  ∑ d : Fin 128, k (ix4 b (Fin.ofNat 16384 i) g d) * (q (ix4 b n (head g h) d) * (qscale : EReal))

/-- The result array at row `512 t + q`, column `512 g + 128 h + d`. -/
theorem array_apply (c : Dev nD) (b g : Fin 2) (s : Fin 16384 → Fin 4 → ℕ → ℝ)
    (hs : ∀ n h i, ((s n h i : ℝ) : EReal) = kernelScore (argQ m c) (argK m c) b g n h i)
    (t : Fin 32) (h : Fin 4) (q : Fin 512) (d : Fin 128) :
    ((dats m 0 c).arrAt 3 cfg0.N : FVec Ideal S2x16384x1024 .bf16) (ix3 b (row t q) (outCol g h d))
      = Ideal.div (weighted (s (row t q) h) (fun i => argV m c (ix4 b (Fin.ofNat 16384 i) g d)) 16384)
          (weighted (s (row t q) h) (fun _ => 1) 16384) := by
  have e := idx_o b g t
  have hb := congrFun ((Value.blocks3 m c (pt b g t) (flush0_3 _)).trans (Value.flushed3_A m c (pt b g t))) (ix3 0 q (col h d))
  rw [View.read_apply] at hb
  have hidx : ((cfg0.win 3).blk (pt b g t)).view.emb (ix3 0 q (col h d)) = (ix3 b (row t q) (outCol g h d) : S2x16384x1024.Idx) :=
    funext fun a => Fin.ext (by
      match a with
      | 0 => show win0_3.index (pt b g t) 0 * 1 + 1 * 0 = b.val; rw [e]; show b.val * 1 + 1 * 0 = b.val; omega
      | 1 => show win0_3.index (pt b g t) 1 * 512 + 1 * q.val = 512 * t.val + q.val; rw [e]; show t.val * 512 + 1 * q.val = _; omega
      | 2 => show win0_3.index (pt b g t) 2 * 512 + 1 * (128 * h.val + d.val) = 512 * g.val + (128 * h.val + d.val); rw [e]; show g.val * 512 + 1 * (128 * h.val + d.val) = _; omega)
  rw [hidx] at hb
  refine Eq.trans hb ?_
  refine (block_apply c (grid0.coords (pt b g t)) _ _ _ _ _ _ _ _ _ _ _ _ _ _ (iblk m c 0 (pt b g t)) (iblk m c 1 (pt b g t)) (iblk m c 2 (pt b g t))
    (fun h q i => s (row t q) h i) (fun h q i => ?_) h q d).trans ?_
  · rw [hs]
    unfold kernelScore scoreAt
    refine Finset.sum_congr rfl fun d _ => ?_
    rw [blk_q, blk_k]
  · simp only [blk_v]

end Cert.Attn

end
-- ==== Proof.Attn.Reference.lean ====
/-
  What the attention reference computes, entry by entry: the softmax of the scores, each value weighted by it.
-/
module

public import proofs.«01_k».proof.Proof.Gen.ReferenceIdeal
public import proofs.«01_k».proof.Proof.Gen.ReferenceIdeal.Run
public import proofs.«01_k».proof.Proof.Attn.Online
public import Idealize.ShloMosaic.Lib.Pointwise
public import Idealize.ShloMosaic.Lib.KernelVsHost

@[expose] public section

set_option maxRecDepth 16384

noncomputable section

namespace Cert.Attn

open Cert.ReferenceIdeal Cert.ReferenceIdeal.Gen Idealize.ShloMosaic

/-- The reference's scores, `[batch, key head, head, query, key]`. -/
def refScores (q : FVec Ideal S2x16384x8x128 .f32) (k : FVec Ideal S2x16384x2x128 .f32) : FVec Ideal S2x2x4x16384x16384 .f32 :=
  Host.divf (transpose S2x2x4x16384x16384 [0, 1, 4, 3, 2] (Host.dotGeneral dot_S2x16384x2x128_S2x16384x2x4x128_S2x2x16384x16384x4_3_4_1_13_02_02 none k (shapeCast _ q shapeCasts_S2x16384x8x128_S2x16384x2x4x128)) transposes_S2x2x16384x16384x4_S2x2x4x16384x16384_0_1_4_3_2) (broadcastInDim S2x2x4x16384x16384 ![] bcast_S_S2x2x4x16384x16384 (Host.sqrt (constant S_ .f32 0x43000000#32)))

/-- The exponentials of the scores less their row's maximum. -/
def refExp (s : FVec Ideal S2x2x4x16384x16384 .f32) : FVec Ideal S2x2x4x16384x16384 .f32 :=
  Host.exp (subf s (broadcastInDim S2x2x4x16384x16384 ![0, 1, 2, 3, 4] bcast_S2x2x4x16384x1_S2x2x4x16384x16384_0_1_2_3_4 (broadcastInDim S2x2x4x16384x1 ![0, 1, 2, 3] bcast_S2x2x4x16384_S2x2x4x16384x1_0_1_2_3 (maximumf (broadcastInDim S2x2x4x16384 ![] bcast_S_S2x2x4x16384 (constant S_ .f32 0xFF800000#32)) (Host.reduce FloatOps.maximumf s (constant S_ .f32 0xFF800000#32) reducesTo_S2x2x4x16384x16384_S2x2x4x16384_d4 h_S_)))))

/-- The softmax of the scores. -/
def refProb (e : FVec Ideal S2x2x4x16384x16384 .f32) : FVec Ideal S2x2x4x16384x16384 .f32 :=
  Host.divf e (broadcastInDim S2x2x4x16384x16384 ![0, 1, 2, 3, 4] bcast_S2x2x4x16384x1_S2x2x4x16384x16384_0_1_2_3_4 (broadcastInDim S2x2x4x16384x1 ![0, 1, 2, 3] bcast_S2x2x4x16384_S2x2x4x16384x1_0_1_2_3 (Host.reduceAdd e (constant S_ .f32 0x00000000#32) reducesTo_S2x2x4x16384x16384_S2x2x4x16384_d4 h_S_)))

/-- The values weighted by the softmax, in the result's layout. -/
def refOut (p : FVec Ideal S2x2x4x16384x16384 .f32) (v : FVec Ideal S2x16384x2x128 .f32) : FVec Ideal S2x16384x1024 .bf16 :=
  truncf .bf16 (shapeCast _ (transpose S2x16384x2x4x128 [0, 4, 1, 3, 2] (Host.dotGeneral dot_S2x16384x2x128_S2x2x4x16384x16384_S2x2x128x4x16384_1_4_3_23_02_01 none v p) transposes_S2x2x128x4x16384_S2x16384x2x4x128_0_4_1_3_2) shapeCasts_S2x16384x2x4x128_S2x16384x1024) bitsLt_bf16_f32

theorem ofBits_128 : Ideal.ofBits .f32 0x43000000#32 = ((128 : ℝ) : EReal) := by
  simp [Ideal.ofBits, Ideal.ieee, -EReal.coe_mul]; norm_num
theorem ofBits_neg_inf : Ideal.ofBits .f32 0xFF800000#32 = ⊥ := by
  simp [Ideal.ofBits, Ideal.ieee]

theorem refScores_apply (q : FVec Ideal S2x16384x8x128 .f32) (k : FVec Ideal S2x16384x2x128 .f32) (b g : Fin 2) (h : Fin 4) (n i : Fin 16384) :
    refScores q k (ix5 b g h n i) = Ideal.div (∑ d : Fin 128, k (ix4 b i g d) * q (ix4 b n ⟨g.val * 4 + h.val, by omega⟩ d)) (Real.sqrt 128 : ℝ) := by
  unfold refScores
  pointwise
  rw [ofBits_128, Ideal.sqrt_coe, if_neg (by norm_num)]

theorem reduces_keys : S2x2x4x16384x16384.Reduces [4] S2x2x4x16384 := by decide

/-- A row's maximum. -/
theorem rowMax_apply (s : FVec Ideal S2x2x4x16384x16384 .f32) (b g : Fin 2) (h : Fin 4) (n : Fin 16384) :
    Host.reduce FloatOps.maximumf s (constant S_ .f32 0xFF800000#32) reducesTo_S2x2x4x16384x16384_S2x2x4x16384_d4 h_S_ (ix4 b g h n)
      = (Finset.univ : Finset (Fin 16384)).sup fun j => s (ix5 b g h n j) := by
  refine (congrFun (hostReduce_maximumf_eq_multiReduction s 0xFF800000#32 reducesTo_S2x2x4x16384x16384_S2x2x4x16384_d4 h_S_ reduces_keys (.inl rfl) rfl) (ix4 b g h n)).trans ?_
  refine (Ideal.multiReduction_maximumf_single s 0xFF800000#32 reduces_keys (.inl rfl) rfl (ix4 b g h n)).trans ?_
  refine (congrArg (fun y => Finset.fold max y (s ∘ reduces_keys.lift (ix4 b g h n)) Finset.univ) ofBits_neg_inf).trans ?_
  refine congrArg (fun f => (Finset.univ : Finset (Fin 16384)).fold max ⊥ f) (funext fun j => congrArg s (funext fun a => Fin.ext ?_))
  match a with
  | 0 => rfl
  | 1 => rfl
  | 2 => rfl
  | 3 => rfl
  | 4 => rfl

/-- A rank-four array broadcast along a new last axis, read at an index. -/
theorem along_apply (x : FVec Ideal S2x2x4x16384 .f32) (b g : Fin 2) (h : Fin 4) (n i : Fin 16384) :
    broadcastInDim S2x2x4x16384x16384 ![0, 1, 2, 3, 4] bcast_S2x2x4x16384x1_S2x2x4x16384x16384_0_1_2_3_4 (broadcastInDim S2x2x4x16384x1 ![0, 1, 2, 3] bcast_S2x2x4x16384_S2x2x4x16384x1_0_1_2_3 x) (ix5 b g h n i)
      = x (ix4 b g h n) := by
  pointwise

theorem floor_apply (x : FVec Ideal S2x2x4x16384 .f32) (j : S2x2x4x16384.Idx) :
    maximumf (broadcastInDim S2x2x4x16384 ![] bcast_S_S2x2x4x16384 (constant S_ .f32 0xFF800000#32)) x j = x j :=
  (congrArg (fun y => max y (x j)) ofBits_neg_inf).trans (max_eq_right bot_le)

theorem refExp_apply (s : FVec Ideal S2x2x4x16384x16384 .f32) (b g : Fin 2) (h : Fin 4) (n i : Fin 16384) :
    refExp s (ix5 b g h n i) = Ideal.exp (s (ix5 b g h n i) - (Finset.univ : Finset (Fin 16384)).sup fun j => s (ix5 b g h n j)) := by
  refine congrArg (fun y => Ideal.exp (s (ix5 b g h n i) - y)) ?_
  rw [along_apply, floor_apply, rowMax_apply]

theorem refProb_apply (s : FVec Ideal S2x2x4x16384x16384 .f32) (b g : Fin 2) (h : Fin 4) (n i : Fin 16384) :
    refProb s (ix5 b g h n i) = Ideal.div (s (ix5 b g h n i)) (∑ j : Fin 16384, s (ix5 b g h n j)) := by
  unfold refProb
  pointwise
theorem refOut_apply (p : FVec Ideal S2x2x4x16384x16384 .f32) (v : FVec Ideal S2x16384x2x128 .f32) (b g : Fin 2) (h : Fin 4) (n : Fin 16384) (d : Fin 128) :
    refOut p v (ix3 b n ⟨512 * g.val + (128 * h.val + d.val), by omega⟩) = ∑ i : Fin 16384, v (ix4 b i g d) * p (ix5 b g h n i) := by
  unfold refOut
  pointwise

end Cert.Attn

end
-- ==== Proof.Attn.Equation.lean ====
/-
  The attention call's result array is the reference's result, on finite queries and keys.
-/
module

public import proofs.«01_k».proof.Proof.Attn.Array
public import proofs.«01_k».proof.Proof.Attn.Reference

@[expose] public section

set_option maxRecDepth 16384

noncomputable section

namespace Cert.Attn

open Cert.KernelIdeal Cert.KernelIdeal.Gen Idealize.ShloMosaic Idealize.ShloMosaic.TcCoe Finset

/-- The reference's result of the three arguments. -/
def attention (q : FVec Ideal S2x16384x8x128 .f32) (k v : FVec Ideal S2x16384x2x128 .f32) : FVec Ideal S2x16384x1024 .bf16 :=
  refOut (refProb (refExp (refScores q k))) v

/-- The keys' supremum over `Fin` is the largest of the scores below their number. -/
theorem sup_eq_topScore (t : ℕ → ℝ) : ((univ : Finset (Fin 16384)).sup fun j => (t j.val : EReal)) = topScore t 16384 := by
  apply le_antisymm
  · exact Finset.sup_le fun j _ => le_sup (f := fun i => (t i : EReal)) (mem_range.2 j.isLt)
  · exact Finset.sup_le fun i hi => le_sup (f := fun j : Fin 16384 => (t j.val : EReal)) (mem_univ ⟨i, mem_range.1 hi⟩)

/-- A sum of products of reals is real. -/
theorem sum_mul_real {n : ℕ} (f g : Fin n → ℝ) : ∑ d, (f d : EReal) * (g d : EReal) = ((∑ d, f d * g d : ℝ) : EReal) := by
  simp only [← EReal.coe_mul]
  exact (map_sum (⟨⟨Real.toEReal, rfl⟩, EReal.coe_add⟩ : ℝ →+ EReal) _ _).symm

/-- An index of a result column splits into key head, head and lane. -/
theorem col_split (j : Fin 1024) : ∃ g h d, j = outCol g h d :=
  ⟨⟨j.val / 512, by omega⟩, ⟨j.val % 512 / 128, by omega⟩, ⟨j.val % 128, by omega⟩, Fin.ext (by show _ = 512 * (j.val / 512) + (128 * (j.val % 512 / 128) + j.val % 128); omega)⟩

/-- A token splits into query tile and row. -/
theorem row_split (n : Fin 16384) : ∃ t q, n = row t q :=
  ⟨⟨n.val / 512, by omega⟩, ⟨n.val % 512, by omega⟩, Fin.ext (by show _ = 512 * (n.val / 512) + n.val % 512; omega)⟩

/-- The reference's entry on real queries and keys, as the softmax over the keys of the scores `t`. -/
theorem attention_apply (Q : S2x16384x8x128.Idx → ℝ) (K : S2x16384x2x128.Idx → ℝ) (v : FVec Ideal S2x16384x2x128 .f32)
    (b g : Fin 2) (h : Fin 4) (n : Fin 16384) (d : Fin 128) (t : ℕ → ℝ)
    (ht : ∀ i, t i = (∑ d : Fin 128, K (ix4 b (Fin.ofNat 16384 i) g d) * Q (ix4 b n (head g h) d)) * (1 / Real.sqrt 128)) :
    attention (fun i => (Q i : EReal)) (fun i => (K i : EReal)) v (ix3 b n (outCol g h d))
      = ∑ i ∈ range 16384, v (ix4 b (Fin.ofNat 16384 i) g d) * Ideal.div (Ideal.exp (t i - topScore t 16384)) (∑ j ∈ range 16384, Ideal.exp (t j - topScore t 16384)) := by
  have hs : ∀ i : Fin 16384, refScores (fun i => (Q i : EReal)) (fun i => (K i : EReal)) (ix5 b g h n i) = (t i.val : EReal) := by
    intro i
    have hh : (⟨g.val * 4 + h.val, by omega⟩ : Fin 8) = head g h := Fin.ext (by show g.val * 4 + h.val = 4 * g.val + h.val; omega)
    have hi : Fin.ofNat 16384 i.val = i := Fin.ext (Nat.mod_eq_of_lt i.isLt)
    rw [refScores_apply, hh, sum_mul_real, Ideal.div_coe (by positivity), ht, hi]
    exact (EReal.coe_mul _ _).symm
  have he : ∀ i : Fin 16384, refExp (refScores (fun i => (Q i : EReal)) (fun i => (K i : EReal))) (ix5 b g h n i) = Ideal.exp ((t i.val : EReal) - topScore t 16384) := by
    intro i
    rw [refExp_apply, hs]
    simp only [hs]
    rw [sup_eq_topScore]
  refine (refOut_apply _ v b g h n d).trans ?_
  rw [← Fin.sum_univ_eq_sum_range (fun i => v (ix4 b (Fin.ofNat 16384 i) g d) * Ideal.div (Ideal.exp (t i - topScore t 16384)) (∑ j ∈ range 16384, Ideal.exp (t j - topScore t 16384))) 16384]
  refine sum_congr rfl fun i _ => ?_
  have hi : Fin.ofNat 16384 i.val = i := Fin.ext (Nat.mod_eq_of_lt i.isLt)
  rw [refProb_apply, he, hi]
  simp only [he]
  rw [← Fin.sum_univ_eq_sum_range (fun j => Ideal.exp (t j - topScore t 16384)) 16384]

variable (m : (ℓ : Loc nD τ sig) → Buf (Elt Ideal) ℓ)

/-- The call's array is the reference's result wherever the queries and keys are real numbers. -/
theorem array_eq_attention (c : Dev nD) (hq : ∀ i, ∃ r : ℝ, argQ m c i = r) (hk : ∀ i, ∃ r : ℝ, argK m c i = r) :
    ((dats m 0 c).arrAt 3 cfg0.N : FVec Ideal S2x16384x1024 .bf16) = attention (argQ m c) (argK m c) (argV m c) := by
  choose Q hQ using hq
  choose K hK using hk
  funext j
  obtain ⟨b, n, w, rfl⟩ : ∃ b n w, j = ix3 b n w := ⟨j 0, j 1, j 2, eq_ix3 j⟩
  obtain ⟨g, h, d, rfl⟩ := col_split w
  obtain ⟨t, q, rfl⟩ := row_split n
  let s : Fin 16384 → Fin 4 → ℕ → ℝ := fun n h i => ∑ d : Fin 128, K (ix4 b (Fin.ofNat 16384 i) g d) * (Q (ix4 b n (head g h) d) * qscale)
  have hs : ∀ n h i, ((s n h i : ℝ) : EReal) = kernelScore (argQ m c) (argK m c) b g n h i := by
    intro n h i
    unfold kernelScore
    simp only [hQ, hK, ← EReal.coe_mul]
    exact map_sum (⟨⟨Real.toEReal, rfl⟩, EReal.coe_add⟩ : ℝ →+ EReal) _ _
  rw [array_apply m c b g s hs t h q d, funext hQ, funext hK]
  let t' : ℕ → ℝ := fun i => (∑ d : Fin 128, K (ix4 b (Fin.ofNat 16384 i) g d) * Q (ix4 b (row t q) (head g h) d)) * (1 / Real.sqrt 128)
  refine (quotient_eq_softmax (s (row t q) h) t' _ 16384 (by norm_num) fun i => ?_).trans (attention_apply Q K (argV m c) b g h (row t q) d t' fun i => rfl).symm
  have hl : Real.log 2 ≠ 0 := (Real.log_pos (by norm_num)).ne'
  show (∑ d : Fin 128, K (ix4 b (Fin.ofNat 16384 i) g d) * Q (ix4 b (row t q) (head g h) d)) * (1 / Real.sqrt 128)
    = (∑ d : Fin 128, K (ix4 b (Fin.ofNat 16384 i) g d) * (Q (ix4 b (row t q) (head g h) d) * qscale)) * Real.log 2
  simp only [← mul_assoc]
  rw [← sum_mul, mul_assoc]
  congr 1
  unfold qscale
  field_simp

end Cert.Attn

end
-- ==== Proof.Attn.Finite.lean ====
/-
  What the precondition says of the queries and keys: every entry is a real number.
-/
module

public import proofs.«01_k».proof.Proof.Gen.Pre_finite_qk
public import Idealize.ShloMosaic.Lib.ReduceAll
public import Idealize.ShloMosaic.PureOps.Ideal
public import Idealize.ShloMosaic.PureOps.Ideal.Laws

@[expose] public section

noncomputable section

namespace Cert.Attn

open Cert.Pre_finite_qk Cert.Pre_finite_qk.Gen Idealize.ShloMosaic

theorem ofBits_pos_inf : Ideal.ofBits .f32 0x7F800000#32 = ⊤ := by
  simp [Ideal.ofBits, Ideal.ieee]

/-- An extended real whose absolute value compares below `+∞` is a real number. -/
theorem real_of_abs_lt {x : EReal} (h : Ideal.cmp .olt (max x (-x)) (Ideal.ofBits .f32 0x7F800000#32) = 1#1) : ∃ r : ℝ, x = r := by
  rw [ofBits_pos_inf] at h
  have hlt : max x (-x) < ⊤ := by
    by_contra hn
    simp [Ideal.cmp, hn] at h
  obtain ⟨h1, h2⟩ := max_lt_iff.1 hlt
  refine ⟨x.toReal, (EReal.coe_toReal h1.ne ?_).symm⟩
  rintro rfl
  simp at h2

instance : Subsingleton S_.Idx := ⟨fun a b => funext fun i => i.elim0⟩

/-- Under the precondition every query and every key entry is a real number. -/
theorem finite_of_pre (q : FVec Ideal S2x16384x8x128 .f32) (k v : FVec Ideal S2x16384x2x128 .f32)
    (h : Cert.Pre_finite_qk.fn q k v = fun _ => 1#1) :
    (∀ i, ∃ r : ℝ, q i = r) ∧ ∀ i, ∃ r : ℝ, k i = r := by
  have h0 := congrFun h (fun a => a.elim0)
  obtain ⟨hq, hk⟩ := IntOp.andi_eq_one.1 h0
  exact ⟨fun i => real_of_abs_lt (Host.reduce_andi_all _ _ _ _ _ hq i), fun i => real_of_abs_lt (Host.reduce_andi_all _ _ _ _ _ hk i)⟩

end Cert.Attn

end
-- ==== Proof.Final.Payloads.lean ====
/-
  What one grid point of the last feed-forward call computes from the blocks it loads, entry by entry over the extended
  reals: the gated hidden units, one step of the running sum, and the normalised row.
-/
module

public import proofs.«01_k».proof.Proof.Gen.FinalIdeal.Skeleton
public import Idealize.ShloMosaic.Lib.Pointwise
public import Idealize.ShloMosaic.Lib.ValueIdx

@[expose] public section

set_option maxRecDepth 16384

noncomputable section

namespace Cert.Ffn

open Cert.FinalIdeal Cert.FinalIdeal.Gen Idealize.ShloMosaic

section AnyFloat
variable {F : FTy → Type} [FloatOps F]

/-- The gated hidden units of a tile: `silu(h · gate) * (h · up)`. -/
def hidden (h : Vec F S1024x2048 .bf16) (wg wu : Vec F S2048x512 .bf16) : FVec F S1024x512 .bf16 := k0_pay5 h wg wu
/-- A column block of the running sum with a tile of hidden units added. -/
def addTile (a : FVec F S1024x512 .bf16) (o : Vec F S1024x512 .f32) (wd : Vec F S512x512 .bf16) : FVec F S1024x512 .f32 := k0_pay1 a o wd
/-- The rows normalised and scaled by the gain. -/
def normed (o : Vec F S1024x2048 .f32) (g : Vec F S1x2048 .f32) : FVec F S1024x2048 .f32 := k0_pay3 o g
end AnyFloat

/-- `x · logistic x · y`, from the two inner products of a hidden unit. -/
def gated (x y : EReal) : EReal := x * Ideal.logistic x * y

theorem hidden_apply (h : FVec Ideal S1024x2048 .bf16) (wg wu : FVec Ideal S2048x512 .bf16) (r : Fin 1024) (f : Fin 512) :
    hidden (F := Ideal) h wg wu (ix2 r f)
      = gated (∑ d : Fin 2048, h (ix2 r d) * wg (ix2 d f)) (∑ d : Fin 2048, h (ix2 r d) * wu (ix2 d f)) := by
  unfold hidden k0_pay5 gated
  pointwise

theorem addTile_apply (a : FVec Ideal S1024x512 .bf16) (o : FVec Ideal S1024x512 .f32) (wd : FVec Ideal S512x512 .bf16)
    (r : Fin 1024) (j : Fin 512) :
    addTile (F := Ideal) a o wd (ix2 r j) = o (ix2 r j) + Ideal.ofBits .f32 0x3F000000#32 * ∑ f : Fin 512, a (ix2 r f) * wd (ix2 f j) := by
  unfold addTile k0_pay1
  pointwise

/-- A row's normalised entry, from the row and its gain. -/
def rmsAt (o g : Fin 2048 → EReal) (j : Fin 2048) : EReal :=
  o j * Ideal.rsqrt (Ideal.div (∑ k : Fin 2048, o k * o k) (Ideal.ofBits .f32 0x45000000#32) + Ideal.ofBits .f32 0x358637BD#32) * g j

theorem normed_apply (o : FVec Ideal S1024x2048 .f32) (g : FVec Ideal S1x2048 .f32) (r : Fin 1024) (j : Fin 2048) :
    normed (F := Ideal) o g (ix2 r j) = rmsAt (fun k => o (ix2 r k)) (fun k => g (ix2 0 k)) j := by
  unfold normed k0_pay3 rmsAt
  pointwise

end Cert.Ffn

end
-- ==== Proof.Final.Columns.lean ====
/-
  The running sum of a feed-forward call is stored in four column blocks per tile of hidden units. What such stores leave,
  whichever buffer holds it: the sum as loaded with the tile added.
-/
module

public import proofs.«01_k».proof.Proof.Final.Payloads
public import Idealize.ShloMosaic.Lib.VecWindow
public import Idealize.ShloMosaic.Lib.WritesUnit
public import Idealize.ShloMosaic.Lib.Writes

@[expose] public section

set_option maxRecDepth 16384

noncomputable section

namespace Cert.Ffn

open Cert.FinalIdeal Cert.FinalIdeal.Gen Idealize.ShloMosaic

theorem inbCol (k : Fin 4) : ∀ a, (![0, 512 * k.val] : Fin 2 → ℕ) a + S1024x512.size a ≤ S1024x2048.size a := by
  revert k; decide
theorem inbDown (k : Fin 4) : ∀ a, (![0, 512 * k.val] : Fin 2 → ℕ) a + S512x512.size a ≤ S512x2048.size a := by
  revert k; decide
theorem inbAll : ∀ a, (![0, 0] : Fin 2 → ℕ) a + S1024x2048.size a ≤ S1024x2048.size a := by decide

/-- Entry `j` of column block `k`. -/
def col (k : Fin 4) (j : Fin 512) : Fin 2048 := ⟨512 * k.val + j.val, by omega⟩
theorem exists_col (j : Fin 2048) : ∃ k l, col k l = j :=
  ⟨⟨j.val / 512, by omega⟩, ⟨j.val % 512, by omega⟩, Fin.ext (by show 512 * (j.val / 512) + j.val % 512 = j.val; omega)⟩

section AnyFloat
variable {F : FTy → Type} [FloatOps F] {sg : RefSig}

/-- A column block of the running sum. -/
def loadCol (m : Memref sg .tc .vmem S1024x2048 .f32) (f : BufTy.Contents (Elt F) m.view.ty) (k : Fin 4) : Vec F S1024x512 .f32 :=
  m.view.readAt (Elt F) (Rect.unit (s := S1024x2048) ![0, 512 * k.val] S1024x512.size (inbCol k)).toLoadRect f
/-- A column block of the tile's down weights. -/
def loadDown (m : Memref sg .tc .vmem S512x2048 .bf16) (f : BufTy.Contents (Elt F) m.view.ty) (k : Fin 4) : Vec F S512x512 .bf16 :=
  m.view.readAt (Elt F) (Rect.unit (s := S512x2048) ![0, 512 * k.val] S512x512.size (inbDown k)).toLoadRect f

/-- A column block as earlier stores leave it. -/
def coverCol (m : Memref sg .tc .vmem S1024x2048 .f32) (L : List (View.Piece (Elt F) S1024x2048 .f32)) (k : Fin 4) : Vec F S1024x512 .f32 :=
  m.view.readCov L (Rect.unit (s := S1024x2048) ![0, 512 * k.val] S1024x512.size (inbCol k)).toLoadRect

theorem loadCol_apply (m : Memref sg .tc .vmem S1024x2048 .f32) (f : BufTy.Contents (Elt F) m.view.ty) (k : Fin 4) (r : Fin 1024) (j : Fin 512) :
    loadCol m f k (ix2 r j) = m.view.read (Elt F) f (ix2 r (col k j)) := by
  unfold loadCol
  rw [View.readAt_unit _ _ _ rfl (inbCol k)]
  refine congrArg (View.read (Elt F) m.view f) (funext fun a => Fin.ext ?_)
  match a with
  | 0 => exact Eq.trans (by show 0 + 1 * r.val = r.val; omega) rfl
  | 1 => exact Eq.trans (by show 512 * k.val + 1 * j.val = 512 * k.val + j.val; omega) rfl
theorem loadDown_apply (m : Memref sg .tc .vmem S512x2048 .bf16) (f : BufTy.Contents (Elt F) m.view.ty) (k : Fin 4) (r : Fin 512) (j : Fin 512) :
    loadDown m f k (ix2 r j) = m.view.read (Elt F) f (ix2 r (col k j)) := by
  unfold loadDown
  rw [View.readAt_unit _ _ _ rfl (inbDown k)]
  refine congrArg (View.read (Elt F) m.view f) (funext fun a => Fin.ext ?_)
  match a with
  | 0 => exact Eq.trans (by show 0 + 1 * r.val = r.val; omega) rfl
  | 1 => exact Eq.trans (by show 512 * k.val + 1 * j.val = 512 * k.val + j.val; omega) rfl

/-- The stores of a tile's column blocks over earlier stores, the last first: each block loaded after the ones before it. -/
def colPieces (load : List (View.Piece (Elt F) S1024x2048 .f32) → Fin 4 → Vec F S1024x512 .f32) (base : List (View.Piece (Elt F) S1024x2048 .f32))
    (a : FVec F S1024x512 .bf16) (wd : Fin 4 → Vec F S512x512 .bf16) : List (Fin 4) → List (View.Piece (Elt F) S1024x2048 .f32)
  | [] => base
  | k :: ks => ⟨Rect.unit (s := S1024x2048) ![0, 512 * k.val] S1024x512.size (inbCol k), addTile a (load (colPieces load base a wd ks) k) (wd k)⟩
      :: colPieces load base a wd ks

/-- A whole block's store. -/
def allPiece (w : Vec F S1024x2048 .f32) : View.Piece (Elt F) S1024x2048 .f32 :=
  ⟨Rect.unit (s := S1024x2048) ![0, 0] S1024x2048.size inbAll, w⟩

theorem hitCol (v : View sg .tc .vmem S1024x2048 .f32) (g : BufTy.Contents (Elt F) v.ty) (w : Vec F S1024x512 .f32)
    (L : List (View.Piece (Elt F) S1024x2048 .f32)) (k : Fin 4) (r : Fin 1024) (j : Fin 512) :
    v.read (Elt F) (v.writes (Elt F) g (⟨Rect.unit (s := S1024x2048) ![0, 512 * k.val] S1024x512.size (inbCol k), w⟩ :: L)) (ix2 r (col k j))
      = w (ix2 r j) :=
  View.read_writes_cons_unit_of_mem v g (inbCol k) w L (ix2 r (col k j)) (ix2 r j) rfl fun a => by
    match a with
    | 0 => exact (Nat.zero_add _).symm
    | 1 => rfl

theorem skipCol (v : View sg .tc .vmem S1024x2048 .f32) (g : BufTy.Contents (Elt F) v.ty) (w : Vec F S1024x512 .f32)
    (L : List (View.Piece (Elt F) S1024x2048 .f32)) (k l : Fin 4) (hkl : k ≠ l) (r : Fin 1024) (j : Fin 512) :
    v.read (Elt F) (v.writes (Elt F) g (⟨Rect.unit (s := S1024x2048) ![0, 512 * l.val] S1024x512.size (inbCol l), w⟩ :: L)) (ix2 r (col k j))
      = v.read (Elt F) (v.writes (Elt F) g L) (ix2 r (col k j)) :=
  View.read_writes_cons_unit_of_not_mem v g (inbCol l) w L (ix2 r (col k j)) rfl 1 (by
    show 512 * k.val + j.val < 512 * l.val ∨ 512 * l.val + 512 ≤ 512 * k.val + j.val
    have : k.val ≠ l.val := fun h => hkl (Fin.ext h)
    omega)

variable (load : List (View.Piece (Elt F) S1024x2048 .f32) → Fin 4 → Vec F S1024x512 .f32) (base : List (View.Piece (Elt F) S1024x2048 .f32))
  (a : FVec F S1024x512 .bf16) (wd : Fin 4 → Vec F S512x512 .bf16) (v : View sg .tc .vmem S1024x2048 .f32) (g : BufTy.Contents (Elt F) v.ty)
  (k : Fin 4) (r : Fin 1024) (j : Fin 512)

/-- A column block not among those stored keeps its contents. -/
theorem read_colPieces_of_not_mem : ∀ ks, k ∉ ks →
    v.read (Elt F) (v.writes (Elt F) g (colPieces load base a wd ks)) (ix2 r (col k j)) = v.read (Elt F) (v.writes (Elt F) g base) (ix2 r (col k j))
  | [], _ => rfl
  | l :: ks, h => (skipCol v g _ _ k l (fun e => h (e ▸ List.mem_cons_self)) r j).trans
      (read_colPieces_of_not_mem ks fun hk => h (List.mem_cons_of_mem _ hk))

/-- A column block among those stored holds what was loaded with the tile added. -/
theorem read_colPieces_of_mem : ∀ ks : List (Fin 4), ks.Nodup → k ∈ ks → ∃ ks', k ∉ ks' ∧
    v.read (Elt F) (v.writes (Elt F) g (colPieces load base a wd ks)) (ix2 r (col k j))
      = addTile a (load (colPieces load base a wd ks') k) (wd k) (ix2 r j)
  | [], _, h => absurd h List.not_mem_nil
  | l :: ks, hn, h => by
    by_cases hkl : k = l
    · subst hkl
      exact ⟨ks, (List.nodup_cons.mp hn).1, hitCol v g _ _ k r j⟩
    · obtain ⟨ks', hk, e⟩ := read_colPieces_of_mem ks (List.nodup_cons.mp hn).2 ((List.mem_cons.mp h).resolve_left hkl)
      exact ⟨ks', hk, (skipCol v g _ _ k l hkl r j).trans e⟩
end AnyFloat

section Ideal
variable {sg : RefSig} (arg6 : Memref sg .tc .vmem S512x2048 .bf16) (harg6 : arg6.IsWhole)
  (x1 : FVec Ideal S1024x2048 .bf16) (x2 x3 : FVec Ideal S2048x512 .bf16) (x4 : FVec Ideal S512x2048 .bf16)

/-- What a tile of hidden units adds to entry `(r, j)` of the running sum. -/
def tileAt (h : FVec Ideal S1024x2048 .bf16) (wg wu : FVec Ideal S2048x512 .bf16) (wd : FVec Ideal S512x2048 .bf16) (r : Fin 1024) (j : Fin 2048) : EReal :=
  Ideal.ofBits .f32 0x3F000000#32 * ∑ f : Fin 512, hidden (F := Ideal) h wg wu (ix2 r f) * wd (ix2 f j)

/-- The stored column blocks hold the loaded running sum with the tile added. -/
theorem read_cols (a : FVec Ideal S1024x512 .bf16) (ha : a = hidden (F := Ideal) x1 x2 x3)
    (load : List (View.Piece (Elt Ideal) S1024x2048 .f32) → Fin 4 → FVec Ideal S1024x512 .f32) (base) (o : FVec Ideal S1024x2048 .f32)
    (hload : ∀ ks k, k ∉ ks → ∀ r j, load (colPieces load base a (loadDown arg6 (harg6.unread x4)) ks) k (ix2 r j) = o (ix2 r (col k j)))
    (v : View sg .tc .vmem S1024x2048 .f32) (g : BufTy.Contents (Elt Ideal) v.ty) (r : Fin 1024) (j : Fin 2048) :
    v.read (Elt Ideal) (v.writes (Elt Ideal) g (colPieces load base a (loadDown arg6 (harg6.unread x4)) [3, 2, 1, 0])) (ix2 r j)
      = o (ix2 r j) + tileAt x1 x2 x3 x4 r j := by
  obtain ⟨k, l, rfl⟩ := exists_col j
  obtain ⟨ks, hk, e⟩ := read_colPieces_of_mem load base a (loadDown arg6 (harg6.unread x4)) v g k r l [3, 2, 1, 0] (by decide) (by revert k; decide)
  rw [e, addTile_apply, hload ks k hk, ha]
  unfold tileAt
  simp only [loadDown_apply, harg6.read_unread]
end Ideal

end Cert.Ffn

end
-- ==== Proof.Final.Block.lean ====
/-
  What one grid point of the last feed-forward call leaves in its output block: the running sum with the point's tile of
  hidden units added, started from the residual rows at the first tile and normalised after the last.
-/
module

public import proofs.«01_k».proof.Proof.Gen.FinalIdeal.Frame
public import proofs.«01_k».proof.Proof.Final.Columns

@[expose] public section

set_option maxRecDepth 16384

noncomputable section

namespace Cert.Ffn

open Cert.FinalIdeal Cert.FinalIdeal.Gen Idealize.ShloMosaic

section Runs
variable {F : FTy → Type} [FloatOps F] (c : Dev nD) (i : grid0.Coords)
  (arg2 : Memref sig .tc .vmem S1024x2048 .f32) (harg2 : arg2.IsWhole) (arg3 : Memref sig .tc .vmem S1024x2048 .bf16) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S512x2048 .bf16) (harg6 : arg6.IsWhole) (arg7 : Memref sig .tc .vmem S1x2048 .f32) (harg7 : arg7.IsWhole)
  (arg8 : Memref sig .tc .vmem S1024x2048 .f32) (harg8 : arg8.IsWhole)
  (x0 : Vec F S1024x2048 .f32) (x1 : Vec F S1024x2048 .bf16) (x2 x3 : Vec F S2048x512 .bf16) (x4 : Vec F S512x2048 .bf16)
  (x5 : Vec F S1x2048 .f32) (xo6 : Vec F S1024x2048 .f32)

theorem inbH : ∀ a, (![0, 0] : Fin 2 → ℕ) a + S1024x2048.size a ≤ S1024x2048.size a := by decide
theorem inbW : ∀ a, (![0, 0] : Fin 2 → ℕ) a + S2048x512.size a ≤ S2048x512.size a := by decide
theorem inbG : ∀ a, (![0, 0] : Fin 2 → ℕ) a + S1x2048.size a ≤ S1x2048.size a := by decide

/-- The hidden units of the loaded blocks. -/
abbrev runHidden : FVec F S1024x512 .bf16 := hidden
  (arg3.view.readAt (Elt F) (Rect.unit (s := S1024x2048) ![0, 0] S1024x2048.size inbH).toLoadRect (harg3.unread x1))
  (arg4.view.readAt (Elt F) (Rect.unit (s := S2048x512) ![0, 0] S2048x512.size inbW).toLoadRect (harg4.unread x2))
  (arg5.view.readAt (Elt F) (Rect.unit (s := S2048x512) ![0, 0] S2048x512.size inbW).toLoadRect (harg5.unread x3))

theorem runHidden_eq : runHidden arg3 harg3 arg4 harg4 arg5 harg5 x1 x2 x3 = hidden x1 x2 x3 := by
  unfold runHidden
  rw [View.readAt_full, View.readAt_full, View.readAt_full, harg3.read_unread, harg4.read_unread, harg5.read_unread]

theorem pay1_eq : (k0_pay1 : FVec F S1024x512 .bf16 → _) = addTile := rfl
theorem pay2_eq : (k0_pay2 : FVec F S1024x512 .bf16 → _) = addTile := rfl
theorem pay5_eq : (k0_pay5 : Vec F S1024x2048 .bf16 → _) = hidden := rfl
theorem pay6_eq (h : Vec F S1024x2048 .bf16) (wg wu : Vec F S2048x512 .bf16) (o : Vec F S1024x512 .f32) (wd : Vec F S512x512 .bf16) :
    k0_pay6 h wg wu o wd = addTile (hidden h wg wu) o wd := rfl
theorem pay7_eq (h : Vec F S1024x2048 .bf16) (wg wu : Vec F S2048x512 .bf16) (o : Vec F S1024x512 .f32) (wd : Vec F S512x512 .bf16) :
    k0_pay7 h wg wu o wd = addTile (hidden h wg wu) o wd := rfl

/-- The stores of a point that continues a running sum. -/
theorem pieces_B (hc0 : ¬cond0_0 i) (hc1 : ¬cond0_1 i) :
    (kernelRun0_B c i arg2 harg2 arg3 harg3 arg4 harg4 arg5 harg5 arg6 harg6 arg7 harg7 arg8 harg8 hc0 hc1 x0 x1 x2 x3 x4 x5 xo6).1
      = colPieces (fun _ => loadCol arg8 (harg8.unread xo6)) [] (runHidden arg3 harg3 arg4 harg4 arg5 harg5 x1 x2 x3) (loadDown arg6 (harg6.unread x4)) [3, 2, 1, 0] := by
  unfold kernelRun0_B
  simp only [kernelRun0_B.sl.r, kernelRun0_B.sl.r_1, kernelRun0_B.sl.v0, kernelRun0_B.sl.v1, kernelRun0_B.sl.v2, kernelRun0_B.sl.v24, kernelRun0_B.sl.v33, kernelRun0_B.sl.v42, pay1_eq, pay2_eq, pay5_eq, pay6_eq, pay7_eq, colPieces]
  rfl

/-- The stores of a point that ends a running sum: the last one over the whole block. -/
theorem pieces_C (hc0 : ¬cond0_0 i) (hc1 : cond0_1 i) :
    (kernelRun0_C c i arg2 harg2 arg3 harg3 arg4 harg4 arg5 harg5 arg6 harg6 arg7 harg7 arg8 harg8 hc0 hc1 x0 x1 x2 x3 x4 x5 xo6).1
      = allPiece (normed
          (arg8.view.readCov
            (colPieces (fun _ => loadCol arg8 (harg8.unread xo6)) [] (runHidden arg3 harg3 arg4 harg4 arg5 harg5 x1 x2 x3) (loadDown arg6 (harg6.unread x4)) [3, 2, 1, 0])
            (Rect.unit (s := S1024x2048) ![0, 0] S1024x2048.size inbH).toLoadRect)
          (arg7.view.readAt (Elt F) (Rect.unit (s := S1x2048) ![0, 0] S1x2048.size inbG).toLoadRect (harg7.unread x5)))
        :: colPieces (fun _ => loadCol arg8 (harg8.unread xo6)) [] (runHidden arg3 harg3 arg4 harg4 arg5 harg5 x1 x2 x3) (loadDown arg6 (harg6.unread x4)) [3, 2, 1, 0] := by
  unfold kernelRun0_C
  simp only [kernelRun0_C.sl.H6_4, kernelRun0_C.sl.r, kernelRun0_C.sl.r_1, kernelRun0_C.sl.v0, kernelRun0_C.sl.v1, kernelRun0_C.sl.v2, kernelRun0_C.sl.v24, kernelRun0_C.sl.v33, kernelRun0_C.sl.v42, kernelRun0_C.sl.v54, pay1_eq, pay2_eq, pay5_eq, pay6_eq, pay7_eq, colPieces]
  rfl

/-- The residual rows as the first tile stores them. -/
abbrev startPiece : View.Piece (Elt F) S1024x2048 .f32 :=
  allPiece (k0_pay4 (arg2.view.readAt (Elt F) (Rect.unit (s := S1024x2048) ![0, 0] S1024x2048.size inbH).toLoadRect (harg2.unread x0)))

/-- The stores of a point that starts a running sum: the first one the residual rows. -/
theorem pieces_A (hc0 : cond0_0 i) (hc1 : ¬cond0_1 i) :
    (kernelRun0_A c i arg2 harg2 arg3 harg3 arg4 harg4 arg5 harg5 arg6 harg6 arg7 harg7 arg8 harg8 hc0 hc1 x0 x1 x2 x3 x4 x5).1
      = colPieces (coverCol arg8) [startPiece arg2 harg2 x0]
          (runHidden arg3 harg3 arg4 harg4 arg5 harg5 x1 x2 x3) (loadDown arg6 (harg6.unread x4)) [3, 2, 1, 0] := by
  unfold kernelRun0_A
  simp only [kernelRun0_A.sl.H6_1, kernelRun0_A.sl.H6_2, kernelRun0_A.sl.H6_3, kernelRun0_A.sl.H6_4, kernelRun0_A.sl.r, kernelRun0_A.sl.r_1, kernelRun0_A.sl.v0, kernelRun0_A.sl.v1, kernelRun0_A.sl.v15, kernelRun0_A.sl.v2, kernelRun0_A.sl.v24, kernelRun0_A.sl.v33, kernelRun0_A.sl.v42, pay1_eq, pay2_eq, pay5_eq, pay6_eq, pay7_eq, colPieces]
  rfl
end Runs

section Ideal
variable (c : Dev nD) (i : grid0.Coords)
  (arg2 : Memref sig .tc .vmem S1024x2048 .f32) (harg2 : arg2.IsWhole) (arg3 : Memref sig .tc .vmem S1024x2048 .bf16) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S512x2048 .bf16) (harg6 : arg6.IsWhole) (arg7 : Memref sig .tc .vmem S1x2048 .f32) (harg7 : arg7.IsWhole)
  (arg8 : Memref sig .tc .vmem S1024x2048 .f32) (harg8 : arg8.IsWhole)
  (x0 : FVec Ideal S1024x2048 .f32) (x1 : FVec Ideal S1024x2048 .bf16) (x2 x3 : FVec Ideal S2048x512 .bf16) (x4 : FVec Ideal S512x2048 .bf16)
  (x5 : FVec Ideal S1x2048 .f32) (xo6 : FVec Ideal S1024x2048 .f32)

theorem start_apply (v : FVec Ideal S1024x2048 .f32) (r : Fin 1024) (j : Fin 2048) : k0_pay4 (F := Ideal) v (ix2 r j) = v (ix2 r j) := by
  unfold k0_pay4
  pointwise

/-- A point that starts a running sum leaves the residual rows with its tile added. -/
theorem block_A (hc0 : cond0_0 i) (hc1 : ¬cond0_1 i) (r : Fin 1024) (j : Fin 2048) :
    out0_A_6 (F := Ideal) c i arg2 harg2 arg3 harg3 arg4 harg4 arg5 harg5 arg6 harg6 arg7 harg7 arg8 harg8 hc0 hc1 x0 x1 x2 x3 x4 x5 (ix2 r j)
      = x0 (ix2 r j) + tileAt x1 x2 x3 x4 r j := by
  unfold out0_A_6
  rw [pieces_A]
  refine read_cols arg6 harg6 x1 x2 x3 x4 _ (runHidden_eq (F := Ideal) arg3 harg3 arg4 harg4 arg5 harg5 x1 x2 x3) _ _ x0 (fun ks k hk r j => ?_) _ _ r j
  refine (loadCol_apply arg8 _ k r j).trans ((read_colPieces_of_not_mem _ _ _ _ _ _ k r j ks hk).trans ?_)
  unfold startPiece allPiece
  rw [View.read_writes_full, start_apply, View.readAt_full, harg2.read_unread]

/-- A point that continues a running sum adds its tile. -/
theorem block_B (hc0 : ¬cond0_0 i) (hc1 : ¬cond0_1 i) (r : Fin 1024) (j : Fin 2048) :
    out0_B_6 (F := Ideal) c i arg2 harg2 arg3 harg3 arg4 harg4 arg5 harg5 arg6 harg6 arg7 harg7 arg8 harg8 hc0 hc1 x0 x1 x2 x3 x4 x5 xo6 (ix2 r j)
      = xo6 (ix2 r j) + tileAt x1 x2 x3 x4 r j := by
  unfold out0_B_6
  rw [pieces_B]
  refine read_cols arg6 harg6 x1 x2 x3 x4 _ (runHidden_eq (F := Ideal) arg3 harg3 arg4 harg4 arg5 harg5 x1 x2 x3) _ _ xo6 (fun ks k hk r j => ?_) _ _ r j
  exact (loadCol_apply arg8 _ k r j).trans (by rw [harg8.read_unread])

/-- A point that ends a running sum adds its tile and leaves the rows normalised. -/
theorem block_C (hc0 : ¬cond0_0 i) (hc1 : cond0_1 i) (r : Fin 1024) (j : Fin 2048) :
    out0_C_6 (F := Ideal) c i arg2 harg2 arg3 harg3 arg4 harg4 arg5 harg5 arg6 harg6 arg7 harg7 arg8 harg8 hc0 hc1 x0 x1 x2 x3 x4 x5 xo6 (ix2 r j)
      = rmsAt (fun k => xo6 (ix2 r k) + tileAt x1 x2 x3 x4 r k) (fun k => x5 (ix2 0 k)) j := by
  unfold out0_C_6
  rw [pieces_C]
  unfold allPiece
  rw [View.read_writes_full, normed_apply]
  refine congrArg₂ (fun o g => rmsAt o g j) (funext fun k => ?_) (funext fun k => ?_)
  · unfold View.readCov
    rw [View.readAt_full]
    refine read_cols arg6 harg6 x1 x2 x3 x4 _ (runHidden_eq (F := Ideal) arg3 harg3 arg4 harg4 arg5 harg5 x1 x2 x3) _ _ xo6 (fun ks k hk r j => ?_) _ _ r k
    exact (loadCol_apply arg8 _ k r j).trans (by rw [harg8.read_unread])
  · rw [View.readAt_full, harg7.read_unread]
end Ideal

end Cert.Ffn

end
-- ==== Proof.Final.Array.lean ====
/-
  What the last feed-forward call leaves in its result array, entry by entry, in terms of the call's arguments.
-/
module

public import proofs.«01_k».proof.Proof.Gen.FinalIdeal.Value
public import proofs.«01_k».proof.Proof.Final.Block
public import proofs.«01_k».proof.Proof.Attn.Online

@[expose] public section

set_option maxRecDepth 16384

noncomputable section

namespace Cert.Ffn

open Cert.FinalIdeal Cert.FinalIdeal.Gen Idealize.ShloMosaic Idealize.ShloMosaic.TcCoe

section Formula
variable (x h : FVec Ideal S2x16384x2048 .f32) (wg wu : FVec Ideal S2048x5632 .f32) (wd : FVec Ideal S5632x2048 .f32) (g : FVec Ideal S2048 .f32)

/-- The index of token `n`'s entry `d`, the tokens counted through the batch. -/
def tok (n : Fin 32768) (d : Fin 2048) : S2x16384x2048.Idx := ix3 ⟨n.val / 16384, by omega⟩ ⟨n.val % 16384, by omega⟩ d

/-- A token's hidden unit `f`. -/
def unitAt (n : Fin 32768) (f : Fin 5632) : EReal :=
  gated (∑ d : Fin 2048, h (tok n d) * wg (ix2 d f)) (∑ d : Fin 2048, h (tok n d) * wu (ix2 d f))
/-- Hidden unit `f`'s contribution to entry `j` of a token. -/
def termAt (n : Fin 32768) (j : Fin 2048) (f : Fin 5632) : EReal := unitAt h wg wu n f * wd (ix2 f j)
/-- The residual entry with half the feed-forward's output added. -/
def sumAt (n : Fin 32768) (j : Fin 2048) : EReal :=
  x (tok n j) + Ideal.ofBits .f32 0x3F000000#32 * ∑ f : Fin 5632, termAt h wg wu wd n j f
/-- Its normalised form. -/
def ffnAt (n : Fin 32768) (j : Fin 2048) : EReal := rmsAt (sumAt x h wg wu wd n) (fun k => g (ix1 k)) j

/-- Hidden unit `512 u + f`. -/
def unit (u : Fin 11) (f : Fin 512) : Fin 5632 := ⟨512 * u.val + f.val, by omega⟩
/-- Half the contribution of tile `u`. -/
def tileSum (n : Fin 32768) (j : Fin 2048) (u : Fin 11) : EReal :=
  Ideal.ofBits .f32 0x3F000000#32 * ∑ f : Fin 512, termAt h wg wu wd n j (unit u f)

theorem ofBits_half : Ideal.ofBits .f32 0x3F000000#32 = (((1 : ℝ) / 2 : ℝ) : EReal) := by
  simp [Ideal.ofBits, Ideal.ieee, -EReal.coe_mul]; norm_num

/-- A sum over all hidden units is the sum over the tiles of the sums over a tile. -/
theorem sum_units {M : Type} [AddCommMonoid M] (t : Fin 5632 → M) : ∑ f, t f = ∑ u : Fin 11, ∑ f : Fin 512, t (unit u f) := by
  rw [← Fintype.sum_prod_type', ← (finProdFinEquiv (m := 11) (n := 512)).sum_comp t]
  refine Finset.sum_congr rfl fun p _ => congrArg t (Fin.ext ?_)
  show p.2.val + 512 * p.1.val = 512 * p.1.val + p.2.val
  omega

/-- The tiles' halves add up to half of all. -/
theorem sum_tileSum (n : Fin 32768) (j : Fin 2048) :
    ∑ u : Fin 11, tileSum h wg wu wd n j u = Ideal.ofBits .f32 0x3F000000#32 * ∑ f : Fin 5632, termAt h wg wu wd n j f := by
  rw [sum_units, ofBits_half, Attn.coe_mul_sum _ (by norm_num)]
  refine Finset.sum_congr rfl fun u _ => ?_
  unfold tileSum
  rw [ofBits_half]
end Formula

section Geometry
/-- The grid point of row block `i` and hidden tile `u`. -/
def pt (i : Fin 32) (u : Fin 11) : Fin cfg0.N := ⟨11 * i.val + u.val, by show _ < 352; omega⟩
theorem idx_x : ∀ i u, win0_0.index (pt i u) = ![i.val, 0] := by decide +kernel
theorem idx_h : ∀ i u, win0_1.index (pt i u) = ![i.val, 0] := by decide +kernel
theorem idx_wg : ∀ i u, win0_2.index (pt i u) = ![0, u.val] := by decide +kernel
theorem idx_wu : ∀ i u, win0_3.index (pt i u) = ![0, u.val] := by decide +kernel
theorem idx_wd : ∀ i u, win0_4.index (pt i u) = ![u.val, 0] := by decide +kernel
theorem idx_g : ∀ i u, win0_5.index (pt i u) = ![0, 0] := by decide +kernel
theorem idx_o : ∀ i u, win0_6.index (pt i u) = ![i.val, 0] := by decide +kernel

/-- Row `r` of row block `i`. -/
def row (i : Fin 32) (r : Fin 1024) : Fin 32768 := ⟨1024 * i.val + r.val, by omega⟩
end Geometry

variable (m : (ℓ : Loc nD τ sig) → Buf (Elt Ideal) ℓ) (c : Dev nD)

/-- The six arguments. -/
abbrev argX : FVec Ideal S2x16384x2048 .f32 := m ((c : Thread nD τ).loc main_arg0)
abbrev argH : FVec Ideal S2x16384x2048 .f32 := m ((c : Thread nD τ).loc main_arg1)
abbrev argGate : FVec Ideal S2048x5632 .f32 := m ((c : Thread nD τ).loc main_arg2)
abbrev argUp : FVec Ideal S2048x5632 .f32 := m ((c : Thread nD τ).loc main_arg3)
abbrev argDown : FVec Ideal S5632x2048 .f32 := m ((c : Thread nD τ).loc main_arg4)
abbrev argGain : FVec Ideal S2048 .f32 := m ((c : Thread nD τ).loc main_arg5)

theorem V_x : (V m c main_v0 : FVec Ideal S32768x2048 .f32) = shapeCast S32768x2048 (argX m c) shapeCasts_S2x16384x2048_S32768x2048 := by rfl
theorem V_h : (V m c main_v2 : FVec Ideal S32768x2048 .bf16) = shapeCast S32768x2048 (argH m c) shapeCasts_S2x16384x2048_S32768x2048 := by rfl
theorem V_wg : (V m c main_v3 : FVec Ideal S2048x5632 .bf16) = argGate m c := by rfl
theorem V_wu : (V m c main_v4 : FVec Ideal S2048x5632 .bf16) = argUp m c := by rfl
theorem V_wd : (V m c main_v5 : FVec Ideal S5632x2048 .bf16) = argDown m c := by rfl
theorem V_g : (V m c main_v6 : FVec Ideal S1x2048 .f32) = shapeCast S1x2048 (argGain m c) shapeCasts_S2048_S1x2048 := by rfl

theorem rows_apply (x : FVec Ideal S2x16384x2048 .f32) (n : Fin 32768) (d : Fin 2048) :
    shapeCast S32768x2048 x shapeCasts_S2x16384x2048_S32768x2048 (ix2 n d) = x (tok n d) := by
  pointwise
  rfl

theorem gain_apply (g : FVec Ideal S2048 .f32) (k : Fin 2048) : shapeCast S1x2048 g shapeCasts_S2048_S1x2048 (ix2 0 k) = g (ix1 k) := by
  pointwise

theorem blk_x (i : Fin 32) (u : Fin 11) (r : Fin 1024) (d : Fin 2048) :
    (iblk m c 0 (pt i u) : FVec Ideal S1024x2048 .f32) (ix2 r d) = argX m c (tok (row i r) d) := by
  have e := idx_x i u
  unfold iblk
  rw [View.read_apply]
  show (V m c main_v0 : FVec Ideal S32768x2048 .f32) _ = _
  rw [V_x, ← rows_apply (argX m c) (row i r) d]
  refine congrArg (shapeCast S32768x2048 (argX m c) shapeCasts_S2x16384x2048_S32768x2048) (funext fun a => Fin.ext ?_)
  match a with
  | 0 => show win0_0.index (pt i u) 0 * 1024 + 1 * r.val = 1024 * i.val + r.val; rw [e]; show i.val * 1024 + 1 * r.val = _; omega
  | 1 => show win0_0.index (pt i u) 1 * 2048 + 1 * d.val = d.val; rw [e]; show 0 * 2048 + 1 * d.val = _; omega
theorem blk_h (i : Fin 32) (u : Fin 11) (r : Fin 1024) (d : Fin 2048) :
    (iblk m c 1 (pt i u) : FVec Ideal S1024x2048 .bf16) (ix2 r d) = argH m c (tok (row i r) d) := by
  have e := idx_h i u
  unfold iblk
  rw [View.read_apply]
  show (V m c main_v2 : FVec Ideal S32768x2048 .bf16) _ = _
  rw [V_h, ← rows_apply (argH m c) (row i r) d]
  refine congrArg (shapeCast S32768x2048 (argH m c) shapeCasts_S2x16384x2048_S32768x2048) (funext fun a => Fin.ext ?_)
  match a with
  | 0 => show win0_1.index (pt i u) 0 * 1024 + 1 * r.val = 1024 * i.val + r.val; rw [e]; show i.val * 1024 + 1 * r.val = _; omega
  | 1 => show win0_1.index (pt i u) 1 * 2048 + 1 * d.val = d.val; rw [e]; show 0 * 2048 + 1 * d.val = _; omega
theorem blk_wg (i : Fin 32) (u : Fin 11) (d : Fin 2048) (f : Fin 512) :
    (iblk m c 2 (pt i u) : FVec Ideal S2048x512 .bf16) (ix2 d f) = argGate m c (ix2 d (unit u f)) := by
  have e := idx_wg i u
  unfold iblk
  rw [View.read_apply]
  show (V m c main_v3 : FVec Ideal S2048x5632 .bf16) _ = _
  rw [V_wg]
  refine congrArg (argGate m c) (funext fun a => Fin.ext ?_)
  match a with
  | 0 => show win0_2.index (pt i u) 0 * 2048 + 1 * d.val = d.val; rw [e]; show 0 * 2048 + 1 * d.val = _; omega
  | 1 => show win0_2.index (pt i u) 1 * 512 + 1 * f.val = 512 * u.val + f.val; rw [e]; show u.val * 512 + 1 * f.val = _; omega
theorem blk_wu (i : Fin 32) (u : Fin 11) (d : Fin 2048) (f : Fin 512) :
    (iblk m c 3 (pt i u) : FVec Ideal S2048x512 .bf16) (ix2 d f) = argUp m c (ix2 d (unit u f)) := by
  have e := idx_wu i u
  unfold iblk
  rw [View.read_apply]
  show (V m c main_v4 : FVec Ideal S2048x5632 .bf16) _ = _
  rw [V_wu]
  refine congrArg (argUp m c) (funext fun a => Fin.ext ?_)
  match a with
  | 0 => show win0_3.index (pt i u) 0 * 2048 + 1 * d.val = d.val; rw [e]; show 0 * 2048 + 1 * d.val = _; omega
  | 1 => show win0_3.index (pt i u) 1 * 512 + 1 * f.val = 512 * u.val + f.val; rw [e]; show u.val * 512 + 1 * f.val = _; omega
theorem blk_wd (i : Fin 32) (u : Fin 11) (f : Fin 512) (j : Fin 2048) :
    (iblk m c 4 (pt i u) : FVec Ideal S512x2048 .bf16) (ix2 f j) = argDown m c (ix2 (unit u f) j) := by
  have e := idx_wd i u
  unfold iblk
  rw [View.read_apply]
  show (V m c main_v5 : FVec Ideal S5632x2048 .bf16) _ = _
  rw [V_wd]
  refine congrArg (argDown m c) (funext fun a => Fin.ext ?_)
  match a with
  | 0 => show win0_4.index (pt i u) 0 * 512 + 1 * f.val = 512 * u.val + f.val; rw [e]; show u.val * 512 + 1 * f.val = _; omega
  | 1 => show win0_4.index (pt i u) 1 * 2048 + 1 * j.val = j.val; rw [e]; show 0 * 2048 + 1 * j.val = _; omega
theorem blk_g (i : Fin 32) (u : Fin 11) (k : Fin 2048) :
    (iblk m c 5 (pt i u) : FVec Ideal S1x2048 .f32) (ix2 0 k) = argGain m c (ix1 k) := by
  have e := idx_g i u
  unfold iblk
  rw [View.read_apply]
  show (V m c main_v6 : FVec Ideal S1x2048 .f32) _ = _
  rw [V_g, ← gain_apply (argGain m c) k]
  refine congrArg (shapeCast S1x2048 (argGain m c) shapeCasts_S2048_S1x2048) (funext fun a => Fin.ext ?_)
  match a with
  | 0 => show win0_5.index (pt i u) 0 * 1 + 1 * 0 = 0; rw [e]; rfl
  | 1 => show win0_5.index (pt i u) 1 * 2048 + 1 * k.val = k.val; rw [e]; show 0 * 2048 + 1 * k.val = _; omega

/-- A point's tile adds half its hidden units' contribution. -/
theorem tile_eq (i : Fin 32) (u : Fin 11) (r : Fin 1024) (j : Fin 2048) :
    tileAt (iblk m c 1 (pt i u)) (iblk m c 2 (pt i u)) (iblk m c 3 (pt i u)) (iblk m c 4 (pt i u)) r j
      = tileSum (argH m c) (argGate m c) (argUp m c) (argDown m c) (row i r) j u := by
  unfold tileAt tileSum termAt unitAt
  simp only [hidden_apply, blk_h, blk_wg, blk_wu, blk_wd]

theorem outs_congr {n n' : ℕ} (e : n = n') (h : n < cfg0.N) (h' : n' < cfg0.N) : outsAt0 m c n h = outsAt0 m c n' h' := by
  subst e; rfl

/-- Before the last tile, the output block holds the residual rows and the tiles so far. -/
theorem partial_sum (i : Fin 32) (r : Fin 1024) (j : Fin 2048) : ∀ (s : ℕ) (hs : s < 10),
    outsAt0 m c (pt i ⟨s, by omega⟩).val (pt i ⟨s, by omega⟩).isLt (ix2 r j)
      = argX m c (tok (row i r) j)
        + ∑ u : Fin (s + 1), tileSum (argH m c) (argGate m c) (argUp m c) (argDown m c) (row i r) j ⟨u.val, by omega⟩
  | 0, _ => by
    have h0 : (pt i ⟨0, by omega⟩).val % 11 = 0 := by show (11 * i.val + 0) % 11 = 0; omega
    rw [outsAt0_A m c (pt i ⟨0, by omega⟩) h0 (by omega)]
    refine (block_A c _ _ _ _ _ _ _ _ _ _ _ _ _ _ _ _ _ _ _ _ _ _ _ r j).trans ?_
    rw [blk_x, tile_eq, Fin.sum_univ_one]
    rfl
  | s + 1, hs => by
    have e : (pt i ⟨s + 1, by omega⟩).val % 11 = s + 1 := by show (11 * i.val + (s + 1)) % 11 = s + 1; omega
    rw [outsAt0_B m c (pt i ⟨s + 1, by omega⟩) (by omega) (by omega)]
    refine (block_B c _ _ _ _ _ _ _ _ _ _ _ _ _ _ _ _ _ _ _ _ _ _ _ _ r j).trans ?_
    rw [outs_congr m c (show (pt i ⟨s + 1, by omega⟩).val - 1 = (pt i ⟨s, by omega⟩).val from rfl) _ (pt i ⟨s, by omega⟩).isLt,
      partial_sum i r j s (by omega), tile_eq, Fin.sum_univ_castSucc (n := s + 1), add_assoc]
    rfl

/-- After the last tile, the output block holds the normalised rows. -/
theorem last_block (i : Fin 32) (r : Fin 1024) (j : Fin 2048) :
    outsAt0 m c (pt i 10).val (pt i 10).isLt (ix2 r j)
      = ffnAt (argX m c) (argH m c) (argGate m c) (argUp m c) (argDown m c) (argGain m c) (row i r) j := by
  have e : (pt i 10).val % 11 = 10 := by show (11 * i.val + 10) % 11 = 10; omega
  rw [outsAt0_C m c (pt i 10) (by omega) e]
  refine (block_C c _ _ _ _ _ _ _ _ _ _ _ _ _ _ _ _ _ _ _ _ _ _ _ _ r j).trans ?_
  unfold ffnAt
  refine congrArg₂ (fun o g => rmsAt o g j) (funext fun k => ?_) (funext fun k => blk_g m c i 10 k)
  rw [outs_congr m c (show (pt i 10).val - 1 = (pt i ⟨9, by omega⟩).val from rfl) _ (pt i ⟨9, by omega⟩).isLt,
    partial_sum m c i r k 9 (by omega), tile_eq, add_assoc]
  unfold sumAt
  rw [← sum_tileSum, Fin.sum_univ_castSucc (n := 10)]
  rfl

/-- The result array's contents. -/
def result : FVec Ideal S32768x2048 .f32 := fun p =>
  ffnAt (argX m c) (argH m c) (argGate m c) (argUp m c) (argDown m c) (argGain m c) (p 0) (p 1)

theorem emb_out (i : Fin 32) (u : Fin 11) (r : Fin 1024) (j : Fin 2048) :
    ((cfg0.win 6).blk (pt i u)).view.emb (ix2 r j) = (ix2 (row i r) j : S32768x2048.Idx) := by
  have e := idx_o i u
  refine funext fun a => Fin.ext ?_
  match a with
  | 0 => show win0_6.index (pt i u) 0 * 1024 + 1 * r.val = 1024 * i.val + r.val; rw [e]; show i.val * 1024 + 1 * r.val = _; omega
  | 1 => show win0_6.index (pt i u) 1 * 2048 + 1 * j.val = j.val; rw [e]; show 0 * 2048 + 1 * j.val = _; omega

theorem exists_row (n : Fin 32768) : ∃ i r, row i r = n :=
  ⟨⟨n.val / 1024, by omega⟩, ⟨n.val % 1024, by omega⟩, Fin.ext (by show 1024 * (n.val / 1024) + n.val % 1024 = n.val; omega)⟩

/-- The array after the call. -/
theorem array_eq : ((dats m 0 c).arrAt 6 cfg0.N : FVec Ideal S32768x2048 .f32) = result m c := by
  refine (dats m 0 c).arrAt_eq_of_cover 6 (result m c) (fun t ht => ?_) (fun p => ?_)
  · have h10 : t.val % 11 = 10 := (flush0_6 t).mp ht
    have hN : t.val < 352 := t.isLt
    obtain ⟨i, rfl⟩ : ∃ i, t = pt i 10 := ⟨⟨t.val / 11, by omega⟩, Fin.ext (by show t.val = 11 * (t.val / 11) + 10; omega)⟩
    rw [Value.flushed6]
    funext y
    obtain ⟨r, j, rfl⟩ : ∃ (r : Fin 1024) (j : Fin 2048), y = ix2 r j := ⟨y 0, y 1, eq_ix2 y⟩
    rw [View.read_apply, emb_out]
    exact last_block m c i r j
  · obtain ⟨i, r, hr⟩ := exists_row (p 0)
    refine ⟨pt i 10, (flush0_6 _).mpr (by show (11 * i.val + 10) % 11 = 10; omega), ?_⟩
    have h : (ix2 (row i r) (p 1) : S32768x2048.Idx) ∈ ((cfg0.win 6).blk (pt i 10)).view.set :=
      emb_out i 10 r (p 1) ▸ ((cfg0.win 6).blk (pt i 10)).view.emb_mem_set (ix2 r (p 1) : S1024x2048.Idx)
    rw [hr] at h
    exact (eq_ix2 (p : S32768x2048.Idx)) ▸ h

end Cert.Ffn

end
-- ==== Proof.Final.Reference.lean ====
/-
  What the last feed-forward reference computes, entry by entry: the normalised sum of the residual and half the gated
  feed-forward's output.
-/
module

public import proofs.«01_k».proof.Proof.Gen.ReferenceFinalIdeal.Run
public import proofs.«01_k».proof.Proof.Final.Array

@[expose] public section

set_option maxRecDepth 16384

noncomputable section

namespace Cert.Ffn

open Cert.ReferenceFinalIdeal Cert.ReferenceFinalIdeal.Gen Idealize.ShloMosaic

variable (x h : FVec Ideal S2x16384x2048 .f32) (wg wu : FVec Ideal S2048x5632 .f32) (wd : FVec Ideal S5632x2048 .f32) (g : FVec Ideal S2048 .f32)

/-- A linear layer into the hidden units. -/
def refDot (w : FVec Ideal S2048x5632 .f32) : FVec Ideal S2x16384x5632 .f32 :=
  Host.dotGeneral dot_S2x16384x2048_S2048x5632_S2x16384x5632_2_0_01_1_n_n none h w

/-- The gated hidden units. -/
def refHidden (a b : FVec Ideal S2x16384x5632 .f32) : FVec Ideal S2x16384x5632 .f32 :=
  mulf (mulf a (Host.divf (broadcastInDim S2x16384x5632 ![] bcast_S_S2x16384x5632 (constant S_ .f32 0x3F800000#32)) (addf (broadcastInDim S2x16384x5632 ![] bcast_S_S2x16384x5632 (constant S_ .f32 0x3F800000#32)) (Host.exp (Host.negf a))))) b

/-- The residual with half the feed-forward's output added. -/
def refSum (a : FVec Ideal S2x16384x5632 .f32) : FVec Ideal S2x16384x2048 .f32 :=
  addf x (mulf (broadcastInDim S2x16384x2048 ![] bcast_S_S2x16384x2048 (constant S_ .f32 0x3F000000#32)) (Host.dotGeneral dot_S2x16384x5632_S5632x2048_S2x16384x2048_2_0_01_1_n_n none a wd))

/-- The normalised rows. -/
def refNorm (o : FVec Ideal S2x16384x2048 .f32) : FVec Ideal S2x16384x2048 .f32 :=
  mulf (mulf o (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf o o) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 g))

/-- The reference's result. -/
def refFinal : FVec Ideal S32768x2048 .f32 :=
  shapeCast _ (refNorm g (refSum x wd (refHidden (refDot h wg) (refDot h wu)))) shapeCasts_S2x16384x2048_S32768x2048

theorem refDot_apply (w : FVec Ideal S2048x5632 .f32) (b : Fin 2) (n : Fin 16384) (f : Fin 5632) :
    refDot h w (ix3 b n f) = ∑ d : Fin 2048, h (ix3 b n d) * w (ix2 d f) := by
  unfold refDot
  pointwise

theorem refHidden_apply (a a' : FVec Ideal S2x16384x5632 .f32) (b : Fin 2) (n : Fin 16384) (f : Fin 5632) :
    refHidden a a' (ix3 b n f) = gated (a (ix3 b n f)) (a' (ix3 b n f)) := by
  unfold refHidden gated
  pointwise
  rfl

theorem refSum_apply (a : FVec Ideal S2x16384x5632 .f32) (b : Fin 2) (n : Fin 16384) (j : Fin 2048) :
    refSum x wd a (ix3 b n j) = x (ix3 b n j) + Ideal.ofBits .f32 0x3F000000#32 * ∑ f : Fin 5632, a (ix3 b n f) * wd (ix2 f j) := by
  unfold refSum
  pointwise

theorem refNorm_apply (o : FVec Ideal S2x16384x2048 .f32) (b : Fin 2) (n : Fin 16384) (j : Fin 2048) :
    refNorm g o (ix3 b n j) = rmsAt (fun k => o (ix3 b n k)) (fun k => g (ix1 k)) j := by
  unfold refNorm rmsAt
  pointwise

/-- The reference's entry `(n, j)`. -/
theorem refFinal_apply (n : Fin 32768) (j : Fin 2048) : refFinal x h wg wu wd g (ix2 n j) = ffnAt x h wg wu wd g n j := by
  refine (rows_apply _ n j).trans ?_
  unfold tok
  rw [refNorm_apply]
  unfold ffnAt
  refine congrArg (fun o => rmsAt o _ j) (funext fun k => ?_)
  rw [refSum_apply]
  simp only [refHidden_apply, refDot_apply]
  rfl

/-- The reference's result, entry by entry. -/
theorem refFinal_eq : refFinal x h wg wu wd g = fun p => ffnAt x h wg wu wd g (p 0) (p 1) := by
  funext p
  obtain ⟨n, j, rfl⟩ : ∃ n j, p = ix2 n j := ⟨p 0, p 1, eq_ix2 p⟩
  exact refFinal_apply x h wg wu wd g n j

end Cert.Ffn

end
-- ==== Proof.First.Runs.lean ====
/-
  What the first feed-forward kernel's body does at one grid point, in the five ways its conditions can fall out: the
  first point fetches its own rows; the first point of a later row block waits for the rows the block before fetched; the
  second point of a row block starts the fetch of the next; the last normalises the sum; the others only add a tile.
-/
module

public import proofs.«01_k».proof.Proof.Gen.FirstIdeal.Launch
public import proofs.«01_k».proof.Proof.Gen.FirstIdeal.Skeleton
public import proofs.«01_k».proof.Proof.Gen.FirstIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Ffn1

open Cert.FirstIdeal Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

/-- The residual rows in main memory, the normalised rows' scratch, the fetched rows' scratch. -/
abbrev xAll : Memref sig .tc .hbm S32768x2048 .f32 := Memref.whole main_v0
abbrev hBuf : Memref sig .tc .vmem S1024x2048 .bf16 := Memref.whole cc0_scratch0
abbrev xBuf : Memref sig .tc .vmem S1024x2048 .f32 := Memref.whole cc0_scratch1
/-- The semaphore the fetches signal. -/
abbrev xSem : SemLoc sig := .dma cc0_scratch2.sem
/-- A row block of the residual rows. -/
abbrev xRows (o : Fin 2 → ℕ) (ho : ∀ a, o a + S1024x2048.size a ≤ S32768x2048.size a) : Memref sig .tc .hbm S1024x2048 .f32 :=
  xAll.slice (Rect.unit (s := S32768x2048) o S1024x2048.size ho) (fun _ => rfl)

/-- A row block held where it lies. -/
abbrev rowsAt (c : Dev nD) (X : Buf (Elt F) (xAll.view.loc (c : Thread nD τ))) (o : Fin 2 → ℕ)
    (ho : ∀ a, o a + S1024x2048.size a ≤ S32768x2048.size a) : sProp 𝕄 :=
  (xRows o ho).view.loc (c : Thread nD τ) ↦[(xRows o ho).view.set]{fullShare} X
/-- The fetched rows' scratch holding `v`. -/
abbrev fetched (c : Dev nD) (v : Vec F S1024x2048 .f32) : sProp 𝕄 :=
  xBuf.view.loc (c : Thread nD τ) ↦[xBuf.view.set]{fullShare} (Memref.isWhole_whole cc0_scratch1).unread v

/-- The first of the conditions inside the first: the row block is the first. -/
abbrev isStart (i : grid0.Coords) : Prop :=
  (Scalar.cmpi .ne (Scalar.extui (Scalar.cmpi .eq (BitVec.ofNat 32 (i 0).val) 0#32)) 0#32) = 1#1

/-- The body on the kernel's own scratch. -/
abbrev bodyOn (i : grid0.Coords) (arg3 : Memref sig .tc .vmem S1x2048 .f32) (harg3 : arg3.IsWhole)
    (arg4 : Memref sig .tc .vmem S2048x512 .bf16) (harg4 : arg4.IsWhole) (arg5 : Memref sig .tc .vmem S2048x512 .bf16) (harg5 : arg5.IsWhole)
    (arg6 : Memref sig .tc .vmem S512x2048 .bf16) (harg6 : arg6.IsWhole) (arg7 : Memref sig .tc .vmem S1x2048 .f32) (harg7 : arg7.IsWhole)
    (arg8 : Memref sig .tc .vmem S1024x2048 .f32) (harg8 : arg8.IsWhole) (arg9 : Memref sig .tc .vmem S1024x2048 .bf16) (harg9 : arg9.IsWhole) :
    Prog (TpuEff nD τ sig (Elt F) Λ₀ .tc) PUnit :=
  cc0_ffn_h i xAll (Memref.isWhole_whole _) arg3 harg3 arg4 harg4 arg5 harg5 arg6 harg6 arg7 harg7 arg8 harg8 arg9 harg9
    hBuf (Memref.isWhole_whole _) xBuf (Memref.isWhole_whole _) cc0_scratch2

variable (c : Dev nD) (i : grid0.Coords) (arg3 : Memref sig .tc .vmem S1x2048 .f32) (harg3 : arg3.IsWhole)
    (arg4 : Memref sig .tc .vmem S2048x512 .bf16) (harg4 : arg4.IsWhole) (arg5 : Memref sig .tc .vmem S2048x512 .bf16) (harg5 : arg5.IsWhole)
    (arg6 : Memref sig .tc .vmem S512x2048 .bf16) (harg6 : arg6.IsWhole) (arg7 : Memref sig .tc .vmem S1x2048 .f32) (harg7 : arg7.IsWhole)
    (arg8 : Memref sig .tc .vmem S1024x2048 .f32) (harg8 : arg8.IsWhole) (arg9 : Memref sig .tc .vmem S1024x2048 .bf16) (harg9 : arg9.IsWhole)
    (g : Vec F S1x2048 .f32) (wg wu : Vec F S2048x512 .bf16) (wd : Vec F S512x2048 .bf16) (g' : Vec F S1x2048 .f32)
    (h : Vec F S1024x2048 .bf16) (acc : Vec F S1024x2048 .f32)

set_option maxHeartbeats 1000000 in
/-- A point that only adds a tile: the stores into the running sum. -/
def runMid (h1 : ¬k0_cond1 i = 1#1) (h3 : ¬k0_cond3 i = 1#1) (h4 : ¬k0_cond4 i = 1#1) :
    { L : List (View.Piece (Elt F) S1024x2048 .f32) //
      ∀ (E : Set ℕ) (K : PUnit → sProp 𝕄),
        iprop(owns (c : Thread nD τ) arg4 fullShare wg ∗ owns (c : Thread nD τ) arg5 fullShare wu ∗ owns (c : Thread nD τ) arg6 fullShare wd
            ∗ owns (c : Thread nD τ) arg8 fullShare acc ∗ owns (c : Thread nD τ) hBuf fullShare h
            ∗ (iprop(owns (c : Thread nD τ) arg4 fullShare wg ∗ owns (c : Thread nD τ) arg5 fullShare wu ∗ owns (c : Thread nD τ) arg6 fullShare wd
                ∗ (∃ f, arg8.view.loc (c : Thread nD τ) ↦[arg8.view.set]{fullShare} arg8.view.writes (Elt F) f L)
                ∗ owns (c : Thread nD τ) hBuf fullShare h) -∗ K ⟨⟩))
          ⊢ wp frame (wpE (defs₀ (F := F)) Variants.none c none) E
              (bodyOn i arg3 harg3 arg4 harg4 arg5 harg5 arg6 harg6 arg7 harg7 arg8 harg8 arg9 harg9) K } := by
  refine ⟨?_, fun E K => ?run⟩
  case run =>
    simp only [bodyOn, cc0_ffn_h_eq_skeleton]; unfold cc0_ffn_h_skel
    simp only [k0_part1_eq_skeleton]
    unfold owns
    iintro ⟨⟨%f4, %hf4, H4⟩, ⟨%f5, %hf5, H5⟩, ⟨%f6, %hf6, H6⟩, ⟨%f8, %hf8, H8⟩, ⟨%fh, %hfh, Hh⟩, Hk⟩
    obtain rfl := harg4.eq_unread hf4; obtain rfl := harg5.eq_unread hf5; obtain rfl := harg6.eq_unread hf6
    obtain rfl := harg8.eq_unread hf8; obtain rfl := (Memref.isWhole_whole cc0_scratch0).eq_unread hfh
    sl_exec (disch := first | sl_exact h1 | sl_exact h3 | sl_exact h4)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]
    · iexists _; iexact H8
    iexists _; isplitr; · ipureintro; exact (Memref.isWhole_whole cc0_scratch0).read_unread _
    iexact Hh

set_option maxHeartbeats 1000000 in
/-- The last point of a row block: the stores into the running sum, and into the normalised rows. -/
def runLast (h1 : ¬k0_cond1 i = 1#1) (h3 : ¬k0_cond3 i = 1#1) (h4 : k0_cond4 i = 1#1) :
    { L : List (View.Piece (Elt F) S1024x2048 .f32) × List (View.Piece (Elt F) S1024x2048 .bf16) //
      ∀ (E : Set ℕ) (K : PUnit → sProp 𝕄),
        iprop(owns (c : Thread nD τ) arg4 fullShare wg ∗ owns (c : Thread nD τ) arg5 fullShare wu ∗ owns (c : Thread nD τ) arg6 fullShare wd
            ∗ owns (c : Thread nD τ) arg7 fullShare g' ∗ owns (c : Thread nD τ) arg8 fullShare acc
            ∗ (∃ d, owns (c : Thread nD τ) arg9 fullShare d) ∗ owns (c : Thread nD τ) hBuf fullShare h
            ∗ (iprop(owns (c : Thread nD τ) arg4 fullShare wg ∗ owns (c : Thread nD τ) arg5 fullShare wu ∗ owns (c : Thread nD τ) arg6 fullShare wd
                ∗ owns (c : Thread nD τ) arg7 fullShare g'
                ∗ (∃ f, arg8.view.loc (c : Thread nD τ) ↦[arg8.view.set]{fullShare} arg8.view.writes (Elt F) f L.1)
                ∗ (∃ f, arg9.view.loc (c : Thread nD τ) ↦[arg9.view.set]{fullShare} arg9.view.writes (Elt F) f L.2)
                ∗ owns (c : Thread nD τ) hBuf fullShare h) -∗ K ⟨⟩))
          ⊢ wp frame (wpE (defs₀ (F := F)) Variants.none c none) E
              (bodyOn i arg3 harg3 arg4 harg4 arg5 harg5 arg6 harg6 arg7 harg7 arg8 harg8 arg9 harg9) K } := by
  refine ⟨(?_, ?_), fun E K => ?run⟩
  case run =>
    simp only [bodyOn, cc0_ffn_h_eq_skeleton]; unfold cc0_ffn_h_skel
    simp only [k0_part1_eq_skeleton]
    unfold owns
    iintro ⟨⟨%f4, %hf4, H4⟩, ⟨%f5, %hf5, H5⟩, ⟨%f6, %hf6, H6⟩, ⟨%f7, %hf7, H7⟩, ⟨%f8, %hf8, H8⟩, ⟨%d9, %f9, -, H9⟩, ⟨%fh, %hfh, Hh⟩, Hk⟩
    obtain rfl := harg4.eq_unread hf4; obtain rfl := harg5.eq_unread hf5; obtain rfl := harg6.eq_unread hf6
    obtain rfl := harg7.eq_unread hf7
    obtain rfl := harg8.eq_unread hf8; obtain rfl := (Memref.isWhole_whole cc0_scratch0).eq_unread hfh
    sl_exec (disch := first | sl_exact h1 | sl_exact h3 | sl_exact h4)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; iexact H9
    iexists _; isplitr; · ipureintro; exact (Memref.isWhole_whole cc0_scratch0).read_unread _
    iexact Hh

/-- What a fetch moves, as the semaphore counts it. -/
abbrev xAmount : ℕ := 262144

/-- The fetch of a row block under way: it will deliver the rows in the scratch, and the rows where they lie. -/
abbrev inFlight (X : Buf (Elt F) (xAll.view.loc (c : Thread nD τ))) (o : Fin 2 → ℕ)
    (ho : ∀ a, o a + S1024x2048.size a ≤ S32768x2048.size a) : sProp 𝕄 :=
  Transfers.Flight countersEmb (c : Thread nD τ) xSem () xAmount
    iprop(fetched c ((xRows o ho).view.read (Elt F) X) ∗ rowsAt c X o ho)

/-- A scratch rewritten whole holds what was written. -/
theorem rewritten (fx : BufTy.Contents (Elt F) xBuf.view.ty) (v : Vec F S1024x2048 .f32) :
    xBuf.view.writes (Elt F) fx [⟨Rect.whole S1024x2048, v⟩] = (Memref.isWhole_whole cc0_scratch1).unread v :=
  (Memref.isWhole_whole cc0_scratch1).eq_unread (View.read_writes_full xBuf.view fx (off := fun _ => 0) (fun a => by simp) v [])

end Cert.Ffn1

end
-- ==== Proof.First.RunSend.lean ====
/-
  The second point of a row block: it starts the fetch of the next block's rows.
-/
module

public import proofs.«01_k».proof.Proof.First.Runs

@[expose] public section

set_option maxRecDepth 16384

noncomputable section

namespace Cert.Ffn1

open Cert.FirstIdeal Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD) (i : grid0.Coords) (arg3 : Memref sig .tc .vmem S1x2048 .f32) (harg3 : arg3.IsWhole)
    (arg4 : Memref sig .tc .vmem S2048x512 .bf16) (harg4 : arg4.IsWhole) (arg5 : Memref sig .tc .vmem S2048x512 .bf16) (harg5 : arg5.IsWhole)
    (arg6 : Memref sig .tc .vmem S512x2048 .bf16) (harg6 : arg6.IsWhole) (arg7 : Memref sig .tc .vmem S1x2048 .f32) (harg7 : arg7.IsWhole)
    (arg8 : Memref sig .tc .vmem S1024x2048 .f32) (harg8 : arg8.IsWhole) (arg9 : Memref sig .tc .vmem S1024x2048 .bf16) (harg9 : arg9.IsWhole)
    (g : Vec F S1x2048 .f32) (wg wu : Vec F S2048x512 .bf16) (wd : Vec F S512x2048 .bf16) (g' : Vec F S1x2048 .f32)
    (h : Vec F S1024x2048 .bf16) (acc : Vec F S1024x2048 .f32)

set_option maxHeartbeats 1000000 in
/-- The second point of a row block: it starts the fetch of the next rows and adds its tile. -/
def runSend (X : Buf (Elt F) (xAll.view.loc (c : Thread nD τ))) (h1 : ¬k0_cond1 i = 1#1) (h3 : k0_cond3 i = 1#1) (h4 : ¬k0_cond4 i = 1#1) :
    { L : List (View.Piece (Elt F) S1024x2048 .f32) //
      ∀ (K : PUnit → sProp 𝕄),
        iprop(owns (c : Thread nD τ) arg4 fullShare wg ∗ owns (c : Thread nD τ) arg5 fullShare wu ∗ owns (c : Thread nD τ) arg6 fullShare wd
            ∗ owns (c : Thread nD τ) arg8 fullShare acc ∗ owns (c : Thread nD τ) hBuf fullShare h
            ∗ (∃ d, owns (c : Thread nD τ) xBuf fullShare d) ∗ rowsAt c X (k0_off2 i) (k0_off2_inb i h3) ∗ semVal ((c : Thread nD τ), xSem) 0
            ∗ (iprop(owns (c : Thread nD τ) arg4 fullShare wg ∗ owns (c : Thread nD τ) arg5 fullShare wu ∗ owns (c : Thread nD τ) arg6 fullShare wd
                ∗ (∃ f, arg8.view.loc (c : Thread nD τ) ↦[arg8.view.set]{fullShare} arg8.view.writes (Elt F) f L)
                ∗ owns (c : Thread nD τ) hBuf fullShare h
                ∗ inFlight c X (k0_off2 i) (k0_off2_inb i h3)) -∗ K ⟨⟩))
          ⊢ wp frame (wpE (defs₀ (F := F)) Variants.none c none) Set.univ
              (bodyOn i arg3 harg3 arg4 harg4 arg5 harg5 arg6 harg6 arg7 harg7 arg8 harg8 arg9 harg9) K } := by
  refine ⟨?_, fun K => ?run⟩
  case run =>
    simp only [bodyOn, cc0_ffn_h_eq_skeleton]; unfold cc0_ffn_h_skel
    simp only [k0_part1_eq_skeleton]
    unfold owns
    iintro ⟨⟨%f4, %hf4, H4⟩, ⟨%f5, %hf5, H5⟩, ⟨%f6, %hf6, H6⟩, ⟨%f8, %hf8, H8⟩, ⟨%fh, %hfh, Hh⟩, ⟨%dx, %fx, -, Hx⟩, Hr, Hs, Hk⟩
    obtain rfl := harg4.eq_unread hf4; obtain rfl := harg5.eq_unread hf5; obtain rfl := harg6.eq_unread hf6
    obtain rfl := harg8.eq_unread hf8; obtain rfl := (Memref.isWhole_whole cc0_scratch0).eq_unread hfh
    sl_exec (disch := first | sl_exact h1 | sl_exact h3 | sl_exact h4)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]
    · iexists _; iexact H8
    isplitl [Hh]
    · iexists _; isplitr; · ipureintro; exact (Memref.isWhole_whole cc0_scratch0).read_unread _
      iexact Hh
    iapply (Transfers.Flight_mono countersEmb (c : Thread nD τ) ?_) $$ Hs
    rw [rewritten]
    exact .rfl

end Cert.Ffn1

end
-- ==== Proof.First.RunRow.lean ====
/-
  The first point of a later row block: it waits for the rows the block before fetched, normalises them into the
  scratch, starts the running sum from them and adds the first tile.
-/
module

public import proofs.«01_k».proof.Proof.First.Runs

@[expose] public section

set_option maxRecDepth 16384

noncomputable section

namespace Cert.Ffn1

open Cert.FirstIdeal Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD) (i : grid0.Coords) (arg3 : Memref sig .tc .vmem S1x2048 .f32) (harg3 : arg3.IsWhole)
    (arg4 : Memref sig .tc .vmem S2048x512 .bf16) (harg4 : arg4.IsWhole) (arg5 : Memref sig .tc .vmem S2048x512 .bf16) (harg5 : arg5.IsWhole)
    (arg6 : Memref sig .tc .vmem S512x2048 .bf16) (harg6 : arg6.IsWhole) (arg7 : Memref sig .tc .vmem S1x2048 .f32) (harg7 : arg7.IsWhole)
    (arg8 : Memref sig .tc .vmem S1024x2048 .f32) (harg8 : arg8.IsWhole) (arg9 : Memref sig .tc .vmem S1024x2048 .bf16) (harg9 : arg9.IsWhole)
    (g : Vec F S1x2048 .f32) (wg wu : Vec F S2048x512 .bf16) (wd : Vec F S512x2048 .bf16) (g' : Vec F S1x2048 .f32)
    (h : Vec F S1024x2048 .bf16) (acc : Vec F S1024x2048 .f32)

set_option maxHeartbeats 1000000 in
/-- The first point of a later row block: the stores into the running sum, and into the normalised rows' scratch. -/
def runRow (X : Buf (Elt F) (xAll.view.loc (c : Thread nD τ))) (o : Fin 2 → ℕ) (ho : ∀ a, o a + S1024x2048.size a ≤ S32768x2048.size a)
    (h1 : k0_cond1 i = 1#1) (h2 : ¬isStart i) (h3 : ¬k0_cond3 i = 1#1) (h4 : ¬k0_cond4 i = 1#1) :
    { L : List (View.Piece (Elt F) S1024x2048 .f32) × List (View.Piece (Elt F) S1024x2048 .bf16) //
      ∀ (W : Waits sig Unit) (K : PUnit → sProp 𝕄),
        iprop(owns (c : Thread nD τ) arg3 fullShare g
            ∗ owns (c : Thread nD τ) arg4 fullShare wg ∗ owns (c : Thread nD τ) arg5 fullShare wu ∗ owns (c : Thread nD τ) arg6 fullShare wd
            ∗ (∃ d, owns (c : Thread nD τ) arg8 fullShare d) ∗ (∃ d, owns (c : Thread nD τ) hBuf fullShare d)
            ∗ inFlight c X o ho ∗ owes (c : Thread nD τ) 0 W
            ∗ (iprop(owns (c : Thread nD τ) arg3 fullShare g
                ∗ owns (c : Thread nD τ) arg4 fullShare wg ∗ owns (c : Thread nD τ) arg5 fullShare wu ∗ owns (c : Thread nD τ) arg6 fullShare wd
                ∗ (∃ f, arg8.view.loc (c : Thread nD τ) ↦[arg8.view.set]{fullShare} arg8.view.writes (Elt F) f L.1)
                ∗ (∃ f, hBuf.view.loc (c : Thread nD τ) ↦[hBuf.view.set]{fullShare} hBuf.view.writes (Elt F) f L.2)
                ∗ rowsAt c X o ho ∗ fetched c ((xRows o ho).view.read (Elt F) X)
                ∗ semVal ((c : Thread nD τ), xSem) 0 ∗ (∃ W', owes (c : Thread nD τ) 0 W')) -∗ K ⟨⟩))
          ⊢ wp frame (wpE (defs₀ (F := F)) Variants.none c none) Set.univ
              (bodyOn i arg3 harg3 arg4 harg4 arg5 harg5 arg6 harg6 arg7 harg7 arg8 harg8 arg9 harg9) K } := by
  refine ⟨(?_, ?_), fun W K => ?run⟩
  case run =>
    simp only [bodyOn, cc0_ffn_h_eq_skeleton]; unfold cc0_ffn_h_skel
    simp only [k0_part1_eq_skeleton]
    unfold owns
    iintro ⟨⟨%f3, %hf3, H3⟩, ⟨%f4, %hf4, H4⟩, ⟨%f5, %hf5, H5⟩, ⟨%f6, %hf6, H6⟩, ⟨%d8, %f8, -, H8⟩, ⟨%dh, %fh, -, Hh⟩, Hs, HO, Hk⟩
    obtain rfl := harg3.eq_unread hf3
    obtain rfl := harg4.eq_unread hf4; obtain rfl := harg5.eq_unread hf5; obtain rfl := harg6.eq_unread hf6
    sl_exec (disch := first | sl_exact h1 | sl_exact h2 | sl_exact h3 | sl_exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]
    · iexists _; iexact H8
    isplitl [Hh]
    · iexists _; iexact Hh
    isplitl [Hs_src]; · iexact Hs_src
    isplitl [Hs_dst]; · iexact Hs_dst
    isplitl [Hs]; · iexact Hs
    iexists _; iexact HO

end Cert.Ffn1

end
-- ==== Proof.First.RunStart.lean ====
/-
  The first point of all: it fetches its own rows and waits for them, normalises them into the scratch, starts the
  running sum from them and adds the first tile.
-/
module

public import proofs.«01_k».proof.Proof.First.Runs

@[expose] public section

set_option maxRecDepth 16384

noncomputable section

namespace Cert.Ffn1

open Cert.FirstIdeal Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD) (i : grid0.Coords) (arg3 : Memref sig .tc .vmem S1x2048 .f32) (harg3 : arg3.IsWhole)
    (arg4 : Memref sig .tc .vmem S2048x512 .bf16) (harg4 : arg4.IsWhole) (arg5 : Memref sig .tc .vmem S2048x512 .bf16) (harg5 : arg5.IsWhole)
    (arg6 : Memref sig .tc .vmem S512x2048 .bf16) (harg6 : arg6.IsWhole) (arg7 : Memref sig .tc .vmem S1x2048 .f32) (harg7 : arg7.IsWhole)
    (arg8 : Memref sig .tc .vmem S1024x2048 .f32) (harg8 : arg8.IsWhole) (arg9 : Memref sig .tc .vmem S1024x2048 .bf16) (harg9 : arg9.IsWhole)
    (g : Vec F S1x2048 .f32) (wg wu : Vec F S2048x512 .bf16) (wd : Vec F S512x2048 .bf16) (g' : Vec F S1x2048 .f32)
    (h : Vec F S1024x2048 .bf16) (acc : Vec F S1024x2048 .f32)

set_option maxHeartbeats 1000000 in
/-- The first point of all: the stores into the running sum, and into the normalised rows' scratch. -/
def runStart (X : Buf (Elt F) (xAll.view.loc (c : Thread nD τ)))
    (h1 : k0_cond1 i = 1#1) (h2 : isStart i) (h3 : ¬k0_cond3 i = 1#1) (h4 : ¬k0_cond4 i = 1#1) :
    { L : List (View.Piece (Elt F) S1024x2048 .f32) × List (View.Piece (Elt F) S1024x2048 .bf16) //
      ∀ (W : Waits sig Unit) (K : PUnit → sProp 𝕄),
        iprop(owns (c : Thread nD τ) arg3 fullShare g
            ∗ owns (c : Thread nD τ) arg4 fullShare wg ∗ owns (c : Thread nD τ) arg5 fullShare wu ∗ owns (c : Thread nD τ) arg6 fullShare wd
            ∗ (∃ d, owns (c : Thread nD τ) arg8 fullShare d) ∗ (∃ d, owns (c : Thread nD τ) hBuf fullShare d)
            ∗ (∃ d, owns (c : Thread nD τ) xBuf fullShare d) ∗ rowsAt c X ![0, 0] inb_S32768x2048_S1024x2048_0_0
            ∗ semVal ((c : Thread nD τ), xSem) 0 ∗ owes (c : Thread nD τ) 0 W
            ∗ (iprop(owns (c : Thread nD τ) arg3 fullShare g
                ∗ owns (c : Thread nD τ) arg4 fullShare wg ∗ owns (c : Thread nD τ) arg5 fullShare wu ∗ owns (c : Thread nD τ) arg6 fullShare wd
                ∗ (∃ f, arg8.view.loc (c : Thread nD τ) ↦[arg8.view.set]{fullShare} arg8.view.writes (Elt F) f L.1)
                ∗ (∃ f, hBuf.view.loc (c : Thread nD τ) ↦[hBuf.view.set]{fullShare} hBuf.view.writes (Elt F) f L.2)
                ∗ rowsAt c X ![0, 0] inb_S32768x2048_S1024x2048_0_0 ∗ fetched c ((xRows ![0, 0] inb_S32768x2048_S1024x2048_0_0).view.read (Elt F) X)
                ∗ semVal ((c : Thread nD τ), xSem) 0 ∗ (∃ W', owes (c : Thread nD τ) 0 W')) -∗ K ⟨⟩))
          ⊢ wp frame (wpE (defs₀ (F := F)) Variants.none c none) Set.univ
              (bodyOn i arg3 harg3 arg4 harg4 arg5 harg5 arg6 harg6 arg7 harg7 arg8 harg8 arg9 harg9) K } := by
  refine ⟨(?_, ?_), fun W K => ?run⟩
  case run =>
    simp only [bodyOn, cc0_ffn_h_eq_skeleton]; unfold cc0_ffn_h_skel
    simp only [k0_part1_eq_skeleton]
    unfold owns
    iintro ⟨⟨%f3, %hf3, H3⟩, ⟨%f4, %hf4, H4⟩, ⟨%f5, %hf5, H5⟩, ⟨%f6, %hf6, H6⟩, ⟨%d8, %f8, -, H8⟩, ⟨%dh, %fh, -, Hh⟩, ⟨%dx, %fx, -, Hx⟩, Hr, Hs, HO, Hk⟩
    obtain rfl := harg3.eq_unread hf3
    obtain rfl := harg4.eq_unread hf4; obtain rfl := harg5.eq_unread hf5; obtain rfl := harg6.eq_unread hf6
    sl_exec (disch := first | sl_exact h1 | sl_exact h2 | sl_exact h3 | sl_exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]
    · iexists _; iexact H8
    isplitl [Hh]
    · iexists _; iexact Hh
    isplitl [Hr]; · iexact Hr
    isplitl [Hx]
    · rw [rewritten]; iexact Hx
    isplitl [Hs]; · iexact Hs
    iexists _; iexact HO

end Cert.Ffn1

end
-- ==== Proof.First.Points.lean ====
/-
  The first feed-forward call over its grid: the blocks its windows stage, which of the body's conditions hold at a
  point, the rows it fetches, and what the running sum, the normalised rows and the outputs hold after each point.
-/
module

public import proofs.«01_k».proof.Proof.First.Runs
public import proofs.«01_k».proof.Proof.First.RunSend
public import proofs.«01_k».proof.Proof.First.RunRow
public import proofs.«01_k».proof.Proof.First.RunStart
public import Idealize.ShloMosaic.Lib.Claim

@[expose] public section

set_option maxRecDepth 16384

noncomputable section

namespace Cert.Ffn1

open Cert.FirstIdeal Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD Dat Cfg Window BodyObligation)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-! ## The region's entry -/

/-- What a core's buffers hold when the call is entered. -/
abbrev V (c : Dev nD) (b : Ref sig .tc) : Buf (Elt F) ((c : Thread nD τ).loc b) := StableHlo.after hostOps0 (fun b => m (c, b)) b

theorem prefix_fresh : (hostOps0 : List (HloOp τ sig (Elt F))).Forall fun op => op.fresh = ∅ := by
  simp only [List.Forall]; repeat' constructor

set_option maxHeartbeats 800000 in
/-- The program is its host operations and then the call. -/
theorem entry (𝒱₀ : Variants) : Pipeline.HMain (Ix := Unit) (Name := ℕ) (U := UD sig nD τ) (Lvl := ℕ) cfgs 0 defs₀ 𝒱₀ m (main (F := F)) (V m) :=
  Pipeline.hmain_prefix cfgs 0 defs₀ 𝒱₀ m main hostOps0 hostOps0_sub prefix_fresh main_chain

/-- A buffer no host operation writes is found as launched. -/
theorem V_arg (c : Dev nD) (b : Ref sig .tc) (hb : b ∉ [main_v0, main_v1, main_v2, main_v3, main_v4, main_v5]) :
    V m c b = m ((c : Thread nD τ).loc b) :=
  StableHlo.after_of_forall_not_mem (b := Proc.devRef .tc b) _ _ (List.forall_iff_forall_mem.mp (by
    simp only [List.mem_cons, List.not_mem_nil, not_or] at hb
    obtain ⟨h0, h1, h2, h3, h4, h5, -⟩ := hb
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5⟩))

/-- The block of window `w` at a point, as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The conditions -/

theorem points (t : Fin cfg0.N) : t.val < 352 := Nat.lt_of_lt_of_eq t.isLt (show cfg0.N = 352 from N_0)
theorem coord0 (t : Fin cfg0.N) : (grid0.coords t 0).val = t.val / 11 % 32 := Pipeline.Grid.coords_val t 0 (by decide) rfl
theorem coord1 (t : Fin cfg0.N) : (grid0.coords t 1).val = t.val / 1 % 11 := Pipeline.Grid.coords_val t 1 (by decide) rfl

/-- The first condition: the point is a row block's first. -/
theorem isFirst (t : Fin cfg0.N) : k0_cond1 (grid0.coords t) = 1#1 ↔ t.val % 11 = 0 := by
  have ht := points t
  simp only [k0_cond1, coord1 t]
  word_cmp
/-- The condition inside it: the row block is the first. -/
theorem isStart_iff (t : Fin cfg0.N) : isStart (grid0.coords t) ↔ t.val < 11 := by
  have ht := points t
  simp only [isStart, coord0 t]
  word_cmp
theorem second_word : ∀ (a : Fin 32) (b : Fin 11),
    Scalar.cmpi .ne (Scalar.extui (Scalar.andi (Scalar.cmpi .eq (BitVec.ofNat 32 b.val) 1#32)
      (Scalar.cmpi .slt (Scalar.addi (BitVec.ofNat 32 a.val) 1#32) 32#32))) 0#32 = 1#1 ↔ b.val = 1 ∧ a.val < 31 := by decide
theorem off_word : ∀ a : Fin 32, (Scalar.muli (Scalar.addi (BitVec.ofNat 32 a.val) 1#32) 1024#32).toNat = 1024 * (a.val + 1) := by decide
/-- The third: the point is a row block's second, and a row block follows. -/
theorem isSecond (t : Fin cfg0.N) : k0_cond3 (grid0.coords t) = 1#1 ↔ t.val % 11 = 1 ∧ t.val < 341 := by
  have ht := points t
  refine (second_word (grid0.coords t 0) (grid0.coords t 1)).trans ?_
  rw [coord0, coord1]
  omega
/-- The fourth: the point is a row block's last. -/
theorem isLast (t : Fin cfg0.N) : k0_cond4 (grid0.coords t) = 1#1 ↔ t.val % 11 = 10 := by
  have ht := points t
  simp only [k0_cond4, coord1 t]
  word_cmp

/-! ## The fetched rows -/

/-- Where row block `k` begins. -/
abbrev off (k : Fin 32) : Fin 2 → ℕ := ![1024 * k.val, 0]
theorem inbOff (k : Fin 32) : ∀ a, off k a + S1024x2048.size a ≤ S32768x2048.size a := by revert k; decide
/-- The row block a number names. -/
def blk (n : ℕ) : Fin 32 := ⟨n % 32, Nat.mod_lt _ (by decide)⟩

/-- The second point of a row block fetches the next one. -/
theorem off_next (t : Fin cfg0.N) (h : t.val < 341) : k0_off2 (grid0.coords t) = off (blk (t.val / 11 + 1)) := by
  have e : (blk (t.val / 11 + 1)).val = t.val / 11 + 1 := Nat.mod_eq_of_lt (by omega)
  funext a
  match a with
  | 0 =>
    show _ = 1024 * (blk (t.val / 11 + 1)).val
    refine (off_word (grid0.coords t 0)).trans ?_
    rw [e, coord0]
    omega
  | 1 => rfl

/-- The residual rows of row block `k`. -/
def tile (c : Dev nD) (k : Fin 32) : Vec F S1024x2048 .f32 := (xRows (off k) (inbOff k)).view.read (Elt F) (V m c main_v0)
/-- The first point of row block `k`. -/
def first (k : Fin 32) : Fin cfg0.N := ⟨11 * k.val, by rw [show cfg0.N = 352 from N_0]; omega⟩
/-- The normalised rows of row block `k`. -/
def hidRow (c : Dev nD) (k : Fin 32) : Vec F S1024x2048 .bf16 := k0_pay5 (tile m c k) (iblk m c 0 (first k))

theorem first_blk (t : Fin cfg0.N) (h : t.val % 11 = 0) : first (blk (t.val / 11)) = t :=
  Fin.ext (by have := points t; show 11 * (t.val / 11 % 32) = t.val; omega)

/-! ## The runs at a point -/

abbrev hst0 (t : Fin cfg0.N) : (st0_0 t).IsWhole := hstage0_0 ((cfg0.slots t 0).cast nbuf0_0)
abbrev hst1 (t : Fin cfg0.N) : (st0_1 t).IsWhole := hstage0_1 ((cfg0.slots t 1).cast nbuf0_1)
abbrev hst2 (t : Fin cfg0.N) : (st0_2 t).IsWhole := hstage0_2 ((cfg0.slots t 2).cast nbuf0_2)
abbrev hst3 (t : Fin cfg0.N) : (st0_3 t).IsWhole := hstage0_3 ((cfg0.slots t 3).cast nbuf0_3)
abbrev hst4 (t : Fin cfg0.N) : (st0_4 t).IsWhole := hstage0_4 ((cfg0.slots t 4).cast nbuf0_4)
abbrev hst5 (t : Fin cfg0.N) : (st0_5 t).IsWhole := hstage0_5 ((cfg0.slots t 5).cast nbuf0_5)
abbrev hst6 (t : Fin cfg0.N) : (st0_6 t).IsWhole := hstage0_6 ((cfg0.slots t 6).cast nbuf0_6)

variable (c : Dev nD) (t : Fin cfg0.N) (acc : Vec F S1024x2048 .f32)

/-- The normalised rows a point works on. -/
abbrev rowsHere : Vec F S1024x2048 .bf16 := hidRow m c (blk (t.val / 11))

abbrev startAt (h1 : k0_cond1 (grid0.coords t) = 1#1) (h2 : isStart (grid0.coords t)) (h3 : ¬k0_cond3 (grid0.coords t) = 1#1) (h4 : ¬k0_cond4 (grid0.coords t) = 1#1) :=
  runStart c (grid0.coords t) (st0_0 t) (hst0 t) (st0_1 t) (hst1 t) (st0_2 t) (hst2 t) (st0_3 t) (hst3 t) (st0_4 t) (hst4 t) (st0_5 t) (hst5 t) (st0_6 t) (hst6 t) (iblk m c 0 t) (iblk m c 1 t) (iblk m c 2 t) (iblk m c 3 t) (V m c main_v0) h1 h2 h3 h4
abbrev rowAt (h1 : k0_cond1 (grid0.coords t) = 1#1) (h2 : ¬isStart (grid0.coords t)) (h3 : ¬k0_cond3 (grid0.coords t) = 1#1) (h4 : ¬k0_cond4 (grid0.coords t) = 1#1) :=
  runRow c (grid0.coords t) (st0_0 t) (hst0 t) (st0_1 t) (hst1 t) (st0_2 t) (hst2 t) (st0_3 t) (hst3 t) (st0_4 t) (hst4 t) (st0_5 t) (hst5 t) (st0_6 t) (hst6 t) (iblk m c 0 t) (iblk m c 1 t) (iblk m c 2 t) (iblk m c 3 t) (V m c main_v0)
    (off (blk (t.val / 11))) (inbOff _) h1 h2 h3 h4
abbrev sendAt (h1 : ¬k0_cond1 (grid0.coords t) = 1#1) (h3 : k0_cond3 (grid0.coords t) = 1#1) (h4 : ¬k0_cond4 (grid0.coords t) = 1#1) :=
  runSend c (grid0.coords t) (st0_0 t) (hst0 t) (st0_1 t) (hst1 t) (st0_2 t) (hst2 t) (st0_3 t) (hst3 t) (st0_4 t) (hst4 t) (st0_5 t) (hst5 t) (st0_6 t) (hst6 t) (iblk m c 1 t) (iblk m c 2 t) (iblk m c 3 t) (rowsHere m c t) acc (V m c main_v0) h1 h3 h4
abbrev midAt (h1 : ¬k0_cond1 (grid0.coords t) = 1#1) (h3 : ¬k0_cond3 (grid0.coords t) = 1#1) (h4 : ¬k0_cond4 (grid0.coords t) = 1#1) :=
  runMid c (grid0.coords t) (st0_0 t) (hst0 t) (st0_1 t) (hst1 t) (st0_2 t) (hst2 t) (st0_3 t) (hst3 t) (st0_4 t) (hst4 t) (st0_5 t) (hst5 t) (st0_6 t) (hst6 t) (iblk m c 1 t) (iblk m c 2 t) (iblk m c 3 t) (rowsHere m c t) acc h1 h3 h4
abbrev lastAt (h1 : ¬k0_cond1 (grid0.coords t) = 1#1) (h3 : ¬k0_cond3 (grid0.coords t) = 1#1) (h4 : k0_cond4 (grid0.coords t) = 1#1) :=
  runLast c (grid0.coords t) (st0_0 t) (hst0 t) (st0_1 t) (hst1 t) (st0_2 t) (hst2 t) (st0_3 t) (hst3 t) (st0_4 t) (hst4 t) (st0_5 t) (hst5 t) (st0_6 t) (hst6 t) (iblk m c 1 t) (iblk m c 2 t) (iblk m c 3 t) (iblk m c 4 t) (rowsHere m c t) acc h1 h3 h4

theorem not_second (h1 : k0_cond1 (grid0.coords t) = 1#1) : ¬k0_cond3 (grid0.coords t) = 1#1 := fun h => by
  have := (isFirst t).mp h1; have := (isSecond t).mp h; omega
theorem not_last (h1 : k0_cond1 (grid0.coords t) = 1#1) : ¬k0_cond4 (grid0.coords t) = 1#1 := fun h => by
  have := (isFirst t).mp h1; have := (isLast t).mp h; omega
theorem not_last' (h3 : k0_cond3 (grid0.coords t) = 1#1) : ¬k0_cond4 (grid0.coords t) = 1#1 := fun h => by
  have := (isSecond t).mp h3; have := (isLast t).mp h; omega

/-- A buffer of each output, through which its contents are stated. -/
abbrev VX : View sig .tc .vmem S1024x2048 .f32 := (Memref.whole cc0_stg5_0 : Memref sig .tc .vmem S1024x2048 .f32).view
abbrev VH : View sig .tc .vmem S1024x2048 .bf16 := (Memref.whole cc0_stg6_0 : Memref sig .tc .vmem S1024x2048 .bf16).view
/-- What stores leave. -/
abbrev leftX (L : List (View.Piece (Elt F) S1024x2048 .f32)) : Vec F S1024x2048 .f32 := VX.read (Elt F) (VX.writes (Elt F) VX.junk L)
abbrev leftH (L : List (View.Piece (Elt F) S1024x2048 .bf16)) : Vec F S1024x2048 .bf16 := VH.read (Elt F) (VH.writes (Elt F) VH.junk L)

/-- The running sum after a point, from the sum before it. -/
def stepAcc : Vec F S1024x2048 .f32 :=
  if h1 : k0_cond1 (grid0.coords t) = 1#1 then
    if h2 : isStart (grid0.coords t) then leftX (startAt m c t h1 h2 (not_second t h1) (not_last t h1)).1.1
    else leftX (rowAt m c t h1 h2 (not_second t h1) (not_last t h1)).1.1
  else if h3 : k0_cond3 (grid0.coords t) = 1#1 then leftX (sendAt m c t acc h1 h3 (not_last' t h3)).1
  else if h4 : k0_cond4 (grid0.coords t) = 1#1 then leftX (lastAt m c t acc h1 h3 h4).1.1
  else leftX (midAt m c t acc h1 h3 h4).1

/-- The running sum after each point. -/
def accAfter : (n : ℕ) → n < cfg0.N → Vec F S1024x2048 .f32
  | 0, hn => stepAcc m c ⟨0, hn⟩ (leftX [])
  | n + 1, hn => stepAcc m c ⟨n + 1, hn⟩ (accAfter n (Nat.lt_of_succ_lt hn))

/-- The running sum a point finds. -/
abbrev accBefore : Vec F S1024x2048 .f32 := accAfter m c (t.val - 1) (Nat.lt_of_le_of_lt (Nat.sub_le _ _) t.isLt)

theorem accAfter_eq (h : t.val ≠ 0) : accAfter m c t.val t.isLt = stepAcc m c t (accBefore m c t) := by
  obtain ⟨n, hn⟩ := t
  cases n with
  | zero => exact absurd rfl h
  | succ n => rfl
theorem accAfter_first (h1 : k0_cond1 (grid0.coords t) = 1#1) : accAfter m c t.val t.isLt = stepAcc m c t acc := by
  obtain ⟨n, hn⟩ := t
  cases n with
  | zero => unfold accAfter stepAcc; rw [dif_pos h1, dif_pos h1]
  | succ n => unfold accAfter; unfold stepAcc; rw [dif_pos h1, dif_pos h1]

/-- The normalised rows a row block's last point leaves. -/
def outH : Vec F S1024x2048 .bf16 :=
  if h : ¬k0_cond1 (grid0.coords t) = 1#1 ∧ ¬k0_cond3 (grid0.coords t) = 1#1 ∧ k0_cond4 (grid0.coords t) = 1#1 then
    leftH (lastAt m c t (accBefore m c t) h.1 h.2.1 h.2.2).1.2
  else leftH []

end Cert.Ffn1

end
-- ==== Proof.First.Data.lean ====
/-
  The proof data of the first feed-forward call: what its buffers hold around each point, the invariant that carries the
  normalised rows and the fetch under way from point to point, and what the stores of each run cover.
-/
module

public import proofs.«01_k».proof.Proof.First.Points

@[expose] public section

set_option maxRecDepth 16384

noncomputable section

namespace Cert.Ffn1

open Cert.FirstIdeal Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD Dat Cfg Window BodyObligation)

variable {F : FTy → Type} [FloatOps F]

local notation "𝕄" => MT nD τ sig Unit (Elt F) ℕ (UD sig nD τ) ℕ

variable (m : (ℓ : Loc nD τ sig) → Buf (Elt F) ℓ) (c : Dev nD) (t : Fin cfg0.N) (acc : Vec F S1024x2048 .f32)

/-! ## The stores cover the outputs -/

theorem start_cover (h1 : k0_cond1 (grid0.coords t) = 1#1) (h2 : isStart (grid0.coords t)) (h3 : ¬k0_cond3 (grid0.coords t) = 1#1) (h4 : ¬k0_cond4 (grid0.coords t) = 1#1) (y : S1024x2048.Idx) :
    ∃ pc ∈ (startAt m c t h1 h2 h3 h4).1.1, y ∈ pc.1.set :=
  View.cover_of_tiledBy (startAt m c t h1 h2 h3 h4).1.1 ![1024, 512] (by sl_kernel_rfl) y
theorem row_cover (h1 : k0_cond1 (grid0.coords t) = 1#1) (h2 : ¬isStart (grid0.coords t)) (h3 : ¬k0_cond3 (grid0.coords t) = 1#1) (h4 : ¬k0_cond4 (grid0.coords t) = 1#1) (y : S1024x2048.Idx) :
    ∃ pc ∈ (rowAt m c t h1 h2 h3 h4).1.1, y ∈ pc.1.set :=
  View.cover_of_tiledBy (rowAt m c t h1 h2 h3 h4).1.1 ![1024, 512] (by sl_kernel_rfl) y
theorem send_cover (h1 : ¬k0_cond1 (grid0.coords t) = 1#1) (h3 : k0_cond3 (grid0.coords t) = 1#1) (h4 : ¬k0_cond4 (grid0.coords t) = 1#1) (y : S1024x2048.Idx) :
    ∃ pc ∈ (sendAt m c t acc h1 h3 h4).1, y ∈ pc.1.set :=
  View.cover_of_tiledL (sendAt m c t acc h1 h3 h4).1 S1024x512.size (by sl_kernel_rfl) y
theorem mid_cover (h1 : ¬k0_cond1 (grid0.coords t) = 1#1) (h3 : ¬k0_cond3 (grid0.coords t) = 1#1) (h4 : ¬k0_cond4 (grid0.coords t) = 1#1) (y : S1024x2048.Idx) :
    ∃ pc ∈ (midAt m c t acc h1 h3 h4).1, y ∈ pc.1.set :=
  View.cover_of_tiledL (midAt m c t acc h1 h3 h4).1 S1024x512.size (by sl_kernel_rfl) y
theorem last_cover (h1 : ¬k0_cond1 (grid0.coords t) = 1#1) (h3 : ¬k0_cond3 (grid0.coords t) = 1#1) (h4 : k0_cond4 (grid0.coords t) = 1#1) (y : S1024x2048.Idx) :
    ∃ pc ∈ (lastAt m c t acc h1 h3 h4).1.1, y ∈ pc.1.set :=
  View.cover_of_tiledL (lastAt m c t acc h1 h3 h4).1.1 S1024x512.size (by sl_kernel_rfl) y
theorem last_coverH (h1 : ¬k0_cond1 (grid0.coords t) = 1#1) (h3 : ¬k0_cond3 (grid0.coords t) = 1#1) (h4 : k0_cond4 (grid0.coords t) = 1#1) (y : S1024x2048.Idx) :
    ∃ pc ∈ (lastAt m c t acc h1 h3 h4).1.2, y ∈ pc.1.set :=
  View.cover_of_tiledL (lastAt m c t acc h1 h3 h4).1.2 S1024x2048.size (by sl_kernel_rfl) y

/-- The first point of all leaves the normalised rows of its row block in the scratch. -/
theorem start_rows (h1 : k0_cond1 (grid0.coords t) = 1#1) (h2 : isStart (grid0.coords t)) (h3 : ¬k0_cond3 (grid0.coords t) = 1#1) (h4 : ¬k0_cond4 (grid0.coords t) = 1#1) (f : BufTy.Contents (Elt F) hBuf.view.ty) :
    hBuf.view.read (Elt F) (hBuf.view.writes (Elt F) f (startAt m c t h1 h2 h3 h4).1.2) = k0_pay5 (tile m c 0) (iblk m c 0 t) := by
  unfold startAt runStart
  refine (View.read_writes_full _ _ _ _ _).trans ?_
  rw [View.readAt_full, (hst0 t).read_unread]
  refine congrArg (fun x => k0_pay5 x (iblk m c 0 t)) ?_
  unfold runStart.sl.v64 runStart.sl.dma0
  unfold View.readCov
  refine (View.readAt_full _ _ _).trans ((View.read_writes_full xBuf.view _ (off := fun _ => 0) (fun a => by simp) _ []).trans ?_)
  rfl
/-- So does the first point of a later row block. -/
theorem row_rows (h1 : k0_cond1 (grid0.coords t) = 1#1) (h2 : ¬isStart (grid0.coords t)) (h3 : ¬k0_cond3 (grid0.coords t) = 1#1) (h4 : ¬k0_cond4 (grid0.coords t) = 1#1) (f : BufTy.Contents (Elt F) hBuf.view.ty) :
    hBuf.view.read (Elt F) (hBuf.view.writes (Elt F) f (rowAt m c t h1 h2 h3 h4).1.2) = k0_pay5 (tile m c (blk (t.val / 11))) (iblk m c 0 t) := by
  unfold rowAt runRow
  refine (View.read_writes_full _ _ _ _ _).trans ?_
  rw [View.readAt_full, View.readAt_full, (Memref.isWhole_whole cc0_scratch1).read_unread, (hst0 t).read_unread]
  rfl

/-! ## The invariant -/

/-- The normalised rows' scratch before point `n`: those of the row block of the point before. -/
def hPart (n : ℕ) : sProp 𝕄 :=
  if n = 0 then iprop(∃ d, owns (c : Thread nD τ) hBuf fullShare d) else owns (c : Thread nD τ) hBuf fullShare (hidRow m c (blk ((n - 1) / 11)))
/-- The residual rows outside row block `k`. -/
def restRows (k : Fin 32) : sProp 𝕄 :=
  xAll.view.loc (c : Thread nD τ) ↦[Finset.univ \ (xRows (off k) (inbOff k)).view.set]{fullShare} V m c main_v0
/-- The fetch of row block `k` is under way. -/
def flying (k : Fin 32) : sProp 𝕄 := iprop(inFlight c (V m c main_v0) (off k) (inbOff k) ∗ restRows m c k)
/-- No fetch is under way. -/
def resting : sProp 𝕄 :=
  iprop((∃ d, owns (c : Thread nD τ) xBuf fullShare d) ∗ semVal ((c : Thread nD τ), xSem) 0
    ∗ (xAll.view.loc (c : Thread nD τ) ↦{fullShare} V m c main_v0))
/-- The fetches before point `n`: under way from a row block's second point to the next one's first. -/
def dmaPart (n : ℕ) : sProp 𝕄 :=
  if 2 ≤ n ∧ n ≤ 341 ∧ n % 11 ≠ 1 then flying m c (blk ((n - 2) / 11 + 1)) else resting m c

def inv (n : ℕ) : sProp 𝕄 := iprop((∃ r, prngReg c r) ∗ hPart m c n ∗ dmaPart m c n)

theorem hPart_any (n : ℕ) : hPart m c n ⊢ iprop(∃ d, owns (c : Thread nD τ) hBuf fullShare d) := by
  unfold hPart
  split
  · exact .rfl
  · iintro H; iexists _; iexact H
theorem hPart_before (h : ¬t.val % 11 = 0) : hPart m c t.val = owns (c : Thread nD τ) hBuf fullShare (rowsHere m c t) := by
  unfold hPart
  rw [if_neg (by omega), show (t.val - 1) / 11 = t.val / 11 by omega]
theorem hPart_after : hPart m c (t.val + 1) = owns (c : Thread nD τ) hBuf fullShare (rowsHere m c t) := by
  unfold hPart
  rw [if_neg (by omega), Nat.add_sub_cancel]

theorem dma_resting (n : ℕ) (h : ¬(2 ≤ n ∧ n ≤ 341 ∧ n % 11 ≠ 1)) : dmaPart m c n = resting m c := if_neg h
theorem dma_flying (n : ℕ) (k : ℕ) (h : 2 ≤ n ∧ n ≤ 341 ∧ n % 11 ≠ 1) (hk : (n - 2) / 11 + 1 = k) : dmaPart m c n = flying m c (blk k) := by
  unfold dmaPart; rw [if_pos h, hk]
/-- A point that is neither a row block's first nor its second before another leaves the fetches as they are. -/
theorem dma_kept (h0 : ¬t.val % 11 = 0) (h1 : ¬(t.val % 11 = 1 ∧ t.val < 341)) : dmaPart m c (t.val + 1) = dmaPart m c t.val := by
  by_cases h : 2 ≤ t.val ∧ t.val ≤ 341 ∧ t.val % 11 ≠ 1
  · rw [dma_flying m c t.val (t.val / 11 + 1) h (by omega), dma_flying m c (t.val + 1) (t.val / 11 + 1) (by omega) (by omega)]
  · rw [dma_resting m c _ h, dma_resting m c _ (by omega)]

/-- The residual rows, split at a row block. -/
theorem split_rows (k : Fin 32) : (xAll.view.loc (c : Thread nD τ) ↦{fullShare} V m c main_v0 : sProp 𝕄)
    ⊣⊢ iprop(rowsAt c (V m c main_v0) (off k) (inbOff k) ∗ restRows m c k) :=
  pointsTo_split_subset (Finset.subset_univ _)

/-- A fetch from an equal place is the same fetch. -/
theorem inFlight_congr (X : Buf (Elt F) (xAll.view.loc (c : Thread nD τ))) {o o' : Fin 2 → ℕ} (e : o = o') (ho) (ho') :
    (inFlight c X o ho : sProp 𝕄) = inFlight c X o' ho' := by subst e; rfl
theorem rowsAt_congr (X : Buf (Elt F) (xAll.view.loc (c : Thread nD τ))) {o o' : Fin 2 → ℕ} (e : o = o') (ho) (ho') :
    (rowsAt c X o ho : sProp 𝕄) = rowsAt c X o' ho' := by subst e; rfl

/-! ## The proof data -/

/-- The arrays as the call finds them; after a point each input's buffer at its block, the running sum and the normalised
    rows as computed. -/
def dats (_ : Fin 1) (c : Dev nD) : Dat τ (Elt F) Unit ℕ (UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => accAfter m c t.val t.isLt
    | ⟨6, _⟩ => outH m c t
  Φ n := inv m c n.val
  q _ := fullShare
  owed _ := 0

theorem A_eq (w : Fin cfg0.W) : (dats m 0 c).A w = V m c (Pipeline.arrRef spec0 w) := by dsimp only [dats]
theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = accAfter m c t.val t.isLt := by dsimp only [dats]
theorem after6 : (dats m 0 c).after 6 t = outH m c t := by dsimp only [dats]
theorem before0 (d) : (dats m 0 c).before 0 t d = iblk m c 0 t :=
  ((dats m 0 c).before_in_eq_fetched 0 rfl (fun _ => rfl) (fun _ _ _ => rfl) (fun t => by rw [after0]; unfold Dat.blockOf iblk; rw [A_eq]) t d).trans
    (by unfold Dat.fetched Dat.blockOf iblk; rw [A_eq]; rfl)
theorem before1 (d) : (dats m 0 c).before 1 t d = iblk m c 1 t :=
  ((dats m 0 c).before_in_eq_fetched 1 rfl (fun _ => rfl) (fun _ _ _ => rfl) (fun t => by rw [after1]; unfold Dat.blockOf iblk; rw [A_eq]) t d).trans
    (by unfold Dat.fetched Dat.blockOf iblk; rw [A_eq]; rfl)
theorem before2 (d) : (dats m 0 c).before 2 t d = iblk m c 2 t :=
  ((dats m 0 c).before_in_eq_fetched 2 rfl (fun _ => rfl) (fun _ _ _ => rfl) (fun t => by rw [after2]; unfold Dat.blockOf iblk; rw [A_eq]) t d).trans
    (by unfold Dat.fetched Dat.blockOf iblk; rw [A_eq]; rfl)
theorem before3 (d) : (dats m 0 c).before 3 t d = iblk m c 3 t :=
  ((dats m 0 c).before_in_eq_fetched 3 rfl (fun _ => rfl) (fun _ _ _ => rfl) (fun t => by rw [after3]; unfold Dat.blockOf iblk; rw [A_eq]) t d).trans
    (by unfold Dat.fetched Dat.blockOf iblk; rw [A_eq]; rfl)
theorem before4 (d) : (dats m 0 c).before 4 t d = iblk m c 4 t :=
  ((dats m 0 c).before_in_eq_fetched 4 rfl (fun _ => rfl) (fun _ _ _ => rfl) (fun t => by rw [after4]; unfold Dat.blockOf iblk; rw [A_eq]) t d).trans
    (by unfold Dat.fetched Dat.blockOf iblk; rw [A_eq]; rfl)
/-- Past a row block's first point the running sum's buffer holds what the point before left. -/
theorem before5 (h : ¬t.val % 11 = 0) (d) : (dats m 0 c).before 5 t d = accBefore m c t := by
  have hN := points t
  rw [Dat.before_out_kept _ 5 rfl t (by omega) (Bool.eq_false_iff.mpr fun h => by have := (flush0_5 _).mp h; dsimp only at this; omega)
    (fun _ => rfl) (fun _ _ => rfl)]
  dsimp only [dats]

end Cert.Ffn1

end
-- ==== Proof.First.Body.lean ====
/-
  The first feed-forward call runs: its body keeps the invariant at every point, so the program ends with the arrays at
  what the proof data say, its arguments unchanged and its semaphores at zero.
-/
module

public import proofs.«01_k».proof.Proof.First.Data
public import Idealize.ShloMosaic.Lib.Claim

@[expose] public section

set_option maxRecDepth 16384

noncomputable section

namespace Cert.Ffn1

open Cert.FirstIdeal Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD Dat Cfg Window BodyObligation)

variable {F : FTy → Type} [FloatOps F]

local notation "𝕄" => MT nD τ sig Unit (Elt F) ℕ (UD sig nD τ) ℕ

section Body
variable (m : (ℓ : Loc nD τ sig) → Buf (Elt F) ℓ) (c : Dev nD) (t : Fin cfg0.N)

/-- What a point is called with, -/
def bodyPre : sProp 𝕄 :=
  iprop(inv m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
/-- and what it returns. -/
def bodyPost : sProp 𝕄 :=
  iprop(inv m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t)

/-- Where the point is not a row block's last, the normalised rows' output stays as found. -/
theorem leaves6_idle (h : ¬k0_cond4 (grid0.coords t) = 1#1) :
    (dats m 0 c).leavesExact 6 t = iprop(∃ d, owns (c : Thread nD τ) (st0_6 t) fullShare ((dats m 0 c).before 6 t d)) :=
  (dats m 0 c).leavesExact_idle 6 t (by show (!(k0_cond4 (grid0.coords t) == 1#1)) = true; simpa using h)
    (Bool.eq_false_iff.mpr fun hf => h ((isLast t).mpr ((flush0_6 t).mp hf)))
theorem leaves6_last (h : k0_cond4 (grid0.coords t) = 1#1) :
    (dats m 0 c).leavesExact 6 t = owns (c : Thread nD τ) (st0_6 t) fullShare (outH m c t) := by
  have hi : cfg0.idle 6 (grid0.coords t) = false := by
    show (!(k0_cond4 (grid0.coords t) == 1#1)) = false
    simpa using h
  unfold Dat.leavesExact
  rw [show cfg0.idle 6 (cfg0.grid.coords t) = false from hi, after6]

/-- The core waits for what it likes and owes nothing. -/
theorem owes_any (W : Waits sig Unit) (n : Fin (cfg0.N + 1)) : owes (c : Thread nD τ) 0 W ⊢ (dats m 0 c).owesAt () n := by
  unfold Dat.owesAt Pipeline.owesWithin
  iintro H
  iexists W
  isplitr; · ipureintro; exact fun _ _ => Or.inl trivial
  iexact H

set_option maxHeartbeats 1200000 in
/-- A point that only adds a tile keeps the invariant. -/
theorem body_mid (n1 : ¬k0_cond1 (grid0.coords t) = 1#1) (n3 : ¬k0_cond3 (grid0.coords t) = 1#1) (n4 : ¬k0_cond4 (grid0.coords t) = 1#1) :
    bodyPre m c t ⊢ wp frame (wpE (defs₀ (F := F)) Variants.none c none) Set.univ (bodyAt0 t) (fun _ => bodyPost m c t) := by
  have hN := points t
  unfold bodyPre bodyPost bodyAt0
  simp only [before0, before1, before2, before3, before4]
  rw [after0, after1, after2, after3, after4, after5]
  have e1 : ¬t.val % 11 = 0 := fun h => n1 ((isFirst t).mpr h)
  have e3 : ¬(t.val % 11 = 1 ∧ t.val < 341) := fun h => n3 ((isSecond t).mpr h)
  simp only [before5 m c t e1]
  rw [leaves6_idle m c t n4, accAfter_eq m c t (by omega)]
  unfold stepAcc
  rw [dif_neg n1, dif_neg n3, dif_neg n4]
  unfold inv
  rw [hPart_before m c t e1, hPart_after, dma_kept m c t e1 e3]
  iintro ⟨⟨Hp, Hh, Hd⟩, Ho, ⟨%d0, H0⟩, ⟨%d1, H1⟩, ⟨%d2, H2⟩, ⟨%d3, H3⟩, ⟨%d4, H4⟩, ⟨%d5, H5⟩, ⟨%d6, H6⟩⟩
  iapply ((midAt m c t (accBefore m c t) n1 n3 n4).2 Set.univ _)
  isplitl [H1]; · iexact H1
  isplitl [H2]; · iexact H2
  isplitl [H3]; · iexact H3
  isplitl [H5]; · iexact H5
  isplitl [Hh]; · iexact Hh
  iintro ⟨H1, H2, H3, ⟨%e5, H5⟩, Hh⟩
  isplitl [Hp Hh Hd]
  · isplitl [Hp]; · iexact Hp
    isplitl [Hh]; · iexact Hh
    iexact Hd
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (mid_cover m c t _ n1 n3 n4)
  iexists d6; iexact H6

set_option maxHeartbeats 1200000 in
/-- The last point of a row block keeps the invariant and leaves both outputs. -/
theorem body_last (n1 : ¬k0_cond1 (grid0.coords t) = 1#1) (n3 : ¬k0_cond3 (grid0.coords t) = 1#1) (n4 : k0_cond4 (grid0.coords t) = 1#1) :
    bodyPre m c t ⊢ wp frame (wpE (defs₀ (F := F)) Variants.none c none) Set.univ (bodyAt0 t) (fun _ => bodyPost m c t) := by
  have hN := points t
  unfold bodyPre bodyPost bodyAt0
  simp only [before0, before1, before2, before3, before4]
  rw [after0, after1, after2, after3, after4, after5]
  have e1 : ¬t.val % 11 = 0 := fun h => n1 ((isFirst t).mpr h)
  have e3 : ¬(t.val % 11 = 1 ∧ t.val < 341) := fun h => n3 ((isSecond t).mpr h)
  simp only [before5 m c t e1]
  rw [leaves6_last m c t n4, accAfter_eq m c t (by omega)]
  unfold stepAcc outH
  rw [dif_neg n1, dif_neg n3, dif_pos n4, dif_pos ⟨n1, n3, n4⟩]
  unfold inv
  rw [hPart_before m c t e1, hPart_after, dma_kept m c t e1 e3]
  iintro ⟨⟨Hp, Hh, Hd⟩, Ho, ⟨%d0, H0⟩, ⟨%d1, H1⟩, ⟨%d2, H2⟩, ⟨%d3, H3⟩, ⟨%d4, H4⟩, ⟨%d5, H5⟩, ⟨%d6, H6⟩⟩
  iapply ((lastAt m c t (accBefore m c t) n1 n3 n4).2 Set.univ _)
  isplitl [H1]; · iexact H1
  isplitl [H2]; · iexact H2
  isplitl [H3]; · iexact H3
  isplitl [H4]; · iexact H4
  isplitl [H5]; · iexact H5
  isplitl [H6]; · iexists _; iexact H6
  isplitl [Hh]; · iexact Hh
  iintro ⟨H1, H2, H3, H4, ⟨%e5, H5⟩, ⟨%e6, H6⟩, Hh⟩
  isplitl [Hp Hh Hd]
  · isplitl [Hp]; · iexact Hp
    isplitl [Hh]; · iexact Hh
    iexact Hd
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (last_cover m c t _ n1 n3 n4)
  unfold owns; iexists _; isplitr
  swap; · iexact H6
  ipureintro; exact View.read_writes_of_cover _ _ _ _ _ (last_coverH m c t _ n1 n3 n4)

set_option maxHeartbeats 1200000 in
/-- The second point of a row block keeps the invariant: it gives the next block's rows to the fetch. -/
theorem body_send (n1 : ¬k0_cond1 (grid0.coords t) = 1#1) (n3 : k0_cond3 (grid0.coords t) = 1#1) (n4 : ¬k0_cond4 (grid0.coords t) = 1#1) :
    bodyPre m c t ⊢ wp frame (wpE (defs₀ (F := F)) Variants.none c none) Set.univ (bodyAt0 t) (fun _ => bodyPost m c t) := by
  have hN := points t
  unfold bodyPre bodyPost bodyAt0
  simp only [before0, before1, before2, before3, before4]
  rw [after0, after1, after2, after3, after4, after5]
  have e1 : ¬t.val % 11 = 0 := fun h => n1 ((isFirst t).mpr h)
  have e3 := (isSecond t).mp n3
  have eo := off_next t e3.2
  simp only [before5 m c t e1]
  rw [leaves6_idle m c t n4, accAfter_eq m c t (by omega)]
  unfold stepAcc
  rw [dif_neg n1, dif_pos n3]
  unfold inv
  rw [hPart_before m c t e1, hPart_after, dma_resting m c t.val (by omega), dma_flying m c (t.val + 1) (t.val / 11 + 1) (by omega) (by omega)]
  unfold resting flying
  have hsplit := split_rows m c (blk (t.val / 11 + 1))
  rw [← rowsAt_congr c (V m c main_v0) eo (k0_off2_inb _ n3) (inbOff _)] at hsplit
  rw [← inFlight_congr c (V m c main_v0) eo (k0_off2_inb _ n3) (inbOff _)]
  iintro ⟨⟨Hp, Hh, Hd⟩, Ho, ⟨%d0, H0⟩, ⟨%d1, H1⟩, ⟨%d2, H2⟩, ⟨%d3, H3⟩, ⟨%d4, H4⟩, ⟨%d5, H5⟩, ⟨%d6, H6⟩⟩
  icases Hd with ⟨Hx, Hs, Hv⟩
  ihave Hv' := hsplit.1 $$ Hv
  icases Hv' with ⟨Hr, Hrest⟩
  iapply ((sendAt m c t (accBefore m c t) n1 n3 n4).2 _)
  isplitl [H1]; · iexact H1
  isplitl [H2]; · iexact H2
  isplitl [H3]; · iexact H3
  isplitl [H5]; · iexact H5
  isplitl [Hh]; · iexact Hh
  isplitl [Hx]; · iexact Hx
  isplitl [Hr]; · iexact Hr
  isplitl [Hs]; · iexact Hs
  iintro ⟨H1, H2, H3, ⟨%e5, H5⟩, Hh, Hf⟩
  isplitl [Hp Hh Hf Hrest]
  · isplitl [Hp]; · iexact Hp
    isplitl [Hh]; · iexact Hh
    isplitl [Hf]; · iexact Hf
    iexact Hrest
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (send_cover m c t _ n1 n3 n4)
  iexists d6; iexact H6

set_option maxHeartbeats 1200000 in
/-- The first point of a later row block keeps the invariant: it takes the rows from the fetch. -/
theorem body_row (n1 : k0_cond1 (grid0.coords t) = 1#1) (n2 : ¬isStart (grid0.coords t)) :
    bodyPre m c t ⊢ wp frame (wpE (defs₀ (F := F)) Variants.none c none) Set.univ (bodyAt0 t) (fun _ => bodyPost m c t) := by
  have hN := points t
  unfold bodyPre bodyPost bodyAt0
  simp only [before0, before1, before2, before3, before4]
  rw [after0, after1, after2, after3, after4, after5]
  have e1 := (isFirst t).mp n1
  have e2 : ¬t.val < 11 := fun h => n2 ((isStart_iff t).mpr h)
  have n3 := not_second t n1
  have n4 := not_last t n1
  rw [leaves6_idle m c t n4, accAfter_eq m c t (by omega)]
  unfold stepAcc
  rw [dif_pos n1, dif_neg n2]
  unfold inv
  rw [hPart_after, dma_flying m c t.val (t.val / 11) (by omega) (by omega), dma_resting m c (t.val + 1) (by omega)]
  iintro ⟨⟨Hp, Hh, Hd⟩, Ho, ⟨%d0, H0⟩, ⟨%d1, H1⟩, ⟨%d2, H2⟩, ⟨%d3, H3⟩, ⟨%d4, H4⟩, ⟨%d5, H5⟩, ⟨%d6, H6⟩⟩
  unfold resting flying
  icases Hd with ⟨Hf, Hrest⟩
  unfold Dat.owesAt Pipeline.owesWithin
  rw [show (dats m 0 c).owed t.castSucc = 0 from rfl]
  icases Ho with ⟨%W, -, HO⟩
  ihave Hh' := (hPart_any m c t.val) $$ Hh
  iapply ((rowAt m c t n1 n2 n3 n4).2 W _)
  isplitl [H0]; · iexact H0
  isplitl [H1]; · iexact H1
  isplitl [H2]; · iexact H2
  isplitl [H3]; · iexact H3
  isplitl [H5]; · iexists _; iexact H5
  isplitl [Hh']; · iexact Hh'
  isplitl [Hf]; · iexact Hf
  isplitl [HO]; · iexact HO
  iintro ⟨H0, H1, H2, H3, ⟨%e5, H5⟩, ⟨%eh, Hh⟩, Hr, Hx, Hs, ⟨%W', HO⟩⟩
  isplitl [Hp Hh Hr Hx Hs Hrest]
  · isplitl [Hp]; · iexact Hp
    isplitl [Hh]
    · unfold owns; iexists _; isplitr
      swap; · iexact Hh
      ipureintro
      refine (row_rows m c t n1 n2 n3 n4 eh).trans ?_
      unfold rowsHere hidRow
      rw [first_blk t e1]
    isplitl [Hx]
    · iexists _; unfold owns; iexists _; isplitr
      swap; · iexact Hx
      ipureintro; rfl
    isplitl [Hs]; · iexact Hs
    iapply (split_rows m c (blk (t.val / 11))).2
    isplitl [Hr]; · iexact Hr
    iexact Hrest
  isplitl [HO]; · iapply (owes_any m c W' t.succ) $$ HO
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (row_cover m c t n1 n2 n3 n4)
  iexists d6; iexact H6

set_option maxHeartbeats 1200000 in
/-- The first point of all keeps the invariant: it fetches its own rows and waits for them. -/
theorem body_start (n1 : k0_cond1 (grid0.coords t) = 1#1) (n2 : isStart (grid0.coords t)) :
    bodyPre m c t ⊢ wp frame (wpE (defs₀ (F := F)) Variants.none c none) Set.univ (bodyAt0 t) (fun _ => bodyPost m c t) := by
  have hN := points t
  unfold bodyPre bodyPost bodyAt0
  simp only [before0, before1, before2, before3, before4]
  rw [after0, after1, after2, after3, after4, after5]
  have e1 := (isFirst t).mp n1
  have e2 := (isStart_iff t).mp n2
  have e0 : blk (t.val / 11) = 0 := Fin.ext (by show t.val / 11 % 32 = 0; omega)
  have n3 := not_second t n1
  have n4 := not_last t n1
  rw [leaves6_idle m c t n4, accAfter_first m c t (leftX []) n1]
  unfold stepAcc
  rw [dif_pos n1, dif_pos n2]
  unfold inv
  rw [hPart_after, dma_resting m c t.val (by omega), dma_resting m c (t.val + 1) (by omega)]
  iintro ⟨⟨Hp, Hh, Hd⟩, Ho, ⟨%d0, H0⟩, ⟨%d1, H1⟩, ⟨%d2, H2⟩, ⟨%d3, H3⟩, ⟨%d4, H4⟩, ⟨%d5, H5⟩, ⟨%d6, H6⟩⟩
  unfold resting
  icases Hd with ⟨Hx, Hs, Hv⟩
  ihave Hv' := (split_rows m c 0).1 $$ Hv
  icases Hv' with ⟨Hr, Hrest⟩
  unfold Dat.owesAt Pipeline.owesWithin
  rw [show (dats m 0 c).owed t.castSucc = 0 from rfl]
  icases Ho with ⟨%W, -, HO⟩
  ihave Hh' := (hPart_any m c t.val) $$ Hh
  iapply ((startAt m c t n1 n2 n3 n4).2 W _)
  isplitl [H0]; · iexact H0
  isplitl [H1]; · iexact H1
  isplitl [H2]; · iexact H2
  isplitl [H3]; · iexact H3
  isplitl [H5]; · iexists _; iexact H5
  isplitl [Hh']; · iexact Hh'
  isplitl [Hx]; · iexact Hx
  isplitl [Hr]; · iexact Hr
  isplitl [Hs]; · iexact Hs
  isplitl [HO]; · iexact HO
  iintro ⟨H0, H1, H2, H3, ⟨%e5, H5⟩, ⟨%eh, Hh⟩, Hr, Hx, Hs, ⟨%W', HO⟩⟩
  isplitl [Hp Hh Hr Hx Hs Hrest]
  · isplitl [Hp]; · iexact Hp
    isplitl [Hh]
    · unfold owns; iexists _; isplitr
      swap; · iexact Hh
      ipureintro
      refine (start_rows m c t n1 n2 n3 n4 eh).trans ?_
      unfold rowsHere hidRow
      rw [first_blk t e1, e0]
    isplitl [Hx]
    · iexists _; unfold owns; iexists _; isplitr
      swap; · iexact Hx
      ipureintro; rfl
    isplitl [Hs]; · iexact Hs
    iapply (split_rows m c 0).2
    isplitl [Hr]; · iexact Hr
    iexact Hrest
  isplitl [HO]; · iapply (owes_any m c W' t.succ) $$ HO
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (start_cover m c t n1 n2 n3 n4)
  iexists d6; iexact H6

/-- The body keeps the invariant at every point. -/
theorem sound_body : bodyPre m c t ⊢ wp frame (wpE (defs₀ (F := F)) Variants.none c none) Set.univ (bodyAt0 t) (fun _ => bodyPost m c t) := by
  by_cases n1 : k0_cond1 (grid0.coords t) = 1#1
  · by_cases n2 : isStart (grid0.coords t)
    · exact body_start m c t n1 n2
    · exact body_row m c t n1 n2
  · by_cases n3 : k0_cond3 (grid0.coords t) = 1#1
    · exact body_send m c t n1 n3 (not_last' t n3)
    · by_cases n4 : k0_cond4 (grid0.coords t) = 1#1
      · exact body_last m c t n1 n3 n4
      · exact body_mid m c t n1 n3 n4
end Body

end Cert.Ffn1

end
-- ==== Proof.First.Frame.lean ====
/-
  The first feed-forward call runs from any memory and any values: it ends with the arrays at what the proof data say, its
  arguments unchanged and its semaphores at zero.
-/
module

public import proofs.«01_k».proof.Proof.First.Body
public import Idealize.ShloMosaic.Lib.Pipeline.FrameBody

@[expose] public section

set_option maxRecDepth 16384

noncomputable section

namespace Cert.Ffn1

open Cert.FirstIdeal Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD Dat Cfg Window BodyObligation FramePost ΦD)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- The body table's row at a point is the body on the point's buffers. -/
theorem row_at (t : Fin cfg0.N) : defs₀ (F := F) .tc cfg0.body (cfg0.bodyArgs t (cfg0.slots t)) = bodyAt0 t := by
  unfold defs₀; rw [Defs.onTc_tc]

/-- The body does at every point what the proof data ask. -/
theorem obligation (c : Dev nD) : BodyObligation (dats (F := F) m 0 c) (defs₀ (F := F)) Variants.none () Set.univ := fun t => by
  rw [bigSep_W0, bigSep_W0, row_at]
  exact triple_restated (sound_body m c t) rfl .rfl fun _ => .rfl

/-- The call's own semaphore, which the fetches complete on. -/
abbrev fetchSem : Fin 1 → SemLoc sig := fun _ => xSem
theorem fetchSem_own : Pipeline.OwnSemFacts spec0 fetchSem := by decide

/-- The launch hands the invariant over before the first point. -/
theorem inv_in (c : Dev nD) : ΦD fetchSem spec0 {main_v0} (V m) c ⊢ inv m c 0 := by
  show iprop(Pipeline.scopedRest spec0 c ∗ (∃ r, prngReg c r) ∗ Pipeline.ownSems0 fetchSem c ∗ bigSep {main_v0} fun b => ((c : Thread nD τ).loc b) ↦{fullShare} V m c b) ⊢ _
  rw [scopedRest0_eq, bigSep_singleton]
  unfold inv hPart dmaPart resting Pipeline.ownSems0
  rw [if_pos rfl, if_neg (by omega), show (Finset.univ : Finset (Fin 1)) = {0} from rfl, bigSep_singleton]
  iintro ⟨⟨⟨%f, H0⟩, ⟨%f', H1⟩⟩, Hp, Hs, Hv⟩
  isplitl [Hp]; · iexact Hp
  isplitl [H0]
  · iexists f; rw [owns_whole]; iexact H0
  isplitl [H1]
  · iexists f'; rw [owns_whole]; iexact H1
  isplitl [Hs]; · iexact Hs
  iexact Hv

/-- The invariant gives it back after the last one. -/
theorem inv_out (c : Dev nD) : inv m c 352 ⊢ ΦD fetchSem spec0 {main_v0} (V m) c := by
  show _ ⊢ iprop(Pipeline.scopedRest spec0 c ∗ (∃ r, prngReg c r) ∗ Pipeline.ownSems0 fetchSem c ∗ bigSep {main_v0} fun b => ((c : Thread nD τ).loc b) ↦{fullShare} V m c b)
  rw [scopedRest0_eq, bigSep_singleton]
  unfold inv dmaPart resting Pipeline.ownSems0
  rw [if_neg (by omega), show (Finset.univ : Finset (Fin 1)) = {0} from rfl, bigSep_singleton]
  simp only [owns_whole]
  iintro ⟨Hp, Hh, ⟨%d, H1⟩, Hs, Hv⟩
  ihave Hh' := (hPart_any m c 352) $$ Hh
  icases Hh' with ⟨%d', H0⟩
  isplitl [H0 H1]
  · isplitl [H0]
    · iexists d'; rw [← owns_whole]; iexact H0
    iexists d; iexact H1
  isplitl [Hp]; · iexact Hp
  isplitl [Hs]; · iexact Hs
  iexact Hv

set_option backward.isDefEq.respectTransparency.types false in
/-- Every fair run ends, the windows' arrays at what the proof data compute, the other buffers as found, the semaphores at zero. -/
theorem run_all : θ_run defs (onTc (τ := τ) (main (F := F))) (s₀ m ρ) (fun r => FramePost cfgs (dats m) 0 (V m) r ∧ r.2.sem = fun _ => 0) :=
  Pipeline.θ_run_frame_dma (Q' := _) cfgs (dats m) (0 : Fin 1) launch0 fetchSem defs₀ Variants.none fetchSem_own {main_v0} (by decide) m ρ main
    (hbody := fun c => (obligation m c).loose) (hshare := fun c => (dats m 0 c).share_full fun _ => rfl)
    (howed := fun _ _ => rfl) (V := V m) (hmain := entry m Variants.none) (hA := fun c w => A_eq m c w)
    (hin := inv_in m) (hout := fun c => inv_out m c)

/-- The arguments end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r hr => ⟨fun c => by
    have h := hr.1
    exact ⟨((h c).2 main_arg0 (Pipeline.mem_restRefs_of main_arg0 (by decide) (by decide))).trans (V_arg m c main_arg0 (by decide)),
      ((h c).2 main_arg1 (Pipeline.mem_restRefs_of main_arg1 (by decide) (by decide))).trans (V_arg m c main_arg1 (by decide)),
      ((h c).2 main_arg2 (Pipeline.mem_restRefs_of main_arg2 (by decide) (by decide))).trans (V_arg m c main_arg2 (by decide)),
      ((h c).2 main_arg3 (Pipeline.mem_restRefs_of main_arg3 (by decide) (by decide))).trans (V_arg m c main_arg3 (by decide)),
      ((h c).2 main_arg4 (Pipeline.mem_restRefs_of main_arg4 (by decide) (by decide))).trans (V_arg m c main_arg4 (by decide)),
      ((h c).2 main_arg5 (Pipeline.mem_restRefs_of main_arg5 (by decide) (by decide))).trans (V_arg m c main_arg5 (by decide))⟩, hr.2⟩) (run_all m ρ)

/-- Every fair run ends with the two results at what the proof data compute, the arguments unchanged. -/
theorem run_results : θ_run defs (onTc (τ := τ) (main (F := F))) ⟨m, fun _ => 0, ρ⟩ (fun r => ∀ c : Dev nD,
      r.2.mem ((c.tc : Thread nD τ).loc main_v6_0) = (dats m 0 c).arrAt 5 cfg0.N
      ∧ r.2.mem ((c.tc : Thread nD τ).loc main_v6_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hr c => by
    have h := hr.1
    exact ⟨(h c).1 5, (h c).1 6,
      ((h c).2 main_arg0 (Pipeline.mem_restRefs_of main_arg0 (by decide) (by decide))).trans (V_arg m c main_arg0 (by decide)),
      ((h c).2 main_arg1 (Pipeline.mem_restRefs_of main_arg1 (by decide) (by decide))).trans (V_arg m c main_arg1 (by decide)),
      ((h c).2 main_arg2 (Pipeline.mem_restRefs_of main_arg2 (by decide) (by decide))).trans (V_arg m c main_arg2 (by decide)),
      ((h c).2 main_arg3 (Pipeline.mem_restRefs_of main_arg3 (by decide) (by decide))).trans (V_arg m c main_arg3 (by decide)),
      ((h c).2 main_arg4 (Pipeline.mem_restRefs_of main_arg4 (by decide) (by decide))).trans (V_arg m c main_arg4 (by decide)),
      ((h c).2 main_arg5 (Pipeline.mem_restRefs_of main_arg5 (by decide) (by decide))).trans (V_arg m c main_arg5 (by decide))⟩) (run_all m ρ)

end Cert.Ffn1

end
-- ==== Proof.First.Bits.lean ====
/-
  The first feed-forward call as written runs as its idealization does: the two programs have the same text.
-/
module

public import proofs.«01_k».proof.Defs
public import proofs.«01_k».proof.Proof.First.Frame
public import proofs.«01_k».proof.Proof.Gen.First

@[expose] public section

set_option maxRecDepth 16384

noncomputable section

namespace Cert.Ffn1

open Idealize.ShloMosaic Idealize.ShloMosaic.TcCoe Idealize.SL.Sem

/-- The two programs' bodies are the same. -/
theorem bodies_eq : First.defs₀ (F := Bits) = FirstIdeal.defs₀ (F := Bits) := by
  unfold First.defs₀ FirstIdeal.defs₀
  refine congrArg Defs.onTc ?_
  funext l x
  match l with
  | 0 => rfl

/-- So are their calls. -/
theorem calls_eq : First.defs (F := Bits) = FirstIdeal.defs (F := Bits) :=
  congrArg (Pipeline.defs (FirstIdeal.pcfgs (F := Bits))) bodies_eq

/-- The call as written ends with its arguments unchanged and its semaphores at zero. -/
theorem written_frame : Cert.quiescent_First := fun m ρ _ => by
  rw [calls_eq]
  exact frame (F := Bits) m ρ

end Cert.Ffn1

end
-- ==== Proof.First.Block.lean ====
/-
  What one grid point of the first feed-forward call leaves: the running sum with the point's tile of hidden units added,
  started from the residual rows at a row block's first point, and after its last point also the normalised rows.
-/
module

public import proofs.«01_k».proof.Proof.First.Data
public import proofs.«01_k».proof.Proof.Final.Columns

@[expose] public section

set_option maxRecDepth 16384

noncomputable section

namespace Cert.Ffn1

open Cert.FirstIdeal Cert.FirstIdeal.Gen Idealize.ShloMosaic Idealize.ShloMosaic.TcCoe
open Cert.Ffn (hidden addTile tileAt rmsAt loadCol loadDown coverCol colPieces allPiece col)

/-- The hidden units are those of the last call's tiles. -/
theorem hidden_eq (h : FVec Ideal S1024x2048 .bf16) (wg wu : FVec Ideal S2048x512 .bf16) : k0_pay6 (F := Ideal) h wg wu = hidden (F := Ideal) h wg wu := by
  funext p
  obtain ⟨r, f, rfl⟩ : ∃ (r : Fin 1024) (f : Fin 512), p = ix2 r f := ⟨p 0, p 1, eq_ix2 p⟩
  refine Eq.trans ?_ (Ffn.hidden_apply h wg wu r f).symm
  unfold k0_pay6 Ffn.gated
  pointwise

/-- The input rows, normalised. -/
theorem rows_norm (x : FVec Ideal S1024x2048 .f32) (g : FVec Ideal S1x2048 .f32) (r : Fin 1024) (j : Fin 2048) :
    k0_pay5 (F := Ideal) x g (ix2 r j) = rmsAt (fun k => x (ix2 r k)) (fun k => g (ix2 0 k)) j := by
  unfold k0_pay5 rmsAt
  pointwise
/-- The output rows, normalised. -/
theorem sum_norm (x : FVec Ideal S1024x2048 .f32) (g : FVec Ideal S1x2048 .f32) (r : Fin 1024) (j : Fin 2048) :
    k0_pay4 (F := Ideal) x g (ix2 r j) = rmsAt (fun k => x (ix2 r k)) (fun k => g (ix2 0 k)) j := by
  unfold k0_pay4 rmsAt
  pointwise

section Runs
variable (c : Dev nD) (i : grid0.Coords)
  (arg3 : Memref sig .tc .vmem S1x2048 .f32) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S512x2048 .bf16) (harg6 : arg6.IsWhole) (arg7 : Memref sig .tc .vmem S1x2048 .f32) (harg7 : arg7.IsWhole)
  (arg8 : Memref sig .tc .vmem S1024x2048 .f32) (harg8 : arg8.IsWhole) (arg9 : Memref sig .tc .vmem S1024x2048 .bf16) (harg9 : arg9.IsWhole)
  (g : FVec Ideal S1x2048 .f32) (wg wu : FVec Ideal S2048x512 .bf16) (wd : FVec Ideal S512x2048 .bf16) (g' : FVec Ideal S1x2048 .f32)
  (h : FVec Ideal S1024x2048 .bf16) (acc : FVec Ideal S1024x2048 .f32)

/-- The hidden units of the loaded blocks. -/
abbrev tileUnits : FVec Ideal S1024x512 .bf16 := k0_pay6
  (hBuf.view.readAt (Elt Ideal) (Rect.unit (s := S1024x2048) ![0, 0] S1024x2048.size inb_S1024x2048_S1024x2048_0_0).toLoadRect ((Memref.isWhole_whole cc0_scratch0).unread h))
  (arg4.view.readAt (Elt Ideal) (Rect.unit (s := S2048x512) ![0, 0] S2048x512.size inb_S2048x512_S2048x512_0_0).toLoadRect (harg4.unread wg))
  (arg5.view.readAt (Elt Ideal) (Rect.unit (s := S2048x512) ![0, 0] S2048x512.size inb_S2048x512_S2048x512_0_0).toLoadRect (harg5.unread wu))
/-- They are the specification's. -/
theorem tileUnits_eq : tileUnits arg4 harg4 arg5 harg5 wg wu h = hidden (F := Ideal) h wg wu := by
  unfold tileUnits
  rw [View.readAt_full, View.readAt_full, View.readAt_full, (Memref.isWhole_whole cc0_scratch0).read_unread, harg4.read_unread, harg5.read_unread]
  exact hidden_eq h wg wu

/-- The stores of a point that continues a running sum. -/
abbrev addPieces : List (View.Piece (Elt Ideal) S1024x2048 .f32) :=
  colPieces (fun _ => loadCol arg8 (harg8.unread acc)) [] (tileUnits arg4 harg4 arg5 harg5 wg wu h) (loadDown arg6 (harg6.unread wd)) [3, 2, 1, 0]

/-- They leave the sum as found with the tile added. -/
theorem read_add (v : View sig .tc .vmem S1024x2048 .f32) (f : BufTy.Contents (Elt Ideal) v.ty) (r : Fin 1024) (j : Fin 2048) :
    v.read (Elt Ideal) (v.writes (Elt Ideal) f (addPieces arg4 harg4 arg5 harg5 arg6 harg6 arg8 harg8 wg wu wd h acc)) (ix2 r j)
      = acc (ix2 r j) + tileAt h wg wu wd r j :=
  Ffn.read_cols arg6 harg6 h wg wu wd _ (tileUnits_eq arg4 harg4 arg5 harg5 wg wu h) _ _ acc
    (fun ks k _ r j => (Ffn.loadCol_apply arg8 _ k r j).trans (by rw [harg8.read_unread])) v f r j

/-- Every point but a row block's first leaves those stores in the first output. -/
theorem pieces_mid (h1 : ¬k0_cond1 i = 1#1) (h3 : ¬k0_cond3 i = 1#1) (h4 : ¬k0_cond4 i = 1#1) :
    (runMid (F := Ideal) c i arg3 harg3 arg4 harg4 arg5 harg5 arg6 harg6 arg7 harg7 arg8 harg8 arg9 harg9 wg wu wd h acc h1 h3 h4).1 = addPieces arg4 harg4 arg5 harg5 arg6 harg6 arg8 harg8 wg wu wd h acc := rfl
theorem pieces_send (X : Buf (Elt Ideal) (xAll.view.loc (c : Thread nD τ))) (h1 : ¬k0_cond1 i = 1#1) (h3 : k0_cond3 i = 1#1) (h4 : ¬k0_cond4 i = 1#1) :
    (runSend (F := Ideal) c i arg3 harg3 arg4 harg4 arg5 harg5 arg6 harg6 arg7 harg7 arg8 harg8 arg9 harg9 wg wu wd h acc X h1 h3 h4).1 = addPieces arg4 harg4 arg5 harg5 arg6 harg6 arg8 harg8 wg wu wd h acc := rfl
theorem pieces_last (h1 : ¬k0_cond1 i = 1#1) (h3 : ¬k0_cond3 i = 1#1) (h4 : k0_cond4 i = 1#1) :
    (runLast (F := Ideal) c i arg3 harg3 arg4 harg4 arg5 harg5 arg6 harg6 arg7 harg7 arg8 harg8 arg9 harg9 wg wu wd g' h acc h1 h3 h4).1.1 = addPieces arg4 harg4 arg5 harg5 arg6 harg6 arg8 harg8 wg wu wd h acc := rfl
/-- The last point's store into the second output: the finished sum, normalised. -/
theorem pieces_lastH (h1 : ¬k0_cond1 i = 1#1) (h3 : ¬k0_cond3 i = 1#1) (h4 : k0_cond4 i = 1#1) :
    (runLast (F := Ideal) c i arg3 harg3 arg4 harg4 arg5 harg5 arg6 harg6 arg7 harg7 arg8 harg8 arg9 harg9 wg wu wd g' h acc h1 h3 h4).1.2
      = [⟨Rect.unit (s := S1024x2048) ![0, 0] S1024x2048.size inb_S1024x2048_S1024x2048_0_0, k0_pay4
          (arg8.view.readCov (addPieces arg4 harg4 arg5 harg5 arg6 harg6 arg8 harg8 wg wu wd h acc) (Rect.unit (s := S1024x2048) ![0, 0] S1024x2048.size inb_S1024x2048_S1024x2048_0_0).toLoadRect)
          (arg7.view.readAt (Elt Ideal) (Rect.unit (s := S1x2048) ![0, 0] S1x2048.size inb_S1x2048_S1x2048_0_0).toLoadRect (harg7.unread g'))⟩] := rfl

/-- The last point leaves in the second output the normalised rows of the sum it finishes. -/
theorem read_lastH (h1 : ¬k0_cond1 i = 1#1) (h3 : ¬k0_cond3 i = 1#1) (h4 : k0_cond4 i = 1#1) (v : View sig .tc .vmem S1024x2048 .bf16) (f : BufTy.Contents (Elt Ideal) v.ty)
    (r : Fin 1024) (j : Fin 2048) :
    v.read (Elt Ideal) (v.writes (Elt Ideal) f (runLast (F := Ideal) c i arg3 harg3 arg4 harg4 arg5 harg5 arg6 harg6 arg7 harg7 arg8 harg8 arg9 harg9 wg wu wd g' h acc h1 h3 h4).1.2) (ix2 r j)
      = rmsAt (fun k => acc (ix2 r k) + tileAt h wg wu wd r k) (fun k => g' (ix2 0 k)) j := by
  rw [pieces_lastH, View.read_writes_full, sum_norm]
  refine congrArg₂ (fun o g => rmsAt o g j) (funext fun k => ?_) (funext fun k => ?_)
  · unfold View.readCov
    rw [View.readAt_full]
    exact read_add arg4 harg4 arg5 harg5 arg6 harg6 arg8 harg8 wg wu wd h acc _ _ r k
  · rw [View.readAt_full, harg7.read_unread]

/-- The stores of a point that starts a running sum from the rows `x`. -/
theorem read_start (a : FVec Ideal S1024x512 .bf16) (ha : a = hidden (F := Ideal) h wg wu) (x : FVec Ideal S1024x2048 .f32)
    (v : View sig .tc .vmem S1024x2048 .f32) (f : BufTy.Contents (Elt Ideal) v.ty) (r : Fin 1024) (j : Fin 2048) :
    v.read (Elt Ideal) (v.writes (Elt Ideal) f (colPieces (coverCol arg8) [allPiece x] a (loadDown arg6 (harg6.unread wd)) [3, 2, 1, 0])) (ix2 r j)
      = x (ix2 r j) + tileAt h wg wu wd r j :=
  Ffn.read_cols arg6 harg6 h wg wu wd a ha _ _ x (fun ks k hk r j => by
    refine (Ffn.loadCol_apply arg8 _ k r j).trans ((Ffn.read_colPieces_of_not_mem _ _ _ _ _ _ k r j ks hk).trans ?_)
    unfold allPiece
    rw [View.read_writes_full]) v f r j

/-- A row block's first point starts the sum from the fetched rows and works on their normalised form. -/
theorem pieces_row (X : Buf (Elt Ideal) (xAll.view.loc (c : Thread nD τ))) (o : Fin 2 → ℕ) (ho : ∀ a, o a + S1024x2048.size a ≤ S32768x2048.size a)
    (h1 : k0_cond1 i = 1#1) (h2 : ¬isStart i) (h3 : ¬k0_cond3 i = 1#1) (h4 : ¬k0_cond4 i = 1#1) :
    ∃ a x, a = hidden (F := Ideal) (k0_pay5 ((xRows o ho).view.read (Elt Ideal) X) g) wg wu ∧ x = (xRows o ho).view.read (Elt Ideal) X ∧
      (runRow (F := Ideal) c i arg3 harg3 arg4 harg4 arg5 harg5 arg6 harg6 arg7 harg7 arg8 harg8 arg9 harg9 g wg wu wd X o ho h1 h2 h3 h4).1.1 = colPieces (coverCol arg8) [allPiece x] a (loadDown arg6 (harg6.unread wd)) [3, 2, 1, 0] := by
  refine ⟨?a, ?x, ?ha, ?hx, ?eq⟩
  case eq => rfl
  case hx => rw [View.readAt_full, (Memref.isWhole_whole cc0_scratch1).read_unread]
  case ha =>
    refine (hidden_eq _ _ _).trans ?_
    rw [View.readAt_full, View.readAt_full, harg4.read_unread, harg5.read_unread]
    refine congrArg (fun y => hidden (F := Ideal) y wg wu) ?_
    unfold runRow.sl.v9 View.readCov
    refine (View.readAt_full _ _ _).trans ((View.read_writes_full _ _ _ _ _).trans ?_)
    rw [View.readAt_full, View.readAt_full, (Memref.isWhole_whole cc0_scratch1).read_unread, harg3.read_unread]
/-- So it is at the very first point, whose rows are the array's first. -/
theorem pieces_start (X : Buf (Elt Ideal) (xAll.view.loc (c : Thread nD τ)))
    (h1 : k0_cond1 i = 1#1) (h2 : isStart i) (h3 : ¬k0_cond3 i = 1#1) (h4 : ¬k0_cond4 i = 1#1) :
    ∃ a x, a = hidden (F := Ideal) (k0_pay5 ((xRows ![0, 0] inb_S32768x2048_S1024x2048_0_0).view.read (Elt Ideal) X) g) wg wu
      ∧ x = (xRows ![0, 0] inb_S32768x2048_S1024x2048_0_0).view.read (Elt Ideal) X ∧
      (runStart (F := Ideal) c i arg3 harg3 arg4 harg4 arg5 harg5 arg6 harg6 arg7 harg7 arg8 harg8 arg9 harg9 g wg wu wd X h1 h2 h3 h4).1.1 = colPieces (coverCol arg8) [allPiece x] a (loadDown arg6 (harg6.unread wd)) [3, 2, 1, 0] := by
  have e : runStart.sl.v64 (F := Ideal) c X = (xRows ![0, 0] inb_S32768x2048_S1024x2048_0_0).view.read (Elt Ideal) X := by
    unfold runStart.sl.v64 runStart.sl.dma0 View.readCov
    refine (View.readAt_full _ _ _).trans ((View.read_writes_full xBuf.view _ (off := fun _ => 0) (fun a => by simp) _ []).trans ?_)
    rfl
  refine ⟨?a, ?x, ?ha, ?hx, ?eq⟩
  case eq => rfl
  case hx => exact e
  case ha =>
    refine (hidden_eq _ _ _).trans ?_
    rw [View.readAt_full, View.readAt_full, harg4.read_unread, harg5.read_unread]
    refine congrArg (fun y => hidden (F := Ideal) y wg wu) ?_
    unfold runStart.sl.v9 View.readCov
    refine (View.readAt_full _ _ _).trans ((View.read_writes_full _ _ _ _ _).trans ?_)
    rw [View.readAt_full, harg3.read_unread, e]
end Runs

end Cert.Ffn1

end
-- ==== Proof.First.Array.lean ====
/-
  What the first feed-forward call leaves in its two result arrays, entry by entry, in terms of the call's arguments.
-/
module

public import proofs.«01_k».proof.Proof.First.Frame
public import proofs.«01_k».proof.Proof.First.Block
public import proofs.«01_k».proof.Proof.Final.Array

@[expose] public section

set_option maxRecDepth 16384

noncomputable section

namespace Cert.Ffn1

open Cert.FirstIdeal Cert.FirstIdeal.Gen Idealize.ShloMosaic Idealize.ShloMosaic.TcCoe
open Cert.Ffn (tileAt rmsAt tok unit unitAt termAt tileSum sumAt ffnAt row exists_row sum_tileSum rows_apply gain_apply)

variable (m : (ℓ : Loc nD τ sig) → Buf (Elt Ideal) ℓ) (c : Dev nD)

section Steps
variable (t : Fin cfg0.N) (acc : FVec Ideal S1024x2048 .f32) (r : Fin 1024) (j : Fin 2048)

/-- What a point's tile adds to entry `(r, j)`. -/
abbrev addHere : EReal := tileAt (rowsHere m c t) (iblk m c 1 t) (iblk m c 2 t) (iblk m c 3 t) r j

/-- A row block's first point starts the sum from the residual rows. -/
theorem step_first (h : t.val % 11 = 0) :
    stepAcc m c t acc (ix2 r j) = (tile m c (blk (t.val / 11)) : FVec Ideal S1024x2048 .f32) (ix2 r j) + addHere m c t r j := by
  have h1 := (isFirst t).mpr h
  unfold stepAcc
  rw [dif_pos h1]
  by_cases h2 : isStart (grid0.coords t)
  · rw [dif_pos h2]
    have hb : blk (t.val / 11) = 0 := Fin.ext (by have := (isStart_iff t).mp h2; show t.val / 11 % 32 = 0; omega)
    unfold addHere rowsHere hidRow
    rw [first_blk t h, hb]
    have hp := pieces_start c (grid0.coords t) (st0_0 t) (hst0 t) (st0_1 t) (hst1 t) (st0_2 t) (hst2 t) (st0_3 t) (hst3 t) (st0_4 t) (hst4 t) (st0_5 t) (hst5 t) (st0_6 t) (hst6 t)
      (iblk m c 0 t) (iblk m c 1 t) (iblk m c 2 t) (iblk m c 3 t) (V m c main_v0) h1 h2 (not_second t h1) (not_last t h1)
    obtain ⟨a, x, ha, hx, e⟩ := hp
    unfold leftX startAt
    rw [e]
    refine (read_start _ _ _ _ _ _ _ a ha x _ _ r j).trans ?_
    rw [hx]
    rfl
  · rw [dif_neg h2]
    unfold addHere rowsHere hidRow
    rw [first_blk t h]
    have hp := pieces_row c (grid0.coords t) (st0_0 t) (hst0 t) (st0_1 t) (hst1 t) (st0_2 t) (hst2 t) (st0_3 t) (hst3 t) (st0_4 t) (hst4 t) (st0_5 t) (hst5 t) (st0_6 t) (hst6 t)
      (iblk m c 0 t) (iblk m c 1 t) (iblk m c 2 t) (iblk m c 3 t) (V m c main_v0) (off (blk (t.val / 11))) (inbOff _) h1 h2 (not_second t h1) (not_last t h1)
    obtain ⟨a, x, ha, hx, e⟩ := hp
    unfold leftX rowAt
    rw [e]
    refine (read_start _ _ _ _ _ _ _ a ha x _ _ r j).trans ?_
    rw [hx]
    rfl

/-- Every other point adds its tile to the sum it finds. -/
theorem step_later (h : ¬t.val % 11 = 0) : stepAcc m c t acc (ix2 r j) = acc (ix2 r j) + addHere m c t r j := by
  have h1 : ¬k0_cond1 (grid0.coords t) = 1#1 := fun e => h ((isFirst t).mp e)
  unfold stepAcc
  rw [dif_neg h1]
  by_cases h3 : k0_cond3 (grid0.coords t) = 1#1
  · rw [dif_pos h3]
    unfold leftX sendAt
    rw [pieces_send]
    exact read_add _ _ _ _ _ _ _ _ _ _ _ _ acc _ _ r j
  · rw [dif_neg h3]
    by_cases h4 : k0_cond4 (grid0.coords t) = 1#1
    · rw [dif_pos h4]
      unfold leftX lastAt
      rw [pieces_last]
      exact read_add _ _ _ _ _ _ _ _ _ _ _ _ acc _ _ r j
    · rw [dif_neg h4]
      unfold leftX midAt
      rw [pieces_mid]
      exact read_add _ _ _ _ _ _ _ _ _ _ _ _ acc _ _ r j

/-- A row block's last point also leaves the finished rows, normalised. -/
theorem out_last (h : t.val % 11 = 10) :
    (outH m c t : FVec Ideal S1024x2048 .bf16) (ix2 r j) = rmsAt (fun k => accAfter m c t.val t.isLt (ix2 r k)) (fun k => (iblk m c 4 t : FVec Ideal S1x2048 .f32) (ix2 0 k)) j := by
  have h1 : ¬k0_cond1 (grid0.coords t) = 1#1 := fun e => by have := (isFirst t).mp e; omega
  have h3 : ¬k0_cond3 (grid0.coords t) = 1#1 := fun e => by have := (isSecond t).mp e; omega
  have h4 := (isLast t).mpr h
  unfold outH
  rw [dif_pos ⟨h1, h3, h4⟩]
  unfold leftH lastAt
  refine (read_lastH c (grid0.coords t) (st0_0 t) (hst0 t) (st0_1 t) (hst1 t) (st0_2 t) (hst2 t) (st0_3 t) (hst3 t) (st0_4 t) (hst4 t) (st0_5 t) (hst5 t) (st0_6 t) (hst6 t)
    (iblk m c 1 t) (iblk m c 2 t) (iblk m c 3 t) (iblk m c 4 t) (rowsHere m c t) (accBefore m c t) h1 h3 h4 VH VH.junk r j).trans ?_
  refine congrArg (fun o => rmsAt o _ j) (funext fun k => ?_)
  rw [accAfter_eq m c t (by omega), step_later m c t _ r k (by omega)]
end Steps

section Geometry
/-- The grid point of row block `i` and hidden tile `u`. -/
def pt (i : Fin 32) (u : Fin 11) : Fin cfg0.N := ⟨11 * i.val + u.val, by show _ < 352; omega⟩
theorem idx_g : ∀ i u, win0_0.index (pt i u) = ![0, 0] := by decide +kernel
theorem idx_wg : ∀ i u, win0_1.index (pt i u) = ![0, u.val] := by decide +kernel
theorem idx_wu : ∀ i u, win0_2.index (pt i u) = ![0, u.val] := by decide +kernel
theorem idx_wd : ∀ i u, win0_3.index (pt i u) = ![u.val, 0] := by decide +kernel
theorem idx_g' : ∀ i u, win0_4.index (pt i u) = ![0, 0] := by decide +kernel
theorem idx_o : ∀ i u, win0_5.index (pt i u) = ![i.val, 0] := by decide +kernel
theorem idx_o' : ∀ i u, win0_6.index (pt i u) = ![i.val, 0] := by decide +kernel

theorem pt_mod (i : Fin 32) (u : Fin 11) : (pt i u).val % 11 = u.val := by show (11 * i.val + u.val) % 11 = u.val; omega
theorem blk_pt (i : Fin 32) (u : Fin 11) : blk ((pt i u).val / 11) = i := Fin.ext (by show (11 * i.val + u.val) / 11 % 32 = i.val; omega)
end Geometry

/-- The six arguments. -/
abbrev argX : FVec Ideal S2x16384x2048 .f32 := m ((c : Thread nD τ).loc main_arg0)
abbrev argGain : FVec Ideal S2048 .f32 := m ((c : Thread nD τ).loc main_arg1)
abbrev argGate : FVec Ideal S2048x5632 .f32 := m ((c : Thread nD τ).loc main_arg2)
abbrev argUp : FVec Ideal S2048x5632 .f32 := m ((c : Thread nD τ).loc main_arg3)
abbrev argDown : FVec Ideal S5632x2048 .f32 := m ((c : Thread nD τ).loc main_arg4)
abbrev argMix : FVec Ideal S2048 .f32 := m ((c : Thread nD τ).loc main_arg5)

/-- The tokens of `x`, each normalised with the gains `g`. -/
def normRows (x : FVec Ideal S2x16384x2048 .f32) (g : FVec Ideal S2048 .f32) : FVec Ideal S2x16384x2048 .f32 :=
  fun p => rmsAt (fun k : Fin 2048 => x (ix3 (p 0) (p 1) k)) (fun k => g (ix1 k)) (p 2)
theorem normRows_tok (x : FVec Ideal S2x16384x2048 .f32) (g : FVec Ideal S2048 .f32) (n : Fin 32768) (d : Fin 2048) :
    normRows x g (tok n d) = rmsAt (fun k => x (tok n k)) (fun k => g (ix1 k)) d := rfl

/-- The normalised input. -/
abbrev hid : FVec Ideal S2x16384x2048 .f32 := normRows (argX m c) (argGain m c)

theorem V_x : (V m c main_v0 : FVec Ideal S32768x2048 .f32) = shapeCast S32768x2048 (argX m c) shapeCasts_S2x16384x2048_S32768x2048 := by rfl
theorem V_g : (V m c main_v1 : FVec Ideal S1x2048 .f32) = shapeCast S1x2048 (argGain m c) shapeCasts_S2048_S1x2048 := by rfl
theorem V_wg : (V m c main_v2 : FVec Ideal S2048x5632 .bf16) = argGate m c := by rfl
theorem V_wu : (V m c main_v3 : FVec Ideal S2048x5632 .bf16) = argUp m c := by rfl
theorem V_wd : (V m c main_v4 : FVec Ideal S5632x2048 .bf16) = argDown m c := by rfl
theorem V_g' : (V m c main_v5 : FVec Ideal S1x2048 .f32) = shapeCast S1x2048 (argMix m c) shapeCasts_S2048_S1x2048 := by rfl

/-- The fetched rows of row block `i`. -/
theorem tile_apply (i : Fin 32) (r : Fin 1024) (d : Fin 2048) :
    (tile m c i : FVec Ideal S1024x2048 .f32) (ix2 r d) = argX m c (tok (row i r) d) := by
  unfold tile
  rw [View.read_apply]
  show (V m c main_v0 : FVec Ideal S32768x2048 .f32) _ = _
  rw [V_x, ← rows_apply (argX m c) (row i r) d]
  refine congrArg (shapeCast S32768x2048 (argX m c) shapeCasts_S2x16384x2048_S32768x2048) (funext fun a => Fin.ext ?_)
  match a with
  | 0 => show 1024 * i.val + 1 * r.val = 1024 * i.val + r.val; omega
  | 1 => show 0 + 1 * d.val = d.val; omega
theorem blk_g (i : Fin 32) (u : Fin 11) (k : Fin 2048) : (iblk m c 0 (pt i u) : FVec Ideal S1x2048 .f32) (ix2 0 k) = argGain m c (ix1 k) := by
  have e := idx_g i u
  unfold iblk
  rw [View.read_apply]
  show (V m c main_v1 : FVec Ideal S1x2048 .f32) _ = _
  rw [V_g, ← gain_apply (argGain m c) k]
  refine congrArg (shapeCast S1x2048 (argGain m c) shapeCasts_S2048_S1x2048) (funext fun a => Fin.ext ?_)
  match a with
  | 0 => show win0_0.index (pt i u) 0 * 1 + 1 * 0 = 0; rw [e]; rfl
  | 1 => show win0_0.index (pt i u) 1 * 2048 + 1 * k.val = k.val; rw [e]; show 0 * 2048 + 1 * k.val = _; omega
theorem blk_wg (i : Fin 32) (u : Fin 11) (d : Fin 2048) (f : Fin 512) :
    (iblk m c 1 (pt i u) : FVec Ideal S2048x512 .bf16) (ix2 d f) = argGate m c (ix2 d (unit u f)) := by
  have e := idx_wg i u
  unfold iblk
  rw [View.read_apply]
  show (V m c main_v2 : FVec Ideal S2048x5632 .bf16) _ = _
  rw [V_wg]
  refine congrArg (argGate m c) (funext fun a => Fin.ext ?_)
  match a with
  | 0 => show win0_1.index (pt i u) 0 * 2048 + 1 * d.val = d.val; rw [e]; show 0 * 2048 + 1 * d.val = _; omega
  | 1 => show win0_1.index (pt i u) 1 * 512 + 1 * f.val = 512 * u.val + f.val; rw [e]; show u.val * 512 + 1 * f.val = _; omega
theorem blk_wu (i : Fin 32) (u : Fin 11) (d : Fin 2048) (f : Fin 512) :
    (iblk m c 2 (pt i u) : FVec Ideal S2048x512 .bf16) (ix2 d f) = argUp m c (ix2 d (unit u f)) := by
  have e := idx_wu i u
  unfold iblk
  rw [View.read_apply]
  show (V m c main_v3 : FVec Ideal S2048x5632 .bf16) _ = _
  rw [V_wu]
  refine congrArg (argUp m c) (funext fun a => Fin.ext ?_)
  match a with
  | 0 => show win0_2.index (pt i u) 0 * 2048 + 1 * d.val = d.val; rw [e]; show 0 * 2048 + 1 * d.val = _; omega
  | 1 => show win0_2.index (pt i u) 1 * 512 + 1 * f.val = 512 * u.val + f.val; rw [e]; show u.val * 512 + 1 * f.val = _; omega
theorem blk_wd (i : Fin 32) (u : Fin 11) (f : Fin 512) (j : Fin 2048) :
    (iblk m c 3 (pt i u) : FVec Ideal S512x2048 .bf16) (ix2 f j) = argDown m c (ix2 (unit u f) j) := by
  have e := idx_wd i u
  unfold iblk
  rw [View.read_apply]
  show (V m c main_v4 : FVec Ideal S5632x2048 .bf16) _ = _
  rw [V_wd]
  refine congrArg (argDown m c) (funext fun a => Fin.ext ?_)
  match a with
  | 0 => show win0_3.index (pt i u) 0 * 512 + 1 * f.val = 512 * u.val + f.val; rw [e]; show u.val * 512 + 1 * f.val = _; omega
  | 1 => show win0_3.index (pt i u) 1 * 2048 + 1 * j.val = j.val; rw [e]; show 0 * 2048 + 1 * j.val = _; omega
theorem blk_g' (i : Fin 32) (u : Fin 11) (k : Fin 2048) : (iblk m c 4 (pt i u) : FVec Ideal S1x2048 .f32) (ix2 0 k) = argMix m c (ix1 k) := by
  have e := idx_g' i u
  unfold iblk
  rw [View.read_apply]
  show (V m c main_v5 : FVec Ideal S1x2048 .f32) _ = _
  rw [V_g', ← gain_apply (argMix m c) k]
  refine congrArg (shapeCast S1x2048 (argMix m c) shapeCasts_S2048_S1x2048) (funext fun a => Fin.ext ?_)
  match a with
  | 0 => show win0_4.index (pt i u) 0 * 1 + 1 * 0 = 0; rw [e]; rfl
  | 1 => show win0_4.index (pt i u) 1 * 2048 + 1 * k.val = k.val; rw [e]; show 0 * 2048 + 1 * k.val = _; omega

/-- The scratch holds the normalised rows of the row block. -/
theorem hidRow_apply (i : Fin 32) (r : Fin 1024) (d : Fin 2048) :
    (hidRow m c i : FVec Ideal S1024x2048 .bf16) (ix2 r d) = hid m c (tok (row i r) d) := by
  unfold hidRow
  refine (rows_norm _ _ r d).trans ((congrArg₂ (fun o g => rmsAt o g d) (funext fun k => ?_) (funext fun k => ?_)).trans (normRows_tok _ _ _ d).symm)
  · exact tile_apply m c i r k
  · exact blk_g m c i 0 k

/-- A point's tile adds half its hidden units' contribution. -/
theorem addHere_eq (i : Fin 32) (u : Fin 11) (r : Fin 1024) (j : Fin 2048) :
    addHere m c (pt i u) r j = tileSum (hid m c) (argGate m c) (argUp m c) (argDown m c) (row i r) j u := by
  unfold addHere rowsHere
  rw [blk_pt]
  unfold tileAt tileSum termAt unitAt
  simp only [Ffn.hidden_apply, hidRow_apply, blk_wg, blk_wu, blk_wd]

theorem acc_congr {n n' : ℕ} (e : n = n') (h : n < cfg0.N) (h' : n' < cfg0.N) : accAfter m c n h = accAfter m c n' h' := by
  subst e; rfl

/-- The running sum is the residual rows and the tiles so far. -/
theorem partial_sum (i : Fin 32) (r : Fin 1024) (j : Fin 2048) : ∀ (s : ℕ) (hs : s < 11),
    accAfter m c (pt i ⟨s, hs⟩).val (pt i ⟨s, hs⟩).isLt (ix2 r j)
      = argX m c (tok (row i r) j)
        + ∑ u : Fin (s + 1), tileSum (hid m c) (argGate m c) (argUp m c) (argDown m c) (row i r) j ⟨u.val, by omega⟩
  | 0, hs => by
    have h0 : (pt i ⟨0, hs⟩).val % 11 = 0 := pt_mod i ⟨0, hs⟩
    rw [accAfter_first m c (pt i ⟨0, hs⟩) (leftX []) ((isFirst _).mpr h0), step_first m c _ _ r j h0, blk_pt, tile_apply, addHere_eq,
      Fin.sum_univ_one]
    rfl
  | s + 1, hs => by
    have e : (pt i ⟨s + 1, hs⟩).val % 11 = s + 1 := pt_mod i ⟨s + 1, hs⟩
    rw [accAfter_eq m c (pt i ⟨s + 1, hs⟩) (by omega), step_later m c _ _ r j (by omega), addHere_eq]
    unfold accBefore
    rw [acc_congr m c (show (pt i ⟨s + 1, hs⟩).val - 1 = (pt i ⟨s, by omega⟩).val from rfl) _ (pt i ⟨s, by omega⟩).isLt,
      partial_sum i r j s (by omega), Fin.sum_univ_castSucc (n := s + 1), add_assoc]
    rfl

/-- After the last tile it is the whole sum. -/
theorem last_sum (i : Fin 32) (r : Fin 1024) (j : Fin 2048) :
    accAfter m c (pt i 10).val (pt i 10).isLt (ix2 r j) = sumAt (argX m c) (hid m c) (argGate m c) (argUp m c) (argDown m c) (row i r) j := by
  refine (partial_sum m c i r j 10 (by omega)).trans ?_
  unfold sumAt
  rw [← sum_tileSum]

/-- And the second output holds its normalised form. -/
theorem last_out (i : Fin 32) (r : Fin 1024) (j : Fin 2048) :
    (outH m c (pt i 10) : FVec Ideal S1024x2048 .bf16) (ix2 r j)
      = ffnAt (argX m c) (hid m c) (argGate m c) (argUp m c) (argDown m c) (argMix m c) (row i r) j := by
  rw [out_last m c (pt i 10) r j (pt_mod i 10)]
  unfold ffnAt
  exact congrArg₂ (fun o g => rmsAt o g j) (funext fun k => last_sum m c i r k) (funext fun k => blk_g' m c i 10 k)

/-- The first result: the residual stream after the feed-forward. -/
def sums : FVec Ideal S32768x2048 .f32 := fun p => sumAt (argX m c) (hid m c) (argGate m c) (argUp m c) (argDown m c) (p 0) (p 1)
/-- The second: its normalised rows. -/
def norms : FVec Ideal S32768x2048 .bf16 := fun p => ffnAt (argX m c) (hid m c) (argGate m c) (argUp m c) (argDown m c) (argMix m c) (p 0) (p 1)

theorem emb_sums (i : Fin 32) (u : Fin 11) (r : Fin 1024) (j : Fin 2048) :
    ((cfg0.win 5).blk (pt i u)).view.emb (ix2 r j) = (ix2 (row i r) j : S32768x2048.Idx) := by
  have e := idx_o i u
  refine funext fun a => Fin.ext ?_
  match a with
  | 0 => show win0_5.index (pt i u) 0 * 1024 + 1 * r.val = 1024 * i.val + r.val; rw [e]; show i.val * 1024 + 1 * r.val = _; omega
  | 1 => show win0_5.index (pt i u) 1 * 2048 + 1 * j.val = j.val; rw [e]; show 0 * 2048 + 1 * j.val = _; omega
theorem emb_norms (i : Fin 32) (u : Fin 11) (r : Fin 1024) (j : Fin 2048) :
    ((cfg0.win 6).blk (pt i u)).view.emb (ix2 r j) = (ix2 (row i r) j : S32768x2048.Idx) := by
  have e := idx_o' i u
  refine funext fun a => Fin.ext ?_
  match a with
  | 0 => show win0_6.index (pt i u) 0 * 1024 + 1 * r.val = 1024 * i.val + r.val; rw [e]; show i.val * 1024 + 1 * r.val = _; omega
  | 1 => show win0_6.index (pt i u) 1 * 2048 + 1 * j.val = j.val; rw [e]; show 0 * 2048 + 1 * j.val = _; omega

theorem exists_pt (t : Fin cfg0.N) (h : t.val % 11 = 10) : ∃ i, t = pt i 10 :=
  ⟨⟨t.val / 11, by have := points t; omega⟩, Fin.ext (by show t.val = 11 * (t.val / 11) + 10; omega)⟩

/-- The first result array after the call. -/
theorem array_sums : ((dats m 0 c).arrAt 5 cfg0.N : FVec Ideal S32768x2048 .f32) = sums m c := by
  refine (dats m 0 c).arrAt_eq_of_cover 5 (sums m c) (fun t ht => ?_) (fun p => ?_)
  · obtain ⟨i, rfl⟩ := exists_pt t ((flush0_5 t).mp ht)
    show (cfg0.win 5).cut (grid0.coords (pt i 10)) ((dats m 0 c).after 5 (pt i 10)) = _
    rw [after5]
    funext y
    obtain ⟨r, j, rfl⟩ : ∃ (r : Fin 1024) (j : Fin 2048), y = ix2 r j := ⟨y 0, y 1, eq_ix2 y⟩
    rw [View.read_apply, emb_sums]
    exact last_sum m c i r j
  · obtain ⟨i, r, hr⟩ := exists_row (p 0)
    refine ⟨pt i 10, (flush0_5 _).mpr (pt_mod i 10), ?_⟩
    have h : (ix2 (row i r) (p 1) : S32768x2048.Idx) ∈ ((cfg0.win 5).blk (pt i 10)).view.set :=
      emb_sums i 10 r (p 1) ▸ ((cfg0.win 5).blk (pt i 10)).view.emb_mem_set (ix2 r (p 1) : S1024x2048.Idx)
    rw [hr] at h
    exact (eq_ix2 (p : S32768x2048.Idx)) ▸ h

/-- The second. -/
theorem array_norms : ((dats m 0 c).arrAt 6 cfg0.N : FVec Ideal S32768x2048 .bf16) = norms m c := by
  refine (dats m 0 c).arrAt_eq_of_cover 6 (norms m c) (fun t ht => ?_) (fun p => ?_)
  · obtain ⟨i, rfl⟩ := exists_pt t ((flush0_6 t).mp ht)
    show (cfg0.win 6).cut (grid0.coords (pt i 10)) ((dats m 0 c).after 6 (pt i 10)) = _
    rw [after6]
    funext y
    obtain ⟨r, j, rfl⟩ : ∃ (r : Fin 1024) (j : Fin 2048), y = ix2 r j := ⟨y 0, y 1, eq_ix2 y⟩
    rw [View.read_apply, emb_norms]
    exact last_out m c i r j
  · obtain ⟨i, r, hr⟩ := exists_row (p 0)
    refine ⟨pt i 10, (flush0_6 _).mpr (pt_mod i 10), ?_⟩
    have h : (ix2 (row i r) (p 1) : S32768x2048.Idx) ∈ ((cfg0.win 6).blk (pt i 10)).view.set :=
      emb_norms i 10 r (p 1) ▸ ((cfg0.win 6).blk (pt i 10)).view.emb_mem_set (ix2 r (p 1) : S1024x2048.Idx)
    rw [hr] at h
    exact (eq_ix2 (p : S32768x2048.Idx)) ▸ h

end Cert.Ffn1

end
-- ==== Proof.First.Reference.lean ====
/-
  What the first feed-forward reference computes, entry by entry: the residual with half the gated feed-forward of its
  normalised rows, and that sum normalised.
-/
module

public import proofs.«01_k».proof.Proof.Gen.ReferenceFirstIdeal.Run
public import proofs.«01_k».proof.Proof.Final.Reference
public import proofs.«01_k».proof.Proof.First.Array

@[expose] public section

set_option maxRecDepth 16384

noncomputable section

namespace Cert.Ffn1

open Cert.ReferenceFirstIdeal Cert.ReferenceFirstIdeal.Gen Idealize.ShloMosaic
open Cert.Ffn (rmsAt tok sumAt ffnAt rows_apply refDot refHidden refSum refNorm)

variable (x : FVec Ideal S2x16384x2048 .f32) (g : FVec Ideal S2048 .f32) (wg wu : FVec Ideal S2048x5632 .f32) (wd : FVec Ideal S5632x2048 .f32) (g' : FVec Ideal S2048 .f32)

/-- The residual stream after the feed-forward. -/
def refStream : FVec Ideal S2x16384x2048 .f32 := refSum x wd (refHidden (refDot (refNorm g x) wg) (refDot (refNorm g x) wu))
/-- The reference's first result. -/
def refFirst : FVec Ideal S32768x2048 .f32 := shapeCast _ (refStream x g wg wu wd) shapeCasts_S2x16384x2048_S32768x2048
/-- Its second. -/
def refSecond : FVec Ideal S32768x2048 .bf16 := shapeCast _ (truncf .bf16 (refNorm g' (refStream x g wg wu wd))) shapeCasts_S2x16384x2048_S32768x2048

/-- The reference normalises every token. -/
theorem refNorm_eq : refNorm g x = normRows x g := by
  funext p
  obtain ⟨b, n, j, rfl⟩ : ∃ (b : Fin 2) (n : Fin 16384) (j : Fin 2048), p = ix3 b n j := ⟨p 0, p 1, p 2, eq_ix3 p⟩
  exact Ffn.refNorm_apply g x b n j

theorem refStream_apply (n : Fin 32768) (j : Fin 2048) : refStream x g wg wu wd (tok n j) = sumAt x (normRows x g) wg wu wd n j := by
  unfold refStream tok
  rw [Ffn.refSum_apply, refNorm_eq]
  simp only [Ffn.refHidden_apply, Ffn.refDot_apply]
  rfl

/-- The first result, entry by entry. -/
theorem refFirst_eq : refFirst x g wg wu wd = fun p => sumAt x (normRows x g) wg wu wd (p 0) (p 1) := by
  funext p
  obtain ⟨n, j, rfl⟩ : ∃ n j, p = ix2 n j := ⟨p 0, p 1, eq_ix2 p⟩
  exact (rows_apply _ n j).trans (refStream_apply x g wg wu wd n j)

/-- The second result, entry by entry. -/
theorem refSecond_eq : refSecond x g wg wu wd g' = fun p => ffnAt x (normRows x g) wg wu wd g' (p 0) (p 1) := by
  funext p
  obtain ⟨n, j, rfl⟩ : ∃ n j, p = ix2 n j := ⟨p 0, p 1, eq_ix2 p⟩
  refine (rows_apply (refNorm g' (refStream x g wg wu wd)) n j).trans ?_
  rw [refNorm_eq, normRows_tok]
  exact congrArg (fun o => rmsAt o _ j) (funext fun k => refStream_apply x g wg wu wd n k)

end Cert.Ffn1

end
-- ==== Proof.Proj.Product.lean ====
/-
  The product every dilated projection computes: a block of 2048 tokens' rows with a block of 1024 weight columns, in four
  chunks of 256 columns, each cut into two channels of 128 columns.
-/
module

public import proofs.«01_k».proof.Proof.Gen.MiddleIdeal.Skeleton
public import Idealize.ShloMosaic.Lib.Pointwise
public import Idealize.ShloMosaic.Lib.VecWindow
public import Idealize.ShloMosaic.Lib.WritesUnit
public import Idealize.ShloMosaic.Lib.Writes

@[expose] public section

set_option maxRecDepth 16384

noncomputable section

namespace Cert.Proj

open Cert.MiddleIdeal Cert.MiddleIdeal.Gen Idealize.ShloMosaic

theorem inbChunk (n : Fin 4) : ∀ a, (![0, 256 * n.val] : Fin 2 → ℕ) a + S2048x256.size a ≤ S2048x1024.size a := by
  revert n; decide
theorem inbChan (ch : Fin 8) : ∀ a, (![ch.val, 0, 0] : Fin 3 → ℕ) a + S1x2048x128.size a ≤ S8x2048x128.size a := by
  revert ch; decide

/-- Column `j` of chunk `n`. -/
def chunkCol (n : Fin 4) (j : Fin 256) : Fin 1024 := ⟨256 * n.val + j.val, by omega⟩
/-- Lane `l` of channel `ch`. -/
def lane (ch : Fin 8) (l : Fin 128) : Fin 1024 := ⟨128 * ch.val + l.val, by omega⟩

/-- An entry of the product. -/
def prodAt (x : FVec Ideal S2048x2048 .bf16) (w : FVec Ideal S2048x1024 .bf16) (t : Fin 2048) (k : Fin 1024) : EReal :=
  ∑ d : Fin 2048, x (ix2 t d) * w (ix2 d k)

section AnyFloat
variable {F : FTy → Type} [FloatOps F] {sg : RefSig}

/-- A chunk of the weight columns. -/
def loadChunk (m : Memref sg .tc .vmem S2048x1024 .bf16) (f : BufTy.Contents (Elt F) m.view.ty) (n : Fin 4) : Vec F S2048x256 .bf16 :=
  m.view.readAt (Elt F) (Rect.unit (s := S2048x1024) ![0, 256 * n.val] S2048x256.size (inbChunk n)).toLoadRect f

theorem loadChunk_apply (m : Memref sg .tc .vmem S2048x1024 .bf16) (f : BufTy.Contents (Elt F) m.view.ty) (n : Fin 4) (d : Fin 2048) (j : Fin 256) :
    loadChunk m f n (ix2 d j) = m.view.read (Elt F) f (ix2 d (chunkCol n j)) := by
  unfold loadChunk
  rw [View.readAt_unit _ _ _ rfl (inbChunk n)]
  refine congrArg (View.read (Elt F) m.view f) (funext fun a => Fin.ext ?_)
  match a with
  | 0 => exact Eq.trans (by show 0 + 1 * d.val = d.val; omega) rfl
  | 1 => exact Eq.trans (by show 256 * n.val + 1 * j.val = 256 * n.val + j.val; omega) rfl

/-- The even channel of a chunk's product, and the odd one. -/
def channel (x : Vec F S2048x2048 .bf16) (w : Fin 4 → Vec F S2048x256 .bf16) : Fin 8 → FVec F S1x2048x128 .f32
  | 0 => k0_pay6 x (w 0)
  | 1 => k0_pay11 (k0_pay5 x (w 0))
  | 2 => k0_pay6 x (w 1)
  | 3 => k0_pay11 (k0_pay5 x (w 1))
  | 4 => k0_pay6 x (w 2)
  | 5 => k0_pay11 (k0_pay5 x (w 2))
  | 6 => k0_pay6 x (w 3)
  | 7 => k0_pay11 (k0_pay5 x (w 3))
end AnyFloat

/-- The even channel's entries. -/
theorem even_apply (x : FVec Ideal S2048x2048 .bf16) (w : FVec Ideal S2048x256 .bf16) (t : Fin 2048) (l : Fin 128) :
    k0_pay6 (F := Ideal) x w (ix3 0 t l) = ∑ d : Fin 2048, x (ix2 t d) * w (ix2 d (⟨l.val, by omega⟩ : Fin 256)) := by
  unfold k0_pay6 k0_pay5 k0_pay4
  pointwise
/-- The odd channel's. -/
theorem odd_apply (x : FVec Ideal S2048x2048 .bf16) (w : FVec Ideal S2048x256 .bf16) (t : Fin 2048) (l : Fin 128) :
    k0_pay11 (F := Ideal) (k0_pay5 (F := Ideal) x w) (ix3 0 t l) = ∑ d : Fin 2048, x (ix2 t d) * w (ix2 d (⟨128 + l.val, by omega⟩ : Fin 256)) := by
  unfold k0_pay11 k0_pay5 k0_pay4
  pointwise

/-- A channel's entries are the product's. -/
theorem channel_apply {sg : RefSig} (x : FVec Ideal S2048x2048 .bf16) (m : Memref sg .tc .vmem S2048x1024 .bf16) (hm : m.IsWhole)
    (w : FVec Ideal S2048x1024 .bf16) (ch : Fin 8) (t : Fin 2048) (l : Fin 128) :
    channel (F := Ideal) x (loadChunk m (hm.unread w)) ch (ix3 0 t l) = prodAt x w t (lane ch l) := by
  have e : ∀ (n : Fin 4) (j : Fin 256) (d : Fin 2048), loadChunk (F := Ideal) m (hm.unread w) n (ix2 d j) = w (ix2 d (chunkCol n j)) := fun n j d => by
    rw [loadChunk_apply, hm.read_unread]
  unfold channel prodAt
  match ch with
  | 0 | 2 | 4 | 6 =>
    refine (even_apply _ _ t l).trans (Finset.sum_congr rfl fun d _ => congrArg (x (ix2 t d) * ·) ((e _ _ d).trans (congrArg (fun k => w (ix2 d k)) (Fin.ext ?_))))
    unfold chunkCol lane
    rfl
  | 1 | 3 | 5 | 7 =>
    refine (odd_apply _ _ t l).trans (Finset.sum_congr rfl fun d _ => congrArg (x (ix2 t d) * ·) ((e _ _ d).trans (congrArg (fun k => w (ix2 d k)) (Fin.ext ?_))))
    show 256 * _ + (128 + l.val) = 128 * _ + l.val
    simp
    try omega

end Cert.Proj

end
-- ==== Proof.Proj.NearBlock.lean ====
/-
  What one grid point of the densest dilated projection leaves in its output block: the product, a row per token.
-/
module

public import proofs.«01_k».proof.Proof.Gen.NearIdeal.Frame
public import proofs.«01_k».proof.Proof.Proj.Product

@[expose] public section

set_option maxRecDepth 16384

noncomputable section

namespace Cert.Proj.Near

open Cert.NearIdeal Cert.NearIdeal.Gen Idealize.ShloMosaic Idealize.ShloMosaic.TcCoe

theorem inbOut (n : Fin 4) : ∀ a, (![0, 0, 256 * n.val] : Fin 3 → ℕ) a + S1x2048x256.size a ≤ S1x2048x1024.size a := by
  revert n; decide

/-- The stores of the chunks `ns`, the last first. -/
def chunkPieces {F : FTy → Type} [FloatOps F] (x : Vec F S2048x2048 .bf16) (w : Fin 4 → Vec F S2048x256 .bf16) :
    List (Fin 4) → List (View.Piece (Elt F) S1x2048x1024 .bf16)
  | [] => []
  | n :: ns => ⟨Rect.unit (s := S1x2048x1024) ![0, 0, 256 * n.val] S1x2048x256.size (inbOut n), k0_pay3 x (w n)⟩ :: chunkPieces x w ns

/-- A chunk's entries. -/
theorem chunk_apply (x : FVec Ideal S2048x2048 .bf16) (w : FVec Ideal S2048x256 .bf16) (t : Fin 2048) (l : Fin 256) :
    k0_pay3 (F := Ideal) x w (ix3 0 t l) = ∑ d : Fin 2048, x (ix2 t d) * w (ix2 d l) := by
  unfold k0_pay3 k0_pay2
  pointwise

/-- Each store agrees with the product. -/
theorem chunkPieces_apply {sg : RefSig} (x : FVec Ideal S2048x2048 .bf16) (b : Memref sg .tc .vmem S2048x1024 .bf16) (hb : b.IsWhole) (w : FVec Ideal S2048x1024 .bf16) :
    ∀ ns, ∀ p ∈ chunkPieces (F := Ideal) x (loadChunk b (hb.unread w)) ns, ∀ y : p.1.shape.Idx,
      p.2 y = (fun z : S1x2048x1024.Idx => prodAt x w (z 1) (z 2)) (p.1.emb y)
  | [], p, h => absurd h List.not_mem_nil
  | n :: ns, p, h => by
    rcases List.mem_cons.mp h with rfl | h
    · intro y
      obtain ⟨t, l, rfl⟩ : ∃ (t : Fin 2048) (l : Fin 256), y = (ix3 0 t l : S1x2048x256.Idx) :=
        ⟨y 1, y 2, (eq_ix3 (y : S1x2048x256.Idx)).trans (congrArg (fun a => ix3 a (y 1) (y 2)) (Subsingleton.elim (α := Fin 1) _ _))⟩
      refine (chunk_apply x _ t l).trans ?_
      unfold prodAt
      refine Finset.sum_congr rfl fun d _ => ?_
      rw [loadChunk_apply, hb.read_unread]
      refine congrArg₂ (fun a k => x (ix2 a d) * w (ix2 d k)) (Fin.ext ?_) (Fin.ext ?_)
      · show t.val = 0 + 1 * t.val; omega
      · show 256 * n.val + l.val = 256 * n.val + 1 * l.val; omega
    · exact chunkPieces_apply x b hb w ns p h

section Run
variable (c : Dev nD) (i : grid0.Coords)
  (arg2 : Memref sig .tc .vmem S2048x2048 .bf16) (harg2 : arg2.IsWhole) (arg3 : Memref sig .tc .vmem S2048x1024 .bf16) (harg3 : arg3.IsWhole)
  (arg4 : Memref sig .tc .vmem S1x2048x1024 .bf16) (harg4 : arg4.IsWhole) (arg5 : Memref sig .tc .vmem S8x2048x128 .f32) (harg5 : arg5.IsWhole)

/-- The run's stores are the four chunks. -/
theorem pieces {F : FTy → Type} [FloatOps F] (x : Vec F S2048x2048 .bf16) (w : Vec F S2048x1024 .bf16) :
    (kernelRun0_A (F := F) c i arg2 harg2 arg3 harg3 arg4 harg4 arg5 harg5 x w).1
      = chunkPieces (arg2.view.readAt (Elt F) (Rect.unit (s := S2048x2048) ![0, 0] S2048x2048.size inb_S2048x2048_S2048x2048_0_0).toLoadRect (harg2.unread x))
          (loadChunk arg3 (harg3.unread w)) [3, 2, 1, 0] := rfl

/-- They leave the product. -/
theorem block_apply (x : FVec Ideal S2048x2048 .bf16) (w : FVec Ideal S2048x1024 .bf16) (t : Fin 2048) (k : Fin 1024) :
    out0_A_2 (F := Ideal) c i arg2 harg2 arg3 harg3 arg4 harg4 arg5 harg5 x w (ix3 0 t k) = prodAt x w t k := by
  have hcov := cover0_A_2 (F := Ideal) c i arg2 harg2 arg3 harg3 arg4 harg4 arg5 harg5 x w
  unfold out0_A_2
  rw [pieces, View.readAt_full, harg2.read_unread] at hcov ⊢
  exact View.read_writes_apply_of_pieces VO0_2 VO0_2.junk (fun z : S1x2048x1024.Idx => prodAt x w (z 1) (z 2)) _
    (chunkPieces_apply x arg3 harg3 w [3, 2, 1, 0]) (ix3 0 t k) (hcov _)
end Run

end Cert.Proj.Near

end
-- ==== Proof.Proj.Heads.lean ====
/-
  The dilated groups' queries, keys and values: what the projections' references compute, entry by entry, for any group and
  any rate.
-/
module

public import proofs.«01_k».proof.Proof.Gen.ReferenceNearIdeal.Run
public import proofs.«01_k».proof.Proof.Final.Array

@[expose] public section

set_option maxRecDepth 16384

noncomputable section

namespace Cert.Proj

open Cert.ReferenceNearIdeal Cert.ReferenceNearIdeal.Gen Idealize.ShloMosaic
open Cert.Ffn (tok)

variable (h : FVec Ideal S2x16384x2048 .f32) (w : FVec Ideal S2048x10752 .f32) (g : Fin 3)

/-- The weight column of lane `k` of group `g`'s queries, keys or values (`j`). -/
def headCol (j : Fin 3) (k : Fin 1024) : Fin 10752 := ⟨1536 + ((3 * j.val + g.val) * 1024 + k.val), by omega⟩

/-- A token's lane `k` of group `g`'s queries, keys or values. -/
def headAt (j : Fin 3) (n : Fin 32768) (k : Fin 1024) : EReal := ∑ d : Fin 2048, h (tok n d) * w (ix2 d (headCol g j k))

section Wide
variable (r T : ℕ) (hT : r * T = 32768)

include hT in
theorem wideTok_lt (p : Fin T) (q : Fin (1024 * r)) : r * p.val + q.val / 1024 < 32768 := by
  have hq : q.val / 1024 < r := Nat.div_lt_of_lt_mul q.isLt
  have hp : r * p.val + q.val / 1024 < r * (p.val + 1) := by rw [Nat.mul_add]; omega
  exact lt_of_lt_of_le hp (hT ▸ Nat.mul_le_mul_left r p.isLt)

/-- All of them, `r` tokens side by side in a row. -/
def wideHeads : FVec Ideal ⟨3, ![3, T, 1024 * r]⟩ .bf16 := fun z =>
  headAt h w g (z 0) ⟨r * (z 1).val + (z 2).val / 1024, wideTok_lt r T hT (z 1) (z 2)⟩ ⟨(z 2).val % 1024, Nat.mod_lt _ (by norm_num)⟩
end Wide

/-- The whole projection. -/
def refProj : FVec Ideal S2x16384x10752 .f32 := Host.dotGeneral dot_S2x16384x2048_S2048x10752_S2x16384x10752_2_0_01_1_n_n none h w

theorem refProj_apply (b : Fin 2) (n : Fin 16384) (k : Fin 10752) :
    refProj h w (ix3 b n k) = ∑ d : Fin 2048, h (ix3 b n d) * w (ix2 d k) := by
  unfold refProj
  pointwise

/-- The dilated part of it, by token, kind, group and lane. -/
def refParts (y : FVec Ideal S2x16384x10752 .f32) : FVec Ideal S32768x3x3x1024 .f32 :=
  shapeCast _ (extractStridedSlice S2x16384x9216 ![0, 0, 1536] y slices_S2x16384x10752_S2x16384x9216_0_0_1536) shapeCasts_S2x16384x9216_S32768x3x3x1024

theorem refParts_apply (y : FVec Ideal S2x16384x10752 .f32) (n : Fin 32768) (j g : Fin 3) (k : Fin 1024) :
    refParts y (ix4 n j g k) = y (ix3 (⟨n.val / 16384, by omega⟩ : Fin 2) (⟨n.val % 16384, by omega⟩ : Fin 16384) (headCol g j k)) := by
  unfold refParts
  pointwise
  exact congrArg (fun e => y (ix3 _ _ e)) (Fin.ext (by unfold headCol; show _ + (_ + _ + _) = _ + (_ + _); omega))

/-- One group of it, by kind, token and lane. -/
def refGroup (hs : S32768x3x3x1024.Slices ![0, 0, g.val, 0] S32768x3x1x1024) (y : FVec Ideal S32768x3x3x1024 .f32) : FVec Ideal S3x32768x1024 .bf16 :=
  truncf .bf16 (transpose S3x32768x1024 [1, 0, 2] (shapeCast _ (extractStridedSlice S32768x3x1x1024 ![0, 0, g.val, 0] y hs) shapeCasts_S32768x3x1x1024_S32768x3x1024) transposes_S32768x3x1024_S3x32768x1024_1_0_2) bitsLt_bf16_f32

theorem refGroup_apply (hs : S32768x3x3x1024.Slices ![0, 0, g.val, 0] S32768x3x1x1024) (y : FVec Ideal S32768x3x3x1024 .f32) (j : Fin 3) (n : Fin 32768) (k : Fin 1024) :
    refGroup g hs y (ix3 j n k) = y (ix4 n j g k) := by
  unfold refGroup
  pointwise

/-- The reference before its rows are joined. -/
def refHeads (hs : S32768x3x3x1024.Slices ![0, 0, g.val, 0] S32768x3x1x1024) : FVec Ideal S3x32768x1024 .bf16 := refGroup g hs (refParts (refProj h w))

theorem refHeads_apply (hs : S32768x3x3x1024.Slices ![0, 0, g.val, 0] S32768x3x1x1024) (j : Fin 3) (n : Fin 32768) (k : Fin 1024) :
    refHeads h w g hs (ix3 j n k) = headAt h w g j n k := by
  unfold refHeads
  rw [refGroup_apply, refParts_apply, refProj_apply]
  rfl

end Cert.Proj

end
-- ==== Proof.Proj.NearArray.lean ====
/-
  What the densest dilated projection leaves in its result, entry by entry, in terms of the call's arguments.
-/
module

public import proofs.«01_k».proof.Proof.Gen.NearIdeal.Value
public import proofs.«01_k».proof.Proof.Gen.ReferenceNearIdeal.Run
public import proofs.«01_k».proof.Proof.Proj.NearBlock
public import proofs.«01_k».proof.Proof.Proj.Heads

@[expose] public section

set_option maxRecDepth 16384

noncomputable section

namespace Cert.Proj.Near

open Cert.NearIdeal Cert.NearIdeal.Gen Idealize.ShloMosaic Idealize.ShloMosaic.TcCoe
open Cert.Ffn (tok rows_apply)
open Cert.ReferenceNearIdeal.Facts₀ (slices_S32768x3x3x1024_S32768x3x1x1024_0_0_0_0)

variable (m : (ℓ : Loc nD τ sig) → Buf (Elt Ideal) ℓ) (c : Dev nD)

/-- The grid point of token block `i` and kind `j`. -/
def pt (i : Fin 16) (j : Fin 3) : Fin cfg0.N := ⟨3 * i.val + j.val, by show _ < 48; omega⟩
theorem exists_pt (t : Fin cfg0.N) : ∃ i j, t = pt i j :=
  ⟨⟨t.val / 3, by have : t.val < 48 := t.isLt; omega⟩, ⟨t.val % 3, by omega⟩, Fin.ext (by show t.val = 3 * (t.val / 3) + t.val % 3; omega)⟩
theorem idx_h : ∀ i j, win0_0.index (pt i j) = ![i.val, 0] := by decide +kernel
theorem idx_w : ∀ i j, win0_1.index (pt i j) = ![0, 1536 + (3 * j.val + 0) * 1024] := by decide +kernel
theorem idx_o : ∀ i j, win0_2.index (pt i j) = ![j.val, i.val, 0] := by decide +kernel

/-- The two arguments. -/
abbrev argH : FVec Ideal S2x16384x2048 .f32 := m ((c : Thread nD τ).loc main_arg0)
abbrev argW : FVec Ideal S2048x10752 .f32 := m ((c : Thread nD τ).loc main_arg1)
theorem V_h : (V m c main_v1 : FVec Ideal S32768x2048 .bf16) = shapeCast S32768x2048 (argH m c) shapeCasts_S2x16384x2048_S32768x2048 := by rfl
theorem V_w : (V m c main_v2 : FVec Ideal S2048x10752 .bf16) = argW m c := by rfl

/-- Row `t` of token block `i`. -/
def row (i : Fin 16) (t : Fin 2048) : Fin 32768 := ⟨2048 * i.val + t.val, by omega⟩

/-- A point's token block. -/
theorem blk_h (i : Fin 16) (j : Fin 3) (t d : Fin 2048) : (iblk m c 0 (pt i j) : FVec Ideal S2048x2048 .bf16) (ix2 t d) = argH m c (tok (row i t) d) := by
  have e := idx_h i j
  unfold iblk
  rw [View.read_apply]
  show (V m c main_v1 : FVec Ideal S32768x2048 .bf16) _ = _
  rw [V_h, ← rows_apply (argH m c) (row i t) d]
  refine congrArg (shapeCast S32768x2048 (argH m c) shapeCasts_S2x16384x2048_S32768x2048) (funext fun a => Fin.ext ?_)
  match a with
  | 0 => show win0_0.index (pt i j) 0 * 2048 + 1 * t.val = 2048 * i.val + t.val; rw [e]; show i.val * 2048 + 1 * t.val = _; omega
  | 1 => show win0_0.index (pt i j) 1 * 2048 + 1 * d.val = d.val; rw [e]; show 0 * 2048 + 1 * d.val = _; omega
/-- A point's weight columns. -/
theorem blk_w (i : Fin 16) (j : Fin 3) (d : Fin 2048) (k : Fin 1024) : (iblk m c 1 (pt i j) : FVec Ideal S2048x1024 .bf16) (ix2 d k) = argW m c (ix2 d (headCol 0 j k)) := by
  have e := idx_w i j
  unfold iblk
  rw [View.read_apply]
  show (V m c main_v2 : FVec Ideal S2048x10752 .bf16) _ = _
  rw [V_w]
  refine congrArg (argW m c) (funext fun a => Fin.ext ?_)
  match a with
  | 0 => show win0_1.index (pt i j) 0 + 1 * d.val = d.val; rw [e]; show 0 + 1 * d.val = _; omega
  | 1 => show win0_1.index (pt i j) 1 + 1 * k.val = 1536 + ((3 * j.val + 0) * 1024 + k.val); rw [e]; show 1536 + (3 * j.val + 0) * 1024 + 1 * k.val = _; omega

/-- So its product is the group's heads. -/
theorem prod_eq (i : Fin 16) (j : Fin 3) (t : Fin 2048) (k : Fin 1024) :
    prodAt (iblk m c 0 (pt i j)) (iblk m c 1 (pt i j)) t k = headAt (argH m c) (argW m c) 0 j (row i t) k := by
  unfold prodAt headAt
  simp only [blk_h, blk_w]

/-- The call's result. -/
abbrev result : FVec Ideal S3x32768x1024 .bf16 := fun z => headAt (argH m c) (argW m c) 0 (z 0) (z 1) (z 2)

theorem exists_row (n : Fin 32768) : ∃ i p, row i p = n :=
  ⟨⟨n.val / 2048, by omega⟩, ⟨n.val % 2048, by omega⟩, Fin.ext (Nat.div_add_mod _ _)⟩

theorem emb_out (i : Fin 16) (j : Fin 3) (p : Fin 2048) (q : Fin 1024) :
    ((cfg0.win 2).blk (pt i j)).view.emb (ix3 (0 : Fin 1) p q) = (ix3 j (row i p) q : S3x32768x1024.Idx) := by
  have e := idx_o i j
  refine funext fun a => Fin.ext ?_
  match a with
  | 0 => show win0_2.index (pt i j) 0 * 1 + 1 * 0 = j.val; rw [e]; show j.val * 1 + 1 * 0 = _; omega
  | 1 => show win0_2.index (pt i j) 1 * 2048 + 1 * p.val = 2048 * i.val + p.val; rw [e]; show i.val * 2048 + 1 * p.val = _; omega
  | 2 => show win0_2.index (pt i j) 2 * 1024 + 1 * q.val = q.val; rw [e]; show 0 * 1024 + 1 * q.val = _; omega

/-- The result array after the call. -/
theorem array_eq : ((dats m 0 c).arrAt 2 cfg0.N : FVec Ideal S3x32768x1024 .bf16) = result m c := by
  refine (dats m 0 c).arrAt_eq_of_cover 2 (result m c) (fun t ht => ?_) (fun z => ?_)
  · obtain ⟨i, j, rfl⟩ := exists_pt t
    refine (Value.flushed2_A m c (pt i j)).trans ?_
    funext y
    obtain ⟨p, q, rfl⟩ : ∃ (p : Fin 2048) (q : Fin 1024), y = (ix3 0 p q : S1x2048x1024.Idx) :=
      ⟨y 1, y 2, (eq_ix3 (y : S1x2048x1024.Idx)).trans (congrArg (fun a => ix3 a (y 1) (y 2)) (Subsingleton.elim (α := Fin 1) _ _))⟩
    rw [View.read_apply, emb_out]
    refine (block_apply c (grid0.coords (pt i j)) _ _ _ _ _ _ _ _ (iblk m c 0 (pt i j)) (iblk m c 1 (pt i j)) p q).trans ?_
    exact prod_eq m c i j p q
  · obtain ⟨i, p, e⟩ := exists_row (z 1)
    refine ⟨pt i (z 0), flush0_2 _, ?_⟩
    have h : (ix3 (z 0) (row i p) (z 2) : S3x32768x1024.Idx) ∈ ((cfg0.win 2).blk (pt i (z 0))).view.set :=
      emb_out i (z 0) p (z 2) ▸ ((cfg0.win 2).blk (pt i (z 0))).view.emb_mem_set (ix3 (0 : Fin 1) p (z 2) : S1x2048x1024.Idx)
    rw [e] at h
    exact (eq_ix3 (z : S3x32768x1024.Idx)) ▸ h

/-- The reference's result is the call's. -/
theorem reference_eq (h : FVec Ideal S2x16384x2048 .f32) (w : FVec Ideal S2048x10752 .f32) :
    refHeads h w 0 slices_S32768x3x3x1024_S32768x3x1x1024_0_0_0_0 = fun z => headAt h w 0 (z 0) (z 1) (z 2) := by
  funext z
  obtain ⟨j, n, k, rfl⟩ : ∃ (j : Fin 3) (n : Fin 32768) (k : Fin 1024), z = ix3 j n k := ⟨z 0, z 1, z 2, eq_ix3 z⟩
  exact refHeads_apply h w 0 _ j n k

end Cert.Proj.Near

end
-- ==== Proof.Proj.Strided.lean ====
/-
  The dilated projections with rate `r` put the tokens of a residue modulo `r` side by side: each channel of the product is
  stored in the scratch buffer and read back `r` times, every `r`-th token from the residue on. What the output block then
  holds, for any rate.
-/
module

public import proofs.«01_k».proof.Proof.Proj.Product

@[expose] public section

set_option maxRecDepth 16384

noncomputable section

namespace Cert.Proj

open Cert.MiddleIdeal Cert.MiddleIdeal.Gen Idealize.ShloMosaic

/-- The output block with `r` tokens in each of `rows` rows. -/
abbrev wideShape (r rows : ℕ) : Shape := ⟨3, ![1, rows, 1024 * r]⟩
/-- One residue's lanes of a channel. -/
abbrev narrowShape (rows : ℕ) : Shape := ⟨3, ![1, rows, 128]⟩

section AnyFloat
variable {F : FTy → Type} [FloatOps F] {sg : RefSig}
variable (r rows : ℕ)
  (inbW : ∀ (ch : Fin 8) (c : Fin r) (a : Fin 3), (![0, 0, 1024 * c.val + 128 * ch.val] : Fin 3 → ℕ) a + (narrowShape rows).size a ≤ (wideShape r rows).size a)
  (inbS : ∀ (ch : Fin 8) (c : Fin r) (a : Fin 3), (narrowShape rows).size a = 0 ∨
    (![ch.val, c.val, 0] : Fin 3 → ℕ) a + (![1, r, 1] : Fin 3 → ℕ) a * ((narrowShape rows).size a - 1) < S8x2048x128.size a)
  (cast : Vec F (narrowShape rows) .f32 → Vec F (narrowShape rows) .bf16)
  (chan : Fin 8 → Vec F S1x2048x128 .f32)
  (buf : Memref sg .tc .vmem S8x2048x128 .f32)

/-- The channels stored in the scratch buffer, the last first. -/
def chanPieces : List (Fin 8) → List (View.Piece (Elt F) S8x2048x128 .f32)
  | [] => []
  | ch :: chs => ⟨Rect.unit (s := S8x2048x128) ![ch.val, 0, 0] S1x2048x128.size (inbChan ch), chan ch⟩ :: chanPieces chs

/-- The tokens of residue `c` of channel `ch`, as the stores `L` leave them. -/
def residue (L : List (View.Piece (Elt F) S8x2048x128 .f32)) (ch : Fin 8) (c : Fin r) : Vec F (narrowShape rows) .f32 :=
  buf.view.readCov L (⟨![ch.val, c.val, 0], (narrowShape rows).size, ![1, r, 1], inbS ch c⟩ : LoadRect S8x2048x128)

/-- The store of residue `c` of channel `ch`. -/
def widePiece (L : List (View.Piece (Elt F) S8x2048x128 .f32)) (ch : Fin 8) (c : Fin r) : View.Piece (Elt F) (wideShape r rows) .bf16 :=
  ⟨Rect.unit (s := wideShape r rows) ![0, 0, 1024 * c.val + 128 * ch.val] (narrowShape rows).size (inbW ch c), cast (residue r rows inbS buf L ch c)⟩

/-- The stores of the residues `cs` over the stores `base`. -/
def resPieces (L : List (View.Piece (Elt F) S8x2048x128 .f32)) (ch : Fin 8) (base : List (View.Piece (Elt F) (wideShape r rows) .bf16)) :
    List (Fin r) → List (View.Piece (Elt F) (wideShape r rows) .bf16)
  | [] => base
  | c :: cs => widePiece r rows inbW inbS cast buf L ch c :: resPieces L ch base cs

/-- All stores into the output block, the last first: each channel's residues after the channel is stored. -/
def widePieces (cs : List (Fin r)) : List (Fin 8) → List (View.Piece (Elt F) (wideShape r rows) .bf16)
  | [] => []
  | ch :: chs => resPieces r rows inbW inbS cast buf (chanPieces chan (ch :: chs)) ch (widePieces cs chs) cs
end AnyFloat

section Value
variable {sg : RefSig} (r rows : ℕ) (hr : r * rows = 2048) (hr0 : 0 < r)

include hr in
theorem token_lt (p : Fin rows) (c : Fin r) : r * p.val + c.val < 2048 := by
  have h : r * p.val + c.val < r * (p.val + 1) := by rw [Nat.mul_add]; omega
  exact lt_of_lt_of_le h (hr ▸ Nat.mul_le_mul_left r p.isLt)

theorem slot_lt (q : Fin (1024 * r)) : q.val / 1024 < r := Nat.div_lt_of_lt_mul q.isLt

/-- What the output block's entry in row `p` and column `q` is: the product at the row's token of residue `q / 1024` and column `q % 1024`. -/
def wideAt (x : FVec Ideal S2048x2048 .bf16) (w : FVec Ideal S2048x1024 .bf16) (p : Fin rows) (q : Fin (1024 * r)) : EReal :=
  prodAt x w ⟨r * p.val + q.val / 1024, token_lt r rows hr p ⟨q.val / 1024, slot_lt r q⟩⟩ ⟨q.val % 1024, Nat.mod_lt _ (by norm_num)⟩

variable
  (inbW : ∀ (ch : Fin 8) (c : Fin r) (a : Fin 3), (![0, 0, 1024 * c.val + 128 * ch.val] : Fin 3 → ℕ) a + (narrowShape rows).size a ≤ (wideShape r rows).size a)
  (inbS : ∀ (ch : Fin 8) (c : Fin r) (a : Fin 3), (narrowShape rows).size a = 0 ∨
    (![ch.val, c.val, 0] : Fin 3 → ℕ) a + (![1, r, 1] : Fin 3 → ℕ) a * ((narrowShape rows).size a - 1) < S8x2048x128.size a)
  (cast : Vec Ideal (narrowShape rows) .f32 → Vec Ideal (narrowShape rows) .bf16)
  (hcast : ∀ y (p : Fin rows) (l : Fin 128), cast y (ix3 0 p l) = (y (ix3 0 p l) : EReal))
  (chan : Fin 8 → Vec Ideal S1x2048x128 .f32)
  (x : FVec Ideal S2048x2048 .bf16) (w : FVec Ideal S2048x1024 .bf16)
  (hchan : ∀ ch (t : Fin 2048) (l : Fin 128), chan ch (ix3 0 t l) = prodAt x w t (lane ch l))
  (buf : Memref sg .tc .vmem S8x2048x128 .f32)

include hchan in
/-- A residue just stored reads the product. -/
theorem residue_apply (ch : Fin 8) (chs : List (Fin 8)) (c : Fin r) (p : Fin rows) (l : Fin 128) :
    residue (F := Ideal) r rows inbS buf (chanPieces chan (ch :: chs)) ch c (ix3 0 p l)
      = prodAt x w ⟨r * p.val + c.val, token_lt r rows hr p c⟩ (lane ch l) := by
  unfold residue View.readCov chanPieces
  rw [View.readAt_apply]
  refine (View.read_writes_cons_hit_of_coords _ _ _ _ _ (ix3 0 ⟨r * p.val + c.val, token_lt r rows hr p c⟩ l) _ fun a => ?_).trans (hchan _ _ _)
  match a with
  | 0 => show ch.val + 1 * 0 = ch.val + 1 * 0; rfl
  | 1 => show c.val + r * p.val = 0 + 1 * (r * p.val + c.val); omega
  | 2 => show 0 + 1 * l.val = 0 + 1 * l.val; rfl

include hchan hcast in
/-- So does each store into the output block. -/
theorem widePiece_apply (ch : Fin 8) (chs : List (Fin 8)) (c : Fin r) :
    ∀ y : (widePiece (F := Ideal) r rows inbW inbS cast buf (chanPieces chan (ch :: chs)) ch c).1.shape.Idx,
      (widePiece (F := Ideal) r rows inbW inbS cast buf (chanPieces chan (ch :: chs)) ch c).2 y
        = (fun z : (wideShape r rows).Idx => wideAt r rows hr x w (z 1) (z 2))
            ((widePiece (F := Ideal) r rows inbW inbS cast buf (chanPieces chan (ch :: chs)) ch c).1.emb y) := by
  intro y
  obtain ⟨p, l, rfl⟩ : ∃ (p : Fin rows) (l : Fin 128), y = (ix3 0 p l : (narrowShape rows).Idx) :=
    ⟨y 1, y 2, (eq_ix3 (y : (narrowShape rows).Idx)).trans (congrArg (fun a => ix3 a (y 1) (y 2)) (Subsingleton.elim (α := Fin 1) _ _))⟩
  refine (hcast _ p l).trans ((residue_apply r rows hr inbS chan x w hchan buf ch chs c p l).trans ?_)
  unfold wideAt
  have hl := l.isLt
  have hc := ch.isLt
  refine congrArg₂ (prodAt x w) (Fin.ext ?_) (Fin.ext ?_)
  · show r * p.val + c.val = r * (0 + 1 * p.val) + (1024 * c.val + 128 * ch.val + 1 * l.val) / 1024
    rw [show (1024 * c.val + 128 * ch.val + 1 * l.val) / 1024 = c.val by omega, Nat.zero_add, Nat.one_mul]
  · show 128 * ch.val + l.val = (1024 * c.val + 128 * ch.val + 1 * l.val) % 1024
    omega

include hchan hcast in
theorem resPieces_apply (ch : Fin 8) (chs : List (Fin 8)) (base : List (View.Piece (Elt Ideal) (wideShape r rows) .bf16))
    (hb : ∀ q ∈ base, ∀ y : q.1.shape.Idx, q.2 y = (fun z : (wideShape r rows).Idx => wideAt r rows hr x w (z 1) (z 2)) (q.1.emb y)) :
    ∀ cs, ∀ q ∈ resPieces (F := Ideal) r rows inbW inbS cast buf (chanPieces chan (ch :: chs)) ch base cs,
      ∀ y : q.1.shape.Idx, q.2 y = (fun z : (wideShape r rows).Idx => wideAt r rows hr x w (z 1) (z 2)) (q.1.emb y)
  | [], q, h => hb q h
  | c :: cs, q, h => by
    rcases List.mem_cons.mp h with rfl | h
    · exact widePiece_apply r rows hr inbW inbS cast hcast chan x w hchan buf ch chs c
    · exact resPieces_apply ch chs base hb cs q h

include hchan hcast in
theorem widePieces_apply (cs : List (Fin r)) : ∀ chs, ∀ q ∈ widePieces (F := Ideal) r rows inbW inbS cast chan buf cs chs,
    ∀ y : q.1.shape.Idx, q.2 y = (fun z : (wideShape r rows).Idx => wideAt r rows hr x w (z 1) (z 2)) (q.1.emb y)
  | [], q, h => absurd h List.not_mem_nil
  | ch :: chs, q, h => resPieces_apply r rows hr inbW inbS cast hcast chan x w hchan buf ch chs _ (widePieces_apply cs chs) cs q h

include hchan hcast in
/-- Stores that cover the output block leave the product there, a row per `r` tokens. -/
theorem read_wide (cs : List (Fin r)) (chs : List (Fin 8)) (v : View sg .tc .vmem (wideShape r rows) .bf16) (f : BufTy.Contents (Elt Ideal) v.ty)
    (hcov : ∀ y, ∃ q ∈ widePieces (F := Ideal) r rows inbW inbS cast chan buf cs chs, y ∈ q.1.set) (p : Fin rows) (q : Fin (1024 * r)) :
    v.read (Elt Ideal) (v.writes (Elt Ideal) f (widePieces (F := Ideal) r rows inbW inbS cast chan buf cs chs)) (ix3 0 p q)
      = wideAt r rows hr x w p q :=
  View.read_writes_apply_of_pieces v f (fun z : (wideShape r rows).Idx => wideAt r rows hr x w (z 1) (z 2)) _
    (widePieces_apply r rows hr inbW inbS cast hcast chan x w hchan buf cs chs) (ix3 0 p q) (hcov _)
end Value

end Cert.Proj

end
-- ==== Proof.Proj.MiddleBlock.lean ====
/-
  What one grid point of the middle dilated projection leaves in its output block: the product, a row per 4 tokens.
-/
module

public import proofs.«01_k».proof.Proof.Gen.MiddleIdeal.Frame
public import proofs.«01_k».proof.Proof.Proj.Strided

@[expose] public section

set_option maxRecDepth 16384

noncomputable section

namespace Cert.Proj.Middle

open Cert.MiddleIdeal Cert.MiddleIdeal.Gen Idealize.ShloMosaic Idealize.ShloMosaic.TcCoe

theorem inbW : ∀ (ch : Fin 8) (c : Fin 4) (a : Fin 3), (![0, 0, 1024 * c.val + 128 * ch.val] : Fin 3 → ℕ) a + (narrowShape 512).size a ≤ (wideShape 4 512).size a := by decide
theorem inbS : ∀ (ch : Fin 8) (c : Fin 4) (a : Fin 3), (narrowShape 512).size a = 0 ∨
    (![ch.val, c.val, 0] : Fin 3 → ℕ) a + (![1, 4, 1] : Fin 3 → ℕ) a * ((narrowShape 512).size a - 1) < S8x2048x128.size a := by decide

theorem cast_apply (y : FVec Ideal S1x512x128 .f32) (p : Fin 512) (l : Fin 128) : k0_pay7 (F := Ideal) y (ix3 0 p l) = (y (ix3 0 p l) : EReal) := by
  unfold k0_pay7
  pointwise

section Run
variable (c : Dev nD) (i : grid0.Coords)
  (arg2 : Memref sig .tc .vmem S2048x2048 .bf16) (harg2 : arg2.IsWhole) (arg3 : Memref sig .tc .vmem S2048x1024 .bf16) (harg3 : arg3.IsWhole)
  (arg4 : Memref sig .tc .vmem S1x512x4096 .bf16) (harg4 : arg4.IsWhole) (arg5 : Memref sig .tc .vmem S8x2048x128 .f32) (harg5 : arg5.IsWhole)

/-- The run's stores are the residues of the eight channels. -/
theorem pieces {F : FTy → Type} [FloatOps F] (x : Vec F S2048x2048 .bf16) (w : Vec F S2048x1024 .bf16) :
    (kernelRun0_A (F := F) c i arg2 harg2 arg3 harg3 arg4 harg4 arg5 harg5 x w).1
      = widePieces (F := F) 4 512 inbW inbS k0_pay7
          (channel (arg2.view.readAt (Elt F) (Rect.unit (s := S2048x2048) ![0, 0] S2048x2048.size inb_S2048x2048_S2048x2048_0_0).toLoadRect (harg2.unread x))
            (loadChunk arg3 (harg3.unread w)))
          arg5 [3, 2, 1, 0] [7, 6, 5, 4, 3, 2, 1, 0] := rfl

/-- They leave the product. -/
theorem block_apply (x : FVec Ideal S2048x2048 .bf16) (w : FVec Ideal S2048x1024 .bf16) (p : Fin 512) (q : Fin 4096) :
    out0_A_2 (F := Ideal) c i arg2 harg2 arg3 harg3 arg4 harg4 arg5 harg5 x w (ix3 0 p q) = wideAt 4 512 rfl x w p q := by
  have hcov := cover0_A_2 (F := Ideal) c i arg2 harg2 arg3 harg3 arg4 harg4 arg5 harg5 x w
  unfold out0_A_2
  rw [pieces] at hcov ⊢
  refine read_wide 4 512 rfl inbW inbS k0_pay7 cast_apply _ x w (fun ch t l => ?_) arg5 [3, 2, 1, 0] [7, 6, 5, 4, 3, 2, 1, 0] VO0_2 VO0_2.junk hcov p q
  rw [View.readAt_full, harg2.read_unread]
  exact channel_apply x arg3 harg3 w ch t l
end Run

end Cert.Proj.Middle

end
-- ==== Proof.Proj.MiddleArray.lean ====
/-
  What the middle dilated projection leaves in its result, entry by entry, in terms of the call's arguments.
-/
module

public import proofs.«01_k».proof.Proof.Gen.MiddleIdeal.Value
public import proofs.«01_k».proof.Proof.Gen.ReferenceMiddleIdeal.Run
public import proofs.«01_k».proof.Proof.Proj.MiddleBlock
public import proofs.«01_k».proof.Proof.Proj.Heads

@[expose] public section

set_option maxRecDepth 16384

noncomputable section

namespace Cert.Proj.Middle

open Cert.MiddleIdeal Cert.MiddleIdeal.Gen Idealize.ShloMosaic Idealize.ShloMosaic.TcCoe
open Cert.Ffn (tok rows_apply)
open Cert.ReferenceMiddleIdeal (S3x32768x1024)
open Cert.ReferenceMiddleIdeal.Facts₀ (slices_S32768x3x3x1024_S32768x3x1x1024_0_0_1_0 shapeCasts_S3x32768x1024_S3x8192x4096)

variable (m : (ℓ : Loc nD τ sig) → Buf (Elt Ideal) ℓ) (c : Dev nD)

/-- The grid point of token block `i` and kind `j`. -/
def pt (i : Fin 16) (j : Fin 3) : Fin cfg0.N := ⟨3 * i.val + j.val, by show _ < 48; omega⟩
theorem exists_pt (t : Fin cfg0.N) : ∃ i j, t = pt i j :=
  ⟨⟨t.val / 3, by have : t.val < 48 := t.isLt; omega⟩, ⟨t.val % 3, by omega⟩, Fin.ext (by show t.val = 3 * (t.val / 3) + t.val % 3; omega)⟩
theorem idx_h : ∀ i j, win0_0.index (pt i j) = ![i.val, 0] := by decide +kernel
theorem idx_w : ∀ i j, win0_1.index (pt i j) = ![0, 1536 + (3 * j.val + 1) * 1024] := by decide +kernel
theorem idx_o : ∀ i j, win0_2.index (pt i j) = ![j.val, i.val, 0] := by decide +kernel

/-- The two arguments. -/
abbrev argH : FVec Ideal S2x16384x2048 .f32 := m ((c : Thread nD τ).loc main_arg0)
abbrev argW : FVec Ideal S2048x10752 .f32 := m ((c : Thread nD τ).loc main_arg1)
theorem V_h : (V m c main_v1 : FVec Ideal S32768x2048 .bf16) = shapeCast S32768x2048 (argH m c) shapeCasts_S2x16384x2048_S32768x2048 := by rfl
theorem V_w : (V m c main_v2 : FVec Ideal S2048x10752 .bf16) = argW m c := by rfl

/-- Row `t` of token block `i`. -/
def row (i : Fin 16) (t : Fin 2048) : Fin 32768 := ⟨2048 * i.val + t.val, by omega⟩

/-- A point's token block. -/
theorem blk_h (i : Fin 16) (j : Fin 3) (t d : Fin 2048) : (iblk m c 0 (pt i j) : FVec Ideal S2048x2048 .bf16) (ix2 t d) = argH m c (tok (row i t) d) := by
  have e := idx_h i j
  unfold iblk
  rw [View.read_apply]
  show (V m c main_v1 : FVec Ideal S32768x2048 .bf16) _ = _
  rw [V_h, ← rows_apply (argH m c) (row i t) d]
  refine congrArg (shapeCast S32768x2048 (argH m c) shapeCasts_S2x16384x2048_S32768x2048) (funext fun a => Fin.ext ?_)
  match a with
  | 0 => show win0_0.index (pt i j) 0 * 2048 + 1 * t.val = 2048 * i.val + t.val; rw [e]; show i.val * 2048 + 1 * t.val = _; omega
  | 1 => show win0_0.index (pt i j) 1 * 2048 + 1 * d.val = d.val; rw [e]; show 0 * 2048 + 1 * d.val = _; omega
/-- A point's weight columns. -/
theorem blk_w (i : Fin 16) (j : Fin 3) (d : Fin 2048) (k : Fin 1024) : (iblk m c 1 (pt i j) : FVec Ideal S2048x1024 .bf16) (ix2 d k) = argW m c (ix2 d (headCol 1 j k)) := by
  have e := idx_w i j
  unfold iblk
  rw [View.read_apply]
  show (V m c main_v2 : FVec Ideal S2048x10752 .bf16) _ = _
  rw [V_w]
  refine congrArg (argW m c) (funext fun a => Fin.ext ?_)
  match a with
  | 0 => show win0_1.index (pt i j) 0 + 1 * d.val = d.val; rw [e]; show 0 + 1 * d.val = _; omega
  | 1 => show win0_1.index (pt i j) 1 + 1 * k.val = 1536 + ((3 * j.val + 1) * 1024 + k.val); rw [e]; show 1536 + (3 * j.val + 1) * 1024 + 1 * k.val = _; omega

/-- So its product is the group's heads. -/
theorem prod_eq (i : Fin 16) (j : Fin 3) (t : Fin 2048) (k : Fin 1024) :
    prodAt (iblk m c 0 (pt i j)) (iblk m c 1 (pt i j)) t k = headAt (argH m c) (argW m c) 1 j (row i t) k := by
  unfold prodAt headAt
  simp only [blk_h, blk_w]

/-- The call's result. -/
abbrev result : FVec Ideal S3x8192x4096 .bf16 := wideHeads (argH m c) (argW m c) 1 4 8192 rfl

/-- Row `p` of row block `i`. -/
def outRow (i : Fin 16) (p : Fin 512) : Fin 8192 := ⟨512 * i.val + p.val, by omega⟩
theorem exists_outRow (n : Fin 8192) : ∃ i p, outRow i p = n :=
  ⟨⟨n.val / 512, by omega⟩, ⟨n.val % 512, by omega⟩, Fin.ext (Nat.div_add_mod _ _)⟩

theorem emb_out (i : Fin 16) (j : Fin 3) (p : Fin 512) (q : Fin 4096) :
    ((cfg0.win 2).blk (pt i j)).view.emb (ix3 (0 : Fin 1) p q) = (ix3 j (outRow i p) q : S3x8192x4096.Idx) := by
  have e := idx_o i j
  refine funext fun a => Fin.ext ?_
  match a with
  | 0 => show win0_2.index (pt i j) 0 * 1 + 1 * 0 = j.val; rw [e]; show j.val * 1 + 1 * 0 = _; omega
  | 1 => show win0_2.index (pt i j) 1 * 512 + 1 * p.val = 512 * i.val + p.val; rw [e]; show i.val * 512 + 1 * p.val = _; omega
  | 2 => show win0_2.index (pt i j) 2 * 4096 + 1 * q.val = q.val; rw [e]; show 0 * 4096 + 1 * q.val = _; omega

/-- The result array after the call. -/
theorem array_eq : ((dats m 0 c).arrAt 2 cfg0.N : FVec Ideal S3x8192x4096 .bf16) = result m c := by
  refine (dats m 0 c).arrAt_eq_of_cover 2 (result m c) (fun t ht => ?_) (fun z => ?_)
  · obtain ⟨i, j, rfl⟩ := exists_pt t
    refine (Value.flushed2_A m c (pt i j)).trans ?_
    funext y
    obtain ⟨p, q, rfl⟩ : ∃ (p : Fin 512) (q : Fin 4096), y = (ix3 0 p q : S1x512x4096.Idx) :=
      ⟨y 1, y 2, (eq_ix3 (y : S1x512x4096.Idx)).trans (congrArg (fun a => ix3 a (y 1) (y 2)) (Subsingleton.elim (α := Fin 1) _ _))⟩
    rw [View.read_apply, emb_out]
    refine (block_apply c (grid0.coords (pt i j)) _ _ _ _ _ _ _ _ (iblk m c 0 (pt i j)) (iblk m c 1 (pt i j)) p q).trans ?_
    unfold wideAt
    rw [prod_eq]
    unfold result wideHeads
    refine congrArg (fun n => headAt (argH m c) (argW m c) 1 j n _) (Fin.ext ?_)
    show 2048 * i.val + (4 * p.val + q.val / 1024) = 4 * (512 * i.val + p.val) + q.val / 1024
    omega
  · obtain ⟨i, p, e⟩ := exists_outRow (z 1)
    refine ⟨pt i (z 0), flush0_2 _, ?_⟩
    have h : (ix3 (z 0) (outRow i p) (z 2) : S3x8192x4096.Idx) ∈ ((cfg0.win 2).blk (pt i (z 0))).view.set :=
      emb_out i (z 0) p (z 2) ▸ ((cfg0.win 2).blk (pt i (z 0))).view.emb_mem_set (ix3 (0 : Fin 1) p (z 2) : S1x512x4096.Idx)
    rw [e] at h
    exact (eq_ix3 (z : S3x8192x4096.Idx)) ▸ h

/-- Four tokens of the reference side by side. -/
theorem join_apply (y : FVec Ideal S3x32768x1024 .bf16) (j : Fin 3) (p : Fin 8192) (q : Fin 4096) :
    shapeCast S3x8192x4096 y shapeCasts_S3x32768x1024_S3x8192x4096 (ix3 j p q)
      = y (ix3 j (⟨4 * p.val + q.val / 1024, by omega⟩ : Fin 32768) (⟨q.val % 1024, by omega⟩ : Fin 1024)) := by
  pointwise
  exact congrArg (fun n => y (ix3 j n _)) (Fin.ext (congrArg (· + q.val / 1024) (Nat.mul_comm p.val 4)))

/-- The reference's result is the call's. -/
theorem reference_eq (h : FVec Ideal S2x16384x2048 .f32) (w : FVec Ideal S2048x10752 .f32) :
    shapeCast S3x8192x4096 (refHeads h w 1 slices_S32768x3x3x1024_S32768x3x1x1024_0_0_1_0) shapeCasts_S3x32768x1024_S3x8192x4096
      = wideHeads h w 1 4 8192 rfl := by
  funext z
  obtain ⟨j, p, q, rfl⟩ : ∃ (j : Fin 3) (p : Fin 8192) (q : Fin 4096), z = ix3 j p q := ⟨z 0, z 1, z 2, eq_ix3 z⟩
  exact (join_apply _ j p q).trans (refHeads_apply h w 1 _ _ _ _)

end Cert.Proj.Middle

end
-- ==== Proof.Proj.FarBlock.lean ====
/-
  What one grid point of the sparsest dilated projection leaves in its output block: the product, a row per 16 tokens.
-/
module

public import proofs.«01_k».proof.Proof.Gen.FarIdeal.Frame
public import proofs.«01_k».proof.Proof.Proj.Strided

@[expose] public section

set_option maxRecDepth 16384

noncomputable section

namespace Cert.Proj.Far

open Cert.FarIdeal Cert.FarIdeal.Gen Idealize.ShloMosaic Idealize.ShloMosaic.TcCoe

theorem inbW : ∀ (ch : Fin 8) (c : Fin 16) (a : Fin 3), (![0, 0, 1024 * c.val + 128 * ch.val] : Fin 3 → ℕ) a + (narrowShape 128).size a ≤ (wideShape 16 128).size a := by decide
theorem inbS : ∀ (ch : Fin 8) (c : Fin 16) (a : Fin 3), (narrowShape 128).size a = 0 ∨
    (![ch.val, c.val, 0] : Fin 3 → ℕ) a + (![1, 16, 1] : Fin 3 → ℕ) a * ((narrowShape 128).size a - 1) < S8x2048x128.size a := by decide

theorem cast_apply (y : FVec Ideal S1x128x128 .f32) (p : Fin 128) (l : Fin 128) : k0_pay7 (F := Ideal) y (ix3 0 p l) = (y (ix3 0 p l) : EReal) := by
  unfold k0_pay7
  pointwise

section Run
variable (c : Dev nD) (i : grid0.Coords)
  (arg2 : Memref sig .tc .vmem S2048x2048 .bf16) (harg2 : arg2.IsWhole) (arg3 : Memref sig .tc .vmem S2048x1024 .bf16) (harg3 : arg3.IsWhole)
  (arg4 : Memref sig .tc .vmem S1x128x16384 .bf16) (harg4 : arg4.IsWhole) (arg5 : Memref sig .tc .vmem S8x2048x128 .f32) (harg5 : arg5.IsWhole)

/-- The run's stores are the residues of the eight channels. -/
theorem pieces {F : FTy → Type} [FloatOps F] (x : Vec F S2048x2048 .bf16) (w : Vec F S2048x1024 .bf16) :
    (kernelRun0_A (F := F) c i arg2 harg2 arg3 harg3 arg4 harg4 arg5 harg5 x w).1
      = widePieces (F := F) 16 128 inbW inbS k0_pay7
          (channel (arg2.view.readAt (Elt F) (Rect.unit (s := S2048x2048) ![0, 0] S2048x2048.size inb_S2048x2048_S2048x2048_0_0).toLoadRect (harg2.unread x))
            (loadChunk arg3 (harg3.unread w)))
          arg5 [15, 14, 13, 12, 11, 10, 9, 8, 7, 6, 5, 4, 3, 2, 1, 0] [7, 6, 5, 4, 3, 2, 1, 0] := rfl

/-- They leave the product. -/
theorem block_apply (x : FVec Ideal S2048x2048 .bf16) (w : FVec Ideal S2048x1024 .bf16) (p : Fin 128) (q : Fin 16384) :
    out0_A_2 (F := Ideal) c i arg2 harg2 arg3 harg3 arg4 harg4 arg5 harg5 x w (ix3 0 p q) = wideAt 16 128 rfl x w p q := by
  have hcov := cover0_A_2 (F := Ideal) c i arg2 harg2 arg3 harg3 arg4 harg4 arg5 harg5 x w
  unfold out0_A_2
  rw [pieces] at hcov ⊢
  refine read_wide 16 128 rfl inbW inbS k0_pay7 cast_apply _ x w (fun ch t l => ?_) arg5 [15, 14, 13, 12, 11, 10, 9, 8, 7, 6, 5, 4, 3, 2, 1, 0] [7, 6, 5, 4, 3, 2, 1, 0] VO0_2 VO0_2.junk hcov p q
  rw [View.readAt_full, harg2.read_unread]
  exact channel_apply x arg3 harg3 w ch t l
end Run

end Cert.Proj.Far

end
-- ==== Proof.Proj.FarArray.lean ====
/-
  What the sparsest dilated projection leaves in its result, entry by entry, in terms of the call's arguments.
-/
module

public import proofs.«01_k».proof.Proof.Gen.FarIdeal.Value
public import proofs.«01_k».proof.Proof.Gen.ReferenceFarIdeal.Run
public import proofs.«01_k».proof.Proof.Proj.FarBlock
public import proofs.«01_k».proof.Proof.Proj.Heads

@[expose] public section

set_option maxRecDepth 16384

noncomputable section

namespace Cert.Proj.Far

open Cert.FarIdeal Cert.FarIdeal.Gen Idealize.ShloMosaic Idealize.ShloMosaic.TcCoe
open Cert.Ffn (tok rows_apply)
open Cert.ReferenceFarIdeal (S3x32768x1024)
open Cert.ReferenceFarIdeal.Facts₀ (slices_S32768x3x3x1024_S32768x3x1x1024_0_0_2_0 shapeCasts_S3x32768x1024_S3x2048x16384)

variable (m : (ℓ : Loc nD τ sig) → Buf (Elt Ideal) ℓ) (c : Dev nD)

/-- The grid point of token block `i` and kind `j`. -/
def pt (i : Fin 16) (j : Fin 3) : Fin cfg0.N := ⟨3 * i.val + j.val, by show _ < 48; omega⟩
theorem exists_pt (t : Fin cfg0.N) : ∃ i j, t = pt i j :=
  ⟨⟨t.val / 3, by have : t.val < 48 := t.isLt; omega⟩, ⟨t.val % 3, by omega⟩, Fin.ext (by show t.val = 3 * (t.val / 3) + t.val % 3; omega)⟩
theorem idx_h : ∀ i j, win0_0.index (pt i j) = ![i.val, 0] := by decide +kernel
theorem idx_w : ∀ i j, win0_1.index (pt i j) = ![0, 1536 + (3 * j.val + 2) * 1024] := by decide +kernel
theorem idx_o : ∀ i j, win0_2.index (pt i j) = ![j.val, i.val, 0] := by decide +kernel

/-- The two arguments. -/
abbrev argH : FVec Ideal S2x16384x2048 .f32 := m ((c : Thread nD τ).loc main_arg0)
abbrev argW : FVec Ideal S2048x10752 .f32 := m ((c : Thread nD τ).loc main_arg1)
theorem V_h : (V m c main_v1 : FVec Ideal S32768x2048 .bf16) = shapeCast S32768x2048 (argH m c) shapeCasts_S2x16384x2048_S32768x2048 := by rfl
theorem V_w : (V m c main_v2 : FVec Ideal S2048x10752 .bf16) = argW m c := by rfl

/-- Row `t` of token block `i`. -/
def row (i : Fin 16) (t : Fin 2048) : Fin 32768 := ⟨2048 * i.val + t.val, by omega⟩

/-- A point's token block. -/
theorem blk_h (i : Fin 16) (j : Fin 3) (t d : Fin 2048) : (iblk m c 0 (pt i j) : FVec Ideal S2048x2048 .bf16) (ix2 t d) = argH m c (tok (row i t) d) := by
  have e := idx_h i j
  unfold iblk
  rw [View.read_apply]
  show (V m c main_v1 : FVec Ideal S32768x2048 .bf16) _ = _
  rw [V_h, ← rows_apply (argH m c) (row i t) d]
  refine congrArg (shapeCast S32768x2048 (argH m c) shapeCasts_S2x16384x2048_S32768x2048) (funext fun a => Fin.ext ?_)
  match a with
  | 0 => show win0_0.index (pt i j) 0 * 2048 + 1 * t.val = 2048 * i.val + t.val; rw [e]; show i.val * 2048 + 1 * t.val = _; omega
  | 1 => show win0_0.index (pt i j) 1 * 2048 + 1 * d.val = d.val; rw [e]; show 0 * 2048 + 1 * d.val = _; omega
/-- A point's weight columns. -/
theorem blk_w (i : Fin 16) (j : Fin 3) (d : Fin 2048) (k : Fin 1024) : (iblk m c 1 (pt i j) : FVec Ideal S2048x1024 .bf16) (ix2 d k) = argW m c (ix2 d (headCol 2 j k)) := by
  have e := idx_w i j
  unfold iblk
  rw [View.read_apply]
  show (V m c main_v2 : FVec Ideal S2048x10752 .bf16) _ = _
  rw [V_w]
  refine congrArg (argW m c) (funext fun a => Fin.ext ?_)
  match a with
  | 0 => show win0_1.index (pt i j) 0 + 1 * d.val = d.val; rw [e]; show 0 + 1 * d.val = _; omega
  | 1 => show win0_1.index (pt i j) 1 + 1 * k.val = 1536 + ((3 * j.val + 2) * 1024 + k.val); rw [e]; show 1536 + (3 * j.val + 2) * 1024 + 1 * k.val = _; omega

/-- So its product is the group's heads. -/
theorem prod_eq (i : Fin 16) (j : Fin 3) (t : Fin 2048) (k : Fin 1024) :
    prodAt (iblk m c 0 (pt i j)) (iblk m c 1 (pt i j)) t k = headAt (argH m c) (argW m c) 2 j (row i t) k := by
  unfold prodAt headAt
  simp only [blk_h, blk_w]

/-- The call's result. -/
abbrev result : FVec Ideal S3x2048x16384 .bf16 := wideHeads (argH m c) (argW m c) 2 16 2048 rfl

/-- Row `p` of row block `i`. -/
def outRow (i : Fin 16) (p : Fin 128) : Fin 2048 := ⟨128 * i.val + p.val, by omega⟩
theorem exists_outRow (n : Fin 2048) : ∃ i p, outRow i p = n :=
  ⟨⟨n.val / 128, by omega⟩, ⟨n.val % 128, by omega⟩, Fin.ext (Nat.div_add_mod _ _)⟩

theorem emb_out (i : Fin 16) (j : Fin 3) (p : Fin 128) (q : Fin 16384) :
    ((cfg0.win 2).blk (pt i j)).view.emb (ix3 (0 : Fin 1) p q) = (ix3 j (outRow i p) q : S3x2048x16384.Idx) := by
  have e := idx_o i j
  refine funext fun a => Fin.ext ?_
  match a with
  | 0 => show win0_2.index (pt i j) 0 * 1 + 1 * 0 = j.val; rw [e]; show j.val * 1 + 1 * 0 = _; omega
  | 1 => show win0_2.index (pt i j) 1 * 128 + 1 * p.val = 128 * i.val + p.val; rw [e]; show i.val * 128 + 1 * p.val = _; omega
  | 2 => show win0_2.index (pt i j) 2 * 16384 + 1 * q.val = q.val; rw [e]; show 0 * 16384 + 1 * q.val = _; omega

/-- The result array after the call. -/
theorem array_eq : ((dats m 0 c).arrAt 2 cfg0.N : FVec Ideal S3x2048x16384 .bf16) = result m c := by
  refine (dats m 0 c).arrAt_eq_of_cover 2 (result m c) (fun t ht => ?_) (fun z => ?_)
  · obtain ⟨i, j, rfl⟩ := exists_pt t
    refine (Value.flushed2_A m c (pt i j)).trans ?_
    funext y
    obtain ⟨p, q, rfl⟩ : ∃ (p : Fin 128) (q : Fin 16384), y = (ix3 0 p q : S1x128x16384.Idx) :=
      ⟨y 1, y 2, (eq_ix3 (y : S1x128x16384.Idx)).trans (congrArg (fun a => ix3 a (y 1) (y 2)) (Subsingleton.elim (α := Fin 1) _ _))⟩
    rw [View.read_apply, emb_out]
    refine (block_apply c (grid0.coords (pt i j)) _ _ _ _ _ _ _ _ (iblk m c 0 (pt i j)) (iblk m c 1 (pt i j)) p q).trans ?_
    unfold wideAt
    rw [prod_eq]
    unfold result wideHeads
    refine congrArg (fun n => headAt (argH m c) (argW m c) 2 j n _) (Fin.ext ?_)
    show 2048 * i.val + (16 * p.val + q.val / 1024) = 16 * (128 * i.val + p.val) + q.val / 1024
    omega
  · obtain ⟨i, p, e⟩ := exists_outRow (z 1)
    refine ⟨pt i (z 0), flush0_2 _, ?_⟩
    have h : (ix3 (z 0) (outRow i p) (z 2) : S3x2048x16384.Idx) ∈ ((cfg0.win 2).blk (pt i (z 0))).view.set :=
      emb_out i (z 0) p (z 2) ▸ ((cfg0.win 2).blk (pt i (z 0))).view.emb_mem_set (ix3 (0 : Fin 1) p (z 2) : S1x128x16384.Idx)
    rw [e] at h
    exact (eq_ix3 (z : S3x2048x16384.Idx)) ▸ h

/-- Sixteen tokens of the reference side by side. -/
theorem join_apply (y : FVec Ideal S3x32768x1024 .bf16) (j : Fin 3) (p : Fin 2048) (q : Fin 16384) :
    shapeCast S3x2048x16384 y shapeCasts_S3x32768x1024_S3x2048x16384 (ix3 j p q)
      = y (ix3 j (⟨16 * p.val + q.val / 1024, by omega⟩ : Fin 32768) (⟨q.val % 1024, by omega⟩ : Fin 1024)) := by
  pointwise
  exact congrArg (fun n => y (ix3 j n _)) (Fin.ext (congrArg (· + q.val / 1024) (Nat.mul_comm p.val 16)))

/-- The reference's result is the call's. -/
theorem reference_eq (h : FVec Ideal S2x16384x2048 .f32) (w : FVec Ideal S2048x10752 .f32) :
    shapeCast S3x2048x16384 (refHeads h w 2 slices_S32768x3x3x1024_S32768x3x1x1024_0_0_2_0) shapeCasts_S3x32768x1024_S3x2048x16384
      = wideHeads h w 2 16 2048 rfl := by
  funext z
  obtain ⟨j, p, q, rfl⟩ : ∃ (j : Fin 3) (p : Fin 2048) (q : Fin 16384), z = ix3 j p q := ⟨z 0, z 1, z 2, eq_ix3 z⟩
  exact (join_apply _ j p q).trans (refHeads_apply h w 2 _ _ _ _)

end Cert.Proj.Far

end
-- ==== Proof.Mid.Row.lean ====
/-
  The mathematics of one token's output projection and attention into the memory, over the extended reals, and the one
  equation between the two ways the softmax of its scores is written.
-/
module

public import proofs.«01_k».proof.Proof.Final.Payloads
public import proofs.«01_k».proof.Proof.Attn.Payloads

@[expose] public section

set_option maxRecDepth 16384

noncomputable section

namespace Cert.Out

open Idealize.ShloMosaic
open Cert.Ffn (rmsAt)
open Cert.Attn (qscale)

/-- The factor of the scores, `1/√128`. -/
def factor : ℝ := 1 / Real.sqrt 128

/-- A base-two exponential at an argument divided by `log 2` is the natural one. -/
theorem exp2_over_log (z : EReal) : Ideal.exp2 (z * ((Real.log 2)⁻¹ : ℝ)) = Ideal.exp z := by
  have hl : 0 < Real.log 2 := Real.log_pos (by norm_num)
  have hp : 0 < (Real.log 2)⁻¹ := inv_pos.2 hl
  induction z with
  | bot => rw [EReal.bot_mul_coe_of_pos hp]; rfl
  | top => rw [EReal.top_mul_coe_of_pos hp]; rfl
  | coe r =>
    rw [← EReal.coe_mul]
    show (((2 : ℝ) ^ (r * (Real.log 2)⁻¹) : ℝ) : EReal) = ((Real.exp r : ℝ) : EReal)
    congr 1
    rw [Real.rpow_def_of_pos (by norm_num)]
    congr 1
    field_simp

/-- A positive real factor goes inside a difference, infinities included. -/
theorem sub_mul_coe (x y : EReal) {a : ℝ} (ha : 0 < a) : (x - y) * (a : EReal) = x * a - y * a := by
  rw [sub_eq_add_neg, sub_eq_add_neg, EReal.right_distrib_of_nonneg_of_ne_top (EReal.coe_nonneg.2 ha.le) (EReal.coe_ne_top a), EReal.neg_mul]

/-- A positive real factor goes inside a supremum. -/
theorem sup_mul_coe {n : ℕ} (t : Fin n → EReal) {a : ℝ} (ha : 0 < a) :
    (Finset.univ.sup t) * (a : EReal) = Finset.univ.sup fun i => t i * (a : EReal) := by
  refine Finset.comp_sup_eq_sup_comp_of_is_total (fun x : EReal => x * (a : EReal)) (fun x y h => ?_) (EReal.bot_mul_coe_of_pos ha)
  exact mul_le_mul_of_nonneg_right h (EReal.coe_nonneg.2 ha.le)

/-- The weight of key `i` in the softmax of the scores `s`. -/
def weightAt (s : Fin 256 → EReal) (i : Fin 256) : EReal :=
  Ideal.div (Ideal.exp (s i - Finset.univ.sup s)) (∑ j : Fin 256, Ideal.exp (s j - Finset.univ.sup s))

/-- The softmax taken to base two, of scores that carry `1/log 2`, is the softmax. -/
theorem weight_base_two (t : Fin 256 → EReal) (i : Fin 256) :
    Ideal.div (Ideal.exp2 (t i * (qscale : EReal) - Finset.univ.sup fun j => t j * (qscale : EReal)))
        (∑ j : Fin 256, Ideal.exp2 (t j * (qscale : EReal) - Finset.univ.sup fun j => t j * (qscale : EReal)))
      = weightAt (fun j => t j * (factor : EReal)) i := by
  have hl : 0 < (Real.log 2)⁻¹ := inv_pos.2 (Real.log_pos (by norm_num))
  have hq : ∀ x : EReal, x * (qscale : EReal) = x * (factor : EReal) * ((Real.log 2)⁻¹ : ℝ) := fun x => by
    rw [mul_assoc, ← EReal.coe_mul]
    refine congrArg (fun r : ℝ => x * (r : EReal)) ?_
    unfold qscale factor
    rw [one_div]
  have he : ∀ i, Ideal.exp2 (t i * (qscale : EReal) - Finset.univ.sup fun j => t j * (qscale : EReal))
      = Ideal.exp (t i * (factor : EReal) - Finset.univ.sup fun j => t j * (factor : EReal)) := fun i => by
    simp only [hq]
    rw [← sup_mul_coe (fun j => t j * (factor : EReal)) hl, ← sub_mul_coe _ _ hl, exp2_over_log]
  unfold weightAt
  simp only [he]

/-- Lane `l` of head `h`. -/
def lane (h : Fin 4) (l : Fin 128) : Fin 512 := ⟨128 * h.val + l.val, by omega⟩

/-- The score of key `i` in head `h`. -/
def scoreAt (q : Fin 512 → EReal) (k : Fin 256 → Fin 512 → EReal) (h : Fin 4) (i : Fin 256) : EReal :=
  (∑ l : Fin 128, q (lane h l) * k i (lane h l)) * (factor : EReal)

/-- Lane `l` of head `h` of what a query reads from the memory. -/
def readAt (q : Fin 512 → EReal) (k v : Fin 256 → Fin 512 → EReal) (h : Fin 4) (l : Fin 128) : EReal :=
  ∑ i : Fin 256, weightAt (scoreAt q k h) i * v i (lane h l)

/-- The residual row with the two mixers' outputs projected and added. -/
def mixAt (x : Fin 2048 → EReal) (a b : Fin 1024 → EReal) (w : Fin 2048 → Fin 2048 → EReal) (j : Fin 2048) : EReal :=
  x j + ∑ e : Fin 1024, a e * w ⟨e.val, by omega⟩ j + ∑ e : Fin 1024, b e * w ⟨1024 + e.val, by omega⟩ j

/-- The query of a normalised row. -/
def queryAt (x g : Fin 2048 → EReal) (wq : Fin 2048 → Fin 512 → EReal) (f : Fin 512) : EReal :=
  ∑ d : Fin 2048, rmsAt x g d * wq d f

/-- The row with what its query reads from the memory projected and added. -/
def memAt (x g : Fin 2048 → EReal) (wq : Fin 2048 → Fin 512 → EReal) (k v : Fin 256 → Fin 512 → EReal)
    (wo : Fin 512 → Fin 2048 → EReal) (j : Fin 2048) : EReal :=
  x j + ∑ e : Fin 512, readAt (queryAt x g wq) k v ⟨e.val / 128, by omega⟩ ⟨e.val % 128, by omega⟩ * wo e j

end Cert.Out

end
-- ==== Proof.Mid.Payloads.lean ====
/-
  What one grid point of the output projection and memory attention call computes from the blocks it loads, entry by entry.
-/
module

public import proofs.«01_k».proof.Proof.Gen.MidIdeal.Skeleton
public import proofs.«01_k».proof.Proof.Mid.Row

@[expose] public section

set_option maxRecDepth 16384

noncomputable section

namespace Cert.Out

open Cert.MidIdeal Cert.MidIdeal.Gen Idealize.ShloMosaic
open Cert.Ffn (rmsAt)
open Cert.Attn (qscale)

section AnyFloat
variable {F : FTy → Type} [FloatOps F] [Named F]

/-- What a head's queries read from the memory. -/
def headBlock (q : FVec F S512x128 .bf16) (k v : Vec F S1x256x128 .bf16) : FVec F S512x128 .bf16 := k0_pay7 q k v

/-- Four heads side by side. -/
def sideBySide (o : Fin 4 → FVec F S512x128 .bf16) : FVec F S512x512 .bf16 :=
  concatenate S512x512 1 [⟨S512x128, o 0⟩, ⟨S512x128, o 1⟩, ⟨S512x128, o 2⟩, ⟨S512x128, o 3⟩] concatenates_S512x128_S512x128_S512x128_S512x128_S512x512_d1

/-- The residual rows with the heads projected and added. -/
def joinBlock (x : FVec F S512x2048 .f32) (o : FVec F S512x512 .bf16) (wo : Vec F S512x2048 .bf16) : FVec F S512x2048 .f32 :=
  addf x (matmul dot_S512x512_S512x2048_S512x2048_1_0_0_1_n_n none o (shapeCast S512x2048 wo shapeCasts_S512x2048_S512x2048) (constant S512x2048 .f32 0x00000000#32))

/-- Rows normalised and scaled by a gain. -/
def normBlock (x : FVec F S512x2048 .f32) (g : Vec F S1x2048 .f32) : FVec F S512x2048 .f32 :=
  mulf (mulf x (broadcastTo S512x2048 (rsqrt (addf (divf (shapeCast S512x1 (multiReduction .add [1] S512 (mulf x x) 0x00000000#32 reduces_S512x2048_S512 (.inl rfl) rfl) shapeCasts_S512_S512x1)
    (broadcast S512x1 (Scalar.ofBits .f32 0x45000000#32))) (broadcast S512x1 (Scalar.ofBits .f32 0x358637BD#32)))) broadcasts_S512x1_S512x2048))
    (broadcastTo S512x2048 (shapeCast S1x2048 g shapeCasts_S1x2048_S1x2048) broadcasts_S1x2048_S512x2048)

/-- The queries of normalised rows. -/
def queryBlock (h : FVec F S512x2048 .f32) (wq : Vec F S2048x512 .bf16) : FVec F S512x512 .bf16 :=
  truncf .bf16 (matmul dot_S512x2048_S2048x512_S512x512_1_0_0_1_n_n none (truncf .bf16 h bitsLt_bf16_f32) (shapeCast S2048x512 wq shapeCasts_S2048x512_S2048x512) (constant S512x512 .f32 0x00000000#32)) bitsLt_bf16_f32

theorem pay5_eq (x : Vec F S1x512x2048 .f32) (a : Vec F S1x512x1024 .bf16) (w : Vec F S1024x2048 .bf16) (b : Vec F S1x512x1024 .bf16)
    (w' : Vec F S1024x2048 .bf16) (g : Vec F S1x2048 .f32) (wq : Vec F S2048x512 .bf16) :
    k0_pay5 x a w b w' g wq = queryBlock (normBlock (k0_pay4 x a w b w') g) wq := rfl

/-- The columns of a head in the queries. -/
def headCols (q : FVec F S512x512 .bf16) : Fin 4 → FVec F S512x128 .bf16 := fun h => match h with
  | 0 => extractStridedSlice S512x128 ![0, 0] q slices_S512x512_o0_0_S512x128
  | 1 => extractStridedSlice S512x128 ![0, 128] q slices_S512x512_o0_128_S512x128
  | 2 => extractStridedSlice S512x128 ![0, 256] q slices_S512x512_o0_256_S512x128
  | 3 => extractStridedSlice S512x128 ![0, 384] q slices_S512x512_o0_384_S512x128

/-- What the four heads read, side by side, is what the body joins. -/
theorem pay1_eq (x : FVec F S512x2048 .f32) (q : FVec F S512x512 .bf16) (k v : Fin 4 → Vec F S1x256x128 .bf16) (wo : Vec F S512x2048 .bf16) :
    k0_pay1 x (k0_pay7 (headCols q 0) (k 0) (v 0)) (k0_pay8 q (k 1) (v 1)) (k0_pay9 q (k 2) (v 2)) (k0_pay10 q (k 3)) (k0_pay11 (v 3)) (constant S512x128 .f32 0x00000000#32) wo
      = joinBlock x (sideBySide fun h => headBlock (headCols q h) (k h) (v h)) wo := rfl

end AnyFloat

theorem mix_apply (x : FVec Ideal S1x512x2048 .f32) (a : FVec Ideal S1x512x1024 .bf16) (w : FVec Ideal S1024x2048 .bf16) (b : FVec Ideal S1x512x1024 .bf16)
    (w' : FVec Ideal S1024x2048 .bf16) (r : Fin 512) (j : Fin 2048) :
    k0_pay4 (F := Ideal) x a w b w' (ix2 r j)
      = x (ix3 0 r j) + ∑ e : Fin 1024, a (ix3 0 r e) * w (ix2 e j) + ∑ e : Fin 1024, b (ix3 0 r e) * w' (ix2 e j) := by
  unfold k0_pay4
  pointwise

theorem norm_apply (x : FVec Ideal S512x2048 .f32) (g : FVec Ideal S1x2048 .f32) (r : Fin 512) (j : Fin 2048) :
    normBlock (F := Ideal) x g (ix2 r j) = rmsAt (fun k => x (ix2 r k)) (fun k => g (ix2 0 k)) j := by
  unfold normBlock rmsAt
  pointwise

theorem query_apply (h : FVec Ideal S512x2048 .f32) (wq : FVec Ideal S2048x512 .bf16) (r f : Fin 512) :
    queryBlock (F := Ideal) h wq (ix2 r f) = ∑ d : Fin 2048, h (ix2 r d) * wq (ix2 d f) := by
  unfold queryBlock
  pointwise

theorem headCols_apply (q : FVec Ideal S512x512 .bf16) (h : Fin 4) (r : Fin 512) (l : Fin 128) : headCols (F := Ideal) q h (ix2 r l) = q (ix2 r (lane h l)) := by
  have hb : ∀ a b : Fin 512, a = b → q (ix2 r a) = q (ix2 r b) := fun a b e => e ▸ rfl
  match h with
  | 0 => unfold headCols; pointwise; exact hb _ _ (Fin.ext (by simp [lane]))
  | 1 => unfold headCols; pointwise; exact hb _ _ (Fin.ext (by simp [lane]))
  | 2 => unfold headCols; pointwise; exact hb _ _ (Fin.ext (by simp [lane]))
  | 3 => unfold headCols; pointwise; exact hb _ _ (Fin.ext (by simp [lane]))

theorem head_apply (q : FVec Ideal S512x128 .bf16) (k v : FVec Ideal S1x256x128 .bf16) (r : Fin 512) (l : Fin 128) :
    headBlock (F := Ideal) q k v (ix2 r l)
      = ∑ i : Fin 256, weightAt (fun i => (∑ l : Fin 128, q (ix2 r l) * k (ix3 0 i l)) * (factor : EReal)) i * v (ix3 0 i l) := by
  simp only [← weight_base_two]
  unfold headBlock k0_pay7
  pointwise
  rw [show (Named.named κ "scale_log2e" 0x3E0293EE#32 : Ideal .f32) = (qscale : EReal) from rfl, Attn.ofBits_bot]
  rfl

theorem sideBySide_apply (o : Fin 4 → FVec Ideal S512x128 .bf16) (h : Fin 4) (r : Fin 512) (l : Fin 128) :
    sideBySide (F := Ideal) o (ix2 r (lane h l)) = o h (ix2 r l) := by
  unfold sideBySide
  refine concatenate_apply_piece (t := S512x512) 1 _ _ (ix2 r (lane h l)) h.val (by exact h.isLt) S512x128 (o h) ?_ rfl (128 * h.val) ?_ (ix2 r l) (fun b hb => ?_) ?_
  · match h with
    | 0 => rfl
    | 1 => rfl
    | 2 => rfl
    | 3 => rfl
  · match h with
    | 0 => rfl
    | 1 => rfl
    | 2 => rfl
    | 3 => rfl
  · match b with
    | 0 => rfl
    | 1 => exact absurd rfl hb
  · rfl

theorem join_apply (x : FVec Ideal S512x2048 .f32) (o : FVec Ideal S512x512 .bf16) (wo : FVec Ideal S512x2048 .bf16) (r : Fin 512) (j : Fin 2048) :
    joinBlock (F := Ideal) x o wo (ix2 r j) = x (ix2 r j) + ∑ e : Fin 512, o (ix2 r e) * wo (ix2 e j) := by
  unfold joinBlock
  pointwise

end Cert.Out

end
-- ==== Proof.Mid.Block.lean ====
/-
  What one grid point of the output projection and memory attention call leaves in its two output blocks, entry by entry.
-/
module

public import proofs.«01_k».proof.Proof.Gen.MidIdeal.Frame
public import proofs.«01_k».proof.Proof.Mid.Payloads
public import Idealize.ShloMosaic.Lib.Pipeline.ValueKit.Basic

@[expose] public section

set_option maxRecDepth 16384

noncomputable section

namespace Cert.Out

open Cert.MidIdeal Cert.MidIdeal.Gen Idealize.ShloMosaic
open Cert.Ffn (rmsAt)

section AnyFloat
variable {F : FTy → Type} [FloatOps F] [Named F]
  (x0 : Vec F S1x512x2048 .f32) (x1 x2 : Vec F S1x512x1024 .bf16) (x3 : Vec F S2048x2048 .bf16) (x4 : Vec F S1x2048 .f32)
  (x5 : Vec F S2048x512 .bf16) (x6 x7 : Vec F S1x256x512 .bf16) (x8 : Vec F S512x2048 .bf16) (x9 : Vec F S1x2048 .f32)

/-- The lanes of a head in a block of keys or values. -/
def headLanes (x : Vec F S1x256x512 .bf16) : Fin 4 → Vec F S1x256x128 .bf16 := fun h => match h with
  | 0 => View.ld x r0_6
  | 1 => View.ld x r0_7
  | 2 => View.ld x r0_8
  | 3 => View.ld x r0_9

/-- The residual rows with the two mixers projected and added. -/
def mixBlock : FVec F S512x2048 .f32 := k0_pay4 x0 x1 (View.ld x3 r0_2) x2 (View.ld x3 r0_3)

/-- Those rows with what they read from the memory projected and added. -/
def memBlock (x : FVec F S512x2048 .f32) : FVec F S512x2048 .f32 :=
  joinBlock x (sideBySide fun h => headBlock (headCols (queryBlock (normBlock x x4) x5) h) (headLanes x6 h) (headLanes x7 h)) x8

theorem first_out : out0_10 x0 x1 x2 x3 x4 x5 x6 x7 x8 x9
    = shapeCast S1x512x2048 (memBlock x4 x5 x6 x7 x8 (mixBlock x0 x1 x2 x3)) shapeCasts_S512x2048_S1x512x2048 := by
  unfold_out out0_10
  refine (View.canon_cons_unit_lit _ _ _ (by decide)).trans ?_
  rw [View.ld_unit_lit inb_S1x512x2048_S1x512x2048_0_0_0 x0 (by decide), View.ld_unit_lit _ x1 (by decide), View.ld_unit_lit _ x2 (by decide), View.ld_unit_lit _ x4 (by decide),
    View.ld_unit_lit _ x5 (by decide), View.ld_unit_lit _ x8 (by decide)]
  rfl

theorem second_out : out0_11 x0 x1 x2 x3 x4 x5 x6 x7 x8 x9
    = shapeCast S1x512x2048 (truncf .bf16 (normBlock (memBlock x4 x5 x6 x7 x8 (mixBlock x0 x1 x2 x3)) x9) bitsLt_bf16_f32) shapeCasts_S512x2048_S1x512x2048 := by
  unfold_out out0_11
  refine (View.canon_cons_unit_lit _ _ _ (by decide)).trans ?_
  rw [View.ld_unit_lit inb_S1x512x2048_S1x512x2048_0_0_0 x0 (by decide), View.ld_unit_lit _ x1 (by decide), View.ld_unit_lit _ x2 (by decide), View.ld_unit_lit _ x4 (by decide),
    View.ld_unit_lit _ x5 (by decide), View.ld_unit_lit _ x8 (by decide), View.ld_unit_lit _ x9 (by decide)]
  rfl

end AnyFloat

section Ideal
variable (x0 : FVec Ideal S1x512x2048 .f32) (x1 x2 : FVec Ideal S1x512x1024 .bf16) (x3 : FVec Ideal S2048x2048 .bf16) (x4 : FVec Ideal S1x2048 .f32)
  (x5 : FVec Ideal S2048x512 .bf16) (x6 x7 : FVec Ideal S1x256x512 .bf16) (x8 : FVec Ideal S512x2048 .bf16) (x9 : FVec Ideal S1x2048 .f32)
  (r : Fin 512)

theorem headLanes_apply (x : FVec Ideal S1x256x512 .bf16) (h : Fin 4) (i : Fin 256) (l : Fin 128) :
    headLanes (F := Ideal) x h (ix3 0 i l) = x (ix3 0 i (lane h l)) := by
  have hb : ∀ a b : S1x256x512.Idx, (∀ d, (a d).val = (b d).val) → x a = x b := fun a b e => congrArg x (funext fun d => Fin.ext (e d))
  match h with
  | 0 => exact hb _ _ fun d => match d with
    | 0 => rfl
    | 1 => by show 0 + 1 * i.val = i.val; omega
    | 2 => by show 0 + 1 * l.val = 128 * 0 + l.val; omega
  | 1 => exact hb _ _ fun d => match d with
    | 0 => rfl
    | 1 => by show 0 + 1 * i.val = i.val; omega
    | 2 => by show 128 + 1 * l.val = 128 * 1 + l.val; omega
  | 2 => exact hb _ _ fun d => match d with
    | 0 => rfl
    | 1 => by show 0 + 1 * i.val = i.val; omega
    | 2 => by show 256 + 1 * l.val = 128 * 2 + l.val; omega
  | 3 => exact hb _ _ fun d => match d with
    | 0 => rfl
    | 1 => by show 0 + 1 * i.val = i.val; omega
    | 2 => by show 384 + 1 * l.val = 128 * 3 + l.val; omega

theorem mixBlock_apply (j : Fin 2048) :
    mixBlock (F := Ideal) x0 x1 x2 x3 (ix2 r j) = mixAt (fun d => x0 (ix3 0 r d)) (fun d => x1 (ix3 0 r d)) (fun d => x2 (ix3 0 r d)) (fun d k => x3 (ix2 d k)) j := by
  have hb : ∀ a b : S2048x2048.Idx, (∀ d, (a d).val = (b d).val) → x3 a = x3 b := fun a b e => congrArg x3 (funext fun d => Fin.ext (e d))
  refine (mix_apply _ _ _ _ _ r j).trans ?_
  unfold mixAt
  refine congrArg₂ (· + ·) (congrArg₂ (· + ·) rfl (Finset.sum_congr rfl fun e _ => congrArg (x1 (ix3 0 r e) * ·) ?_)) (Finset.sum_congr rfl fun e _ => congrArg (x2 (ix3 0 r e) * ·) ?_)
  · exact hb _ _ fun d => match d with
      | 0 => by show 0 + 1 * e.val = e.val; omega
      | 1 => by show 0 + 1 * j.val = j.val; omega
  · exact hb _ _ fun d => match d with
      | 0 => by show 1024 + 1 * e.val = 1024 + e.val; omega
      | 1 => by show 0 + 1 * j.val = j.val; omega

theorem memBlock_apply (x : FVec Ideal S512x2048 .f32) (j : Fin 2048) :
    memBlock (F := Ideal) x4 x5 x6 x7 x8 x (ix2 r j)
      = memAt (fun d => x (ix2 r d)) (fun d => x4 (ix2 0 d)) (fun d f => x5 (ix2 d f)) (fun i f => x6 (ix3 0 i f)) (fun i f => x7 (ix3 0 i f)) (fun e j => x8 (ix2 e j)) j := by
  unfold memBlock memAt
  rw [join_apply]
  refine congrArg (x (ix2 r j) + ·) (Finset.sum_congr rfl fun e _ => congrArg (· * x8 (ix2 e j)) ?_)
  have he : e = lane ⟨e.val / 128, by omega⟩ ⟨e.val % 128, by omega⟩ := Fin.ext (Nat.div_add_mod _ _).symm
  refine (congrArg (fun a => sideBySide (F := Ideal) _ (ix2 r a)) he).trans ?_
  rw [sideBySide_apply, head_apply]
  unfold readAt
  have hs : (fun i : Fin 256 => (∑ l : Fin 128, headCols (F := Ideal) (queryBlock (normBlock x x4) x5) ⟨e.val / 128, by omega⟩ (ix2 r l) * headLanes (F := Ideal) x6 ⟨e.val / 128, by omega⟩ (ix3 0 i l)) * (factor : EReal))
      = scoreAt (queryAt (fun d => x (ix2 r d)) (fun d => x4 (ix2 0 d)) (fun d f => x5 (ix2 d f))) (fun i f => x6 (ix3 0 i f)) ⟨e.val / 128, by omega⟩ := by
    funext i
    unfold scoreAt queryAt
    simp only [headCols_apply, headLanes_apply, query_apply, norm_apply]
  rw [hs]
  simp only [headLanes_apply]

/-- A block with a leading unit axis, read at an index. -/
theorem lead_apply {e : FTy} (x : FVec Ideal S512x2048 e) (j : Fin 2048) : shapeCast S1x512x2048 x shapeCasts_S512x2048_S1x512x2048 (ix3 0 r j) = x (ix2 r j) := by
  pointwise

/-- The residual row that a point leaves. -/
abbrev rowHere : Fin 2048 → EReal :=
  memAt (mixAt (fun d => x0 (ix3 0 r d)) (fun d => x1 (ix3 0 r d)) (fun d => x2 (ix3 0 r d)) (fun d k => x3 (ix2 d k)))
    (fun d => x4 (ix2 0 d)) (fun d f => x5 (ix2 d f)) (fun i f => x6 (ix3 0 i f)) (fun i f => x7 (ix3 0 i f)) (fun e j => x8 (ix2 e j))

theorem first_apply (j : Fin 2048) :
    out0_10 (F := Ideal) x0 x1 x2 x3 x4 x5 x6 x7 x8 x9 (ix3 0 r j) = rowHere x0 x1 x2 x3 x4 x5 x6 x7 x8 r j := by
  rw [first_out, lead_apply, memBlock_apply]
  simp only [mixBlock_apply]

theorem second_apply (j : Fin 2048) :
    out0_11 (F := Ideal) x0 x1 x2 x3 x4 x5 x6 x7 x8 x9 (ix3 0 r j) = rmsAt (rowHere x0 x1 x2 x3 x4 x5 x6 x7 x8 r) (fun d => x9 (ix2 0 d)) j := by
  rw [second_out, lead_apply]
  refine (norm_apply _ _ r j).trans ?_
  simp only [memBlock_apply, mixBlock_apply]

end Ideal

end Cert.Out

end
-- ==== Proof.Mid.Reference.lean ====
/-
  What the reference of the output projection and memory attention computes, entry by entry.
-/
module

public import proofs.«01_k».proof.Proof.Gen.ReferenceMidIdeal.Run
public import proofs.«01_k».proof.Proof.Final.Reference
public import proofs.«01_k».proof.Proof.Attn.Reference
public import proofs.«01_k».proof.Proof.Mid.Row

@[expose] public section

set_option maxRecDepth 16384

noncomputable section

namespace Cert.Out

open Cert.ReferenceMidIdeal Cert.ReferenceMidIdeal.Gen Idealize.ShloMosaic Idealize.ShloMosaic.TcCoe
open Cert.Ffn (rmsAt refNorm refNorm_apply)
open Cert.Attn (ofBits_128 ofBits_neg_inf)

/-- The residual stream with the two mixers' outputs, side by side, projected and added. -/
def refMix (x : FVec Ideal S2x16384x2048 .f32) (a b : FVec Ideal S2x16384x1024 .f32) (w : FVec Ideal S2048x2048 .f32) : FVec Ideal S2x16384x2048 .f32 :=
  addf x (Host.dotGeneral dot_S2x16384x2048_S2048x2048_S2x16384x2048_2_0_01_1_n_n none (concatenate S2x16384x2048 2 [⟨S2x16384x1024, a⟩, ⟨S2x16384x1024, b⟩] concatenates_S2x16384x1024_S2x16384x1024_S2x16384x2048_d2) w)

/-- The queries. -/
def refQuery (h : FVec Ideal S2x16384x2048 .f32) (wq : FVec Ideal S2048x512 .f32) : FVec Ideal S2x16384x512 .f32 :=
  Host.dotGeneral dot_S2x16384x2048_S2048x512_S2x16384x512_2_0_01_1_n_n none h wq

/-- The scores, `[batch, head, query, key]`. -/
def refScore (q : FVec Ideal S2x16384x512 .f32) (k : FVec Ideal S2x256x512 .f32) : FVec Ideal S2x4x16384x256 .f32 :=
  Host.divf (Host.dotGeneral dot_S2x16384x4x128_S2x256x4x128_S2x4x16384x256_3_3_1_1_02_02 none (shapeCast _ q shapeCasts_S2x16384x512_S2x16384x4x128) (shapeCast _ k shapeCasts_S2x256x512_S2x256x4x128)) (broadcastInDim S2x4x16384x256 ![] bcast_S_S2x4x16384x256 (Host.sqrt (constant S_ .f32 0x43000000#32)))

/-- The exponentials of the scores less their row's maximum. -/
def refPow (s : FVec Ideal S2x4x16384x256 .f32) : FVec Ideal S2x4x16384x256 .f32 :=
  Host.exp (subf s (broadcastInDim S2x4x16384x256 ![0, 1, 2, 3] bcast_S2x4x16384x1_S2x4x16384x256_0_1_2_3 (broadcastInDim S2x4x16384x1 ![0, 1, 2] bcast_S2x4x16384_S2x4x16384x1_0_1_2 (maximumf (broadcastInDim S2x4x16384 ![] bcast_S_S2x4x16384 (constant S_ .f32 0xFF800000#32)) (Host.reduce FloatOps.maximumf s (constant S_ .f32 0xFF800000#32) reducesTo_S2x4x16384x256_S2x4x16384_d3 h_S_)))))

/-- The softmax. -/
def refWeight (e : FVec Ideal S2x4x16384x256 .f32) : FVec Ideal S2x4x16384x256 .f32 :=
  Host.divf e (broadcastInDim S2x4x16384x256 ![0, 1, 2, 3] bcast_S2x4x16384x1_S2x4x16384x256_0_1_2_3 (broadcastInDim S2x4x16384x1 ![0, 1, 2] bcast_S2x4x16384_S2x4x16384x1_0_1_2 (Host.reduceAdd e (constant S_ .f32 0x00000000#32) reducesTo_S2x4x16384x256_S2x4x16384_d3 h_S_)))

/-- The values weighted by the softmax, heads side by side. -/
def refRead (p : FVec Ideal S2x4x16384x256 .f32) (v : FVec Ideal S2x256x512 .f32) : FVec Ideal S2x16384x512 .f32 :=
  shapeCast _ (transpose S2x16384x4x128 [0, 3, 1, 2] (Host.dotGeneral dot_S2x256x4x128_S2x4x16384x256_S2x4x128x16384_1_3_3_2_02_01 none (shapeCast _ v shapeCasts_S2x256x512_S2x256x4x128) p) transposes_S2x4x128x16384_S2x16384x4x128_0_3_1_2) shapeCasts_S2x16384x4x128_S2x16384x512

/-- The residual stream with what was read projected and added. -/
def refJoin (x : FVec Ideal S2x16384x2048 .f32) (o : FVec Ideal S2x16384x512 .f32) (wo : FVec Ideal S512x2048 .f32) : FVec Ideal S2x16384x2048 .f32 :=
  addf x (Host.dotGeneral dot_S2x16384x512_S512x2048_S2x16384x2048_2_0_01_1_n_n none o wo)

section Chain
variable (x : FVec Ideal S2x16384x2048 .f32) (a b : FVec Ideal S2x16384x1024 .f32) (w : FVec Ideal S2048x2048 .f32) (g : FVec Ideal S2048 .f32)
  (wq : FVec Ideal S2048x512 .f32) (k v : FVec Ideal S2x256x512 .f32) (wo : FVec Ideal S512x2048 .f32) (g' : FVec Ideal S2048 .f32)

/-- The first result. -/
def refFirst : FVec Ideal S2x16384x2048 .f32 :=
  refJoin (refMix x a b w) (refRead (refWeight (refPow (refScore (refQuery (refNorm g (refMix x a b w)) wq) k))) v) wo
/-- The second. -/
def refSecond : FVec Ideal S2x16384x2048 .bf16 := truncf .bf16 (refNorm g' (refFirst x a b w g wq k v wo)) bitsLt_bf16_f32

/-- The residual row that the call leaves, from its arguments. -/
abbrev rowOf (p : Fin 2) (n : Fin 16384) : Fin 2048 → EReal :=
  memAt (mixAt (fun d => x (ix3 p n d)) (fun d => a (ix3 p n d)) (fun d => b (ix3 p n d)) (fun d j => w (ix2 d j)))
    (fun d => g (ix1 d)) (fun d f => wq (ix2 d f)) (fun i f => k (ix3 p i f)) (fun i f => v (ix3 p i f)) (fun e j => wo (ix2 e j))
end Chain

theorem lane_comm (h : Fin 4) (l : Fin 128) (hl : h.val * 128 + l.val < 512) : (⟨h.val * 128 + l.val, hl⟩ : Fin 512) = lane h l :=
  Fin.ext (congrArg (· + l.val) (Nat.mul_comm _ _))

variable (p : Fin 2) (n : Fin 16384)

theorem refMix_apply (x : FVec Ideal S2x16384x2048 .f32) (a b : FVec Ideal S2x16384x1024 .f32) (w : FVec Ideal S2048x2048 .f32) (j : Fin 2048) :
    refMix x a b w (ix3 p n j) = mixAt (fun d => x (ix3 p n d)) (fun d => a (ix3 p n d)) (fun d => b (ix3 p n d)) (fun d j => w (ix2 d j)) j := by
  have hl : ∀ e : Fin 1024, concatenate S2x16384x2048 2 [⟨S2x16384x1024, a⟩, ⟨S2x16384x1024, b⟩] concatenates_S2x16384x1024_S2x16384x1024_S2x16384x2048_d2 (ix3 p n (⟨e.val, by omega⟩ : Fin 2048)) = a (ix3 p n e) := fun e =>
    concatenate_pair_apply_left (t := S2x16384x2048) 2 a b concatenates_S2x16384x1024_S2x16384x1024_S2x16384x2048_d2 (ix3 p n (⟨e.val, by omega⟩ : Fin 2048)) rfl (ix3 p n e) fun d => match d with
      | 0 => rfl
      | 1 => rfl
      | 2 => rfl
  have hr : ∀ e : Fin 1024, concatenate S2x16384x2048 2 [⟨S2x16384x1024, a⟩, ⟨S2x16384x1024, b⟩] concatenates_S2x16384x1024_S2x16384x1024_S2x16384x2048_d2 (ix3 p n (⟨1024 + e.val, by omega⟩ : Fin 2048)) = b (ix3 p n e) := fun e =>
    concatenate_pair_apply_right (t := S2x16384x2048) 2 a b concatenates_S2x16384x1024_S2x16384x1024_S2x16384x2048_d2 (ix3 p n (⟨1024 + e.val, by omega⟩ : Fin 2048)) rfl rfl (ix3 p n e) (fun d => match d with
      | 0 => fun _ => rfl
      | 1 => fun _ => rfl
      | 2 => fun h => absurd rfl h) (Nat.add_comm e.val 1024)
  unfold refMix mixAt
  generalize concatenate S2x16384x2048 2 [⟨S2x16384x1024, a⟩, ⟨S2x16384x1024, b⟩] concatenates_S2x16384x1024_S2x16384x1024_S2x16384x2048_d2 = y at hl hr
  have hs : ∀ f : Fin 2048 → EReal, ∑ e : Fin 2048, f e = ∑ e : Fin 1024, f ⟨e.val, by omega⟩ + ∑ e : Fin 1024, f ⟨1024 + e.val, by omega⟩ := fun f => Fin.sum_univ_add (a := 1024) (b := 1024) f
  pointwise
  rw [hs, add_assoc]
  simp only [hl, hr]

theorem refQuery_apply (h : FVec Ideal S2x16384x2048 .f32) (wq : FVec Ideal S2048x512 .f32) (f : Fin 512) :
    refQuery h wq (ix3 p n f) = ∑ d : Fin 2048, h (ix3 p n d) * wq (ix2 d f) := by
  unfold refQuery
  pointwise

theorem refScore_apply (q : FVec Ideal S2x16384x512 .f32) (k : FVec Ideal S2x256x512 .f32) (h : Fin 4) (i : Fin 256) :
    refScore q k (ix4 p h n i) = scoreAt (fun f => q (ix3 p n f)) (fun i f => k (ix3 p i f)) h i := by
  have hd : ∀ y : EReal, Ideal.div y (Real.sqrt 128 : ℝ) = y * (factor : EReal) := fun y =>
    Ideal.div_coe (Real.sqrt_ne_zero'.2 (by norm_num)) y
  unfold refScore scoreAt
  rw [← hd]
  pointwise
  rw [ofBits_128, Ideal.sqrt_coe, if_neg (by norm_num)]
  simp only [lane_comm]

theorem reduces_memory : S2x4x16384x256.Reduces [3] S2x4x16384 := by decide

theorem rowMax_memory (s : FVec Ideal S2x4x16384x256 .f32) (h : Fin 4) :
    Host.reduce FloatOps.maximumf s (constant S_ .f32 0xFF800000#32) reducesTo_S2x4x16384x256_S2x4x16384_d3 h_S_ (ix3 p h n)
      = (Finset.univ : Finset (Fin 256)).sup fun j => s (ix4 p h n j) := by
  refine (congrFun (hostReduce_maximumf_eq_multiReduction s 0xFF800000#32 reducesTo_S2x4x16384x256_S2x4x16384_d3 h_S_ reduces_memory (.inl rfl) rfl) (ix3 p h n)).trans ?_
  refine (Ideal.multiReduction_maximumf_single s 0xFF800000#32 reduces_memory (.inl rfl) rfl (ix3 p h n)).trans ?_
  refine (congrArg (fun y => Finset.fold max y (s ∘ reduces_memory.lift (ix3 p h n)) Finset.univ) ofBits_neg_inf).trans ?_
  refine congrArg (fun f => (Finset.univ : Finset (Fin 256)).fold max ⊥ f) (funext fun j => congrArg s (funext fun a => Fin.ext ?_))
  match a with
  | 0 => rfl
  | 1 => rfl
  | 2 => rfl
  | 3 => rfl

theorem along_memory (x : FVec Ideal S2x4x16384 .f32) (h : Fin 4) (i : Fin 256) :
    broadcastInDim S2x4x16384x256 ![0, 1, 2, 3] bcast_S2x4x16384x1_S2x4x16384x256_0_1_2_3 (broadcastInDim S2x4x16384x1 ![0, 1, 2] bcast_S2x4x16384_S2x4x16384x1_0_1_2 x) (ix4 p h n i) = x (ix3 p h n) := by
  pointwise

theorem floor_memory (x : FVec Ideal S2x4x16384 .f32) (j : S2x4x16384.Idx) :
    maximumf (broadcastInDim S2x4x16384 ![] bcast_S_S2x4x16384 (constant S_ .f32 0xFF800000#32)) x j = x j :=
  (congrArg (fun y => max y (x j)) ofBits_neg_inf).trans (max_eq_right bot_le)

theorem refPow_apply (s : FVec Ideal S2x4x16384x256 .f32) (h : Fin 4) (i : Fin 256) :
    refPow s (ix4 p h n i) = Ideal.exp (s (ix4 p h n i) - (Finset.univ : Finset (Fin 256)).sup fun j => s (ix4 p h n j)) := by
  refine congrArg (fun y => Ideal.exp (s (ix4 p h n i) - y)) ?_
  rw [along_memory, floor_memory, rowMax_memory]

theorem refWeight_apply (e : FVec Ideal S2x4x16384x256 .f32) (h : Fin 4) (i : Fin 256) :
    refWeight e (ix4 p h n i) = Ideal.div (e (ix4 p h n i)) (∑ j : Fin 256, e (ix4 p h n j)) := by
  unfold refWeight
  pointwise

theorem refRead_apply (q : FVec Ideal S2x4x16384x256 .f32) (v : FVec Ideal S2x256x512 .f32) (h : Fin 4) (l : Fin 128) :
    refRead q v (ix3 p n (lane h l)) = ∑ i : Fin 256, v (ix3 p i (lane h l)) * q (ix4 p h n i) := by
  unfold refRead
  pointwise [lane]
  simp only [lane_comm]
  rfl

theorem refJoin_apply (x : FVec Ideal S2x16384x2048 .f32) (o : FVec Ideal S2x16384x512 .f32) (wo : FVec Ideal S512x2048 .f32) (j : Fin 2048) :
    refJoin x o wo (ix3 p n j) = x (ix3 p n j) + ∑ e : Fin 512, o (ix3 p n e) * wo (ix2 e j) := by
  unfold refJoin
  pointwise

variable (x : FVec Ideal S2x16384x2048 .f32) (a b : FVec Ideal S2x16384x1024 .f32) (w : FVec Ideal S2048x2048 .f32) (g : FVec Ideal S2048 .f32)
  (wq : FVec Ideal S2048x512 .f32) (k v : FVec Ideal S2x256x512 .f32) (wo : FVec Ideal S512x2048 .f32) (g' : FVec Ideal S2048 .f32)

/-- What a query reads from the memory in one head. -/
theorem refRead_head (h : Fin 4) (l : Fin 128) :
    refRead (refWeight (refPow (refScore (refQuery (refNorm g x) wq) k))) v (ix3 p n (lane h l))
      = readAt (queryAt (fun d => x (ix3 p n d)) (fun d => g (ix1 d)) (fun d f => wq (ix2 d f))) (fun i f => k (ix3 p i f)) (fun i f => v (ix3 p i f)) h l := by
  rw [refRead_apply]
  unfold readAt
  refine Finset.sum_congr rfl fun i _ => ?_
  rw [mul_comm, refWeight_apply]
  unfold weightAt
  simp only [refPow_apply, refScore_apply, refQuery_apply, refNorm_apply]
  rfl

theorem refFirst_apply (j : Fin 2048) : refFirst x a b w g wq k v wo (ix3 p n j) = rowOf x a b w g wq k v wo p n j := by
  unfold refFirst rowOf memAt
  have hx : (fun d => refMix x a b w (ix3 p n d)) = mixAt (fun d => x (ix3 p n d)) (fun d => a (ix3 p n d)) (fun d => b (ix3 p n d)) (fun d j => w (ix2 d j)) :=
    funext fun d => refMix_apply p n x a b w d
  rw [refJoin_apply, refMix_apply, ← hx]
  refine congrArg (_ + ·) (Finset.sum_congr rfl fun e _ => ?_)
  rw [← refRead_head]
  have he : lane ⟨e.val / 128, by omega⟩ ⟨e.val % 128, by omega⟩ = e := Fin.ext (Nat.div_add_mod _ _)
  rw [he]

theorem refSecond_apply (j : Fin 2048) : refSecond x a b w g wq k v wo g' (ix3 p n j) = rmsAt (rowOf x a b w g wq k v wo p n) (fun d => g' (ix1 d)) j := by
  have h : (fun d => refFirst x a b w g wq k v wo (ix3 p n d)) = rowOf x a b w g wq k v wo p n := funext fun d => refFirst_apply p n x a b w g wq k v wo d
  rw [← h, ← refNorm_apply]
  rfl

section Run
variable (m : (ℓ : Loc nD τ sig) → Buf (Elt Ideal) ℓ) (c : Dev nD)

theorem res_first : Value.res_out0 (F := Ideal) m c
    = refFirst (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) := by
  unfold Value.res_out0 Value.res_main_v39 refFirst refJoin refRead refWeight refPow refScore refQuery refNorm refMix
  rfl

theorem res_second : Value.res_out1 (F := Ideal) m c
    = refSecond (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)) := by
  unfold Value.res_out1 Value.res_main_v53 refSecond refFirst refJoin refRead refWeight refPow refScore refQuery refNorm refMix
  rfl
end Run

end Cert.Out

end
-- ==== Proof.Mid.Array.lean ====
/-
  What the output projection and memory attention call leaves in its two result arrays, entry by entry, in terms of the
  call's arguments.
-/
module

public import proofs.«01_k».proof.Proof.Gen.MidIdeal.Value
public import proofs.«01_k».proof.Proof.Mid.Block
public import proofs.«01_k».proof.Proof.Mid.Reference

@[expose] public section

set_option maxRecDepth 16384

noncomputable section

namespace Cert.Out

open Cert.MidIdeal Cert.MidIdeal.Gen Idealize.ShloMosaic Idealize.ShloMosaic.TcCoe
open Cert.Ffn (rmsAt gain_apply)

variable (m : (ℓ : Loc nD τ sig) → Buf (Elt Ideal) ℓ) (c : Dev nD)

/-- The grid point of token block `i` of sequence `p`. -/
def pt (p : Fin 2) (i : Fin 32) : Fin cfg0.N := ⟨32 * p.val + i.val, by show _ < 64; omega⟩
theorem exists_pt (t : Fin cfg0.N) : ∃ p i, t = pt p i :=
  ⟨⟨t.val / 32, by have : t.val < 64 := t.isLt; omega⟩, ⟨t.val % 32, by omega⟩, Fin.ext (by show t.val = 32 * (t.val / 32) + t.val % 32; omega)⟩
theorem idx_x : ∀ p i, win0_0.index (pt p i) = ![p.val, i.val, 0] := by decide +kernel
theorem idx_a : ∀ p i, win0_1.index (pt p i) = ![p.val, i.val, 0] := by decide +kernel
theorem idx_b : ∀ p i, win0_2.index (pt p i) = ![p.val, i.val, 0] := by decide +kernel
theorem idx_w : ∀ p i, win0_3.index (pt p i) = ![0, 0] := by decide +kernel
theorem idx_g : ∀ p i, win0_4.index (pt p i) = ![0, 0] := by decide +kernel
theorem idx_wq : ∀ p i, win0_5.index (pt p i) = ![0, 0] := by decide +kernel
theorem idx_k : ∀ p i, win0_6.index (pt p i) = ![p.val, 0, 0] := by decide +kernel
theorem idx_v : ∀ p i, win0_7.index (pt p i) = ![p.val, 0, 0] := by decide +kernel
theorem idx_wo : ∀ p i, win0_8.index (pt p i) = ![0, 0] := by decide +kernel
theorem idx_g' : ∀ p i, win0_9.index (pt p i) = ![0, 0] := by decide +kernel
theorem idx_o : ∀ p i, win0_10.index (pt p i) = ![p.val, i.val, 0] := by decide +kernel
theorem idx_o' : ∀ p i, win0_11.index (pt p i) = ![p.val, i.val, 0] := by decide +kernel

/-- The ten arguments. -/
abbrev argX : FVec Ideal S2x16384x2048 .f32 := m ((c : Thread nD τ).loc main_arg0)
abbrev argA : FVec Ideal S2x16384x1024 .f32 := m ((c : Thread nD τ).loc main_arg1)
abbrev argB : FVec Ideal S2x16384x1024 .f32 := m ((c : Thread nD τ).loc main_arg2)
abbrev argW : FVec Ideal S2048x2048 .f32 := m ((c : Thread nD τ).loc main_arg3)
abbrev argG : FVec Ideal S2048 .f32 := m ((c : Thread nD τ).loc main_arg4)
abbrev argWq : FVec Ideal S2048x512 .f32 := m ((c : Thread nD τ).loc main_arg5)
abbrev argK : FVec Ideal S2x256x512 .f32 := m ((c : Thread nD τ).loc main_arg6)
abbrev argV : FVec Ideal S2x256x512 .f32 := m ((c : Thread nD τ).loc main_arg7)
abbrev argWo : FVec Ideal S512x2048 .f32 := m ((c : Thread nD τ).loc main_arg8)
abbrev argG' : FVec Ideal S2048 .f32 := m ((c : Thread nD τ).loc main_arg9)
theorem V_x : (V m c main_arg0 : FVec Ideal S2x16384x2048 .f32) = argX m c := by rfl
theorem V_a : (V m c main_v0 : FVec Ideal S2x16384x1024 .bf16) = argA m c := by rfl
theorem V_b : (V m c main_v1 : FVec Ideal S2x16384x1024 .bf16) = argB m c := by rfl
theorem V_w : (V m c main_v2 : FVec Ideal S2048x2048 .bf16) = argW m c := by rfl
theorem V_g : (V m c main_v3 : FVec Ideal S1x2048 .f32) = shapeCast S1x2048 (argG m c) shapeCasts_S2048_S1x2048 := by rfl
theorem V_wq : (V m c main_v4 : FVec Ideal S2048x512 .bf16) = argWq m c := by rfl
theorem V_k : (V m c main_v5 : FVec Ideal S2x256x512 .bf16) = argK m c := by rfl
theorem V_v : (V m c main_v6 : FVec Ideal S2x256x512 .bf16) = argV m c := by rfl
theorem V_wo : (V m c main_v7 : FVec Ideal S512x2048 .bf16) = argWo m c := by rfl
theorem V_g' : (V m c main_v8 : FVec Ideal S1x2048 .f32) = shapeCast S1x2048 (argG' m c) shapeCasts_S2048_S1x2048 := by rfl

section Blocks
variable (p : Fin 2) (i : Fin 32)

/-- Token `r` of token block `i`. -/
def row (r : Fin 512) : Fin 16384 := ⟨512 * i.val + r.val, by omega⟩
theorem exists_row (n : Fin 16384) : ∃ i r, row i r = n :=
  ⟨⟨n.val / 512, by omega⟩, ⟨n.val % 512, by omega⟩, Fin.ext (Nat.div_add_mod _ _)⟩

theorem blk_x (r : Fin 512) (d : Fin 2048) : (iblk m c 0 (pt p i) : FVec Ideal S1x512x2048 .f32) (ix3 0 r d) = argX m c (ix3 p (row i r) d) := by
  have e := idx_x p i
  unfold iblk
  rw [View.read_apply]
  show (V m c main_arg0 : FVec Ideal S2x16384x2048 .f32) _ = _
  rw [V_x]
  refine congrArg (argX m c) (funext fun a => Fin.ext ?_)
  match a with
  | 0 => show win0_0.index (pt p i) 0 * 1 + 1 * 0 = p.val; rw [e]; show p.val * 1 + 1 * 0 = _; omega
  | 1 => show win0_0.index (pt p i) 1 * 512 + 1 * r.val = 512 * i.val + r.val; rw [e]; show i.val * 512 + 1 * r.val = _; omega
  | 2 => show win0_0.index (pt p i) 2 * 2048 + 1 * d.val = d.val; rw [e]; show 0 * 2048 + 1 * d.val = _; omega
theorem blk_a (r : Fin 512) (d : Fin 1024) : (iblk m c 1 (pt p i) : FVec Ideal S1x512x1024 .bf16) (ix3 0 r d) = argA m c (ix3 p (row i r) d) := by
  have e := idx_a p i
  unfold iblk
  rw [View.read_apply]
  show (V m c main_v0 : FVec Ideal S2x16384x1024 .bf16) _ = _
  rw [V_a]
  refine congrArg (argA m c) (funext fun a => Fin.ext ?_)
  match a with
  | 0 => show win0_1.index (pt p i) 0 * 1 + 1 * 0 = p.val; rw [e]; show p.val * 1 + 1 * 0 = _; omega
  | 1 => show win0_1.index (pt p i) 1 * 512 + 1 * r.val = 512 * i.val + r.val; rw [e]; show i.val * 512 + 1 * r.val = _; omega
  | 2 => show win0_1.index (pt p i) 2 * 1024 + 1 * d.val = d.val; rw [e]; show 0 * 1024 + 1 * d.val = _; omega
theorem blk_b (r : Fin 512) (d : Fin 1024) : (iblk m c 2 (pt p i) : FVec Ideal S1x512x1024 .bf16) (ix3 0 r d) = argB m c (ix3 p (row i r) d) := by
  have e := idx_b p i
  unfold iblk
  rw [View.read_apply]
  show (V m c main_v1 : FVec Ideal S2x16384x1024 .bf16) _ = _
  rw [V_b]
  refine congrArg (argB m c) (funext fun a => Fin.ext ?_)
  match a with
  | 0 => show win0_2.index (pt p i) 0 * 1 + 1 * 0 = p.val; rw [e]; show p.val * 1 + 1 * 0 = _; omega
  | 1 => show win0_2.index (pt p i) 1 * 512 + 1 * r.val = 512 * i.val + r.val; rw [e]; show i.val * 512 + 1 * r.val = _; omega
  | 2 => show win0_2.index (pt p i) 2 * 1024 + 1 * d.val = d.val; rw [e]; show 0 * 1024 + 1 * d.val = _; omega
theorem blk_w (d j : Fin 2048) : (iblk m c 3 (pt p i) : FVec Ideal S2048x2048 .bf16) (ix2 d j) = argW m c (ix2 d j) := by
  have e := idx_w p i
  unfold iblk
  rw [View.read_apply]
  show (V m c main_v2 : FVec Ideal S2048x2048 .bf16) _ = _
  rw [V_w]
  refine congrArg (argW m c) (funext fun a => Fin.ext ?_)
  match a with
  | 0 => show win0_3.index (pt p i) 0 * 2048 + 1 * d.val = d.val; rw [e]; show 0 * 2048 + 1 * d.val = _; omega
  | 1 => show win0_3.index (pt p i) 1 * 2048 + 1 * j.val = j.val; rw [e]; show 0 * 2048 + 1 * j.val = _; omega
theorem blk_g (k : Fin 2048) : (iblk m c 4 (pt p i) : FVec Ideal S1x2048 .f32) (ix2 0 k) = argG m c (ix1 k) := by
  have e := idx_g p i
  unfold iblk
  rw [View.read_apply]
  show (V m c main_v3 : FVec Ideal S1x2048 .f32) _ = _
  rw [V_g, ← gain_apply (argG m c) k]
  refine congrArg (shapeCast S1x2048 (argG m c) shapeCasts_S2048_S1x2048) (funext fun a => Fin.ext ?_)
  match a with
  | 0 => show win0_4.index (pt p i) 0 * 1 + 1 * 0 = 0; rw [e]; rfl
  | 1 => show win0_4.index (pt p i) 1 * 2048 + 1 * k.val = k.val; rw [e]; show 0 * 2048 + 1 * k.val = _; omega
theorem blk_wq (d : Fin 2048) (f : Fin 512) : (iblk m c 5 (pt p i) : FVec Ideal S2048x512 .bf16) (ix2 d f) = argWq m c (ix2 d f) := by
  have e := idx_wq p i
  unfold iblk
  rw [View.read_apply]
  show (V m c main_v4 : FVec Ideal S2048x512 .bf16) _ = _
  rw [V_wq]
  refine congrArg (argWq m c) (funext fun a => Fin.ext ?_)
  match a with
  | 0 => show win0_5.index (pt p i) 0 * 2048 + 1 * d.val = d.val; rw [e]; show 0 * 2048 + 1 * d.val = _; omega
  | 1 => show win0_5.index (pt p i) 1 * 512 + 1 * f.val = f.val; rw [e]; show 0 * 512 + 1 * f.val = _; omega
theorem blk_k (k : Fin 256) (f : Fin 512) : (iblk m c 6 (pt p i) : FVec Ideal S1x256x512 .bf16) (ix3 0 k f) = argK m c (ix3 p k f) := by
  have e := idx_k p i
  unfold iblk
  rw [View.read_apply]
  show (V m c main_v5 : FVec Ideal S2x256x512 .bf16) _ = _
  rw [V_k]
  refine congrArg (argK m c) (funext fun a => Fin.ext ?_)
  match a with
  | 0 => show win0_6.index (pt p i) 0 * 1 + 1 * 0 = p.val; rw [e]; show p.val * 1 + 1 * 0 = _; omega
  | 1 => show win0_6.index (pt p i) 1 * 256 + 1 * k.val = k.val; rw [e]; show 0 * 256 + 1 * k.val = _; omega
  | 2 => show win0_6.index (pt p i) 2 * 512 + 1 * f.val = f.val; rw [e]; show 0 * 512 + 1 * f.val = _; omega
theorem blk_v (k : Fin 256) (f : Fin 512) : (iblk m c 7 (pt p i) : FVec Ideal S1x256x512 .bf16) (ix3 0 k f) = argV m c (ix3 p k f) := by
  have e := idx_v p i
  unfold iblk
  rw [View.read_apply]
  show (V m c main_v6 : FVec Ideal S2x256x512 .bf16) _ = _
  rw [V_v]
  refine congrArg (argV m c) (funext fun a => Fin.ext ?_)
  match a with
  | 0 => show win0_7.index (pt p i) 0 * 1 + 1 * 0 = p.val; rw [e]; show p.val * 1 + 1 * 0 = _; omega
  | 1 => show win0_7.index (pt p i) 1 * 256 + 1 * k.val = k.val; rw [e]; show 0 * 256 + 1 * k.val = _; omega
  | 2 => show win0_7.index (pt p i) 2 * 512 + 1 * f.val = f.val; rw [e]; show 0 * 512 + 1 * f.val = _; omega
theorem blk_wo (f : Fin 512) (j : Fin 2048) : (iblk m c 8 (pt p i) : FVec Ideal S512x2048 .bf16) (ix2 f j) = argWo m c (ix2 f j) := by
  have e := idx_wo p i
  unfold iblk
  rw [View.read_apply]
  show (V m c main_v7 : FVec Ideal S512x2048 .bf16) _ = _
  rw [V_wo]
  refine congrArg (argWo m c) (funext fun a => Fin.ext ?_)
  match a with
  | 0 => show win0_8.index (pt p i) 0 * 512 + 1 * f.val = f.val; rw [e]; show 0 * 512 + 1 * f.val = _; omega
  | 1 => show win0_8.index (pt p i) 1 * 2048 + 1 * j.val = j.val; rw [e]; show 0 * 2048 + 1 * j.val = _; omega
theorem blk_g' (k : Fin 2048) : (iblk m c 9 (pt p i) : FVec Ideal S1x2048 .f32) (ix2 0 k) = argG' m c (ix1 k) := by
  have e := idx_g' p i
  unfold iblk
  rw [View.read_apply]
  show (V m c main_v8 : FVec Ideal S1x2048 .f32) _ = _
  rw [V_g', ← gain_apply (argG' m c) k]
  refine congrArg (shapeCast S1x2048 (argG' m c) shapeCasts_S2048_S1x2048) (funext fun a => Fin.ext ?_)
  match a with
  | 0 => show win0_9.index (pt p i) 0 * 1 + 1 * 0 = 0; rw [e]; rfl
  | 1 => show win0_9.index (pt p i) 1 * 2048 + 1 * k.val = k.val; rw [e]; show 0 * 2048 + 1 * k.val = _; omega

/-- The residual row that the call leaves at token `n` of sequence `p`. -/
abbrev leftRow (p : Fin 2) (n : Fin 16384) : Fin 2048 → EReal :=
  rowOf (argX m c) (argA m c) (argB m c) (argW m c) (argG m c) (argWq m c) (argK m c) (argV m c) (argWo m c) p n

/-- A point's residual rows are its token block's. -/
theorem rowHere_eq (r : Fin 512) :
    rowHere (iblk m c 0 (pt p i)) (iblk m c 1 (pt p i)) (iblk m c 2 (pt p i)) (iblk m c 3 (pt p i)) (iblk m c 4 (pt p i)) (iblk m c 5 (pt p i)) (iblk m c 6 (pt p i)) (iblk m c 7 (pt p i)) (iblk m c 8 (pt p i)) r
      = leftRow m c p (row i r) := by
  unfold rowHere leftRow rowOf
  simp only [blk_x, blk_a, blk_b, blk_w, blk_g, blk_wq, blk_k, blk_v, blk_wo]

theorem emb_first (r : Fin 512) (j : Fin 2048) : ((cfg0.win 10).blk (pt p i)).view.emb (ix3 (0 : Fin 1) r j) = (ix3 p (row i r) j : S2x16384x2048.Idx) := by
  have e := idx_o p i
  refine funext fun a => Fin.ext ?_
  match a with
  | 0 => show win0_10.index (pt p i) 0 * 1 + 1 * 0 = p.val; rw [e]; show p.val * 1 + 1 * 0 = _; omega
  | 1 => show win0_10.index (pt p i) 1 * 512 + 1 * r.val = 512 * i.val + r.val; rw [e]; show i.val * 512 + 1 * r.val = _; omega
  | 2 => show win0_10.index (pt p i) 2 * 2048 + 1 * j.val = j.val; rw [e]; show 0 * 2048 + 1 * j.val = _; omega
theorem emb_second (r : Fin 512) (j : Fin 2048) : ((cfg0.win 11).blk (pt p i)).view.emb (ix3 (0 : Fin 1) r j) = (ix3 p (row i r) j : S2x16384x2048.Idx) := by
  have e := idx_o' p i
  refine funext fun a => Fin.ext ?_
  match a with
  | 0 => show win0_11.index (pt p i) 0 * 1 + 1 * 0 = p.val; rw [e]; show p.val * 1 + 1 * 0 = _; omega
  | 1 => show win0_11.index (pt p i) 1 * 512 + 1 * r.val = 512 * i.val + r.val; rw [e]; show i.val * 512 + 1 * r.val = _; omega
  | 2 => show win0_11.index (pt p i) 2 * 2048 + 1 * j.val = j.val; rw [e]; show 0 * 2048 + 1 * j.val = _; omega
end Blocks

/-- The first result: the residual stream. -/
def first : FVec Ideal S2x16384x2048 .f32 := fun z => leftRow m c (z 0) (z 1) (z 2)
/-- The second: its normalised rows. -/
def second : FVec Ideal S2x16384x2048 .bf16 := fun z => rmsAt (leftRow m c (z 0) (z 1)) (fun d => argG' m c (ix1 d)) (z 2)

theorem eq_block (y : S1x512x2048.Idx) : ∃ (r : Fin 512) (j : Fin 2048), y = ix3 0 r j :=
  ⟨y 1, y 2, (eq_ix3 y).trans (congrArg (fun a => ix3 a (y 1) (y 2)) (Subsingleton.elim (α := Fin 1) _ _))⟩

/-- The first result array after the call. -/
theorem array_first : ((dats m 0 c).arrAt 10 cfg0.N : FVec Ideal S2x16384x2048 .f32) = first m c := by
  refine (dats m 0 c).arrAt_eq_of_cover 10 (first m c) (fun t ht => ?_) (fun z => ?_)
  · obtain ⟨p, i, rfl⟩ := exists_pt t
    refine (Value.flushed10 m c (pt p i)).trans ?_
    funext y
    obtain ⟨r, j, rfl⟩ := eq_block y
    rw [View.read_apply, emb_first]
    exact (first_apply _ _ _ _ _ _ _ _ _ _ r j).trans (congrFun (rowHere_eq m c p i r) j)
  · obtain ⟨i, r, e⟩ := exists_row (z 1)
    refine ⟨pt (z 0) i, flush0_10 _, ?_⟩
    have h : (ix3 (z 0) (row i r) (z 2) : S2x16384x2048.Idx) ∈ ((cfg0.win 10).blk (pt (z 0) i)).view.set :=
      emb_first (z 0) i r (z 2) ▸ ((cfg0.win 10).blk (pt (z 0) i)).view.emb_mem_set (ix3 (0 : Fin 1) r (z 2) : S1x512x2048.Idx)
    rw [e] at h
    exact (eq_ix3 (z : S2x16384x2048.Idx)) ▸ h

/-- The second. -/
theorem array_second : ((dats m 0 c).arrAt 11 cfg0.N : FVec Ideal S2x16384x2048 .bf16) = second m c := by
  refine (dats m 0 c).arrAt_eq_of_cover 11 (second m c) (fun t ht => ?_) (fun z => ?_)
  · obtain ⟨p, i, rfl⟩ := exists_pt t
    refine (Value.flushed11 m c (pt p i)).trans ?_
    funext y
    obtain ⟨r, j, rfl⟩ := eq_block y
    rw [View.read_apply, emb_second]
    exact (second_apply _ _ _ _ _ _ _ _ _ _ r j).trans (congrArg₂ (fun o g => rmsAt o g j) (rowHere_eq m c p i r) (funext fun k => blk_g' m c p i k))
  · obtain ⟨i, r, e⟩ := exists_row (z 1)
    refine ⟨pt (z 0) i, flush0_11 _, ?_⟩
    have h : (ix3 (z 0) (row i r) (z 2) : S2x16384x2048.Idx) ∈ ((cfg0.win 11).blk (pt (z 0) i)).view.set :=
      emb_second (z 0) i r (z 2) ▸ ((cfg0.win 11).blk (pt (z 0) i)).view.emb_mem_set (ix3 (0 : Fin 1) r (z 2) : S1x512x2048.Idx)
    rw [e] at h
    exact (eq_ix3 (z : S2x16384x2048.Idx)) ▸ h

/-- The reference's results are the call's. -/
theorem first_eq : refFirst (argX m c) (argA m c) (argB m c) (argW m c) (argG m c) (argWq m c) (argK m c) (argV m c) (argWo m c) = first m c := by
  funext z
  obtain ⟨p, n, j, rfl⟩ : ∃ p n j, z = ix3 p n j := ⟨z 0, z 1, z 2, eq_ix3 z⟩
  exact refFirst_apply p n _ _ _ _ _ _ _ _ _ j
theorem second_eq : refSecond (argX m c) (argA m c) (argB m c) (argW m c) (argG m c) (argWq m c) (argK m c) (argV m c) (argWo m c) (argG' m c) = second m c := by
  funext z
  obtain ⟨p, n, j, rfl⟩ : ∃ p n j, z = ix3 p n j := ⟨z 0, z 1, z 2, eq_ix3 z⟩
  exact refSecond_apply p n _ _ _ _ _ _ _ _ _ _ j

end Cert.Out

end
-- ==== Proof.Memory.Block.lean ====
/-
  What the call that makes the memory's keys and values computes at one grid point, and what its reference computes, entry
  by entry: a projection of the memory's normalised tokens.
-/
module

public import proofs.«01_k».proof.Proof.Gen.MemoryIdeal.Frame
public import proofs.«01_k».proof.Proof.Gen.ReferenceMemoryIdeal.Run
public import proofs.«01_k».proof.Proof.Final.Payloads
public import Idealize.ShloMosaic.Lib.Pipeline.ValueKit.Basic

@[expose] public section

set_option maxRecDepth 16384

noncomputable section

namespace Cert.KeyVal

open Idealize.ShloMosaic
open Cert.Ffn (rmsAt)

/-- Column `f` of the projection of a normalised row. -/
def projAt (x g : Fin 2048 → EReal) (w : Fin 2048 → Fin 1024 → EReal) (f : Fin 1024) : EReal := ∑ d : Fin 2048, rmsAt x g d * w d f

/-- The column of a key, and of a value. -/
def keyCol (f : Fin 512) : Fin 1024 := ⟨f.val, by omega⟩
def valueCol (f : Fin 512) : Fin 1024 := ⟨512 + f.val, by omega⟩

section Call
open Cert.MemoryIdeal Cert.MemoryIdeal.Gen

section AnyFloat
variable {F : FTy → Type} [FloatOps F] (x : Vec F S1x256x2048 .f32) (g : Vec F S1x2048 .f32) (w : Vec F S2048x1024 .bf16)

/-- A point's loads and stores are of whole blocks. -/
theorem keys_out : out0_3 x g w = k0_pay2 x g w := by
  unfold out0_3
  rw [View.canon_cons_unit_lit _ _ _ (by decide), View.ld_unit_lit _ x (by decide), View.ld_unit_lit _ g (by decide), View.ld_unit_lit _ w (by decide)]
theorem values_out : out0_4 x g w = k0_pay3 x g w := by
  unfold out0_4
  rw [View.canon_cons_unit_lit _ _ _ (by decide), View.ld_unit_lit _ x (by decide), View.ld_unit_lit _ g (by decide), View.ld_unit_lit _ w (by decide)]
end AnyFloat

variable (x : FVec Ideal S1x256x2048 .f32) (g : FVec Ideal S1x2048 .f32) (w : FVec Ideal S2048x1024 .bf16) (r : Fin 256)

theorem proj_apply (f : Fin 1024) :
    k0_pay1 (F := Ideal) x g w (ix2 r f) = projAt (fun d => x (ix3 0 r d)) (fun d => g (ix2 0 d)) (fun d f => w (ix2 d f)) f := by
  unfold k0_pay1 projAt rmsAt
  pointwise

/-- The first block: the keys. -/
theorem keys_apply (f : Fin 512) :
    out0_3 (F := Ideal) x g w (ix3 0 r f) = projAt (fun d => x (ix3 0 r d)) (fun d => g (ix2 0 d)) (fun d f => w (ix2 d f)) (keyCol f) := by
  rw [keys_out, ← proj_apply]
  unfold k0_pay2
  generalize k0_pay1 (F := Ideal) x g w = y
  pointwise
  exact congrArg (fun a => y (ix2 r a)) (Fin.ext (by simp [keyCol]))

/-- The second: the values. -/
theorem values_apply (f : Fin 512) :
    out0_4 (F := Ideal) x g w (ix3 0 r f) = projAt (fun d => x (ix3 0 r d)) (fun d => g (ix2 0 d)) (fun d f => w (ix2 d f)) (valueCol f) := by
  rw [values_out, ← proj_apply]
  unfold k0_pay3
  generalize k0_pay1 (F := Ideal) x g w = y
  pointwise
  rfl
end Call

section Reference
open Cert.ReferenceMemoryIdeal Cert.ReferenceMemoryIdeal.Gen
variable (x : FVec Ideal S2x256x2048 .f32) (g : FVec Ideal S2048 .f32) (w : FVec Ideal S2048x1024 .f32)

/-- The reference's projection of the normalised tokens. -/
def refProj : FVec Ideal S2x256x1024 .f32 :=
  Host.dotGeneral dot_S2x256x2048_S2048x1024_S2x256x1024_2_0_01_1_n_n none (mulf (mulf x (broadcastInDim S2x256x2048 ![0, 1, 2] bcast_S2x256x1_S2x256x2048_0_1_2 (Host.rsqrt (addf (Host.divf (broadcastInDim S2x256x1 ![0, 1] bcast_S2x256_S2x256x1_0_1 (Host.reduceAdd (mulf x x) (constant S_ .f32 0x00000000#32) reducesTo_S2x256x2048_S2x256_d2 h_S_)) (broadcastInDim S2x256x1 ![] bcast_S_S2x256x1 (constant S_ .f32 0x45000000#32))) (broadcastInDim S2x256x1 ![] bcast_S_S2x256x1 (constant S_ .f32 0x358637BD#32)))))) (broadcastInDim S2x256x2048 ![0, 1, 2] bcast_S1x1x2048_S2x256x2048_0_1_2 (broadcastInDim S1x1x2048 ![2] bcast_S2048_S1x1x2048_2 g))) w

/-- Its two results. -/
def refKeys : FVec Ideal S2x256x512 .bf16 := truncf .bf16 (extractStridedSlice S2x256x512 ![0, 0, 0] (refProj x g w) slices_S2x256x1024_S2x256x512_0_0_0) bitsLt_bf16_f32
def refValues : FVec Ideal S2x256x512 .bf16 := truncf .bf16 (extractStridedSlice S2x256x512 ![0, 0, 512] (refProj x g w) slices_S2x256x1024_S2x256x512_0_0_512) bitsLt_bf16_f32

/-- Column `f` of the projection of token `i` of sequence `p`. -/
abbrev tokenAt (p : Fin 2) (i : Fin 256) (f : Fin 1024) : EReal := projAt (fun d => x (ix3 p i d)) (fun d => g (ix1 d)) (fun d f => w (ix2 d f)) f

theorem refProj_apply (p : Fin 2) (i : Fin 256) (f : Fin 1024) : refProj x g w (ix3 p i f) = tokenAt x g w p i f := by
  unfold refProj tokenAt projAt rmsAt
  pointwise

theorem refKeys_apply (p : Fin 2) (i : Fin 256) (f : Fin 512) : refKeys x g w (ix3 p i f) = tokenAt x g w p i (keyCol f) := by
  rw [← refProj_apply]
  unfold refKeys
  generalize refProj x g w = y
  pointwise
  exact congrArg (fun a => y (ix3 p i a)) (Fin.ext (by simp [keyCol]))

theorem refValues_apply (p : Fin 2) (i : Fin 256) (f : Fin 512) : refValues x g w (ix3 p i f) = tokenAt x g w p i (valueCol f) := by
  rw [← refProj_apply]
  unfold refValues
  generalize refProj x g w = y
  pointwise
  rfl
end Reference

end Cert.KeyVal

end
-- ==== Proof.Memory.Array.lean ====
/-
  What the call that makes the memory's keys and values leaves in its two result arrays, entry by entry.
-/
module

public import proofs.«01_k».proof.Proof.Gen.MemoryIdeal.Value
public import proofs.«01_k».proof.Proof.Memory.Block
public import proofs.«01_k».proof.Proof.Final.Array

@[expose] public section

set_option maxRecDepth 16384

noncomputable section

namespace Cert.KeyVal

open Cert.MemoryIdeal Cert.MemoryIdeal.Gen Idealize.ShloMosaic Idealize.ShloMosaic.TcCoe
open Cert.Ffn (gain_apply)

variable (m : (ℓ : Loc nD τ sig) → Buf (Elt Ideal) ℓ) (c : Dev nD)

/-- The grid point of sequence `p`. -/
def pt (p : Fin 2) : Fin cfg0.N := ⟨p.val, by show _ < 2; omega⟩
theorem exists_pt (t : Fin cfg0.N) : ∃ p, t = pt p := ⟨⟨t.val, t.isLt⟩, rfl⟩
theorem idx_x : ∀ p, win0_0.index (pt p) = ![p.val, 0, 0] := by decide +kernel
theorem idx_g : ∀ p, win0_1.index (pt p) = ![0, 0] := by decide +kernel
theorem idx_w : ∀ p, win0_2.index (pt p) = ![0, 0] := by decide +kernel
theorem idx_k : ∀ p, win0_3.index (pt p) = ![p.val, 0, 0] := by decide +kernel
theorem idx_v : ∀ p, win0_4.index (pt p) = ![p.val, 0, 0] := by decide +kernel

/-- The three arguments. -/
abbrev argX : FVec Ideal S2x256x2048 .f32 := m ((c : Thread nD τ).loc main_arg0)
abbrev argG : FVec Ideal S2048 .f32 := m ((c : Thread nD τ).loc main_arg1)
abbrev argW : FVec Ideal S2048x1024 .f32 := m ((c : Thread nD τ).loc main_arg2)
theorem V_x : (V m c main_arg0 : FVec Ideal S2x256x2048 .f32) = argX m c := by rfl
theorem V_g : (V m c main_v0 : FVec Ideal S1x2048 .f32) = shapeCast S1x2048 (argG m c) shapeCasts_S2048_S1x2048 := by rfl
theorem V_w : (V m c main_v1 : FVec Ideal S2048x1024 .bf16) = argW m c := by rfl

section Blocks
variable (p : Fin 2)

theorem blk_x (i : Fin 256) (d : Fin 2048) : (iblk m c 0 (pt p) : FVec Ideal S1x256x2048 .f32) (ix3 0 i d) = argX m c (ix3 p i d) := by
  have e := idx_x p
  unfold iblk
  rw [View.read_apply]
  show (V m c main_arg0 : FVec Ideal S2x256x2048 .f32) _ = _
  rw [V_x]
  refine congrArg (argX m c) (funext fun a => Fin.ext ?_)
  match a with
  | 0 => show win0_0.index (pt p) 0 * 1 + 1 * 0 = p.val; rw [e]; show p.val * 1 + 1 * 0 = _; omega
  | 1 => show win0_0.index (pt p) 1 * 256 + 1 * i.val = i.val; rw [e]; show 0 * 256 + 1 * i.val = _; omega
  | 2 => show win0_0.index (pt p) 2 * 2048 + 1 * d.val = d.val; rw [e]; show 0 * 2048 + 1 * d.val = _; omega
theorem blk_g (d : Fin 2048) : (iblk m c 1 (pt p) : FVec Ideal S1x2048 .f32) (ix2 0 d) = argG m c (ix1 d) := by
  have e := idx_g p
  unfold iblk
  rw [View.read_apply]
  show (V m c main_v0 : FVec Ideal S1x2048 .f32) _ = _
  rw [V_g, ← gain_apply (argG m c) d]
  refine congrArg (shapeCast S1x2048 (argG m c) shapeCasts_S2048_S1x2048) (funext fun a => Fin.ext ?_)
  match a with
  | 0 => show win0_1.index (pt p) 0 * 1 + 1 * 0 = 0; rw [e]; rfl
  | 1 => show win0_1.index (pt p) 1 * 2048 + 1 * d.val = d.val; rw [e]; show 0 * 2048 + 1 * d.val = _; omega
theorem blk_w (d : Fin 2048) (f : Fin 1024) : (iblk m c 2 (pt p) : FVec Ideal S2048x1024 .bf16) (ix2 d f) = argW m c (ix2 d f) := by
  have e := idx_w p
  unfold iblk
  rw [View.read_apply]
  show (V m c main_v1 : FVec Ideal S2048x1024 .bf16) _ = _
  rw [V_w]
  refine congrArg (argW m c) (funext fun a => Fin.ext ?_)
  match a with
  | 0 => show win0_2.index (pt p) 0 * 2048 + 1 * d.val = d.val; rw [e]; show 0 * 2048 + 1 * d.val = _; omega
  | 1 => show win0_2.index (pt p) 1 * 1024 + 1 * f.val = f.val; rw [e]; show 0 * 1024 + 1 * f.val = _; omega

/-- A point projects its sequence's tokens. -/
theorem proj_eq (i : Fin 256) (f : Fin 1024) :
    projAt (fun d => (iblk m c 0 (pt p) : FVec Ideal S1x256x2048 .f32) (ix3 0 i d)) (fun d => (iblk m c 1 (pt p) : FVec Ideal S1x2048 .f32) (ix2 0 d))
        (fun d f => (iblk m c 2 (pt p) : FVec Ideal S2048x1024 .bf16) (ix2 d f)) f
      = tokenAt (argX m c) (argG m c) (argW m c) p i f := by
  unfold tokenAt
  simp only [blk_x, blk_g, blk_w]

theorem emb_keys (i : Fin 256) (f : Fin 512) : ((cfg0.win 3).blk (pt p)).view.emb (ix3 (0 : Fin 1) i f) = (ix3 p i f : S2x256x512.Idx) := by
  have e := idx_k p
  refine funext fun a => Fin.ext ?_
  match a with
  | 0 => show win0_3.index (pt p) 0 * 1 + 1 * 0 = p.val; rw [e]; show p.val * 1 + 1 * 0 = _; omega
  | 1 => show win0_3.index (pt p) 1 * 256 + 1 * i.val = i.val; rw [e]; show 0 * 256 + 1 * i.val = _; omega
  | 2 => show win0_3.index (pt p) 2 * 512 + 1 * f.val = f.val; rw [e]; show 0 * 512 + 1 * f.val = _; omega
theorem emb_values (i : Fin 256) (f : Fin 512) : ((cfg0.win 4).blk (pt p)).view.emb (ix3 (0 : Fin 1) i f) = (ix3 p i f : S2x256x512.Idx) := by
  have e := idx_v p
  refine funext fun a => Fin.ext ?_
  match a with
  | 0 => show win0_4.index (pt p) 0 * 1 + 1 * 0 = p.val; rw [e]; show p.val * 1 + 1 * 0 = _; omega
  | 1 => show win0_4.index (pt p) 1 * 256 + 1 * i.val = i.val; rw [e]; show 0 * 256 + 1 * i.val = _; omega
  | 2 => show win0_4.index (pt p) 2 * 512 + 1 * f.val = f.val; rw [e]; show 0 * 512 + 1 * f.val = _; omega
end Blocks

/-- The two results: the keys and the values. -/
def keys : FVec Ideal S2x256x512 .bf16 := fun z => tokenAt (argX m c) (argG m c) (argW m c) (z 0) (z 1) (keyCol (z 2))
def values : FVec Ideal S2x256x512 .bf16 := fun z => tokenAt (argX m c) (argG m c) (argW m c) (z 0) (z 1) (valueCol (z 2))

theorem eq_block (y : S1x256x512.Idx) : ∃ (i : Fin 256) (f : Fin 512), y = ix3 0 i f :=
  ⟨y 1, y 2, (eq_ix3 y).trans (congrArg (fun a => ix3 a (y 1) (y 2)) (Subsingleton.elim (α := Fin 1) _ _))⟩

theorem array_keys : ((dats m 0 c).arrAt 3 cfg0.N : FVec Ideal S2x256x512 .bf16) = keys m c := by
  refine (dats m 0 c).arrAt_eq_of_cover 3 (keys m c) (fun t ht => ?_) (fun z => ?_)
  · obtain ⟨p, rfl⟩ := exists_pt t
    refine (Value.flushed3 m c (pt p)).trans ?_
    funext y
    obtain ⟨i, f, rfl⟩ := eq_block y
    rw [View.read_apply, emb_keys]
    exact (keys_apply _ _ _ i f).trans (proj_eq m c p i (keyCol f))
  · refine ⟨pt (z 0), flush0_3 _, ?_⟩
    have h : (ix3 (z 0) (z 1) (z 2) : S2x256x512.Idx) ∈ ((cfg0.win 3).blk (pt (z 0))).view.set :=
      emb_keys (z 0) (z 1) (z 2) ▸ ((cfg0.win 3).blk (pt (z 0))).view.emb_mem_set (ix3 (0 : Fin 1) (z 1) (z 2) : S1x256x512.Idx)
    exact (eq_ix3 (z : S2x256x512.Idx)) ▸ h

theorem array_values : ((dats m 0 c).arrAt 4 cfg0.N : FVec Ideal S2x256x512 .bf16) = values m c := by
  refine (dats m 0 c).arrAt_eq_of_cover 4 (values m c) (fun t ht => ?_) (fun z => ?_)
  · obtain ⟨p, rfl⟩ := exists_pt t
    refine (Value.flushed4 m c (pt p)).trans ?_
    funext y
    obtain ⟨i, f, rfl⟩ := eq_block y
    rw [View.read_apply, emb_values]
    exact (values_apply _ _ _ i f).trans (proj_eq m c p i (valueCol f))
  · refine ⟨pt (z 0), flush0_4 _, ?_⟩
    have h : (ix3 (z 0) (z 1) (z 2) : S2x256x512.Idx) ∈ ((cfg0.win 4).blk (pt (z 0))).view.set :=
      emb_values (z 0) (z 1) (z 2) ▸ ((cfg0.win 4).blk (pt (z 0))).view.emb_mem_set (ix3 (0 : Fin 1) (z 1) (z 2) : S1x256x512.Idx)
    exact (eq_ix3 (z : S2x256x512.Idx)) ▸ h

/-- The reference's results are the call's. -/
theorem keys_eq : refKeys (argX m c) (argG m c) (argW m c) = keys m c := by
  funext z
  obtain ⟨p, i, f, rfl⟩ : ∃ p i f, z = ix3 p i f := ⟨z 0, z 1, z 2, eq_ix3 z⟩
  exact refKeys_apply _ _ _ p i f
theorem values_eq : refValues (argX m c) (argG m c) (argW m c) = values m c := by
  funext z
  obtain ⟨p, i, f, rfl⟩ : ∃ p i f, z = ix3 p i f := ⟨z 0, z 1, z 2, eq_ix3 z⟩
  exact refValues_apply _ _ _ p i f

end Cert.KeyVal

end
-- ==== Proof.Axial.Row.lean ====
/-
  A head of the axial attention as a function of its row: the projection, the norm over the head's lanes, and the rotation
  of each pair of lanes. A head's 128 lanes are two axes of two halves of 32 frequencies.
-/
module

public import Idealize.ShloMosaic.Lib.Pointwise
public import Idealize.ShloMosaic.Lib.ValueIdx

@[expose] public section

noncomputable section

namespace Cert.Rotary

open Idealize.ShloMosaic

/-- The lane of axis `a`, half `p` and frequency `n`. -/
def slot (a p : Fin 2) (n : Fin 32) : Fin 128 := ⟨64 * a.val + 32 * p.val + n.val, by omega⟩
theorem exists_slot (l : Fin 128) : ∃ a p n, l = slot a p n :=
  ⟨⟨l.val / 64, by omega⟩, ⟨l.val / 32 % 2, by omega⟩, ⟨l.val % 32, by omega⟩, Fin.ext (by show l.val = 64 * (l.val / 64) + 32 * (l.val / 32 % 2) + l.val % 32; omega)⟩

/-- A row projected to a head's lanes. -/
def laneAt (x : Fin 2048 → EReal) (w : Fin 2048 → Fin 128 → EReal) (l : Fin 128) : EReal := ∑ d : Fin 2048, x d * w d l

/-- A head's lanes normalised and scaled by a gain. -/
def normAt (y g : Fin 128 → EReal) (l : Fin 128) : EReal :=
  y l * Ideal.rsqrt (Ideal.div (∑ k : Fin 128, y k * y k) (Ideal.ofBits .f32 0x43000000#32) + Ideal.ofBits .f32 0x358637BD#32) * g l

/-- The two halves of an axis rotated by its angles, whose cosines are `c` and sines `s`. -/
def turnAt (z : Fin 128 → EReal) (c s : Fin 2 → Fin 32 → EReal) (a p : Fin 2) (n : Fin 32) : EReal :=
  if p = 0 then z (slot a 0 n) * c a n - z (slot a 1 n) * s a n else z (slot a 1 n) * c a n + z (slot a 0 n) * s a n

/-- Lane tables as the kernel reads them: the cosine on both halves, the sine negated on the first. -/
def signed (s : Fin 2 → Fin 32 → EReal) (a p : Fin 2) (n : Fin 32) : EReal := if p = 0 then - s a n else s a n

/-- The other half's lane. -/
def other (p : Fin 2) : Fin 2 := if p = 0 then 1 else 0

/-- With those tables one product-sum gives both halves. -/
theorem turnAt_eq (z : Fin 128 → EReal) (c s : Fin 2 → Fin 32 → EReal) (a p : Fin 2) (n : Fin 32) :
    z (slot a p n) * c a n + z (slot a (other p) n) * signed s a p n = turnAt z c s a p n := by
  unfold turnAt signed other
  match p with
  | 0 => simp only [if_true, mul_neg, sub_eq_add_neg]
  | 1 => simp only [show ((1 : Fin 2) = 0) = False by decide, if_false]

/-- A head's lane, projected, normalised and rotated. -/
def headAt (x : Fin 2048 → EReal) (w : Fin 2048 → Fin 128 → EReal) (g : Fin 128 → EReal) (c s : Fin 2 → Fin 32 → EReal) (a p : Fin 2) (n : Fin 32) : EReal :=
  turnAt (normAt (laneAt x w) g) c s a p n

end Cert.Rotary

end
-- ==== Proof.Axial.Payloads.lean ====
/-
  What one grid point of the axial heads' projection computes for a head, entry by entry.
-/
module

public import proofs.«01_k».proof.Proof.Gen.AxialIdeal.Skeleton
public import proofs.«01_k».proof.Proof.Axial.Row
public import Idealize.ShloMosaic.Lib.KernelVsHost

@[expose] public section

set_option maxRecDepth 16384

noncomputable section

namespace Cert.Rotary

open Cert.AxialIdeal Cert.AxialIdeal.Gen Idealize.ShloMosaic

theorem slicesHalf : ∀ b : Fin 2, S512x256.Slices ![0, 128 * b.val] S512x128 := by decide

section AnyFloat
variable {F : FTy → Type} [FloatOps F]

/-- The rows projected to two heads' lanes. -/
def pairBlock (x : Vec F S1x512x2048 .bf16) (w : Vec F S2048x256 .bf16) : FVec F S512x256 .f32 := k0_pay10 x w
/-- One of the two heads. -/
def halfBlock (y : FVec F S512x256 .f32) (b : Fin 2) : FVec F S512x128 .f32 := extractStridedSlice S512x128 ![0, 128 * b.val] y (slicesHalf b)
/-- A head normalised and scaled by a gain. -/
def normBlock (y : FVec F S512x128 .f32) (g : Vec F S1x128 .f32) : FVec F S512x128 .f32 :=
  mulf (mulf y (broadcastTo S512x128 (rsqrt (addf (divf (shapeCast S512x1 (multiReduction .add [1] S512 (mulf y y) 0x00000000#32 reduces_S512x128_S512 (.inl rfl) rfl) shapeCasts_S512_S512x1)
    (broadcast S512x1 (Scalar.ofBits .f32 0x43000000#32))) (broadcast S512x1 (Scalar.ofBits .f32 0x358637BD#32)))) broadcasts_S512x1_S512x128))
    (broadcastTo S512x128 (shapeCast S1x128 g shapeCasts_S1x128_S1x128) broadcasts_S1x128_S512x128)
/-- Every lane replaced by the other half's. -/
def swapBlock (z : FVec F S512x128 .f32) : FVec F S512x128 .f32 :=
  select (broadcastTo S512x128 (shapeCast S1x128 k0_pay7 shapeCasts_S1x128_S1x128) broadcasts_S1x128_S512x128)
    (dynamicRotate 1 96#32 none z rotates_S512x128_d1) (dynamicRotate 1 32#32 none z rotates_S512x128_d1)
/-- A head rotated. -/
def turnBlock (z : FVec F S512x128 .f32) (c s : Vec F S512x128 .f32) : FVec F S512x128 .f32 :=
  addf (mulf z (shapeCast S512x128 c shapeCasts_S512x128_S512x128)) (mulf (swapBlock z) (shapeCast S512x128 s shapeCasts_S512x128_S512x128))
/-- A head's queries, its keys and its values, as they are stored. -/
def queryPlane (z : FVec F S512x128 .f32) : FVec F S1x1x512x128 .f32 := shapeCast S1x1x512x128 z shapeCasts_S512x128_S1x1x512x128
def keyPlane (z : FVec F S512x128 .f32) : FVec F S1x1x512x128 .bf16 := shapeCast S1x1x512x128 (truncf .bf16 z bitsLt_bf16_f32) shapeCasts_S512x128_S1x1x512x128
def valuePlane (z : FVec F S512x128 .f32) : FVec F S1x1x128x512 .bf16 :=
  shapeCast S1x1x128x512 (truncf .bf16 (transpose S128x512 [1, 0] z transposes_S512x128_p1_0_S128x512) bitsLt_bf16_f32) shapeCasts_S128x512_S1x1x128x512
end AnyFloat

/-- The lanes of the first half. -/
theorem mask_apply : ∀ (a p : Fin 2) (n : Fin 32), k0_pay7 (ix2 0 (slot a p n)) = if p = 0 then 1#1 else 0#1 := by decide +kernel

theorem half_apply (x : FVec Ideal S1x512x2048 .bf16) (w : FVec Ideal S2048x256 .bf16) (b : Fin 2) (r : Fin 512) (l : Fin 128) :
    halfBlock (F := Ideal) (pairBlock x w) b (ix2 r l) = laneAt (fun d => x (ix3 0 r d)) (fun d l => w (ix2 d ⟨128 * b.val + l.val, by omega⟩)) l := by
  have h : ∀ f : Fin 256, pairBlock (F := Ideal) x w (ix2 r f) = ∑ d : Fin 2048, x (ix3 0 r d) * w (ix2 d f) := fun f => by
    unfold pairBlock k0_pay10 k0_pay4
    pointwise
  unfold laneAt
  rw [← h]
  unfold halfBlock
  pointwise
  all_goals exact congrArg (fun a => pairBlock (F := Ideal) x w (ix2 r a)) (Fin.ext rfl)

theorem norm_apply (y : FVec Ideal S512x128 .f32) (g : FVec Ideal S1x128 .f32) (r : Fin 512) (l : Fin 128) :
    normBlock (F := Ideal) y g (ix2 r l) = normAt (fun k => y (ix2 r k)) (fun k => g (ix2 0 k)) l := by
  unfold normBlock normAt
  pointwise

theorem mask_block (r : Fin 512) (a p : Fin 2) (n : Fin 32) :
    broadcastTo S512x128 (shapeCast S1x128 k0_pay7 shapeCasts_S1x128_S1x128) broadcasts_S1x128_S512x128 (ix2 r (slot a p n)) = if p = 0 then 1#1 else 0#1 := by
  rw [← mask_apply a p n]
  generalize k0_pay7 = k
  pointwise

theorem swap_first (z : FVec Ideal S512x128 .f32) (r : Fin 512) (a : Fin 2) (n : Fin 32) :
    swapBlock (F := Ideal) z (ix2 r (slot a 0 n)) = z (ix2 r (slot a 1 n)) := by
  unfold swapBlock
  rw [ValueIdx.select_apply, mask_block, if_pos rfl]
  unfold Scalar.select
  rw [if_pos (by decide)]
  refine dynamicRotate_apply (s := S512x128) 1 96#32 z _ _ _ fun b => ?_
  match b with
  | 0 => rfl
  | 1 => show 64 * a.val + 32 * 1 + n.val = (64 * a.val + 32 * 0 + n.val + 128 - 96 % 128) % 128; omega

theorem swap_second (z : FVec Ideal S512x128 .f32) (r : Fin 512) (a : Fin 2) (n : Fin 32) :
    swapBlock (F := Ideal) z (ix2 r (slot a 1 n)) = z (ix2 r (slot a 0 n)) := by
  unfold swapBlock
  rw [ValueIdx.select_apply, mask_block, if_neg (by decide)]
  unfold Scalar.select
  rw [if_neg (by decide)]
  refine dynamicRotate_apply (s := S512x128) 1 32#32 z _ _ _ fun b => ?_
  match b with
  | 0 => rfl
  | 1 => show 64 * a.val + 32 * 0 + n.val = (64 * a.val + 32 * 1 + n.val + 128 - 32 % 128) % 128; omega

theorem swap_apply (z : FVec Ideal S512x128 .f32) (r : Fin 512) (a p : Fin 2) (n : Fin 32) :
    swapBlock (F := Ideal) z (ix2 r (slot a p n)) = z (ix2 r (slot a (other p) n)) :=
  match p with
  | 0 => swap_first z r a n
  | 1 => swap_second z r a n

theorem turn_apply (z : FVec Ideal S512x128 .f32) (c s : FVec Ideal S512x128 .f32) (r : Fin 512) (l : Fin 128) :
    turnBlock (F := Ideal) z c s (ix2 r l) = z (ix2 r l) * c (ix2 r l) + swapBlock (F := Ideal) z (ix2 r l) * s (ix2 r l) := by
  unfold turnBlock
  generalize swapBlock (F := Ideal) z = y
  pointwise

theorem queryPlane_apply (z : FVec Ideal S512x128 .f32) (r : Fin 512) (l : Fin 128) : queryPlane (F := Ideal) z (ix4 0 0 r l) = z (ix2 r l) := by
  unfold queryPlane; pointwise
theorem keyPlane_apply (z : FVec Ideal S512x128 .f32) (r : Fin 512) (l : Fin 128) : keyPlane (F := Ideal) z (ix4 0 0 r l) = z (ix2 r l) := by
  unfold keyPlane; pointwise
theorem valuePlane_apply (z : FVec Ideal S512x128 .f32) (r : Fin 512) (l : Fin 128) : valuePlane (F := Ideal) z (ix4 0 0 l r) = z (ix2 r l) := by
  unfold valuePlane; pointwise

end Cert.Rotary

end
-- ==== Proof.Axial.Block.lean ====
/-
  The three blocks one grid point of the axial heads' projection leaves, entry by entry: the rotated queries of eight heads,
  the rotated keys of two and their values, the values with positions innermost.
-/
module

public import proofs.«01_k».proof.Proof.Gen.AxialIdeal.Value
public import proofs.«01_k».proof.Proof.Axial.Payloads
public import Idealize.ShloMosaic.Lib.Pipeline.ValueKit.Basic

@[expose] public section

set_option maxRecDepth 16384

noncomputable section

namespace Cert.Rotary

open Cert.AxialIdeal Cert.AxialIdeal.Gen Idealize.ShloMosaic

theorem inbCols (k : Fin 6) : ∀ a : Fin 2, (![0, 256 * k.val] : Fin 2 → Nat) a + S2048x256.size a ≤ S2048x1536.size a := by revert k; decide
theorem inbQuery (h : Fin 8) : ∀ a : Fin 4, (![0, h.val, 0, 0] : Fin 4 → Nat) a + S1x1x512x128.size a ≤ S1x8x512x128.size a := by revert h; decide
theorem inbKey (h : Fin 2) : ∀ a : Fin 4, (![0, h.val, 0, 0] : Fin 4 → Nat) a + S1x1x512x128.size a ≤ S1x2x512x128.size a := by revert h; decide
theorem inbValue (h : Fin 2) : ∀ a : Fin 4, (![0, h.val, 0, 0] : Fin 4 → Nat) a + S1x1x128x512.size a ≤ S1x2x128x512.size a := by revert h; decide

/-- The columns of two heads among the weights, and where a head is stored. -/
abbrev colsRect (k : Fin 6) : Rect S2048x1536 := Rect.unit (s := S2048x1536) ![0, 256 * k.val] S2048x256.size (inbCols k)
abbrev queryRect (h : Fin 8) : Rect S1x8x512x128 := Rect.unit (s := S1x8x512x128) ![0, h.val, 0, 0] S1x1x512x128.size (inbQuery h)
abbrev keyRect (h : Fin 2) : Rect S1x2x512x128 := Rect.unit (s := S1x2x512x128) ![0, h.val, 0, 0] S1x1x512x128.size (inbKey h)
abbrev valueRect (h : Fin 2) : Rect S1x2x128x512 := Rect.unit (s := S1x2x128x512) ![0, h.val, 0, 0] S1x1x128x512.size (inbValue h)

section AnyFloat
variable {F : FTy → Type} [FloatOps F] (x : Vec F S1x512x2048 .bf16) (w : Vec F S2048x1536 .bf16) (g g' : Vec F S1x128 .f32) (c s : Vec F S512x128 .f32)

/-- A head's projection: head `b` of the pair `k`. -/
def headBlock (k : Fin 6) (b : Fin 2) : FVec F S512x128 .f32 := halfBlock (pairBlock x (View.ld w (colsRect k))) b
/-- Query head `h`, rotated. -/
def queryBlock (h : Fin 8) : FVec F S1x1x512x128 .f32 := queryPlane (turnBlock (normBlock (headBlock x w ⟨h.val / 2, by omega⟩ ⟨h.val % 2, by omega⟩) g) c s)
/-- Key head `h`, rotated, and its values. -/
def keyBlock (h : Fin 2) : FVec F S1x1x512x128 .bf16 := keyPlane (turnBlock (normBlock (headBlock x w 4 h) g') c s)
def valueBlock (h : Fin 2) : FVec F S1x1x128x512 .bf16 := valuePlane (headBlock x w 5 h)

/-- What is stored, a head at a time, the last first. -/
def queryPieces : List (View.Piece (Elt F) S1x8x512x128 .f32) := ([7, 6, 5, 4, 3, 2, 1, 0] : List (Fin 8)).map fun h => ⟨queryRect h, queryBlock x w g c s h⟩
def keyPieces : List (View.Piece (Elt F) S1x2x512x128 .bf16) := ([1, 0] : List (Fin 2)).map fun h => ⟨keyRect h, keyBlock x w g' c s h⟩
def valuePieces : List (View.Piece (Elt F) S1x2x128x512 .bf16) := ([1, 0] : List (Fin 2)).map fun h => ⟨valueRect h, valueBlock x w h⟩

/-- The loads other than the weights' are of whole blocks. -/
theorem ld_x : View.ld x r0_0 = x := View.ld_unit_lit _ x (by decide)
theorem ld_g : View.ld g r0_2 = g := View.ld_unit_lit _ g (by decide)
theorem ld_c : View.ld c r0_1 = c := View.ld_unit_lit _ c (by decide)

/-- The stores: the queries, the keys, the values, a head at a time. -/
theorem queries_out : out0_6 x w g g' c s = View.canon (queryPieces x w g c s) := by
  unfold_out out0_6
  rw [ld_x, ld_g, ld_c, ld_c]
  rfl
theorem keys_out : out0_7 x w g g' c s = View.canon (keyPieces x w g' c s) := by
  unfold_out out0_7
  rw [ld_x, ld_g, ld_c, ld_c]
  rfl
theorem values_out : out0_8 x w g g' c s = View.canon (valuePieces x w) := by
  unfold_out out0_8
  rw [ld_x]
  rfl
end AnyFloat

variable (x : FVec Ideal S1x512x2048 .bf16) (w : FVec Ideal S2048x1536 .bf16) (g g' : FVec Ideal S1x128 .f32) (c s : FVec Ideal S512x128 .f32)

/-- A row of a head. -/
def headRow (j : Fin 12) (r : Fin 512) : Fin 128 → EReal := laneAt (fun d => x (ix3 0 r d)) (fun d l => w (ix2 d ⟨128 * j.val + l.val, by omega⟩))

/-- A row of a head normalised and rotated by the row's tables. -/
def spun (y g : Fin 128 → EReal) (c s : Fin 128 → EReal) (a p : Fin 2) (n : Fin 32) : EReal :=
  normAt y g (slot a p n) * c (slot a p n) + normAt y g (slot a (other p) n) * s (slot a p n)

theorem head_apply (k : Fin 6) (b : Fin 2) (j : Fin 12) (hj : j.val = 2 * k.val + b.val) (r : Fin 512) (l : Fin 128) :
    headBlock (F := Ideal) x w k b (ix2 r l) = headRow x w j r l := by
  unfold headBlock headRow
  rw [half_apply]
  refine congrArg (fun u : Fin 2048 → Fin 128 → EReal => laneAt (fun d => x (ix3 0 r d)) u l) (funext fun d => funext fun l => congrArg w (funext fun a => Fin.ext ?_))
  match a with
  | 0 => show 0 + 1 * d.val = d.val; omega
  | 1 => show 256 * k.val + 1 * (128 * b.val + l.val) = 128 * j.val + l.val; omega

theorem turned_apply (k : Fin 6) (b : Fin 2) (j : Fin 12) (hj : j.val = 2 * k.val + b.val) (r : Fin 512) (a p : Fin 2) (n : Fin 32) :
    turnBlock (F := Ideal) (normBlock (F := Ideal) (headBlock (F := Ideal) x w k b) g) c s (ix2 r (slot a p n))
      = spun (headRow x w j r) (fun l => g (ix2 0 l)) (fun l => c (ix2 r l)) (fun l => s (ix2 r l)) a p n := by
  unfold spun
  rw [turn_apply, swap_apply, norm_apply, norm_apply]
  simp only [head_apply x w k b j hj]

/-- The entry of the queries, of the keys and of the values. -/
theorem queries_apply (h : Fin 8) (r : Fin 512) (a p : Fin 2) (n : Fin 32) :
    out0_6 (F := Ideal) x w g g' c s (ix4 0 h r (slot a p n)) = spun (headRow x w ⟨h.val, by omega⟩ r) (fun l => g (ix2 0 l)) (fun l => c (ix2 r l)) (fun l => s (ix2 r l)) a p n := by
  have e : ∀ y : S1x8x512x128.Idx, out0_6 (F := Ideal) x w g g' c s y = (fun y : S1x8x512x128.Idx => queryBlock (F := Ideal) x w g c s (y 1) (ix4 0 0 (y 2) (y 3))) y := fun y => by
    rw [queries_out]
    refine View.canon_apply_of_pieces (Val := Elt Ideal) (fun y : S1x8x512x128.Idx => queryBlock (F := Ideal) x w g c s (y 1) (ix4 0 0 (y 2) (y 3))) (queryPieces (F := Ideal) x w g c s) (fun pc hp => ?_) y (cover0_6 _ _ _ _ _ _ _ _ y)
    obtain ⟨h, -, rfl⟩ := List.mem_map.mp hp
    intro (z : S1x1x512x128.Idx)
    obtain ⟨i, l, rfl⟩ : ∃ (i : Fin 512) (l : Fin 128), z = ix4 0 0 i l :=
      ⟨z 2, z 3, (eq_ix4 z).trans (congrArg₂ (fun a b => ix4 a b (z 2) (z 3)) (Subsingleton.elim (α := Fin 1) _ _) (Subsingleton.elim (α := Fin 1) _ _))⟩
    have h1 : ((queryRect h).emb (ix4 (0 : Fin 1) (0 : Fin 1) i l) : S1x8x512x128.Idx) = ix4 0 h i l := funext fun a => Fin.ext (match a with
      | 0 => rfl
      | 1 => by show h.val + 1 * 0 = h.val; omega
      | 2 => by show 0 + 1 * i.val = i.val; omega
      | 3 => by show 0 + 1 * l.val = l.val; omega)
    show _ = (fun y : S1x8x512x128.Idx => queryBlock (F := Ideal) x w g c s (y 1) (ix4 0 0 (y 2) (y 3))) ((queryRect h).emb (ix4 (0 : Fin 1) (0 : Fin 1) i l))
    rw [h1]
    rfl
  rw [e]
  show queryBlock (F := Ideal) x w g c s h (ix4 0 0 r (slot a p n)) = _
  unfold queryBlock
  rw [queryPlane_apply]
  exact turned_apply x w g c s _ _ _ (by show h.val = 2 * (h.val / 2) + h.val % 2; omega) r a p n

theorem keys_apply (h : Fin 2) (r : Fin 512) (a p : Fin 2) (n : Fin 32) :
    out0_7 (F := Ideal) x w g g' c s (ix4 0 h r (slot a p n)) = spun (headRow x w ⟨8 + h.val, by omega⟩ r) (fun l => g' (ix2 0 l)) (fun l => c (ix2 r l)) (fun l => s (ix2 r l)) a p n := by
  have e : ∀ y : S1x2x512x128.Idx, out0_7 (F := Ideal) x w g g' c s y = (fun y : S1x2x512x128.Idx => keyBlock (F := Ideal) x w g' c s (y 1) (ix4 0 0 (y 2) (y 3))) y := fun y => by
    rw [keys_out]
    refine View.canon_apply_of_pieces (Val := Elt Ideal) (fun y : S1x2x512x128.Idx => keyBlock (F := Ideal) x w g' c s (y 1) (ix4 0 0 (y 2) (y 3))) (keyPieces (F := Ideal) x w g' c s) (fun pc hp => ?_) y (cover0_7 _ _ y)
    obtain ⟨h, -, rfl⟩ := List.mem_map.mp hp
    intro (z : S1x1x512x128.Idx)
    obtain ⟨i, l, rfl⟩ : ∃ (i : Fin 512) (l : Fin 128), z = ix4 0 0 i l :=
      ⟨z 2, z 3, (eq_ix4 z).trans (congrArg₂ (fun a b => ix4 a b (z 2) (z 3)) (Subsingleton.elim (α := Fin 1) _ _) (Subsingleton.elim (α := Fin 1) _ _))⟩
    have h1 : ((keyRect h).emb (ix4 (0 : Fin 1) (0 : Fin 1) i l) : S1x2x512x128.Idx) = ix4 0 h i l := funext fun a => Fin.ext (match a with
      | 0 => rfl
      | 1 => by show h.val + 1 * 0 = h.val; omega
      | 2 => by show 0 + 1 * i.val = i.val; omega
      | 3 => by show 0 + 1 * l.val = l.val; omega)
    show _ = (fun y : S1x2x512x128.Idx => keyBlock (F := Ideal) x w g' c s (y 1) (ix4 0 0 (y 2) (y 3))) ((keyRect h).emb (ix4 (0 : Fin 1) (0 : Fin 1) i l))
    rw [h1]
    rfl
  rw [e]
  show keyBlock (F := Ideal) x w g' c s h (ix4 0 0 r (slot a p n)) = _
  unfold keyBlock
  rw [keyPlane_apply]
  exact turned_apply x w g' c s _ _ _ rfl r a p n

theorem values_apply (h : Fin 2) (r : Fin 512) (l : Fin 128) :
    out0_8 (F := Ideal) x w g g' c s (ix4 0 h l r) = headRow x w ⟨10 + h.val, by omega⟩ r l := by
  have e : ∀ y : S1x2x128x512.Idx, out0_8 (F := Ideal) x w g g' c s y = (fun y : S1x2x128x512.Idx => valueBlock (F := Ideal) x w (y 1) (ix4 0 0 (y 2) (y 3))) y := fun y => by
    rw [values_out]
    refine View.canon_apply_of_pieces (Val := Elt Ideal) (fun y : S1x2x128x512.Idx => valueBlock (F := Ideal) x w (y 1) (ix4 0 0 (y 2) (y 3))) (valuePieces (F := Ideal) x w) (fun pc hp => ?_) y (cover0_8 _ _ y)
    obtain ⟨h, -, rfl⟩ := List.mem_map.mp hp
    intro (z : S1x1x128x512.Idx)
    obtain ⟨l, i, rfl⟩ : ∃ (l : Fin 128) (i : Fin 512), z = ix4 0 0 l i :=
      ⟨z 2, z 3, (eq_ix4 z).trans (congrArg₂ (fun a b => ix4 a b (z 2) (z 3)) (Subsingleton.elim (α := Fin 1) _ _) (Subsingleton.elim (α := Fin 1) _ _))⟩
    have h1 : ((valueRect h).emb (ix4 (0 : Fin 1) (0 : Fin 1) l i) : S1x2x128x512.Idx) = ix4 0 h l i := funext fun a => Fin.ext (match a with
      | 0 => rfl
      | 1 => by show h.val + 1 * 0 = h.val; omega
      | 2 => by show 0 + 1 * l.val = l.val; omega
      | 3 => by show 0 + 1 * i.val = i.val; omega)
    show _ = (fun y : S1x2x128x512.Idx => valueBlock (F := Ideal) x w (y 1) (ix4 0 0 (y 2) (y 3))) ((valueRect h).emb (ix4 (0 : Fin 1) (0 : Fin 1) l i))
    rw [h1]
    rfl
  rw [e]
  show valueBlock (F := Ideal) x w h (ix4 0 0 l r) = _
  unfold valueBlock
  rw [valuePlane_apply]
  exact head_apply x w 5 h _ rfl r l

end Cert.Rotary

end
-- ==== Proof.Axial.Reference.lean ====
/-
  What the reference of the axial heads' projection computes, entry by entry.
-/
module

public import proofs.«01_k».proof.Proof.Gen.ReferenceAxialIdeal.Run
public import proofs.«01_k».proof.Proof.Axial.Row
public import Idealize.ShloMosaic.Lib.ValueIdxRank6

@[expose] public section

set_option maxRecDepth 16384

noncomputable section

namespace Cert.Rotary

open Cert.ReferenceAxialIdeal Cert.ReferenceAxialIdeal.Gen Idealize.ShloMosaic Idealize.ShloMosaic.TcCoe

/-- A head's column among the weights' 10752. -/
def col (j : Fin 12) (l : Fin 128) : Fin 10752 := ⟨128 * j.val + l.val, by omega⟩

section Rows
variable (x : FVec Ideal S2x16384x2048 .f32) (w : FVec Ideal S2048x10752 .f32) (g : FVec Ideal S128 .f32) (c s : FVec Ideal S16384x2x32 .f32)

/-- Head `j` of token `i` of sequence `p`, projected; and rotated. -/
abbrev plainAt (j : Fin 12) (p : Fin 2) (i : Fin 16384) (l : Fin 128) : EReal := laneAt (fun d => x (ix3 p i d)) (fun d l => w (ix2 d (col j l))) l
abbrev spunAt (j : Fin 12) (p : Fin 2) (i : Fin 16384) (a b : Fin 2) (n : Fin 32) : EReal :=
  headAt (fun d => x (ix3 p i d)) (fun d l => w (ix2 d (col j l))) (fun l => g (ix1 l)) (fun a n => c (ix3 i a n)) (fun a n => s (ix3 i a n)) a b n

/-- The projection to all columns. -/
def refAll : FVec Ideal S2x16384x10752 .f32 := Host.dotGeneral dot_S2x16384x2048_S2048x10752_S2x16384x10752_2_0_01_1_n_n none x w

theorem refAll_apply (p : Fin 2) (i : Fin 16384) (f : Fin 10752) : refAll x w (ix3 p i f) = ∑ d : Fin 2048, x (ix3 p i d) * w (ix2 d f) := by
  unfold refAll
  pointwise
end Rows

section Queries

/-- The eight query heads. -/
def refHeads (y : FVec Ideal S2x16384x10752 .f32) : FVec Ideal S2x16384x8x128 .f32 :=
  shapeCast _ (extractStridedSlice S2x16384x1024 ![0, 0, 0] y slices_S2x16384x10752_S2x16384x1024_0_0_0) shapeCasts_S2x16384x1024_S2x16384x8x128
/-- Normalised over their lanes. -/
def refNorm (y : FVec Ideal S2x16384x8x128 .f32) (g : FVec Ideal S128 .f32) : FVec Ideal S2x16384x8x128 .f32 :=
  mulf (mulf y (broadcastInDim S2x16384x8x128 ![0, 1, 2, 3] bcast_S2x16384x8x1_S2x16384x8x128_0_1_2_3 (Host.rsqrt (addf (Host.divf (broadcastInDim S2x16384x8x1 ![0, 1, 2] bcast_S2x16384x8_S2x16384x8x1_0_1_2 (Host.reduceAdd (mulf y y) (constant S_ .f32 0x00000000#32) reducesTo_S2x16384x8x128_S2x16384x8_d3 h_S_)) (broadcastInDim S2x16384x8x1 ![] bcast_S_S2x16384x8x1 (constant S_ .f32 0x43000000#32))) (broadcastInDim S2x16384x8x1 ![] bcast_S_S2x16384x8x1 (constant S_ .f32 0x358637BD#32)))))) (broadcastInDim S2x16384x8x128 ![0, 1, 2, 3] bcast_S1x1x1x128_S2x16384x8x128_0_1_2_3 (broadcastInDim S1x1x1x128 ![3] bcast_S128_S1x1x1x128_3 g))
theorem slicesHalves : ∀ b : Fin 2, S2x16384x8x2x2x32.Slices ![0, 0, 0, 0, b.val, 0] S2x16384x8x2x1x32 := by decide
/-- One half of every axis. -/
def refHalf (z : FVec Ideal S2x16384x8x128 .f32) (b : Fin 2) : FVec Ideal S2x16384x8x2x32 .f32 :=
  shapeCast _ (extractStridedSlice S2x16384x8x2x1x32 ![0, 0, 0, 0, b.val, 0] (shapeCast _ z shapeCasts_S2x16384x8x128_S2x16384x8x2x2x32) (slicesHalves b)) shapeCasts_S2x16384x8x2x1x32_S2x16384x8x2x32
/-- A table for all heads. -/
def refTable (c : FVec Ideal S16384x2x32 .f32) : FVec Ideal S2x16384x8x2x32 .f32 :=
  broadcastInDim S2x16384x8x2x32 ![0, 1, 2, 3, 4] bcast_S1x16384x1x2x32_S2x16384x8x2x32_0_1_2_3_4 (broadcastInDim S1x16384x1x2x32 ![1, 3, 4] bcast_S16384x2x32_S1x16384x1x2x32_1_3_4 c)
/-- Two halves put together. -/
def refJoin (u v : FVec Ideal S2x16384x8x2x32 .f32) : FVec Ideal S2x16384x8x128 .f32 :=
  shapeCast _ (concatenate S2x16384x8x2x2x32 4 [⟨S2x16384x8x2x1x32, (broadcastInDim S2x16384x8x2x1x32 ![0, 1, 2, 3, 5] bcast_S2x16384x8x2x32_S2x16384x8x2x1x32_0_1_2_3_5 u)⟩, ⟨S2x16384x8x2x1x32, (broadcastInDim S2x16384x8x2x1x32 ![0, 1, 2, 3, 5] bcast_S2x16384x8x2x32_S2x16384x8x2x1x32_0_1_2_3_5 v)⟩] concatenates_S2x16384x8x2x1x32_S2x16384x8x2x1x32_S2x16384x8x2x2x32_d4) shapeCasts_S2x16384x8x2x2x32_S2x16384x8x128
/-- The heads rotated, heads before positions. -/
def refTurn (z : FVec Ideal S2x16384x8x128 .f32) (c s : FVec Ideal S16384x2x32 .f32) : FVec Ideal S2x8x16384x128 .f32 :=
  transpose S2x8x16384x128 [0, 2, 1, 3] (refJoin (subf (mulf (refHalf z 0) (refTable c)) (mulf (refHalf z 1) (refTable s))) (addf (mulf (refHalf z 1) (refTable c)) (mulf (refHalf z 0) (refTable s)))) transposes_S2x16384x8x128_S2x8x16384x128_0_2_1_3
/-- The first result. -/
def refQueries (x : FVec Ideal S2x16384x2048 .f32) (w : FVec Ideal S2048x10752 .f32) (g : FVec Ideal S128 .f32) (c s : FVec Ideal S16384x2x32 .f32) : FVec Ideal S2x8x16384x128 .f32 :=
  refTurn (refNorm (refHeads (refAll x w)) g) c s

variable (p : Fin 2) (i : Fin 16384) (h : Fin 8)

theorem refHeads_apply (y : FVec Ideal S2x16384x10752 .f32) (l : Fin 128) : refHeads y (ix4 p i h l) = y (ix3 p i (col ⟨h.val, by omega⟩ l)) := by
  unfold refHeads
  refine (shapeCast_apply _ _ _ (ix3 p i (⟨128 * h.val + l.val, by omega⟩ : Fin 1024)) (by rw [Shape.rowMajor_val_three, Shape.rowMajor_val_four]; show (p.val * 16384 + i.val) * 1024 + (128 * h.val + l.val) = ((p.val * 16384 + i.val) * 8 + h.val) * 128 + l.val; omega)).trans ?_
  exact extractStridedSlice_apply _ _ _ _ _ fun a => match a with
    | 0 => by show p.val = 0 + p.val; omega
    | 1 => by show i.val = 0 + i.val; omega
    | 2 => by show 128 * h.val + l.val = 0 + (128 * h.val + l.val); omega
theorem refNorm_apply (y : FVec Ideal S2x16384x8x128 .f32) (g : FVec Ideal S128 .f32) (l : Fin 128) :
    refNorm y g (ix4 p i h l) = normAt (fun k => y (ix4 p i h k)) (fun k => g (ix1 k)) l := by
  unfold refNorm normAt
  pointwise
theorem refHalf_apply (z : FVec Ideal S2x16384x8x128 .f32) (a b : Fin 2) (n : Fin 32) : refHalf z b (ix5 p i h a n) = z (ix4 p i h (slot a b n)) := by
  unfold refHalf
  refine (shapeCast_apply _ _ _ (ix6 p i h a (0 : Fin 1) n) (by rw [Shape.rowMajor_val_six, Shape.rowMajor_val_five]; show ((((p.val * 16384 + i.val) * 8 + h.val) * 2 + a.val) * 1 + 0) * 32 + n.val = (((p.val * 16384 + i.val) * 8 + h.val) * 2 + a.val) * 32 + n.val; omega)).trans ?_
  refine (extractStridedSlice_apply _ _ _ _ (ix6 p i h a b n) fun q => match q with
    | 0 => by show p.val = 0 + p.val; omega
    | 1 => by show i.val = 0 + i.val; omega
    | 2 => by show h.val = 0 + h.val; omega
    | 3 => by show a.val = 0 + a.val; omega
    | 4 => by show b.val = b.val + 0; omega
    | 5 => by show n.val = 0 + n.val; omega).trans ?_
  exact shapeCast_apply _ _ _ (ix4 p i h (slot a b n)) (by rw [Shape.rowMajor_val_six, Shape.rowMajor_val_four]; show ((p.val * 16384 + i.val) * 8 + h.val) * 128 + (64 * a.val + 32 * b.val + n.val) = ((((p.val * 16384 + i.val) * 8 + h.val) * 2 + a.val) * 2 + b.val) * 32 + n.val; omega)
theorem refTable_apply (c : FVec Ideal S16384x2x32 .f32) (a : Fin 2) (n : Fin 32) : refTable c (ix5 p i h a n) = c (ix3 i a n) := by
  unfold refTable
  pointwise
theorem refJoin_cast (t : FVec Ideal S2x16384x8x2x2x32 .f32) (a b : Fin 2) (n : Fin 32) :
    shapeCast S2x16384x8x128 t shapeCasts_S2x16384x8x2x2x32_S2x16384x8x128 (ix4 p i h (slot a b n)) = t (ix6 p i h a b n) :=
  shapeCast_apply _ _ _ _ (by rw [Shape.rowMajor_val_six, Shape.rowMajor_val_four]; show ((((p.val * 16384 + i.val) * 8 + h.val) * 2 + a.val) * 2 + b.val) * 32 + n.val = ((p.val * 16384 + i.val) * 8 + h.val) * 128 + (64 * a.val + 32 * b.val + n.val); omega)
theorem refSpread_apply (u : FVec Ideal S2x16384x8x2x32 .f32) (a : Fin 2) (n : Fin 32) :
    broadcastInDim S2x16384x8x2x1x32 ![0, 1, 2, 3, 5] bcast_S2x16384x8x2x32_S2x16384x8x2x1x32_0_1_2_3_5 u (ix6 p i h a (0 : Fin 1) n) = u (ix5 p i h a n) := by
  refine congrArg u (funext fun q => Fin.ext ?_)
  match q with
  | 0 => rfl
  | 1 => rfl
  | 2 => rfl
  | 3 => rfl
  | 4 => rfl
theorem refJoin_first (u v : FVec Ideal S2x16384x8x2x32 .f32) (a : Fin 2) (n : Fin 32) : refJoin u v (ix4 p i h (slot a 0 n)) = u (ix5 p i h a n) := by
  unfold refJoin
  rw [refJoin_cast, ← refSpread_apply p i h u a n]
  exact concatenate_pair_apply_left (t := S2x16384x8x2x2x32) (s₁ := S2x16384x8x2x1x32) (s₂ := S2x16384x8x2x1x32) 4 _ _ _ (ix6 p i h a (0 : Fin 2) n) rfl (ix6 p i h a (0 : Fin 1) n) fun d => match d with
    | 0 => rfl
    | 1 => rfl
    | 2 => rfl
    | 3 => rfl
    | 4 => rfl
    | 5 => rfl
theorem refJoin_second (u v : FVec Ideal S2x16384x8x2x32 .f32) (a : Fin 2) (n : Fin 32) : refJoin u v (ix4 p i h (slot a 1 n)) = v (ix5 p i h a n) := by
  unfold refJoin
  rw [refJoin_cast, ← refSpread_apply p i h v a n]
  exact concatenate_pair_apply_right (t := S2x16384x8x2x2x32) (s₁ := S2x16384x8x2x1x32) (s₂ := S2x16384x8x2x1x32) 4 _ _ _ (ix6 p i h a (1 : Fin 2) n) rfl rfl (ix6 p i h a (0 : Fin 1) n) (fun d hd => match d with
    | 0 => rfl
    | 1 => rfl
    | 2 => rfl
    | 3 => rfl
    | 4 => absurd rfl hd
    | 5 => rfl) rfl
theorem refTurn_apply (z : FVec Ideal S2x16384x8x128 .f32) (c s : FVec Ideal S16384x2x32 .f32) (a b : Fin 2) (n : Fin 32) :
    refTurn z c s (ix4 p h i (slot a b n)) = turnAt (fun l => z (ix4 p i h l)) (fun a n => c (ix3 i a n)) (fun a n => s (ix3 i a n)) a b n := by
  have ht : ∀ (t : FVec Ideal S2x16384x8x128 .f32) (l : Fin 128), transpose S2x8x16384x128 [0, 2, 1, 3] t transposes_S2x16384x8x128_S2x8x16384x128_0_2_1_3 (ix4 p h i l) = t (ix4 p i h l) := fun t l => by pointwise
  unfold refTurn turnAt
  rw [ht]
  dsimp only
  match b with
  | 0 =>
    rw [refJoin_first, if_pos rfl, ← refHalf_apply p i h z a 0 n, ← refHalf_apply p i h z a 1 n, ← refTable_apply p i h c, ← refTable_apply p i h s]
    rfl
  | 1 =>
    rw [refJoin_second, if_neg (by decide), ← refHalf_apply p i h z a 0 n, ← refHalf_apply p i h z a 1 n, ← refTable_apply p i h c, ← refTable_apply p i h s]
    rfl
theorem refQueries_apply (x : FVec Ideal S2x16384x2048 .f32) (w : FVec Ideal S2048x10752 .f32) (g : FVec Ideal S128 .f32) (c s : FVec Ideal S16384x2x32 .f32) (a b : Fin 2) (n : Fin 32) :
    refQueries x w g c s (ix4 p h i (slot a b n)) = spunAt x w g c s ⟨h.val, by omega⟩ p i a b n := by
  unfold refQueries spunAt headAt laneAt
  rw [refTurn_apply]
  simp only [refNorm_apply, refHeads_apply, refAll_apply]
end Queries

end Cert.Rotary

end
-- ==== Proof.Axial.ReferenceKeys.lean ====
/-
  What the reference of the axial heads' projection computes for its keys and values, entry
  by entry.
-/
module

public import proofs.«01_k».proof.Proof.Axial.Reference

@[expose] public section

set_option maxRecDepth 16384

noncomputable section

namespace Cert.Rotary

open Cert.ReferenceAxialIdeal Cert.ReferenceAxialIdeal.Gen Idealize.ShloMosaic Idealize.ShloMosaic.TcCoe

/-! The two key heads: the same steps as the queries', on a different number of heads. -/
section Keys

/-- The two key heads. -/
def keyRefHeads (y : FVec Ideal S2x16384x10752 .f32) : FVec Ideal S2x16384x2x128 .f32 :=
  shapeCast _ (extractStridedSlice S2x16384x256 ![0, 0, 1024] y slices_S2x16384x10752_S2x16384x256_0_0_1024) shapeCasts_S2x16384x256_S2x16384x2x128
/-- Normalised over their lanes. -/
def keyRefNorm (y : FVec Ideal S2x16384x2x128 .f32) (g : FVec Ideal S128 .f32) : FVec Ideal S2x16384x2x128 .f32 :=
  mulf (mulf y (broadcastInDim S2x16384x2x128 ![0, 1, 2, 3] bcast_S2x16384x2x1_S2x16384x2x128_0_1_2_3 (Host.rsqrt (addf (Host.divf (broadcastInDim S2x16384x2x1 ![0, 1, 2] bcast_S2x16384x2_S2x16384x2x1_0_1_2 (Host.reduceAdd (mulf y y) (constant S_ .f32 0x00000000#32) reducesTo_S2x16384x2x128_S2x16384x2_d3 h_S_)) (broadcastInDim S2x16384x2x1 ![] bcast_S_S2x16384x2x1 (constant S_ .f32 0x43000000#32))) (broadcastInDim S2x16384x2x1 ![] bcast_S_S2x16384x2x1 (constant S_ .f32 0x358637BD#32)))))) (broadcastInDim S2x16384x2x128 ![0, 1, 2, 3] bcast_S1x1x1x128_S2x16384x2x128_0_1_2_3 (broadcastInDim S1x1x1x128 ![3] bcast_S128_S1x1x1x128_3 g))
theorem slicesKeyHalves : ∀ b : Fin 2, S2x16384x2x2x2x32.Slices ![0, 0, 0, 0, b.val, 0] S2x16384x2x2x1x32 := by decide
/-- One half of every axis. -/
def keyRefHalf (z : FVec Ideal S2x16384x2x128 .f32) (b : Fin 2) : FVec Ideal S2x16384x2x2x32 .f32 :=
  shapeCast _ (extractStridedSlice S2x16384x2x2x1x32 ![0, 0, 0, 0, b.val, 0] (shapeCast _ z shapeCasts_S2x16384x2x128_S2x16384x2x2x2x32) (slicesKeyHalves b)) shapeCasts_S2x16384x2x2x1x32_S2x16384x2x2x32
/-- A table for all heads. -/
def keyRefTable (c : FVec Ideal S16384x2x32 .f32) : FVec Ideal S2x16384x2x2x32 .f32 :=
  broadcastInDim S2x16384x2x2x32 ![0, 1, 2, 3, 4] bcast_S1x16384x1x2x32_S2x16384x2x2x32_0_1_2_3_4 (broadcastInDim S1x16384x1x2x32 ![1, 3, 4] bcast_S16384x2x32_S1x16384x1x2x32_1_3_4 c)
/-- Two halves put together. -/
def keyRefJoin (u v : FVec Ideal S2x16384x2x2x32 .f32) : FVec Ideal S2x16384x2x128 .f32 :=
  shapeCast _ (concatenate S2x16384x2x2x2x32 4 [⟨S2x16384x2x2x1x32, (broadcastInDim S2x16384x2x2x1x32 ![0, 1, 2, 3, 5] bcast_S2x16384x2x2x32_S2x16384x2x2x1x32_0_1_2_3_5 u)⟩, ⟨S2x16384x2x2x1x32, (broadcastInDim S2x16384x2x2x1x32 ![0, 1, 2, 3, 5] bcast_S2x16384x2x2x32_S2x16384x2x2x1x32_0_1_2_3_5 v)⟩] concatenates_S2x16384x2x2x1x32_S2x16384x2x2x1x32_S2x16384x2x2x2x32_d4) shapeCasts_S2x16384x2x2x2x32_S2x16384x2x128
/-- The heads rotated, heads before positions. -/
def keyRefTurn (z : FVec Ideal S2x16384x2x128 .f32) (c s : FVec Ideal S16384x2x32 .f32) : FVec Ideal S2x2x16384x128 .f32 :=
  transpose S2x2x16384x128 [0, 2, 1, 3] (keyRefJoin (subf (mulf (keyRefHalf z 0) (keyRefTable c)) (mulf (keyRefHalf z 1) (keyRefTable s))) (addf (mulf (keyRefHalf z 1) (keyRefTable c)) (mulf (keyRefHalf z 0) (keyRefTable s)))) transposes_S2x16384x2x128_S2x2x16384x128_0_2_1_3
/-- The second result. -/
def refKeys (x : FVec Ideal S2x16384x2048 .f32) (w : FVec Ideal S2048x10752 .f32) (g : FVec Ideal S128 .f32) (c s : FVec Ideal S16384x2x32 .f32) : FVec Ideal S2x2x16384x128 .bf16 :=
  truncf .bf16 (keyRefTurn (keyRefNorm (keyRefHeads (refAll x w)) g) c s) bitsLt_bf16_f32

variable (p : Fin 2) (i : Fin 16384) (h : Fin 2)

theorem keyRefHeads_apply (y : FVec Ideal S2x16384x10752 .f32) (l : Fin 128) : keyRefHeads y (ix4 p i h l) = y (ix3 p i (col ⟨8 + h.val, by omega⟩ l)) := by
  unfold keyRefHeads
  refine (shapeCast_apply _ _ _ (ix3 p i (⟨128 * h.val + l.val, by omega⟩ : Fin 256)) (by rw [Shape.rowMajor_val_three, Shape.rowMajor_val_four]; show (p.val * 16384 + i.val) * 256 + (128 * h.val + l.val) = ((p.val * 16384 + i.val) * 2 + h.val) * 128 + l.val; omega)).trans ?_
  exact extractStridedSlice_apply _ _ _ _ _ fun a => match a with
    | 0 => by show p.val = 0 + p.val; omega
    | 1 => by show i.val = 0 + i.val; omega
    | 2 => by show 128 * (8 + h.val) + l.val = 1024 + (128 * h.val + l.val); omega
theorem keyRefNorm_apply (y : FVec Ideal S2x16384x2x128 .f32) (g : FVec Ideal S128 .f32) (l : Fin 128) :
    keyRefNorm y g (ix4 p i h l) = normAt (fun k => y (ix4 p i h k)) (fun k => g (ix1 k)) l := by
  unfold keyRefNorm normAt
  pointwise
theorem keyRefHalf_apply (z : FVec Ideal S2x16384x2x128 .f32) (a b : Fin 2) (n : Fin 32) : keyRefHalf z b (ix5 p i h a n) = z (ix4 p i h (slot a b n)) := by
  unfold keyRefHalf
  refine (shapeCast_apply _ _ _ (ix6 p i h a (0 : Fin 1) n) (by rw [Shape.rowMajor_val_six, Shape.rowMajor_val_five]; show ((((p.val * 16384 + i.val) * 2 + h.val) * 2 + a.val) * 1 + 0) * 32 + n.val = (((p.val * 16384 + i.val) * 2 + h.val) * 2 + a.val) * 32 + n.val; omega)).trans ?_
  refine (extractStridedSlice_apply _ _ _ _ (ix6 p i h a b n) fun q => match q with
    | 0 => by show p.val = 0 + p.val; omega
    | 1 => by show i.val = 0 + i.val; omega
    | 2 => by show h.val = 0 + h.val; omega
    | 3 => by show a.val = 0 + a.val; omega
    | 4 => by show b.val = b.val + 0; omega
    | 5 => by show n.val = 0 + n.val; omega).trans ?_
  exact shapeCast_apply _ _ _ (ix4 p i h (slot a b n)) (by rw [Shape.rowMajor_val_six, Shape.rowMajor_val_four]; show ((p.val * 16384 + i.val) * 2 + h.val) * 128 + (64 * a.val + 32 * b.val + n.val) = ((((p.val * 16384 + i.val) * 2 + h.val) * 2 + a.val) * 2 + b.val) * 32 + n.val; omega)
theorem keyRefTable_apply (c : FVec Ideal S16384x2x32 .f32) (a : Fin 2) (n : Fin 32) : keyRefTable c (ix5 p i h a n) = c (ix3 i a n) := by
  unfold keyRefTable
  pointwise
theorem keyRefJoin_cast (t : FVec Ideal S2x16384x2x2x2x32 .f32) (a b : Fin 2) (n : Fin 32) :
    shapeCast S2x16384x2x128 t shapeCasts_S2x16384x2x2x2x32_S2x16384x2x128 (ix4 p i h (slot a b n)) = t (ix6 p i h a b n) :=
  shapeCast_apply _ _ _ _ (by rw [Shape.rowMajor_val_six, Shape.rowMajor_val_four]; show ((((p.val * 16384 + i.val) * 2 + h.val) * 2 + a.val) * 2 + b.val) * 32 + n.val = ((p.val * 16384 + i.val) * 2 + h.val) * 128 + (64 * a.val + 32 * b.val + n.val); omega)
theorem keyRefSpread_apply (u : FVec Ideal S2x16384x2x2x32 .f32) (a : Fin 2) (n : Fin 32) :
    broadcastInDim S2x16384x2x2x1x32 ![0, 1, 2, 3, 5] bcast_S2x16384x2x2x32_S2x16384x2x2x1x32_0_1_2_3_5 u (ix6 p i h a (0 : Fin 1) n) = u (ix5 p i h a n) := by
  refine congrArg u (funext fun q => Fin.ext ?_)
  match q with
  | 0 => rfl
  | 1 => rfl
  | 2 => rfl
  | 3 => rfl
  | 4 => rfl
theorem keyRefJoin_first (u v : FVec Ideal S2x16384x2x2x32 .f32) (a : Fin 2) (n : Fin 32) : keyRefJoin u v (ix4 p i h (slot a 0 n)) = u (ix5 p i h a n) := by
  unfold keyRefJoin
  rw [keyRefJoin_cast, ← keyRefSpread_apply p i h u a n]
  exact concatenate_pair_apply_left (t := S2x16384x2x2x2x32) (s₁ := S2x16384x2x2x1x32) (s₂ := S2x16384x2x2x1x32) 4 _ _ _ (ix6 p i h a (0 : Fin 2) n) rfl (ix6 p i h a (0 : Fin 1) n) fun d => match d with
    | 0 => rfl
    | 1 => rfl
    | 2 => rfl
    | 3 => rfl
    | 4 => rfl
    | 5 => rfl
theorem keyRefJoin_second (u v : FVec Ideal S2x16384x2x2x32 .f32) (a : Fin 2) (n : Fin 32) : keyRefJoin u v (ix4 p i h (slot a 1 n)) = v (ix5 p i h a n) := by
  unfold keyRefJoin
  rw [keyRefJoin_cast, ← keyRefSpread_apply p i h v a n]
  exact concatenate_pair_apply_right (t := S2x16384x2x2x2x32) (s₁ := S2x16384x2x2x1x32) (s₂ := S2x16384x2x2x1x32) 4 _ _ _ (ix6 p i h a (1 : Fin 2) n) rfl rfl (ix6 p i h a (0 : Fin 1) n) (fun d hd => match d with
    | 0 => rfl
    | 1 => rfl
    | 2 => rfl
    | 3 => rfl
    | 4 => absurd rfl hd
    | 5 => rfl) rfl
theorem keyRefTurn_apply (z : FVec Ideal S2x16384x2x128 .f32) (c s : FVec Ideal S16384x2x32 .f32) (a b : Fin 2) (n : Fin 32) :
    keyRefTurn z c s (ix4 p h i (slot a b n)) = turnAt (fun l => z (ix4 p i h l)) (fun a n => c (ix3 i a n)) (fun a n => s (ix3 i a n)) a b n := by
  have ht : ∀ (t : FVec Ideal S2x16384x2x128 .f32) (l : Fin 128), transpose S2x2x16384x128 [0, 2, 1, 3] t transposes_S2x16384x2x128_S2x2x16384x128_0_2_1_3 (ix4 p h i l) = t (ix4 p i h l) := fun t l => by pointwise
  unfold keyRefTurn turnAt
  rw [ht]
  dsimp only
  match b with
  | 0 =>
    rw [keyRefJoin_first, if_pos rfl, ← keyRefHalf_apply p i h z a 0 n, ← keyRefHalf_apply p i h z a 1 n, ← keyRefTable_apply p i h c, ← keyRefTable_apply p i h s]
    rfl
  | 1 =>
    rw [keyRefJoin_second, if_neg (by decide), ← keyRefHalf_apply p i h z a 0 n, ← keyRefHalf_apply p i h z a 1 n, ← keyRefTable_apply p i h c, ← keyRefTable_apply p i h s]
    rfl
theorem refKeys_apply (x : FVec Ideal S2x16384x2048 .f32) (w : FVec Ideal S2048x10752 .f32) (g : FVec Ideal S128 .f32) (c s : FVec Ideal S16384x2x32 .f32) (a b : Fin 2) (n : Fin 32) :
    refKeys x w g c s (ix4 p h i (slot a b n)) = spunAt x w g c s ⟨8 + h.val, by omega⟩ p i a b n := by
  have ht : ∀ t : FVec Ideal S2x2x16384x128 .f32, (truncf .bf16 t bitsLt_bf16_f32 : FVec Ideal S2x2x16384x128 .bf16) (ix4 p h i (slot a b n)) = t (ix4 p h i (slot a b n)) := fun t => rfl
  unfold refKeys spunAt headAt laneAt
  rw [ht, keyRefTurn_apply]
  simp only [keyRefNorm_apply, keyRefHeads_apply, refAll_apply]
end Keys

section Values
variable (x : FVec Ideal S2x16384x2048 .f32) (w : FVec Ideal S2048x10752 .f32)

/-- The third result: the values of the two heads, positions innermost. -/
def refValues : FVec Ideal S2x2x128x16384 .bf16 :=
  truncf .bf16 (transpose S2x2x128x16384 [0, 2, 3, 1] (shapeCast _ (extractStridedSlice S2x16384x256 ![0, 0, 1280] (refAll x w) slices_S2x16384x10752_S2x16384x256_0_0_1280) shapeCasts_S2x16384x256_S2x16384x2x128) transposes_S2x16384x2x128_S2x2x128x16384_0_2_3_1) bitsLt_bf16_f32

theorem refValues_apply (p : Fin 2) (h : Fin 2) (l : Fin 128) (i : Fin 16384) : refValues x w (ix4 p h l i) = plainAt x w ⟨10 + h.val, by omega⟩ p i l := by
  have ht : ∀ (t : FVec Ideal S2x16384x2x128 .f32), (truncf .bf16 (transpose S2x2x128x16384 [0, 2, 3, 1] t transposes_S2x16384x2x128_S2x2x128x16384_0_2_3_1) bitsLt_bf16_f32 : FVec Ideal S2x2x128x16384 .bf16) (ix4 p h l i) = t (ix4 p i h l) := fun t => by pointwise
  unfold refValues plainAt laneAt
  rw [ht, ← refAll_apply]
  refine (shapeCast_apply _ _ _ (ix3 p i (⟨128 * h.val + l.val, by omega⟩ : Fin 256)) (by rw [Shape.rowMajor_val_three, Shape.rowMajor_val_four]; show (p.val * 16384 + i.val) * 256 + (128 * h.val + l.val) = ((p.val * 16384 + i.val) * 2 + h.val) * 128 + l.val; omega)).trans ?_
  exact extractStridedSlice_apply _ _ _ _ _ fun a => match a with
    | 0 => by show p.val = 0 + p.val; omega
    | 1 => by show i.val = 0 + i.val; omega
    | 2 => by show 128 * (10 + h.val) + l.val = 1280 + (128 * h.val + l.val); omega
end Values

end Cert.Rotary

end
-- ==== Proof.Axial.Inputs.lean ====
/-
  The blocks a grid point of the axial heads' projection reads, entry by entry, in terms of the call's arguments.
-/
module

public import proofs.«01_k».proof.Proof.Axial.Block
public import proofs.«01_k».proof.Proof.Axial.ReferenceKeys

@[expose] public section

set_option maxRecDepth 16384

noncomputable section

namespace Cert.Rotary

open Cert.AxialIdeal Cert.AxialIdeal.Gen Idealize.ShloMosaic Idealize.ShloMosaic.TcCoe

variable (m : (ℓ : Loc nD τ sig) → Buf (Elt Ideal) ℓ) (c : Dev nD)

/-- The grid point of token block `i` of sequence `p`. -/
def pt (p : Fin 2) (i : Fin 32) : Fin cfg0.N := ⟨32 * p.val + i.val, by show _ < 64; omega⟩
theorem exists_pt (t : Fin cfg0.N) : ∃ p i, t = pt p i :=
  ⟨⟨t.val / 32, by have : t.val < 64 := t.isLt; omega⟩, ⟨t.val % 32, by omega⟩, Fin.ext (by show t.val = 32 * (t.val / 32) + t.val % 32; omega)⟩
theorem idx_x : ∀ p i, win0_0.index (pt p i) = ![p.val, i.val, 0] := by decide +kernel
theorem idx_w : ∀ p i, win0_1.index (pt p i) = ![0, 0] := by decide +kernel
theorem idx_g : ∀ p i, win0_2.index (pt p i) = ![0, 0] := by decide +kernel
theorem idx_g' : ∀ p i, win0_3.index (pt p i) = ![0, 0] := by decide +kernel
theorem idx_c : ∀ p i, win0_4.index (pt p i) = ![i.val, 0] := by decide +kernel
theorem idx_s : ∀ p i, win0_5.index (pt p i) = ![i.val, 0] := by decide +kernel
theorem idx_q : ∀ p i, win0_6.index (pt p i) = ![p.val, 0, i.val, 0] := by decide +kernel
theorem idx_k : ∀ p i, win0_7.index (pt p i) = ![p.val, 0, i.val, 0] := by decide +kernel
theorem idx_v : ∀ p i, win0_8.index (pt p i) = ![p.val, 0, 0, i.val] := by decide +kernel

/-- The six arguments. -/
abbrev argX : FVec Ideal S2x16384x2048 .f32 := m ((c : Thread nD τ).loc main_arg0)
abbrev argW : FVec Ideal S2048x10752 .f32 := m ((c : Thread nD τ).loc main_arg1)
abbrev argG : FVec Ideal S128 .f32 := m ((c : Thread nD τ).loc main_arg2)
abbrev argG' : FVec Ideal S128 .f32 := m ((c : Thread nD τ).loc main_arg3)
abbrev argC : FVec Ideal S16384x2x32 .f32 := m ((c : Thread nD τ).loc main_arg4)
abbrev argS : FVec Ideal S16384x2x32 .f32 := m ((c : Thread nD τ).loc main_arg5)

/-- A lane table from what its first and its second halves hold. -/
def lanes (u v : FVec Ideal S16384x2x32 .f32) : FVec Ideal S16384x128 .f32 :=
  shapeCast S16384x128 (concatenate S16384x2x2x32 2 [⟨S16384x2x1x32, broadcastInDim S16384x2x1x32 ![0, 1, 3] bcast_S16384x2x32_S16384x2x1x32_0_1_3 u⟩,
    ⟨S16384x2x1x32, broadcastInDim S16384x2x1x32 ![0, 1, 3] bcast_S16384x2x32_S16384x2x1x32_0_1_3 v⟩] concatenates_S16384x2x1x32_S16384x2x1x32_S16384x2x2x32_d2) shapeCasts_S16384x2x2x32_S16384x128

theorem V_x : (V m c main_v0 : FVec Ideal S2x16384x2048 .bf16) = argX m c := by rfl
theorem V_w : (V m c main_v1 : FVec Ideal S2048x10752 .bf16) = argW m c := by rfl
theorem V_g : (V m c main_v2 : FVec Ideal S1x128 .f32) = shapeCast S1x128 (argG m c) shapeCasts_S128_S1x128 := by rfl
theorem V_g' : (V m c main_v3 : FVec Ideal S1x128 .f32) = shapeCast S1x128 (argG' m c) shapeCasts_S128_S1x128 := by rfl
theorem V_c : (V m c main_v7 : FVec Ideal S16384x128 .f32) = lanes (argC m c) (argC m c) := by rfl
theorem V_s : (V m c main_v12 : FVec Ideal S16384x128 .f32) = lanes (Host.negf (argS m c)) (argS m c) := by rfl

section Tables
variable (u v : FVec Ideal S16384x2x32 .f32) (i : Fin 16384) (a : Fin 2) (n : Fin 32)

theorem lanes_cast (t : FVec Ideal S16384x2x2x32 .f32) (b : Fin 2) : shapeCast S16384x128 t shapeCasts_S16384x2x2x32_S16384x128 (ix2 i (slot a b n)) = t (ix4 i a b n) :=
  shapeCast_apply _ _ _ _ (by rw [Shape.rowMajor_val_four, Shape.rowMajor_val_two]; show ((i.val * 2 + a.val) * 2 + b.val) * 32 + n.val = i.val * 128 + (64 * a.val + 32 * b.val + n.val); omega)
theorem spread_apply : broadcastInDim S16384x2x1x32 ![0, 1, 3] bcast_S16384x2x32_S16384x2x1x32_0_1_3 u (ix4 i a (0 : Fin 1) n) = u (ix3 i a n) := by pointwise
theorem lanes_first : lanes u v (ix2 i (slot a 0 n)) = u (ix3 i a n) := by
  unfold lanes
  rw [lanes_cast, ← spread_apply u i a n]
  exact concatenate_pair_apply_left (t := S16384x2x2x32) (s₁ := S16384x2x1x32) (s₂ := S16384x2x1x32) 2 _ _ _ (ix4 i a (0 : Fin 2) n) rfl (ix4 i a (0 : Fin 1) n) fun d => match d with
    | 0 => rfl
    | 1 => rfl
    | 2 => rfl
    | 3 => rfl
theorem lanes_second : lanes u v (ix2 i (slot a 1 n)) = v (ix3 i a n) := by
  unfold lanes
  rw [lanes_cast, ← spread_apply v i a n]
  exact concatenate_pair_apply_right (t := S16384x2x2x32) (s₁ := S16384x2x1x32) (s₂ := S16384x2x1x32) 2 _ _ _ (ix4 i a (1 : Fin 2) n) rfl rfl (ix4 i a (0 : Fin 1) n) (fun d hd => match d with
    | 0 => rfl
    | 1 => rfl
    | 2 => absurd rfl hd
    | 3 => rfl) rfl
/-- The cosines' table, and the sines'. -/
theorem cos_apply (b : Fin 2) : lanes u u (ix2 i (slot a b n)) = u (ix3 i a n) :=
  match b with
  | 0 => lanes_first u u i a n
  | 1 => lanes_second u u i a n
theorem sin_apply (b : Fin 2) : lanes (Host.negf u) u (ix2 i (slot a b n)) = signed (fun a n => u (ix3 i a n)) a b n :=
  match b with
  | 0 => lanes_first _ u i a n
  | 1 => lanes_second _ u i a n
theorem gain_lane (g : FVec Ideal S128 .f32) (l : Fin 128) : shapeCast S1x128 g shapeCasts_S128_S1x128 (ix2 0 l) = g (ix1 l) := by pointwise
end Tables

section Blocks
variable (p : Fin 2) (i : Fin 32)

/-- Token `r` of token block `i`. -/
def row (r : Fin 512) : Fin 16384 := ⟨512 * i.val + r.val, by omega⟩
theorem exists_row (n : Fin 16384) : ∃ i r, n = row i r :=
  ⟨⟨n.val / 512, by omega⟩, ⟨n.val % 512, by omega⟩, Fin.ext (Nat.div_add_mod _ _).symm⟩

theorem blk_x (r : Fin 512) (d : Fin 2048) : (iblk m c 0 (pt p i) : FVec Ideal S1x512x2048 .bf16) (ix3 0 r d) = argX m c (ix3 p (row i r) d) := by
  have e := idx_x p i
  unfold iblk
  rw [View.read_apply]
  show (V m c main_v0 : FVec Ideal S2x16384x2048 .bf16) _ = _
  rw [V_x]
  refine congrArg (argX m c) (funext fun a => Fin.ext ?_)
  match a with
  | 0 => show win0_0.index (pt p i) 0 * 1 + 1 * 0 = p.val; rw [e]; show p.val * 1 + 1 * 0 = _; omega
  | 1 => show win0_0.index (pt p i) 1 * 512 + 1 * r.val = 512 * i.val + r.val; rw [e]; show i.val * 512 + 1 * r.val = _; omega
  | 2 => show win0_0.index (pt p i) 2 * 2048 + 1 * d.val = d.val; rw [e]; show 0 * 2048 + 1 * d.val = _; omega
theorem blk_w (d : Fin 2048) (f : Fin 1536) : (iblk m c 1 (pt p i) : FVec Ideal S2048x1536 .bf16) (ix2 d f) = argW m c (ix2 d (⟨f.val, by omega⟩ : Fin 10752)) := by
  have e := idx_w p i
  unfold iblk
  rw [View.read_apply]
  show (V m c main_v1 : FVec Ideal S2048x10752 .bf16) _ = _
  rw [V_w]
  refine congrArg (argW m c) (funext fun a => Fin.ext ?_)
  match a with
  | 0 => show win0_1.index (pt p i) 0 * 2048 + 1 * d.val = d.val; rw [e]; show 0 * 2048 + 1 * d.val = _; omega
  | 1 => show win0_1.index (pt p i) 1 * 1536 + 1 * f.val = f.val; rw [e]; show 0 * 1536 + 1 * f.val = _; omega
theorem blk_g (l : Fin 128) : (iblk m c 2 (pt p i) : FVec Ideal S1x128 .f32) (ix2 0 l) = argG m c (ix1 l) := by
  have e := idx_g p i
  unfold iblk
  rw [View.read_apply]
  show (V m c main_v2 : FVec Ideal S1x128 .f32) _ = _
  rw [V_g, ← gain_lane (argG m c) l]
  refine congrArg (shapeCast S1x128 (argG m c) shapeCasts_S128_S1x128) (funext fun a => Fin.ext ?_)
  match a with
  | 0 => show win0_2.index (pt p i) 0 * 1 + 1 * 0 = 0; rw [e]; rfl
  | 1 => show win0_2.index (pt p i) 1 * 128 + 1 * l.val = l.val; rw [e]; show 0 * 128 + 1 * l.val = _; omega
theorem blk_g' (l : Fin 128) : (iblk m c 3 (pt p i) : FVec Ideal S1x128 .f32) (ix2 0 l) = argG' m c (ix1 l) := by
  have e := idx_g' p i
  unfold iblk
  rw [View.read_apply]
  show (V m c main_v3 : FVec Ideal S1x128 .f32) _ = _
  rw [V_g', ← gain_lane (argG' m c) l]
  refine congrArg (shapeCast S1x128 (argG' m c) shapeCasts_S128_S1x128) (funext fun a => Fin.ext ?_)
  match a with
  | 0 => show win0_3.index (pt p i) 0 * 1 + 1 * 0 = 0; rw [e]; rfl
  | 1 => show win0_3.index (pt p i) 1 * 128 + 1 * l.val = l.val; rw [e]; show 0 * 128 + 1 * l.val = _; omega
theorem blk_c (r : Fin 512) (a b : Fin 2) (n : Fin 32) : (iblk m c 4 (pt p i) : FVec Ideal S512x128 .f32) (ix2 r (slot a b n)) = argC m c (ix3 (row i r) a n) := by
  have e := idx_c p i
  unfold iblk
  rw [View.read_apply]
  show (V m c main_v7 : FVec Ideal S16384x128 .f32) _ = _
  rw [V_c, ← cos_apply (argC m c) (row i r) a n b]
  refine congrArg (lanes (argC m c) (argC m c)) (funext fun q => Fin.ext ?_)
  match q with
  | 0 => show win0_4.index (pt p i) 0 * 512 + 1 * r.val = 512 * i.val + r.val; rw [e]; show i.val * 512 + 1 * r.val = _; omega
  | 1 => show win0_4.index (pt p i) 1 * 128 + 1 * (slot a b n).val = (slot a b n).val; rw [e]; show 0 * 128 + 1 * (slot a b n).val = _; omega
theorem blk_s (r : Fin 512) (a b : Fin 2) (n : Fin 32) : (iblk m c 5 (pt p i) : FVec Ideal S512x128 .f32) (ix2 r (slot a b n)) = signed (fun a n => argS m c (ix3 (row i r) a n)) a b n := by
  have e := idx_s p i
  unfold iblk
  rw [View.read_apply]
  show (V m c main_v12 : FVec Ideal S16384x128 .f32) _ = _
  rw [V_s, ← sin_apply (argS m c) (row i r) a n b]
  refine congrArg (lanes (Host.negf (argS m c)) (argS m c)) (funext fun q => Fin.ext ?_)
  match q with
  | 0 => show win0_5.index (pt p i) 0 * 512 + 1 * r.val = 512 * i.val + r.val; rw [e]; show i.val * 512 + 1 * r.val = _; omega
  | 1 => show win0_5.index (pt p i) 1 * 128 + 1 * (slot a b n).val = (slot a b n).val; rw [e]; show 0 * 128 + 1 * (slot a b n).val = _; omega

/-- A point's head row is the head of that token. -/
theorem headRow_eq (j : Fin 12) (r : Fin 512) :
    headRow (iblk m c 0 (pt p i) : FVec Ideal S1x512x2048 .bf16) (iblk m c 1 (pt p i) : FVec Ideal S2048x1536 .bf16) j r
      = laneAt (fun d => argX m c (ix3 p (row i r) d)) (fun d l => argW m c (ix2 d (col j l))) := by
  unfold headRow
  simp only [blk_x, blk_w]
  rfl

/-- And rotated by the point's tables it is rotated by that token's angles. -/
theorem spun_eq (g : FVec Ideal S128 .f32) (y : Fin 128 → EReal) (r : Fin 512) (a b : Fin 2) (n : Fin 32) :
    spun y (fun l => g (ix1 l)) (fun l => (iblk m c 4 (pt p i) : FVec Ideal S512x128 .f32) (ix2 r l)) (fun l => (iblk m c 5 (pt p i) : FVec Ideal S512x128 .f32) (ix2 r l)) a b n
      = turnAt (normAt y (fun l => g (ix1 l))) (fun a n => argC m c (ix3 (row i r) a n)) (fun a n => argS m c (ix3 (row i r) a n)) a b n := by
  unfold spun
  dsimp only
  rw [blk_c, blk_s]
  exact turnAt_eq _ (fun a n => argC m c (ix3 (row i r) a n)) (fun a n => argS m c (ix3 (row i r) a n)) a b n

/-- So a point's query head, and its key head, are that token's. -/
theorem query_eq (j : Fin 12) (r : Fin 512) (a b : Fin 2) (n : Fin 32) :
    spun (headRow (iblk m c 0 (pt p i) : FVec Ideal S1x512x2048 .bf16) (iblk m c 1 (pt p i) : FVec Ideal S2048x1536 .bf16) j r)
        (fun l => (iblk m c 2 (pt p i) : FVec Ideal S1x128 .f32) (ix2 0 l))
        (fun l => (iblk m c 4 (pt p i) : FVec Ideal S512x128 .f32) (ix2 r l)) (fun l => (iblk m c 5 (pt p i) : FVec Ideal S512x128 .f32) (ix2 r l)) a b n
      = spunAt (argX m c) (argW m c) (argG m c) (argC m c) (argS m c) j p (row i r) a b n := by
  rw [headRow_eq, funext (blk_g m c p i)]
  exact spun_eq m c p i (argG m c) _ r a b n
theorem key_eq (j : Fin 12) (r : Fin 512) (a b : Fin 2) (n : Fin 32) :
    spun (headRow (iblk m c 0 (pt p i) : FVec Ideal S1x512x2048 .bf16) (iblk m c 1 (pt p i) : FVec Ideal S2048x1536 .bf16) j r)
        (fun l => (iblk m c 3 (pt p i) : FVec Ideal S1x128 .f32) (ix2 0 l))
        (fun l => (iblk m c 4 (pt p i) : FVec Ideal S512x128 .f32) (ix2 r l)) (fun l => (iblk m c 5 (pt p i) : FVec Ideal S512x128 .f32) (ix2 r l)) a b n
      = spunAt (argX m c) (argW m c) (argG' m c) (argC m c) (argS m c) j p (row i r) a b n := by
  rw [headRow_eq, funext (blk_g' m c p i)]
  exact spun_eq m c p i (argG' m c) _ r a b n
theorem value_eq (j : Fin 12) (r : Fin 512) (l : Fin 128) :
    headRow (iblk m c 0 (pt p i) : FVec Ideal S1x512x2048 .bf16) (iblk m c 1 (pt p i) : FVec Ideal S2048x1536 .bf16) j r l
      = plainAt (argX m c) (argW m c) j p (row i r) l := by
  rw [headRow_eq]

theorem emb_queries (h : Fin 8) (r : Fin 512) (l : Fin 128) : ((cfg0.win 6).blk (pt p i)).view.emb (ix4 (0 : Fin 1) h r l) = (ix4 p h (row i r) l : S2x8x16384x128.Idx) := by
  have e := idx_q p i
  refine funext fun a => Fin.ext ?_
  match a with
  | 0 => show win0_6.index (pt p i) 0 * 1 + 1 * 0 = p.val; rw [e]; show p.val * 1 + 1 * 0 = _; omega
  | 1 => show win0_6.index (pt p i) 1 * 8 + 1 * h.val = h.val; rw [e]; show 0 * 8 + 1 * h.val = _; omega
  | 2 => show win0_6.index (pt p i) 2 * 512 + 1 * r.val = 512 * i.val + r.val; rw [e]; show i.val * 512 + 1 * r.val = _; omega
  | 3 => show win0_6.index (pt p i) 3 * 128 + 1 * l.val = l.val; rw [e]; show 0 * 128 + 1 * l.val = _; omega
theorem emb_keys (h : Fin 2) (r : Fin 512) (l : Fin 128) : ((cfg0.win 7).blk (pt p i)).view.emb (ix4 (0 : Fin 1) h r l) = (ix4 p h (row i r) l : S2x2x16384x128.Idx) := by
  have e := idx_k p i
  refine funext fun a => Fin.ext ?_
  match a with
  | 0 => show win0_7.index (pt p i) 0 * 1 + 1 * 0 = p.val; rw [e]; show p.val * 1 + 1 * 0 = _; omega
  | 1 => show win0_7.index (pt p i) 1 * 2 + 1 * h.val = h.val; rw [e]; show 0 * 2 + 1 * h.val = _; omega
  | 2 => show win0_7.index (pt p i) 2 * 512 + 1 * r.val = 512 * i.val + r.val; rw [e]; show i.val * 512 + 1 * r.val = _; omega
  | 3 => show win0_7.index (pt p i) 3 * 128 + 1 * l.val = l.val; rw [e]; show 0 * 128 + 1 * l.val = _; omega
theorem emb_values (h : Fin 2) (r : Fin 512) (l : Fin 128) : ((cfg0.win 8).blk (pt p i)).view.emb (ix4 (0 : Fin 1) h l r) = (ix4 p h l (row i r) : S2x2x128x16384.Idx) := by
  have e := idx_v p i
  refine funext fun a => Fin.ext ?_
  match a with
  | 0 => show win0_8.index (pt p i) 0 * 1 + 1 * 0 = p.val; rw [e]; show p.val * 1 + 1 * 0 = _; omega
  | 1 => show win0_8.index (pt p i) 1 * 2 + 1 * h.val = h.val; rw [e]; show 0 * 2 + 1 * h.val = _; omega
  | 2 => show win0_8.index (pt p i) 2 * 128 + 1 * l.val = l.val; rw [e]; show 0 * 128 + 1 * l.val = _; omega
  | 3 => show win0_8.index (pt p i) 3 * 512 + 1 * r.val = 512 * i.val + r.val; rw [e]; show i.val * 512 + 1 * r.val = _; omega
end Blocks

end Cert.Rotary

end
-- ==== Proof.Axial.Array.lean ====
/-
  What the axial heads' projection leaves in its three result arrays, entry by entry, in terms of the call's arguments.
-/
module

public import proofs.«01_k».proof.Proof.Axial.Inputs

@[expose] public section

set_option maxRecDepth 16384

noncomputable section

namespace Cert.Rotary

open Cert.AxialIdeal Cert.AxialIdeal.Gen Idealize.ShloMosaic Idealize.ShloMosaic.TcCoe

variable (m : (ℓ : Loc nD τ sig) → Buf (Elt Ideal) ℓ) (c : Dev nD)

/-- The three results: they are the reference's. -/
def queries : FVec Ideal S2x8x16384x128 .f32 := refQueries (argX m c) (argW m c) (argG m c) (argC m c) (argS m c)
def keys : FVec Ideal S2x2x16384x128 .bf16 := refKeys (argX m c) (argW m c) (argG' m c) (argC m c) (argS m c)
def values : FVec Ideal S2x2x128x16384 .bf16 := refValues (argX m c) (argW m c)

theorem queries_at (p : Fin 2) (h : Fin 8) (k : Fin 16384) (a b : Fin 2) (n : Fin 32) :
    queries m c (ix4 p h k (slot a b n)) = spunAt (argX m c) (argW m c) (argG m c) (argC m c) (argS m c) ⟨h.val, by omega⟩ p k a b n :=
  refQueries_apply p k h (argX m c) (argW m c) (argG m c) (argC m c) (argS m c) a b n
theorem keys_at (p : Fin 2) (h : Fin 2) (k : Fin 16384) (a b : Fin 2) (n : Fin 32) :
    keys m c (ix4 p h k (slot a b n)) = spunAt (argX m c) (argW m c) (argG' m c) (argC m c) (argS m c) ⟨8 + h.val, by omega⟩ p k a b n :=
  refKeys_apply p k h (argX m c) (argW m c) (argG' m c) (argC m c) (argS m c) a b n
theorem values_at (p : Fin 2) (h : Fin 2) (l : Fin 128) (k : Fin 16384) :
    values m c (ix4 p h l k) = plainAt (argX m c) (argW m c) ⟨10 + h.val, by omega⟩ p k l :=
  refValues_apply (argX m c) (argW m c) p h l k

/-- A whole block is written back as it is. -/
theorem cut_queries (t : Fin cfg0.N) (o : FVec Ideal S1x8x512x128 .f32) (y : S1x8x512x128.Idx) : (cfg0.win 6).cut (grid0.coords t) o y = o y := rfl
theorem cut_keys (t : Fin cfg0.N) (o : FVec Ideal S1x2x512x128 .bf16) (y : S1x2x512x128.Idx) : (cfg0.win 7).cut (grid0.coords t) o y = o y := rfl
theorem cut_values (t : Fin cfg0.N) (o : FVec Ideal S1x2x128x512 .bf16) (y : S1x2x128x512.Idx) : (cfg0.win 8).cut (grid0.coords t) o y = o y := rfl

theorem array_queries : ((dats m 0 c).arrAt 6 cfg0.N : FVec Ideal S2x8x16384x128 .f32) = queries m c := by
  refine (dats m 0 c).arrAt_eq_of_cover 6 (queries m c) (fun t ht => ?_) (fun z => ?_)
  · obtain ⟨p, i, rfl⟩ := exists_pt t
    refine (Value.flushed6 m c (pt p i)).trans ?_
    funext (y : S1x8x512x128.Idx)
    obtain ⟨h, r, l, rfl⟩ : ∃ (h : Fin 8) (r : Fin 512) (l : Fin 128), y = ix4 0 h r l :=
      ⟨y 1, y 2, y 3, (eq_ix4 y).trans (congrArg (fun a => ix4 a (y 1) (y 2) (y 3)) (Subsingleton.elim (α := Fin 1) _ _))⟩
    obtain ⟨a, b, n, rfl⟩ := exists_slot l
    rw [View.read_apply, emb_queries]
    refine (cut_queries (pt p i) _ _).trans ?_
    rw [queries_at, queries_apply, query_eq]
    exact (cast_eq _ _).symm
  · obtain ⟨p, h, k, l, rfl⟩ : ∃ (p : Fin 2) (h : Fin 8) (k : Fin 16384) (l : Fin 128), z = ix4 p h k l := ⟨z 0, z 1, z 2, z 3, eq_ix4 (z : S2x8x16384x128.Idx)⟩
    obtain ⟨i, r, rfl⟩ := exists_row k
    exact ⟨pt p i, flush0_6 _, emb_queries p i h r l ▸ ((cfg0.win 6).blk (pt p i)).view.emb_mem_set (ix4 (0 : Fin 1) h r l : S1x8x512x128.Idx)⟩

theorem array_keys : ((dats m 0 c).arrAt 7 cfg0.N : FVec Ideal S2x2x16384x128 .bf16) = keys m c := by
  refine (dats m 0 c).arrAt_eq_of_cover 7 (keys m c) (fun t ht => ?_) (fun z => ?_)
  · obtain ⟨p, i, rfl⟩ := exists_pt t
    refine (Value.flushed7 m c (pt p i)).trans ?_
    funext (y : S1x2x512x128.Idx)
    obtain ⟨h, r, l, rfl⟩ : ∃ (h : Fin 2) (r : Fin 512) (l : Fin 128), y = ix4 0 h r l :=
      ⟨y 1, y 2, y 3, (eq_ix4 y).trans (congrArg (fun a => ix4 a (y 1) (y 2) (y 3)) (Subsingleton.elim (α := Fin 1) _ _))⟩
    obtain ⟨a, b, n, rfl⟩ := exists_slot l
    rw [View.read_apply, emb_keys]
    refine (cut_keys (pt p i) _ _).trans ?_
    rw [keys_at, keys_apply, key_eq]
    exact (cast_eq _ _).symm
  · obtain ⟨p, h, k, l, rfl⟩ : ∃ (p : Fin 2) (h : Fin 2) (k : Fin 16384) (l : Fin 128), z = ix4 p h k l := ⟨z 0, z 1, z 2, z 3, eq_ix4 (z : S2x2x16384x128.Idx)⟩
    obtain ⟨i, r, rfl⟩ := exists_row k
    exact ⟨pt p i, flush0_7 _, emb_keys p i h r l ▸ ((cfg0.win 7).blk (pt p i)).view.emb_mem_set (ix4 (0 : Fin 1) h r l : S1x2x512x128.Idx)⟩

theorem array_values : ((dats m 0 c).arrAt 8 cfg0.N : FVec Ideal S2x2x128x16384 .bf16) = values m c := by
  refine (dats m 0 c).arrAt_eq_of_cover 8 (values m c) (fun t ht => ?_) (fun z => ?_)
  · obtain ⟨p, i, rfl⟩ := exists_pt t
    refine (Value.flushed8 m c (pt p i)).trans ?_
    funext (y : S1x2x128x512.Idx)
    obtain ⟨h, l, r, rfl⟩ : ∃ (h : Fin 2) (l : Fin 128) (r : Fin 512), y = ix4 0 h l r :=
      ⟨y 1, y 2, y 3, (eq_ix4 y).trans (congrArg (fun a => ix4 a (y 1) (y 2) (y 3)) (Subsingleton.elim (α := Fin 1) _ _))⟩
    rw [View.read_apply, emb_values]
    refine (cut_values (pt p i) _ _).trans ?_
    rw [values_at, values_apply, value_eq]
    exact (cast_eq _ _).symm
  · obtain ⟨p, h, l, k, rfl⟩ : ∃ (p : Fin 2) (h : Fin 2) (l : Fin 128) (k : Fin 16384), z = ix4 p h l k := ⟨z 0, z 1, z 2, z 3, eq_ix4 (z : S2x2x128x16384.Idx)⟩
    obtain ⟨i, r, rfl⟩ := exists_row k
    exact ⟨pt p i, flush0_8 _, emb_values p i h r l ▸ ((cfg0.win 8).blk (pt p i)).view.emb_mem_set (ix4 (0 : Fin 1) h l r : S1x2x128x512.Idx)⟩

section Results
variable (m' : (ℓ : Loc Cert.ReferenceAxialIdeal.nD Cert.ReferenceAxialIdeal.τ Cert.ReferenceAxialIdeal.sig) → Buf (Elt Ideal) ℓ) (c' : Dev Cert.ReferenceAxialIdeal.nD)

/-- The reference's run leaves these results. -/
theorem res_queries : Cert.ReferenceAxialIdeal.Value.res_main_v75 (F := Ideal) m' c'
    = refQueries (m' ((c' : Thread Cert.ReferenceAxialIdeal.nD Cert.ReferenceAxialIdeal.τ).loc Cert.ReferenceAxialIdeal.main_arg0)) (m' ((c' : Thread Cert.ReferenceAxialIdeal.nD Cert.ReferenceAxialIdeal.τ).loc Cert.ReferenceAxialIdeal.main_arg1))
      (m' ((c' : Thread Cert.ReferenceAxialIdeal.nD Cert.ReferenceAxialIdeal.τ).loc Cert.ReferenceAxialIdeal.main_arg2)) (m' ((c' : Thread Cert.ReferenceAxialIdeal.nD Cert.ReferenceAxialIdeal.τ).loc Cert.ReferenceAxialIdeal.main_arg4))
      (m' ((c' : Thread Cert.ReferenceAxialIdeal.nD Cert.ReferenceAxialIdeal.τ).loc Cert.ReferenceAxialIdeal.main_arg5)) := by rfl
theorem res_keys : Cert.ReferenceAxialIdeal.Value.res_main_v77 (F := Ideal) m' c'
    = refKeys (m' ((c' : Thread Cert.ReferenceAxialIdeal.nD Cert.ReferenceAxialIdeal.τ).loc Cert.ReferenceAxialIdeal.main_arg0)) (m' ((c' : Thread Cert.ReferenceAxialIdeal.nD Cert.ReferenceAxialIdeal.τ).loc Cert.ReferenceAxialIdeal.main_arg1))
      (m' ((c' : Thread Cert.ReferenceAxialIdeal.nD Cert.ReferenceAxialIdeal.τ).loc Cert.ReferenceAxialIdeal.main_arg3)) (m' ((c' : Thread Cert.ReferenceAxialIdeal.nD Cert.ReferenceAxialIdeal.τ).loc Cert.ReferenceAxialIdeal.main_arg4))
      (m' ((c' : Thread Cert.ReferenceAxialIdeal.nD Cert.ReferenceAxialIdeal.τ).loc Cert.ReferenceAxialIdeal.main_arg5)) := by rfl
end Results

end Cert.Rotary

end
-- ==== Proof.lean ====
/-
  The calls' frames, the named constants, and the equations of the calls' results with the references'.
-/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Final.Frame
public import proofs.«01_k».proof.Proof.Gen.FinalIdeal.Frame
public import proofs.«01_k».proof.Proof.Gen.FinalIdeal.Value
public import proofs.«01_k».proof.Proof.Gen.ReferenceFinalIdeal.Run
public import proofs.«01_k».proof.Proof.Gen.First.Points
public import proofs.«01_k».proof.Proof.Gen.First.Launch
public import proofs.«01_k».proof.Proof.Gen.First.Skeleton
public import proofs.«01_k».proof.Proof.Gen.FirstIdeal.Points
public import proofs.«01_k».proof.Proof.Gen.FirstIdeal.Launch
public import proofs.«01_k».proof.Proof.Gen.FirstIdeal.Skeleton
public import proofs.«01_k».proof.Proof.Gen.ReferenceFirstIdeal.Run
public import proofs.«01_k».proof.Proof.Gen.Near.Frame
public import proofs.«01_k».proof.Proof.Gen.NearIdeal.Frame
public import proofs.«01_k».proof.Proof.Gen.NearIdeal.Value
public import proofs.«01_k».proof.Proof.Gen.ReferenceNearIdeal.Run
public import proofs.«01_k».proof.Proof.Gen.Middle.Frame
public import proofs.«01_k».proof.Proof.Gen.MiddleIdeal.Frame
public import proofs.«01_k».proof.Proof.Gen.MiddleIdeal.Value
public import proofs.«01_k».proof.Proof.Gen.ReferenceMiddleIdeal.Run
public import proofs.«01_k».proof.Proof.Gen.Far.Frame
public import proofs.«01_k».proof.Proof.Gen.FarIdeal.Frame
public import proofs.«01_k».proof.Proof.Gen.FarIdeal.Value
public import proofs.«01_k».proof.Proof.Gen.ReferenceFarIdeal.Run
public import proofs.«01_k».proof.Proof.Gen.Mid.Frame
public import proofs.«01_k».proof.Proof.Gen.MidIdeal.Frame
public import proofs.«01_k».proof.Proof.Gen.MidIdeal.Value
public import proofs.«01_k».proof.Proof.Gen.ReferenceMidIdeal.Run
public import proofs.«01_k».proof.Proof.Gen.Memory.Frame
public import proofs.«01_k».proof.Proof.Gen.MemoryIdeal.Frame
public import proofs.«01_k».proof.Proof.Gen.MemoryIdeal.Value
public import proofs.«01_k».proof.Proof.Gen.ReferenceMemoryIdeal.Run
public import proofs.«01_k».proof.Proof.Gen.Axial.Frame
public import proofs.«01_k».proof.Proof.Gen.AxialIdeal.Frame
public import proofs.«01_k».proof.Proof.Gen.AxialIdeal.Value
public import proofs.«01_k».proof.Proof.Gen.ReferenceAxialIdeal.Run
public import proofs.«01_k».proof.Proof.Attn.Equation
public import proofs.«01_k».proof.Proof.Attn.Finite
public import proofs.«01_k».proof.Proof.Final.Reference
public import proofs.«01_k».proof.Proof.First.Bits
public import proofs.«01_k».proof.Proof.First.Reference
public import proofs.«01_k».proof.Proof.Proj.NearArray
public import proofs.«01_k».proof.Proof.Proj.MiddleArray
public import proofs.«01_k».proof.Proof.Proj.FarArray
public import proofs.«01_k».proof.Proof.Mid.Array
public import proofs.«01_k».proof.Proof.Memory.Array
public import proofs.«01_k».proof.Proof.Axial.Array

@[expose] public section

noncomputable section

namespace Cert.Proof

open Idealize.ShloMosaic Idealize.ShloMosaic.TcCoe Idealize.SL.Sem

/-- The reference runs to its end, its arguments unchanged. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- On finite queries and keys the attention call and the reference end with the same result. -/
theorem attention_equal : Cert.algebraic_KernelIdeal_ReferenceIdeal_pre_finite_qk := by
  intro m g m' g' hpre hargs
  refine ⟨fun c => Attn.attention (Attn.argQ m c) (Attn.argK m c) (Attn.argV m c), ?_, ?_⟩
  · refine (θ_run Cert.KernelIdeal.defs _ _).mono (fun r h c => ?_) (Cert.KernelIdeal.Value.run_blocks m g)
    obtain ⟨hq, hk⟩ := Attn.finite_of_pre _ _ _ (hpre c)
    exact ⟨(h c).1.trans (Attn.array_eq_attention m c hq hk), (h c).2⟩
  · refine (θ_run Cert.ReferenceIdeal.defs _ _).mono (fun r h c => ?_) (Cert.ReferenceIdeal.Value.run (F := Ideal) m' g')
    obtain ⟨h0, h1, h2⟩ := hargs c
    refine ⟨(h c).1.trans ?_, (h c).2⟩
    rw [h0, h1, h2]
    rfl

/-- The last feed-forward reference runs to its end, its arguments unchanged. -/
theorem reference_final_frame : Cert.quiescent_ReferenceFinalIdeal := fun m ρ _ =>
  (θ_run Cert.ReferenceFinalIdeal.defs _ _).mono
    (fun r h => ⟨fun c => (h c).2, Idealize.ShloMosaic.sem_eq_zero_of_no_sems (by decide) r.2⟩)
    (Cert.ReferenceFinalIdeal.Value.run (F := Ideal) m ρ)

/-- The last feed-forward call and its reference leave equal results. -/
theorem final_equal : Cert.algebraic_FinalIdeal_ReferenceFinalIdeal := by
  intro m g m' g' _ hargs
  refine ⟨fun c => Ffn.result m c, ?_, ?_⟩
  · refine (θ_run Cert.FinalIdeal.defs _ _).mono (fun r h c => ?_) (Cert.FinalIdeal.Value.run_blocks m g)
    exact ⟨(h c).1.trans (Ffn.array_eq m c), (h c).2⟩
  · refine (θ_run Cert.ReferenceFinalIdeal.defs _ _).mono (fun r h c => ?_) (Cert.ReferenceFinalIdeal.Value.run (F := Ideal) m' g')
    obtain ⟨h0, h1, h2, h3, h4, h5⟩ := hargs c
    refine ⟨(h c).1.trans ?_, (h c).2⟩
    rw [h0, h1, h2, h3, h4, h5]
    exact Ffn.refFinal_eq _ _ _ _ _ _

/-- The first feed-forward reference runs to its end, its arguments unchanged. -/
theorem reference_first_frame : Cert.quiescent_ReferenceFirstIdeal := fun m ρ _ =>
  (θ_run Cert.ReferenceFirstIdeal.defs _ _).mono
    (fun r h => ⟨fun c => (h c).2.2, Idealize.ShloMosaic.sem_eq_zero_of_no_sems (by decide) r.2⟩)
    (Cert.ReferenceFirstIdeal.Value.run (F := Ideal) m ρ)

/-- The first feed-forward call and its reference leave equal results, the residual stream and its normalised rows. -/
theorem first_equal : Cert.algebraic_FirstIdeal_ReferenceFirstIdeal := by
  intro m g m' g' _ hargs
  refine ⟨fun c => Ffn1.sums m c, fun c => Ffn1.norms m c, ?_, ?_⟩
  · refine (θ_run Cert.FirstIdeal.defs _ _).mono (fun r h c => ?_) (Ffn1.run_results m g)
    obtain ⟨h0, h1, h2⟩ := h c
    exact ⟨h0.trans (Ffn1.array_sums m c), h1.trans (Ffn1.array_norms m c), h2⟩
  · refine (θ_run Cert.ReferenceFirstIdeal.defs _ _).mono (fun r h c => ?_) (Cert.ReferenceFirstIdeal.Value.run (F := Ideal) m' g')
    obtain ⟨e0, e1, e2, e3, e4, e5⟩ := hargs c
    obtain ⟨h0, h1, h2⟩ := h c
    refine ⟨h0.trans ?_, h1.trans ?_, h2⟩
    · rw [e0, e1, e2, e3, e4]
      exact Ffn1.refFirst_eq _ _ _ _ _
    · unfold Cert.ReferenceFirstIdeal.Value.res_main_v36
      rw [e0, e1, e2, e3, e4, e5]
      exact Ffn1.refSecond_eq _ _ _ _ _ _

/-- The reference of the densest dilated projection runs to its end and leaves its arguments unchanged. -/
theorem reference_near_frame : Cert.quiescent_ReferenceNearIdeal := fun m ρ _ =>
  (θ_run Cert.ReferenceNearIdeal.defs _ _).mono
    (fun r h => ⟨fun c => (h c).2, Idealize.ShloMosaic.sem_eq_zero_of_no_sems (by decide) r.2⟩)
    (Cert.ReferenceNearIdeal.Value.run (F := Ideal) m ρ)

/-- The densest dilated projection and its reference leave equal results. -/
theorem near_equal : Cert.algebraic_NearIdeal_ReferenceNearIdeal := by
  intro m g m' g' _ hargs
  refine ⟨fun c => Proj.Near.result m c, ?_, ?_⟩
  · refine (θ_run Cert.NearIdeal.defs _ _).mono (fun r h c => ?_) (Cert.NearIdeal.Value.run_blocks (F := Ideal) m g)
    exact ⟨(h c).1.trans (Proj.Near.array_eq m c), (h c).2⟩
  · refine (θ_run Cert.ReferenceNearIdeal.defs _ _).mono (fun r h c => ?_) (Cert.ReferenceNearIdeal.Value.run (F := Ideal) m' g')
    obtain ⟨e0, e1⟩ := hargs c
    refine ⟨(h c).1.trans ?_, (h c).2⟩
    rw [e0, e1]
    exact Proj.Near.reference_eq _ _

/-- The reference of the middle dilated projection runs to its end and leaves its arguments unchanged. -/
theorem reference_middle_frame : Cert.quiescent_ReferenceMiddleIdeal := fun m ρ _ =>
  (θ_run Cert.ReferenceMiddleIdeal.defs _ _).mono
    (fun r h => ⟨fun c => (h c).2, Idealize.ShloMosaic.sem_eq_zero_of_no_sems (by decide) r.2⟩)
    (Cert.ReferenceMiddleIdeal.Value.run (F := Ideal) m ρ)

/-- The middle dilated projection and its reference leave equal results. -/
theorem middle_equal : Cert.algebraic_MiddleIdeal_ReferenceMiddleIdeal := by
  intro m g m' g' _ hargs
  refine ⟨fun c => Proj.Middle.result m c, ?_, ?_⟩
  · refine (θ_run Cert.MiddleIdeal.defs _ _).mono (fun r h c => ?_) (Cert.MiddleIdeal.Value.run_blocks (F := Ideal) m g)
    exact ⟨(h c).1.trans (Proj.Middle.array_eq m c), (h c).2⟩
  · refine (θ_run Cert.ReferenceMiddleIdeal.defs _ _).mono (fun r h c => ?_) (Cert.ReferenceMiddleIdeal.Value.run (F := Ideal) m' g')
    obtain ⟨e0, e1⟩ := hargs c
    refine ⟨(h c).1.trans ?_, (h c).2⟩
    rw [e0, e1]
    exact Proj.Middle.reference_eq _ _

/-- The reference of the sparsest dilated projection runs to its end and leaves its arguments unchanged. -/
theorem reference_far_frame : Cert.quiescent_ReferenceFarIdeal := fun m ρ _ =>
  (θ_run Cert.ReferenceFarIdeal.defs _ _).mono
    (fun r h => ⟨fun c => (h c).2, Idealize.ShloMosaic.sem_eq_zero_of_no_sems (by decide) r.2⟩)
    (Cert.ReferenceFarIdeal.Value.run (F := Ideal) m ρ)

/-- The sparsest dilated projection and its reference leave equal results. -/
theorem far_equal : Cert.algebraic_FarIdeal_ReferenceFarIdeal := by
  intro m g m' g' _ hargs
  refine ⟨fun c => Proj.Far.result m c, ?_, ?_⟩
  · refine (θ_run Cert.FarIdeal.defs _ _).mono (fun r h c => ?_) (Cert.FarIdeal.Value.run_blocks (F := Ideal) m g)
    exact ⟨(h c).1.trans (Proj.Far.array_eq m c), (h c).2⟩
  · refine (θ_run Cert.ReferenceFarIdeal.defs _ _).mono (fun r h c => ?_) (Cert.ReferenceFarIdeal.Value.run (F := Ideal) m' g')
    obtain ⟨e0, e1⟩ := hargs c
    refine ⟨(h c).1.trans ?_, (h c).2⟩
    rw [e0, e1]
    exact Proj.Far.reference_eq _ _

/-- The reference of the output projection and memory attention runs to its end and leaves its arguments unchanged. -/
theorem reference_mid_frame : Cert.quiescent_ReferenceMidIdeal := fun m ρ _ =>
  (θ_run Cert.ReferenceMidIdeal.defs _ _).mono
    (fun r h => ⟨fun c => (h c).2.2, Idealize.ShloMosaic.sem_eq_zero_of_no_sems (by decide) r.2⟩)
    (Cert.ReferenceMidIdeal.Value.run (F := Ideal) m ρ)

/-- The output projection and memory attention call and its reference leave equal results, the residual stream and its
    normalised rows. -/
theorem mid_equal : Cert.algebraic_MidIdeal_ReferenceMidIdeal := by
  intro m g m' g' _ hargs
  refine ⟨fun c => Out.first m c, fun c => Out.second m c, ?_, ?_⟩
  · refine (θ_run Cert.MidIdeal.defs _ _).mono (fun r h c => ?_) (Cert.MidIdeal.Value.run_blocks (F := Ideal) m g)
    obtain ⟨h0, h1, h2⟩ := h c
    exact ⟨h0.trans (Out.array_first m c), h1.trans (Out.array_second m c), h2⟩
  · refine (θ_run Cert.ReferenceMidIdeal.defs _ _).mono (fun r h c => ?_) (Cert.ReferenceMidIdeal.Value.run (F := Ideal) m' g')
    obtain ⟨e0, e1, e2, e3, e4, e5, e6, e7, e8, e9⟩ := hargs c
    obtain ⟨h0, h1, h2⟩ := h c
    refine ⟨(h0.trans (Out.res_first m' c)).trans ?_, (h1.trans (Out.res_second m' c)).trans ?_, h2⟩
    · rw [e0, e1, e2, e3, e4, e5, e6, e7, e8]
      exact Out.first_eq m c
    · rw [e0, e1, e2, e3, e4, e5, e6, e7, e8, e9]
      exact Out.second_eq m c

/-- The reference of the memory's keys and values runs to its end and leaves its arguments unchanged. -/
theorem reference_memory_frame : Cert.quiescent_ReferenceMemoryIdeal := fun m ρ _ =>
  (θ_run Cert.ReferenceMemoryIdeal.defs _ _).mono
    (fun r h => ⟨fun c => (h c).2.2, Idealize.ShloMosaic.sem_eq_zero_of_no_sems (by decide) r.2⟩)
    (Cert.ReferenceMemoryIdeal.Value.run (F := Ideal) m ρ)

/-- The call that makes the memory's keys and values and its reference leave equal results. -/
theorem memory_equal : Cert.algebraic_MemoryIdeal_ReferenceMemoryIdeal := by
  intro m g m' g' _ hargs
  refine ⟨fun c => KeyVal.keys m c, fun c => KeyVal.values m c, ?_, ?_⟩
  · refine (θ_run Cert.MemoryIdeal.defs _ _).mono (fun r h c => ?_) (Cert.MemoryIdeal.Value.run_blocks (F := Ideal) m g)
    obtain ⟨h0, h1, h2⟩ := h c
    exact ⟨h0.trans (KeyVal.array_keys m c), h1.trans (KeyVal.array_values m c), h2⟩
  · refine (θ_run Cert.ReferenceMemoryIdeal.defs _ _).mono (fun r h c => ?_) (Cert.ReferenceMemoryIdeal.Value.run (F := Ideal) m' g')
    obtain ⟨e0, e1, e2⟩ := hargs c
    obtain ⟨h0, h1, h2⟩ := h c
    refine ⟨h0.trans ?_, h1.trans ?_, h2⟩
    · rw [e0, e1, e2]
      exact KeyVal.keys_eq m c
    · rw [e0, e1, e2]
      exact KeyVal.values_eq m c

/-- The reference of the axial heads' projection runs to its end and leaves its arguments unchanged. -/
theorem reference_axial_frame : Cert.quiescent_ReferenceAxialIdeal := fun m ρ _ =>
  (θ_run Cert.ReferenceAxialIdeal.defs _ _).mono
    (fun r h => ⟨fun c => (h c).2.2.2, Idealize.ShloMosaic.sem_eq_zero_of_no_sems (by decide) r.2⟩)
    (Cert.ReferenceAxialIdeal.Value.run (F := Ideal) m ρ)

/-- The axial heads' projection and its reference leave equal results: the rotated queries, the rotated keys and the values. -/
theorem axial_equal : Cert.algebraic_AxialIdeal_ReferenceAxialIdeal := by
  intro m g m' g' _ hargs
  refine ⟨fun c => Rotary.queries m c, fun c => Rotary.keys m c, fun c => Rotary.values m c, ?_, ?_⟩
  · refine (θ_run Cert.AxialIdeal.defs _ _).mono (fun r h c => ?_) (Cert.AxialIdeal.Value.run_blocks (F := Ideal) m g)
    obtain ⟨h0, h1, h2, h3⟩ := h c
    exact ⟨h0.trans (Rotary.array_queries m c), h1.trans (Rotary.array_keys m c), h2.trans (Rotary.array_values m c), h3⟩
  · refine (θ_run Cert.ReferenceAxialIdeal.defs _ _).mono (fun r h c => ?_) (Cert.ReferenceAxialIdeal.Value.run (F := Ideal) m' g')
    obtain ⟨e0, e1, e2, e3, e4, e5⟩ := hargs c
    obtain ⟨h0, h1, h2, h3⟩ := h c
    refine ⟨(h0.trans (Rotary.res_queries m' c)).trans ?_, (h1.trans (Rotary.res_keys m' c)).trans ?_, h2.trans ?_, h3⟩
    · rw [e0, e1, e2, e4, e5]
      rfl
    · rw [e0, e1, e3, e4, e5]
      rfl
    · rw [e0, e1]
      rfl

/-- All claims. -/
theorem claim : Cert.Claim :=
  ⟨Cert.Kernel.Gen.facts, Cert.KernelIdeal.Gen.facts, Cert.ReferenceIdeal.Gen.facts, Cert.Final.Gen.facts, Cert.FinalIdeal.Gen.facts,
    Cert.ReferenceFinalIdeal.Gen.facts, Cert.First.Gen.facts, Cert.FirstIdeal.Gen.facts, Cert.ReferenceFirstIdeal.Gen.facts,
    Cert.Near.Gen.facts, Cert.NearIdeal.Gen.facts, Cert.ReferenceNearIdeal.Gen.facts,
    Cert.Middle.Gen.facts, Cert.MiddleIdeal.Gen.facts, Cert.ReferenceMiddleIdeal.Gen.facts,
    Cert.Far.Gen.facts, Cert.FarIdeal.Gen.facts, Cert.ReferenceFarIdeal.Gen.facts,
    Cert.Mid.Gen.facts, Cert.MidIdeal.Gen.facts, Cert.ReferenceMidIdeal.Gen.facts,
    Cert.Memory.Gen.facts, Cert.MemoryIdeal.Gen.facts, Cert.ReferenceMemoryIdeal.Gen.facts,
    Cert.Axial.Gen.facts, Cert.AxialIdeal.Gen.facts, Cert.ReferenceAxialIdeal.Gen.facts,
    Cert.Pre_finite_qk.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Final.Gen.frame m ρ, fun m ρ _ => Cert.FinalIdeal.Gen.frame m ρ, reference_final_frame,
    Ffn1.written_frame, fun m ρ _ => Ffn1.frame m ρ, reference_first_frame,
    fun m ρ _ => Cert.Near.Gen.frame m ρ, fun m ρ _ => Cert.NearIdeal.Gen.frame m ρ, reference_near_frame,
    fun m ρ _ => Cert.Middle.Gen.frame m ρ, fun m ρ _ => Cert.MiddleIdeal.Gen.frame m ρ, reference_middle_frame,
    fun m ρ _ => Cert.Far.Gen.frame m ρ, fun m ρ _ => Cert.FarIdeal.Gen.frame m ρ, reference_far_frame,
    fun m ρ _ => Cert.Mid.Gen.frame m ρ, fun m ρ _ => Cert.MidIdeal.Gen.frame m ρ, reference_mid_frame,
    fun m ρ _ => Cert.Memory.Gen.frame m ρ, fun m ρ _ => Cert.MemoryIdeal.Gen.frame m ρ, reference_memory_frame,
    fun m ρ _ => Cert.Axial.Gen.frame m ρ, fun m ρ _ => Cert.AxialIdeal.Gen.frame m ρ, reference_axial_frame,
    IdealRules.named_const.statement Cert.KernelIdeal.κ "scale_log2e" .f32 0x3E0293EE#32 _ rfl,
    attention_equal, trivial, final_equal, trivial, first_equal, trivial, near_equal, trivial, middle_equal, trivial, far_equal,
    IdealRules.named_const.statement Cert.MidIdeal.κ "scale_log2e" .f32 0x3E0293EE#32 _ rfl,
    mid_equal, trivial, memory_equal, trivial, axial_equal⟩

end Cert.Proof

end
